-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def preserves_Kernel_KernelIdeal : Prop :=
  IdealRules.named_const.Statement Cert.KernelIdeal.κ "log_cut" .f32 0xC2D00000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v40_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v40_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v124) = v0 c
          ∧ r.2.mem ((c.tc : Thread Cert.Reference2Ideal.nD Cert.Reference2Ideal.τ).loc Cert.Reference2Ideal.main_v110) = v1 c
          ∧ r.2.mem ((c.tc : Thread Cert.Reference2Ideal.nD Cert.Reference2Ideal.τ).loc Cert.Reference2Ideal.main_v96) = v2 c
          ∧ r.2.mem ((c.tc : Thread Cert.Reference2Ideal.nD Cert.Reference2Ideal.τ).loc Cert.Reference2Ideal.main_v82) = v3 c
          ∧ r.2.mem ((c.tc : Thread Cert.Reference2Ideal.nD Cert.Reference2Ideal.τ).loc Cert.Reference2Ideal.main_v62) = v4 c
          ∧ r.2.mem ((c.tc : Thread Cert.Reference2Ideal.nD Cert.Reference2Ideal.τ).loc Cert.Reference2Ideal.main_v58) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v20_1)) (v2 : (c : Dev Cert.Kernel3Ideal.nD) → Buf (Elt Ideal) ((c.tc : Thread Cert.Kernel3Ideal.nD Cert.Kernel3Ideal.τ).loc Cert.Kernel3Ideal.main_v20_2)) (v3 : (c : Dev Cert.Kernel3Ideal.nD) → Buf (Elt Ideal) ((c.tc : Thread Cert.Kernel3Ideal.nD Cert.Kernel3Ideal.τ).loc Cert.Kernel3Ideal.main_v20_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v20_1) = v1 c
          ∧ r.2.mem ((c.tc : Thread Cert.Kernel3Ideal.nD Cert.Kernel3Ideal.τ).loc Cert.Kernel3Ideal.main_v20_2) = v2 c
          ∧ r.2.mem ((c.tc : Thread Cert.Kernel3Ideal.nD Cert.Kernel3Ideal.τ).loc Cert.Kernel3Ideal.main_v20_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_v88) = v1 c
          ∧ r.2.mem ((c.tc : Thread Cert.Reference3Ideal.nD Cert.Reference3Ideal.τ).loc Cert.Reference3Ideal.main_v89) = v2 c
          ∧ r.2.mem ((c.tc : Thread Cert.Reference3Ideal.nD Cert.Reference3Ideal.τ).loc Cert.Reference3Ideal.main_v33) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_v20) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_v31) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_v20) = v1 c
          ∧ r.2.mem ((c.tc : Thread Cert.Reference6Ideal.nD Cert.Reference6Ideal.τ).loc Cert.Reference6Ideal.main_v33) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v44) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v48) = v0 c
          ∧ r.2.mem ((c.tc : Thread Cert.Reference8Ideal.nD Cert.Reference8Ideal.τ).loc Cert.Reference8Ideal.main_v32) = v1 c
          ∧ r.2.mem ((c.tc : Thread Cert.Reference8Ideal.nD Cert.Reference8Ideal.τ).loc Cert.Reference8Ideal.main_v49) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S16384x768 : Shape := ⟨2, ![16384, 768]⟩
abbrev S16384x256 : Shape := ⟨2, ![16384, 256]⟩
abbrev S_ : Shape := ⟨0, ![]⟩

class Facts : Prop where
  bitsLt_bf16_f32 : FTy.bits .bf16 < FTy.bits .f32
  bcast_S_S16384x768 : S_.BroadcastsInDim S16384x768 (![] : Fin 0 → Fin S16384x768.rank)
  reducesTo_S16384x768_S_d0_1 : S16384x768.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_

variable [Facts]

def fn {F : FTy → Type} [FloatOps F] (main_arg0 : FVec F S16384x768 .bf16) (main_arg1 : FVec F S16384x256 .f32) : IVec S_ 1 :=
  let main_v0 : FVec F S16384x768 .f32 := (extf .f32 · bitsLt_bf16_f32) main_arg0
  let main_v1 : FVec F S16384x768 .f32 := Host.absf main_v0
  let main_cst : FVec F S_ .f32 := constant S_ .f32 0x7F800000#32
  let main_v2 : FVec F S16384x768 .f32 := broadcastInDim S16384x768 ![] bcast_S_S16384x768 main_cst
  let main_v3 : IVec S16384x768 1 := cmpf .olt main_v1 main_v2
  let main_c : IVec S_ 1 := constantI S_ 1 1#1
  let main_v4 : IVec S_ 1 := (fun x v => Host.reduce IntOp.andi x v reducesTo_S16384x768_S_d0_1 h_S_) main_v3 main_c
  let main_v5 : FVec F S16384x256 .f32 := Host.absf main_arg1
  let main_cst_0 : FVec F S_ .f32 := constant S_ .f32 0x7F800000#32
  let main_v6 : FVec F S16384x256 .f32 := broadcastInDim S16384x256 ![] bcast_S_S16384x256 main_cst_0
  let main_v7 : IVec S16384x256 1 := cmpf .olt main_v5 main_v6
  let main_c_1 : IVec S_ 1 := constantI S_ 1 1#1
  let main_v8 : IVec S_ 1 := (fun x v => Host.reduce IntOp.andi x v reducesTo_S16384x256_S_d0_1 h_S_) main_v7 main_c_1
  let main_v9 : IVec S_ 1 := andi main_v4 main_v8
  main_v9
-- ==== Kernel.lean ====
abbrev S16384x768 : Shape := ⟨2, ![16384, 768]⟩
abbrev S16384x256 : Shape := ⟨2, ![16384, 256]⟩
abbrev S16384x4x64 : Shape := ⟨3, ![16384, 4, 64]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S4x16384x16384 : Shape := ⟨3, ![4, 16384, 16384]⟩
abbrev S_ : Shape := ⟨0, ![]⟩
abbrev S4x64x16384 : Shape := ⟨3, ![4, 64, 16384]⟩
abbrev S256x256 : Shape := ⟨2, ![256, 256]⟩
abbrev S2x16384x128 : Shape := ⟨3, ![2, 16384, 128]⟩
abbrev S256x128 : Shape := ⟨2, ![256, 128]⟩
abbrev S16384x128 : Shape := ⟨2, ![16384, 128]⟩
abbrev S2 : Shape := ⟨1, ![2]⟩
abbrev S1x128 : Shape := ⟨2, ![1, 128]⟩
abbrev S256 : Shape := ⟨1, ![256]⟩
abbrev S256x1 : Shape := ⟨2, ![256, 1]⟩
abbrev S1x256 : Shape := ⟨2, ![1, 256]⟩
abbrev S1x256x1 : Shape := ⟨3, ![1, 256, 1]⟩
abbrev S1 : Shape := ⟨1, ![1]⟩
abbrev S1x1x1 : Shape := ⟨3, ![1, 1, 1]⟩
abbrev S1x16384x128 : Shape := ⟨3, ![1, 16384, 128]⟩

abbrev nBuf : Space → Nat
  | .hbm => 87
  | .vmem => 16
  | .smem => 0
  | _ => 0

abbrev bufTy : (tb : Table) → Fin (tcTables nBuf tb) → BufTy
  | .hbm, ⟨0, _⟩ => ⟨S16384x768, .bf16⟩
  | .hbm, ⟨1, _⟩ => ⟨S16384x256, .f32⟩
  | .hbm, ⟨2, _⟩ => ⟨S16384x256, .bf16⟩
  | .hbm, ⟨3, _⟩ => ⟨S16384x256, .f32⟩
  | .hbm, ⟨4, _⟩ => ⟨S16384x256, .bf16⟩
  | .hbm, ⟨5, _⟩ => ⟨S16384x256, .f32⟩
  | .hbm, ⟨6, _⟩ => ⟨S16384x256, .bf16⟩
  | .hbm, ⟨7, _⟩ => ⟨S16384x256, .f32⟩
  | .hbm, ⟨8, _⟩ => ⟨S16384x4x64, .f32⟩
  | .hbm, ⟨9, _⟩ => ⟨S16384x4x64, .f32⟩
  | .hbm, ⟨10, _⟩ => ⟨S16384x4x64, .f32⟩
  | .hbm, ⟨11, _⟩ => ⟨S16384, .i32⟩
  | .hbm, ⟨12, _⟩ => ⟨S1x16384, .i32⟩
  | .hbm, ⟨13, _⟩ => ⟨S16384x1, .i32⟩
  | .hbm, ⟨14, _⟩ => ⟨S16384x16384, .i32⟩
  | .hbm, ⟨15, _⟩ => ⟨S16384x16384, .i32⟩
  | .hbm, ⟨16, _⟩ => ⟨S16384x16384, .i1⟩
  | .hbm, ⟨17, _⟩ => ⟨S4x16384x16384, .f32⟩
  | .hbm, ⟨18, _⟩ => ⟨S4x16384x16384, .f32⟩
  | .hbm, ⟨19, _⟩ => ⟨S_, .f32⟩
  | .hbm, ⟨20, _⟩ => ⟨S4x16384x16384, .f32⟩
  | .hbm, ⟨21, _⟩ => ⟨S4x16384x16384, .f32⟩
  | .hbm, ⟨22, _⟩ => ⟨S4x16384x16384, .f32⟩
  | .hbm, ⟨23, _⟩ => ⟨S4x16384x16384, .f32⟩
  | .hbm, ⟨24, _⟩ => ⟨S4x16384x16384, .i1⟩
  | .hbm, ⟨25, _⟩ => ⟨S4x16384x16384, .f32⟩
  | .hbm, ⟨26, _⟩ => ⟨S4x16384x16384, .f32⟩
  | .hbm, ⟨27, _⟩ => ⟨S4x16384x16384, .f32⟩
  | .hbm, ⟨28, _⟩ => ⟨S4x16384x16384, .f32⟩
  | .hbm, ⟨29, _⟩ => ⟨S4x16384x16384, .f32⟩
  | .hbm, ⟨30, _⟩ => ⟨S4x16384x16384, .f32⟩
  | .hbm, ⟨31, _⟩ => ⟨S4x16384x16384, .f32⟩
  | .hbm, ⟨32, _⟩ => ⟨S4x16384x16384, .f32⟩
  | .hbm, ⟨33, _⟩ => ⟨S4x16384x16384, .f32⟩
  | .hbm, ⟨34, _⟩ => ⟨S4x16384x16384, .f32⟩
  | .hbm, ⟨35, _⟩ => ⟨S4x16384x16384, .f32⟩
  | .hbm, ⟨36, _⟩ => ⟨S_, .f32⟩
  | .hbm, ⟨37, _⟩ => ⟨S4x16384x16384, .f32⟩
  | .hbm, ⟨38, _⟩ => ⟨S4x16384x16384, .f32⟩
  | .hbm, ⟨39, _⟩ => ⟨S4x16384x16384, .f32⟩
  | .hbm, ⟨40, _⟩ => ⟨S4x16384x16384, .f32⟩
  | .hbm, ⟨41, _⟩ => ⟨S4x16384x16384, .i1⟩
  | .hbm, ⟨42, _⟩ => ⟨S4x16384x16384, .f32⟩
  | .hbm, ⟨43, _⟩ => ⟨S4x16384x16384, .f32⟩
  | .hbm, ⟨44, _⟩ => ⟨S4x16384x16384, .f32⟩
  | .hbm, ⟨45, _⟩ => ⟨S4x16384x16384, .f32⟩
  | .hbm, ⟨46, _⟩ => ⟨S4x16384x16384, .f32⟩
  | .hbm, ⟨47, _⟩ => ⟨S4x16384x16384, .f32⟩
  | .hbm, ⟨48, _⟩ => ⟨S4x16384x16384, .f32⟩
  | .hbm, ⟨49, _⟩ => ⟨S4x16384x16384, .f32⟩
  | .hbm, ⟨50, _⟩ => ⟨S4x16384x16384, .f32⟩
  | .hbm, ⟨51, _⟩ => ⟨S_, .f32⟩
  | .hbm, ⟨52, _⟩ => ⟨S_, .f32⟩
  | .hbm, ⟨53, _⟩ => ⟨S4x16384x16384, .i1⟩
  | .hbm, ⟨54, _⟩ => ⟨S4x16384x16384, .f32⟩
  | .hbm, ⟨55, _⟩ => ⟨S4x16384x16384, .f32⟩
  | .hbm, ⟨56, _⟩ => ⟨S_, .f32⟩
  | .hbm, ⟨57, _⟩ => ⟨S_, .f32⟩
  | .hbm, ⟨58, _⟩ => ⟨S4x16384x16384, .f32⟩
  | .hbm, ⟨59, _⟩ => ⟨S4x16384x16384, .f32⟩
  | .hbm, ⟨60, _⟩ => ⟨S4x16384x16384, .f32⟩
  | .hbm, ⟨61, _⟩ => ⟨S4x16384x16384, .f32⟩
  | .hbm, ⟨62, _⟩ => ⟨S_, .f32⟩
  | .hbm, ⟨63, _⟩ => ⟨S_, .f32⟩
  | .hbm, ⟨64, _⟩ => ⟨S4x16384x16384, .i1⟩
  | .hbm, ⟨65, _⟩ => ⟨S4x16384x16384, .f32⟩
  | .hbm, ⟨66, _⟩ => ⟨S4x16384x16384, .f32⟩
  | .hbm, ⟨67, _⟩ => ⟨S4x64x16384, .f32⟩
  | .hbm, ⟨68, _⟩ => ⟨S16384x4x64, .f32⟩
  | .hbm, ⟨69, _⟩ => ⟨S16384x256, .f32⟩
  | .hbm, ⟨70, _⟩ => ⟨S256x256, .i32⟩
  | .hbm, ⟨71, _⟩ => ⟨S_, .i32⟩
  | .hbm, ⟨72, _⟩ => ⟨S256x256, .i32⟩
  | .hbm, ⟨73, _⟩ => ⟨S256x256, .i32⟩
  | .hbm, ⟨74, _⟩ => ⟨S256x256, .i32⟩
  | .hbm, ⟨75, _⟩ => ⟨S256x256, .i1⟩
  | .hbm, ⟨76, _⟩ => ⟨S256x256, .bf16⟩
  | .hbm, ⟨77, _⟩ => ⟨S256x256, .i32⟩
  | .hbm, ⟨78, _⟩ => ⟨S_, .i32⟩
  | .hbm, ⟨79, _⟩ => ⟨S256x256, .i32⟩
  | .hbm, ⟨80, _⟩ => ⟨S256x256, .i32⟩
  | .hbm, ⟨81, _⟩ => ⟨S256x256, .i32⟩
  | .hbm, ⟨82, _⟩ => ⟨S256x256, .i1⟩
  | .hbm, ⟨83, _⟩ => ⟨S256x256, .bf16⟩
  | .hbm, ⟨84, _⟩ => ⟨S16384x256, .f32⟩
  | .hbm, ⟨85, _⟩ => ⟨S2x16384x128, .f32⟩
  | .hbm, ⟨86, _⟩ => ⟨S2x16384x128, .f32⟩
  | .local _ .vmem, ⟨0, _⟩ => ⟨S256x128, .bf16⟩
  | .local _ .vmem, ⟨1, _⟩ => ⟨S256x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x256, .bf16⟩
  | .local _ .vmem, ⟨11, _⟩ => ⟨S256x256, .bf16⟩
  | .local _ .vmem, ⟨12, _⟩ => ⟨S256x128, .f32⟩
  | .local _ .vmem, ⟨13, _⟩ => ⟨S256x128, .f32⟩
  | .local _ .vmem, ⟨14, _⟩ => ⟨S16384x128, .f32⟩
  | .local _ .vmem, ⟨15, _⟩ => ⟨S16384x128, .f32⟩
  | _, _ => ⟨S16384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v16 : Ref sig .tc := ⟨.hbm, 33, rfl⟩
abbrev main_v17 : Ref sig .tc := ⟨.hbm, 34, rfl⟩
abbrev main_call1_v0 : Ref sig .tc := ⟨.hbm, 35, rfl⟩
abbrev main_call1_call0_cst : Ref sig .tc := ⟨.hbm, 36, rfl⟩
abbrev main_call1_call0_v0 : Ref sig .tc := ⟨.hbm, 37, rfl⟩
abbrev main_call1_call0_v1 : Ref sig .tc := ⟨.hbm, 38, rfl⟩
abbrev main_call1_call0_v2 : Ref sig .tc := ⟨.hbm, 39, rfl⟩
abbrev main_call1_call0_v3 : Ref sig .tc := ⟨.hbm, 40, rfl⟩
abbrev main_call1_call0_v4 : Ref sig .tc := ⟨.hbm, 41, rfl⟩
abbrev main_call1_call0_v5 : Ref sig .tc := ⟨.hbm, 42, rfl⟩
abbrev main_call1_call0_v6 : Ref sig .tc := ⟨.hbm, 43, rfl⟩
abbrev main_call1_call0_v7 : Ref sig .tc := ⟨.hbm, 44, rfl⟩
abbrev main_call1_call0_v8 : Ref sig .tc := ⟨.hbm, 45, rfl⟩
abbrev main_call1_call0_v9 : Ref sig .tc := ⟨.hbm, 46, rfl⟩
abbrev main_call1_call0_v10 : Ref sig .tc := ⟨.hbm, 47, rfl⟩
abbrev main_call1_call0_v11 : Ref sig .tc := ⟨.hbm, 48, rfl⟩
abbrev main_call1_v1 : Ref sig .tc := ⟨.hbm, 49, rfl⟩
abbrev main_v18 : Ref sig .tc := ⟨.hbm, 50, rfl⟩
abbrev main_cst : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v19 : Ref sig .tc := ⟨.hbm, 55, rfl⟩
abbrev main_call3_cst : Ref sig .tc := ⟨.hbm, 56, rfl⟩
abbrev main_call3_v0 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_0 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_c : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_c_1 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40_0 : Ref sig .tc := ⟨.hbm, 84, rfl⟩
abbrev main_v40_1 : Ref sig .tc := ⟨.hbm, 85, rfl⟩
abbrev main_v40_2 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 64], ![false, false]⟩

def k0_mult1 (arg15 : BitVec 32) : BitVec 32 :=
  let c256_i32_35 : BitVec 32 := 256#32
  let v98 : BitVec 32 := Scalar.muli arg15 c256_i32_35
  v98

def k0_off1 (arg15 : BitVec 32) : Fin 2 → Nat :=
  let c256_i32_35 : BitVec 32 := 256#32
  let v98 : BitVec 32 := Scalar.muli arg15 c256_i32_35
  let v99 : BitVec 32 := v98
  let v100 : Index := Scalar.indexCast v99
  let c0_36 : Index := 0#32
  ![v100.toNat, 0]

def k0_chk1 (arg15 : BitVec 32) : Prop :=
  (256 ∣ (k0_mult1 arg15).toNat) ∧
  (∀ a, (k0_off1 arg15) a + S256x128.size a ≤ S16384x128.size a)
theorem k0_mult1_dvd : ∀ (arg15 : BitVec 32) (k0_hw1 : k0_chk1 arg15), 256 ∣ (k0_mult1 arg15).toNat := fun arg15 k0_hw1 => k0_hw1.1
theorem k0_off1_inb : ∀ (arg15 : BitVec 32) (k0_hw1 : k0_chk1 arg15), ∀ a, (k0_off1 arg15) a + S256x128.size a ≤ S16384x128.size a := fun arg15 k0_hw1 => k0_hw1.2

def k0_cond2 (i : grid0.Coords) : BitVec 1 :=
  let arg1 : BitVec 32 := BitVec.ofNat 32 (i 1).val
  let c63_i32 : BitVec 32 := 63#32
  let v95 : BitVec 1 := Scalar.cmpi .eq arg1 c63_i32
  let v96 : BitVec 32 := Scalar.extui v95
  let c0_i32_34 : BitVec 32 := 0#32
  let v97 : BitVec 1 := Scalar.cmpi .ne v96 c0_i32_34
  v97

def k0_off2 (i : grid0.Coords) : Fin 3 → Nat :=
  let arg0 : BitVec 32 := BitVec.ofNat 32 (i 0).val
  let c0_i32_36 : BitVec 32 := 0#32
  let c0_i32_37 : BitVec 32 := 0#32
  ![arg0.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log_cut" => some ⊥
  | _ => none
-- ==== ReferenceIdeal.lean ====
abbrev S16384x768 : Shape := ⟨2, ![16384, 768]⟩
abbrev S16384x256 : Shape := ⟨2, ![16384, 256]⟩
abbrev S16384x4x64 : Shape := ⟨3, ![16384, 4, 64]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S4x16384x16384 : Shape := ⟨3, ![4, 16384, 16384]⟩
abbrev S_ : Shape := ⟨0, ![]⟩
abbrev S4x64x16384 : Shape := ⟨3, ![4, 64, 16384]⟩
abbrev S4x16384x64 : Shape := ⟨3, ![4, 16384, 64]⟩
abbrev S16384x2x128 : Shape := ⟨3, ![16384, 2, 128]⟩
abbrev S2x16384x128 : Shape := ⟨3, ![2, 16384, 128]⟩

abbrev nBuf : Space → Nat
  | .hbm => 174
  | .vmem => 0
  | .smem => 0
  | _ => 0

abbrev hbmTy0_0 (i : Nat) : BufTy := match i % 128 with
  | 0 => ⟨S16384x768, .bf16⟩
  | 1 => ⟨S16384x256, .f32⟩
  | 2 => ⟨S16384x256, .bf16⟩
  | 3 => ⟨S16384x256, .f32⟩
  | 4 => ⟨S16384x256, .bf16⟩
  | 5 => ⟨S16384x256, .f32⟩
  | 6 => ⟨S16384x256, .bf16⟩
  | 7 => ⟨S16384x256, .f32⟩
  | 8 => ⟨S16384x4x64, .f32⟩
  | 9 => ⟨S16384x4x64, .f32⟩
  | 10 => ⟨S16384x4x64, .f32⟩
  | 11 => ⟨S16384, .i32⟩
  | 12 => ⟨S1x16384, .i32⟩
  | 13 => ⟨S16384x1, .i32⟩
  | 14 => ⟨S16384x16384, .i32⟩
  | 15 => ⟨S16384x16384, .i32⟩
  | 16 => ⟨S16384x16384, .i1⟩
  | 17 => ⟨S4x16384x16384, .f32⟩
  | 18 => ⟨S4x16384x16384, .f32⟩
  | 19 => ⟨S_, .f32⟩
  | 20 => ⟨S4x16384x16384, .f32⟩
  | 21 => ⟨S4x16384x16384, .f32⟩
  | 22 => ⟨S4x16384x16384, .f32⟩
  | 23 => ⟨S4x16384x16384, .f32⟩
  | 24 => ⟨S4x16384x16384, .i1⟩
  | 25 => ⟨S4x16384x16384, .f32⟩
  | 26 => ⟨S4x16384x16384, .f32⟩
  | 27 => ⟨S4x16384x16384, .f32⟩
  | 28 => ⟨S4x16384x16384, .f32⟩
  | 29 => ⟨S4x16384x16384, .f32⟩
  | 30 => ⟨S4x16384x16384, .f32⟩
  | 31 => ⟨S4x16384x16384, .f32⟩
  | 32 => ⟨S4x16384x16384, .f32⟩
  | 33 => ⟨S_, .f32⟩
  | 34 => ⟨S4x16384x16384, .f32⟩
  | 35 => ⟨S4x16384x16384, .i1⟩
  | 36 => ⟨S_, .f32⟩
  | 37 => ⟨S4x16384x16384, .f32⟩
  | 38 => ⟨S4x16384x16384, .f32⟩
  | 39 => ⟨S_, .f32⟩
  | 40 => ⟨S4x16384x16384, .f32⟩
  | 41 => ⟨S4x16384x16384, .i1⟩
  | 42 => ⟨S_, .f32⟩
  | 43 => ⟨S4x16384x16384, .f32⟩
  | 44 => ⟨S4x16384x16384, .f32⟩
  | 45 => ⟨S4x16384x16384, .f32⟩
  | 46 => ⟨S4x16384x16384, .f32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S4x16384x16384, .f32⟩
  | 55 => ⟨S4x16384x16384, .i1⟩
  | 56 => ⟨S_, .f32⟩
  | 57 => ⟨S4x16384x16384, .f32⟩
  | 58 => ⟨S4x16384x16384, .f32⟩
  | 59 => ⟨S4x16384x16384, .f32⟩
  | 60 => ⟨S4x16384x16384, .f32⟩
  | 61 => ⟨S4x16384x16384, .f32⟩
  | 62 => ⟨S_, .f32⟩
  | 63 => ⟨S4x16384x16384, .f32⟩
  | 64 => ⟨S4x16384x16384, .f32⟩
  | 65 => ⟨S4x16384x16384, .f32⟩
  | 66 => ⟨S4x16384x16384, .f32⟩
  | 67 => ⟨S4x16384x16384, .f32⟩
  | 68 => ⟨S_, .f32⟩
  | 69 => ⟨S4x16384x16384, .f32⟩
  | 70 => ⟨S4x16384x16384, .f32⟩
  | 71 => ⟨S4x16384x16384, .f32⟩
  | 72 => ⟨S4x16384x16384, .f32⟩
  | 73 => ⟨S4x16384x16384, .i1⟩
  | 74 => ⟨S4x16384x16384, .f32⟩
  | 75 => ⟨S4x16384x16384, .f32⟩
  | 76 => ⟨S4x16384x16384, .f32⟩
  | 77 => ⟨S4x16384x16384, .f32⟩
  | 78 => ⟨S4x16384x16384, .f32⟩
  | 79 => ⟨S4x16384x16384, .f32⟩
  | 80 => ⟨S4x16384x16384, .f32⟩
  | 81 => ⟨S4x16384x16384, .f32⟩
  | 82 => ⟨S_, .f32⟩
  | 83 => ⟨S4x16384x16384, .f32⟩
  | 84 => ⟨S4x16384x16384, .i1⟩
  | 85 => ⟨S_, .f32⟩
  | 86 => ⟨S4x16384x16384, .f32⟩
  | 87 => ⟨S4x16384x16384, .f32⟩
  | 88 => ⟨S_, .f32⟩
  | 89 => ⟨S4x16384x16384, .f32⟩
  | 90 => ⟨S4x16384x16384, .i1⟩
  | 91 => ⟨S_, .f32⟩
  | 92 => ⟨S4x16384x16384, .f32⟩
  | 93 => ⟨S4x16384x16384, .f32⟩
  | 94 => ⟨S4x16384x16384, .f32⟩
  | 95 => ⟨S4x16384x16384, .f32⟩
  | 96 => ⟨S_, .f32⟩
  | 97 => ⟨S_, .f32⟩
  | 98 => ⟨S_, .i1⟩
  | 99 => ⟨S_, .f32⟩
  | 100 => ⟨S_, .f32⟩
  | 101 => ⟨S_, .f32⟩
  | 102 => ⟨S_, .f32⟩
  | 103 => ⟨S4x16384x16384, .f32⟩
  | 104 => ⟨S4x16384x16384, .i1⟩
  | 105 => ⟨S_, .f32⟩
  | 106 => ⟨S4x16384x16384, .f32⟩
  | 107 => ⟨S4x16384x16384, .f32⟩
  | 108 => ⟨S4x16384x16384, .f32⟩
  | 109 => ⟨S4x16384x16384, .f32⟩
  | 110 => ⟨S4x16384x16384, .f32⟩
  | 111 => ⟨S_, .f32⟩
  | 112 => ⟨S4x16384x16384, .f32⟩
  | 113 => ⟨S4x16384x16384, .f32⟩
  | 114 => ⟨S4x16384x16384, .f32⟩
  | 115 => ⟨S_, .f32⟩
  | 116 => ⟨S_, .f32⟩
  | 117 => ⟨S4x16384x16384, .i1⟩
  | 118 => ⟨S4x16384x16384, .f32⟩
  | 119 => ⟨S4x16384x16384, .f32⟩
  | 120 => ⟨S_, .f32⟩
  | 121 => ⟨S4x16384x16384, .f32⟩
  | 122 => ⟨S_, .f32⟩
  | 123 => ⟨S_, .f32⟩
  | 124 => ⟨S4x16384x16384, .f32⟩
  | 125 => ⟨S4x16384x16384, .f32⟩
  | 126 => ⟨S4x16384x16384, .f32⟩
  | 127 => ⟨S4x16384x16384, .f32⟩
  | _ => ⟨S16384x768, .bf16⟩

abbrev hbmTy0_1 (i : Nat) : BufTy := match i % 128 with
  | 0 => ⟨S_, .f32⟩
  | 1 => ⟨S_, .f32⟩
  | 2 => ⟨S4x16384x16384, .i1⟩
  | 3 => ⟨S4x16384x16384, .f32⟩
  | 4 => ⟨S4x16384x16384, .f32⟩
  | 5 => ⟨S_, .f32⟩
  | 6 => ⟨S4x16384x16384, .f32⟩
  | 7 => ⟨S4x64x16384, .f32⟩
  | 8 => ⟨S16384x4x64, .f32⟩
  | 9 => ⟨S16384x256, .f32⟩
  | 10 => ⟨S16384x4x64, .f32⟩
  | 11 => ⟨S4x64x16384, .f32⟩
  | 12 => ⟨S4x16384x16384, .f32⟩
  | 13 => ⟨S4x64x16384, .f32⟩
  | 14 => ⟨S16384x4x64, .f32⟩
  | 15 => ⟨S_, .f32⟩
  | 16 => ⟨S4x16384x16384, .f32⟩
  | 17 => ⟨S4x16384x16384, .f32⟩
  | 18 => ⟨S4x16384x16384, .f32⟩
  | 19 => ⟨S4x16384x16384, .f32⟩
  | 20 => ⟨S_, .f32⟩
  | 21 => ⟨S_, .f32⟩
  | 22 => ⟨S4x16384x16384, .f32⟩
  | 23 => ⟨S4x16384x16384, .f32⟩
  | 24 => ⟨S_, .f32⟩
  | 25 => ⟨S4x16384x16384, .f32⟩
  | 26 => ⟨S4x16384x16384, .f32⟩
  | 27 => ⟨S4x16384x16384, .f32⟩
  | 28 => ⟨S4x16384x16384, .f32⟩
  | 29 => ⟨S4x16384x16384, .f32⟩
  | 30 => ⟨S4x16384x16384, .f32⟩
  | 31 => ⟨S4x16384x16384, .f32⟩
  | 32 => ⟨S4x16384x16384, .f32⟩
  | 33 => ⟨S4x16384x16384, .f32⟩
  | 34 => ⟨S4x16384x16384, .f32⟩
  | 35 => ⟨S4x16384x64, .f32⟩
  | 36 => ⟨S16384x4x64, .f32⟩
  | 37 => ⟨S4x16384x64, .f32⟩
  | 38 => ⟨S16384x4x64, .f32⟩
  | 39 => ⟨S16384x256, .f32⟩
  | 40 => ⟨S16384x256, .f32⟩
  | 41 => ⟨S16384x256, .f32⟩
  | 42 => ⟨S16384x2x128, .f32⟩
  | 43 => ⟨S2x16384x128, .f32⟩
  | 44 => ⟨S16384x2x128, .f32⟩
  | 45 => ⟨S2x16384x128, .f32⟩
  | _ => ⟨S16384x768, .bf16⟩

abbrev hbmTy (i : Nat) : BufTy := match i / 128 with
  | 0 => hbmTy0_0 i
  | 1 => hbmTy0_1 i
  | _ => ⟨S16384x768, .bf16⟩

abbrev bufTy : (tb : Table) → Fin (tcTables nBuf tb) → BufTy
  | .hbm, ⟨i, _⟩ => hbmTy i
  | _, _ => ⟨S16384x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1_0 : Ref sig .tc := ⟨.hbm, 32, rfl⟩
abbrev main_call0_call0_cst_0 : Ref sig .tc := ⟨.hbm, 33, rfl⟩
abbrev main_call0_call0_v13 : Ref sig .tc := ⟨.hbm, 34, rfl⟩
abbrev main_call0_call0_v14 : Ref sig .tc := ⟨.hbm, 35, rfl⟩
abbrev main_call0_call0_cst_1 : Ref sig .tc := ⟨.hbm, 36, rfl⟩
abbrev main_call0_call0_v15 : Ref sig .tc := ⟨.hbm, 37, rfl⟩
abbrev main_call0_call0_v16 : Ref sig .tc := ⟨.hbm, 38, rfl⟩
abbrev main_call0_call0_cst_2 : Ref sig .tc := ⟨.hbm, 39, rfl⟩
abbrev main_call0_call0_v17 : Ref sig .tc := ⟨.hbm, 40, rfl⟩
abbrev main_call0_call0_v18 : Ref sig .tc := ⟨.hbm, 41, rfl⟩
abbrev main_call0_call0_cst_3 : Ref sig .tc := ⟨.hbm, 42, rfl⟩
abbrev main_call0_call0_v19 : Ref sig .tc := ⟨.hbm, 43, rfl⟩
abbrev main_call0_call0_v20 : Ref sig .tc := ⟨.hbm, 44, rfl⟩
abbrev main_call0_call0_v21 : Ref sig .tc := ⟨.hbm, 45, rfl⟩
abbrev main_v16_1 : Ref sig .tc := ⟨.hbm, 46, rfl⟩
abbrev main_call0_call0_cst_4 : Ref sig .tc := ⟨.hbm, 47, rfl⟩
abbrev main_call0_call0_cst_5 : Ref sig .tc := ⟨.hbm, 48, rfl⟩
abbrev main_call0_call0_v23 : Ref sig .tc := ⟨.hbm, 49, rfl⟩
abbrev main_call0_call0_cst_6 : Ref sig .tc := ⟨.hbm, 50, rfl⟩
abbrev main_call0_call0_cst_7 : Ref sig .tc := ⟨.hbm, 51, rfl⟩
abbrev main_call0_call0_v24 : Ref sig .tc := ⟨.hbm, 52, rfl⟩
abbrev main_call0_call0_cst_8 : Ref sig .tc := ⟨.hbm, 53, rfl⟩
abbrev main_call0_call0_v25 : Ref sig .tc := ⟨.hbm, 54, rfl⟩
abbrev main_call0_call0_v26 : Ref sig .tc := ⟨.hbm, 55, rfl⟩
abbrev main_call0_call0_cst_9 : Ref sig .tc := ⟨.hbm, 56, rfl⟩
abbrev main_call0_call0_v27 : Ref sig .tc := ⟨.hbm, 57, rfl⟩
abbrev main_call0_call0_v28 : Ref sig .tc := ⟨.hbm, 58, rfl⟩
abbrev main_call0_call0_v29 : Ref sig .tc := ⟨.hbm, 59, rfl⟩
abbrev main_call0_call0_v30 : Ref sig .tc := ⟨.hbm, 60, rfl⟩
abbrev main_call0_call0_v31 : Ref sig .tc := ⟨.hbm, 61, rfl⟩
abbrev main_call0_call0_cst_10 : Ref sig .tc := ⟨.hbm, 62, rfl⟩
abbrev main_call0_call0_v32 : Ref sig .tc := ⟨.hbm, 63, rfl⟩
abbrev main_v16_2 : Ref sig .tc := ⟨.hbm, 64, rfl⟩
abbrev main_v16_0 : Ref sig .tc := ⟨.hbm, 65, rfl⟩
abbrev main_v17 : Ref sig .tc := ⟨.hbm, 66, rfl⟩
abbrev main_call1_v0 : Ref sig .tc := ⟨.hbm, 67, rfl⟩
abbrev main_call1_call0_cst : Ref sig .tc := ⟨.hbm, 68, rfl⟩
abbrev main_call1_call0_v0 : Ref sig .tc := ⟨.hbm, 69, rfl⟩
abbrev main_call1_call0_v1 : Ref sig .tc := ⟨.hbm, 70, rfl⟩
abbrev main_call1_call0_v2 : Ref sig .tc := ⟨.hbm, 71, rfl⟩
abbrev main_call1_call0_v3 : Ref sig .tc := ⟨.hbm, 72, rfl⟩
abbrev main_call1_call0_v4 : Ref sig .tc := ⟨.hbm, 73, rfl⟩
abbrev main_call1_call0_v5 : Ref sig .tc := ⟨.hbm, 74, rfl⟩
abbrev main_call1_call0_v6 : Ref sig .tc := ⟨.hbm, 75, rfl⟩
abbrev main_call1_call0_v7 : Ref sig .tc := ⟨.hbm, 76, rfl⟩
abbrev main_call1_call0_v8 : Ref sig .tc := ⟨.hbm, 77, rfl⟩
abbrev main_call1_call0_v9 : Ref sig .tc := ⟨.hbm, 78, rfl⟩
abbrev main_call1_call0_v10 : Ref sig .tc := ⟨.hbm, 79, rfl⟩
abbrev main_call1_call0_v11 : Ref sig .tc := ⟨.hbm, 80, rfl⟩
abbrev main_call1_v1_0 : Ref sig .tc := ⟨.hbm, 81, rfl⟩
abbrev main_call1_call0_cst_0 : Ref sig .tc := ⟨.hbm, 82, rfl⟩
abbrev main_call1_call0_v13 : Ref sig .tc := ⟨.hbm, 83, rfl⟩
abbrev main_call1_call0_v14 : Ref sig .tc := ⟨.hbm, 84, rfl⟩
abbrev main_call1_call0_cst_1 : Ref sig .tc := ⟨.hbm, 85, rfl⟩
abbrev main_call1_call0_v15 : Ref sig .tc := ⟨.hbm, 86, rfl⟩
abbrev main_call1_call0_v16 : Ref sig .tc := ⟨.hbm, 87, rfl⟩
abbrev main_call1_call0_cst_2 : Ref sig .tc := ⟨.hbm, 88, rfl⟩
abbrev main_call1_call0_v17 : Ref sig .tc := ⟨.hbm, 89, rfl⟩
abbrev main_call1_call0_v18 : Ref sig .tc := ⟨.hbm, 90, rfl⟩
abbrev main_call1_call0_cst_3 : Ref sig .tc := ⟨.hbm, 91, rfl⟩
abbrev main_call1_call0_v19 : Ref sig .tc := ⟨.hbm, 92, rfl⟩
abbrev main_call1_call0_v20 : Ref sig .tc := ⟨.hbm, 93, rfl⟩
abbrev main_call1_call0_v21 : Ref sig .tc := ⟨.hbm, 94, rfl⟩
abbrev main_v18_1 : Ref sig .tc := ⟨.hbm, 95, rfl⟩
abbrev main_call1_call0_cst_4 : Ref sig .tc := ⟨.hbm, 96, rfl⟩
abbrev main_call1_call0_cst_5 : Ref sig .tc := ⟨.hbm, 97, rfl⟩
abbrev main_call1_call0_v23 : Ref sig .tc := ⟨.hbm, 98, rfl⟩
abbrev main_call1_call0_cst_6 : Ref sig .tc := ⟨.hbm, 99, rfl⟩
abbrev main_call1_call0_cst_7 : Ref sig .tc := ⟨.hbm, 100, rfl⟩
abbrev main_call1_call0_v24 : Ref sig .tc := ⟨.hbm, 101, rfl⟩
abbrev main_call1_call0_cst_8 : Ref sig .tc := ⟨.hbm, 102, rfl⟩
abbrev main_call1_call0_v25 : Ref sig .tc := ⟨.hbm, 103, rfl⟩
abbrev main_call1_call0_v26 : Ref sig .tc := ⟨.hbm, 104, rfl⟩
abbrev main_call1_call0_cst_9 : Ref sig .tc := ⟨.hbm, 105, rfl⟩
abbrev main_call1_call0_v27 : Ref sig .tc := ⟨.hbm, 106, rfl⟩
abbrev main_call1_call0_v28 : Ref sig .tc := ⟨.hbm, 107, rfl⟩
abbrev main_call1_call0_v29 : Ref sig .tc := ⟨.hbm, 108, rfl⟩
abbrev main_call1_call0_v30 : Ref sig .tc := ⟨.hbm, 109, rfl⟩
abbrev main_call1_call0_v31 : Ref sig .tc := ⟨.hbm, 110, rfl⟩
abbrev main_call1_call0_cst_10 : Ref sig .tc := ⟨.hbm, 111, rfl⟩
abbrev main_call1_call0_v32 : Ref sig .tc := ⟨.hbm, 112, rfl⟩
abbrev main_v18_2 : Ref sig .tc := ⟨.hbm, 113, rfl⟩
abbrev main_v18_0 : Ref sig .tc := ⟨.hbm, 114, rfl⟩
abbrev main_cst : Ref sig .tc := ⟨.hbm, 115, rfl⟩
abbrev main_call2_v0 : Ref sig .tc := ⟨.hbm, 116, rfl⟩
abbrev main_v19_1 : Ref sig .tc := ⟨.hbm, 117, rfl⟩
abbrev main_call2_v2 : Ref sig .tc := ⟨.hbm, 118, rfl⟩
abbrev main_v19_0 : Ref sig .tc := ⟨.hbm, 119, rfl⟩
abbrev main_call2_cst : Ref sig .tc := ⟨.hbm, 120, rfl⟩
abbrev main_v19_2 : Ref sig .tc := ⟨.hbm, 121, rfl⟩
abbrev main_call3_cst : Ref sig .tc := ⟨.hbm, 122, rfl⟩
abbrev main_call3_v0 : Ref sig .tc := ⟨.hbm, 123, rfl⟩
abbrev main_v20 : Ref sig .tc := ⟨.hbm, 124, rfl⟩
abbrev main_v21 : Ref sig .tc := ⟨.hbm, 125, rfl⟩
abbrev main_v22 : Ref sig .tc := ⟨.hbm, 126, rfl⟩
abbrev main_v23 : Ref sig .tc := ⟨.hbm, 127, rfl⟩
abbrev main_cst_0 : Ref sig .tc := ⟨.hbm, 128, rfl⟩
abbrev main_call4_v0 : Ref sig .tc := ⟨.hbm, 129, rfl⟩
abbrev main_v24_1 : Ref sig .tc := ⟨.hbm, 130, rfl⟩
abbrev main_call4_v2 : Ref sig .tc := ⟨.hbm, 131, rfl⟩
abbrev main_v24_0 : Ref sig .tc := ⟨.hbm, 132, rfl⟩
abbrev main_call4_cst : Ref sig .tc := ⟨.hbm, 133, rfl⟩
abbrev main_v24_2 : Ref sig .tc := ⟨.hbm, 134, rfl⟩
abbrev main_v25 : Ref sig .tc := ⟨.hbm, 135, rfl⟩
abbrev main_v26 : Ref sig .tc := ⟨.hbm, 136, rfl⟩
abbrev main_v27 : Ref sig .tc := ⟨.hbm, 137, rfl⟩
abbrev main_v28 : Ref sig .tc := ⟨.hbm, 138, rfl⟩
abbrev main_v29 : Ref sig .tc := ⟨.hbm, 139, rfl⟩
abbrev main_v30 : Ref sig .tc := ⟨.hbm, 140, rfl⟩
abbrev main_v31 : Ref sig .tc := ⟨.hbm, 141, rfl⟩
abbrev main_v32 : Ref sig .tc := ⟨.hbm, 142, rfl⟩
abbrev main_call5_cst : Ref sig .tc := ⟨.hbm, 143, rfl⟩
abbrev main_call5_v0 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_call6_cst : Ref sig .tc := ⟨.hbm, 148, rfl⟩
abbrev main_call6_v0 : Ref sig .tc := ⟨.hbm, 149, rfl⟩
abbrev main_v36 : Ref sig .tc := ⟨.hbm, 150, rfl⟩
abbrev main_v37 : Ref sig .tc := ⟨.hbm, 151, rfl⟩
abbrev main_call7_cst : Ref sig .tc := ⟨.hbm, 152, rfl⟩
abbrev main_call7_v0 : Ref sig .tc := ⟨.hbm, 153, rfl⟩
abbrev main_v38 : Ref sig .tc := ⟨.hbm, 154, rfl⟩
abbrev main_call8_v0 : Ref sig .tc := ⟨.hbm, 155, rfl⟩
abbrev main_call8_v1 : Ref sig .tc := ⟨.hbm, 156, rfl⟩
abbrev main_v39 : Ref sig .tc := ⟨.hbm, 157, rfl⟩
abbrev main_v40 : Ref sig .tc := ⟨.hbm, 158, rfl⟩
abbrev main_call9_v0 : Ref sig .tc := ⟨.hbm, 159, rfl⟩
abbrev main_call9_v1 : Ref sig .tc := ⟨.hbm, 160, rfl⟩
abbrev main_v41 : Ref sig .tc := ⟨.hbm, 161, rfl⟩
abbrev main_v42 : Ref sig .tc := ⟨.hbm, 162, rfl⟩
abbrev main_v43 : Ref sig .tc := ⟨.hbm, 163, rfl⟩
abbrev main_v44 : Ref sig .tc := ⟨.hbm, 164, rfl⟩
abbrev main_v45 : Ref sig .tc := ⟨.hbm, 165, rfl⟩
abbrev main_v46 : Ref sig .tc := ⟨.hbm, 166, rfl⟩
abbrev main_v47 : Ref sig .tc := ⟨.hbm, 167, rfl⟩
abbrev main_v48 : Ref sig .tc := ⟨.hbm, 168, rfl⟩
abbrev main_v49 : Ref sig .tc := ⟨.hbm, 169, rfl⟩
abbrev main_v50 : Ref sig .tc := ⟨.hbm, 170, rfl⟩
abbrev main_v51 : Ref sig .tc := ⟨.hbm, 171, rfl⟩
abbrev main_v52 : Ref sig .tc := ⟨.hbm, 172, rfl⟩
abbrev main_v53 : Ref sig .tc := ⟨.hbm, 173, rfl⟩

abbrev nD : Nat := 1
abbrev τ : Topo := Topo.v7x

variable {F : FTy → Type} [FloatOps F]
-- ==== Kernel2.lean ====
abbrev S16384x1024 : Shape := ⟨2, ![16384, 1024]⟩
abbrev S16384x256 : Shape := ⟨2, ![16384, 256]⟩
abbrev S1x1024 : Shape := ⟨2, ![1, 1024]⟩
abbrev S1024x1024 : Shape := ⟨2, ![1024, 1024]⟩
abbrev S1024x256 : Shape := ⟨2, ![1024, 256]⟩
abbrev S1024 : Shape := ⟨1, ![1024]⟩
abbrev S1024x1 : Shape := ⟨2, ![1024, 1]⟩
abbrev S1x256 : Shape := ⟨2, ![1, 256]⟩
abbrev S256 : Shape := ⟨1, ![256]⟩

abbrev nBuf : Space → Nat
  | .hbm => 13
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S1x1024, .f32⟩
  | .hbm, ⟨6, _⟩ => ⟨S1024x1024, .bf16⟩
  | .hbm, ⟨7, _⟩ => ⟨S16384x256, .f32⟩
  | .hbm, ⟨8, _⟩ => ⟨S16384x256, .f32⟩
  | .hbm, ⟨9, _⟩ => ⟨S16384x256, .f32⟩
  | .hbm, ⟨10, _⟩ => ⟨S16384x256, .f32⟩
  | .hbm, ⟨11, _⟩ => ⟨S1x1024, .f32⟩
  | .hbm, ⟨12, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1x1024, .f32⟩
  | .local _ .vmem, ⟨11, _⟩ => ⟨S1024x1024, .bf16⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1x1024, .f32⟩
  | .local _ .vmem, ⟨21, _⟩ => ⟨S1024x1024, .f32⟩
  | .local _ .vmem, ⟨22, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S16384x1024 : Shape := ⟨2, ![16384, 1024]⟩
abbrev S16384x256 : Shape := ⟨2, ![16384, 256]⟩
abbrev S1x1024 : Shape := ⟨2, ![1, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 161
  | .vmem => 0
  | .smem => 0
  | _ => 0

abbrev hbmTy0_0 (i : Nat) : BufTy := match i % 128 with
  | 0 => ⟨S16384x1024, .f32⟩
  | 1 => ⟨S16384x256, .f32⟩
  | 2 => ⟨S16384x256, .f32⟩
  | 3 => ⟨S16384x256, .f32⟩
  | 4 => ⟨S16384x256, .f32⟩
  | 5 => ⟨S1x1024, .f32⟩
  | 6 => ⟨S1024x1024, .bf16⟩
  | 7 => ⟨S1024x1024, .f32⟩
  | 8 => ⟨S16384x256, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384x1, .f32⟩
  | 17 => ⟨S16384x1, .f32⟩
  | 18 => ⟨S16384x1, .f32⟩
  | 19 => ⟨S16384x1, .f32⟩
  | 20 => ⟨S_, .f32⟩
  | 21 => ⟨S16384x1, .f32⟩
  | 22 => ⟨S16384x1, .f32⟩
  | 23 => ⟨S16384x256, .f32⟩
  | 24 => ⟨S16384x256, .f32⟩
  | 25 => ⟨S16384x256, .f32⟩
  | 26 => ⟨S_, .f32⟩
  | 27 => ⟨S16384, .f32⟩
  | 28 => ⟨S16384x1, .f32⟩
  | 29 => ⟨S_, .f32⟩
  | 30 => ⟨S16384x1, .f32⟩
  | 31 => ⟨S16384x1, .f32⟩
  | 32 => ⟨S_, .f32⟩
  | 33 => ⟨S16384x1, .f32⟩
  | 34 => ⟨S16384x1, .f32⟩
  | 35 => ⟨S16384x1, .f32⟩
  | 36 => ⟨S16384x1, .f32⟩
  | 37 => ⟨S_, .f32⟩
  | 38 => ⟨S16384x1, .f32⟩
  | 39 => ⟨S16384x1, .f32⟩
  | 40 => ⟨S16384x256, .f32⟩
  | 41 => ⟨S16384x256, .f32⟩
  | 42 => ⟨S16384x256, .f32⟩
  | 43 => ⟨S_, .f32⟩
  | 44 => ⟨S16384, .f32⟩
  | 45 => ⟨S16384x1, .f32⟩
  | 46 => ⟨S_, .f32⟩
  | 47 => ⟨S16384x1, .f32⟩
  | 48 => ⟨S16384x1, .f32⟩
  | 49 => ⟨S_, .f32⟩
  | 50 => ⟨S16384x1, .f32⟩
  | 51 => ⟨S16384x1, .f32⟩
  | 52 => ⟨S16384x1, .f32⟩
  | 53 => ⟨S16384x1, .f32⟩
  | 54 => ⟨S_, .f32⟩
  | 55 => ⟨S16384x1, .f32⟩
  | 56 => ⟨S16384x1, .f32⟩
  | 57 => ⟨S16384x256, .f32⟩
  | 58 => ⟨S16384x256, .f32⟩
  | 59 => ⟨S16384x256, .f32⟩
  | 60 => ⟨S_, .f32⟩
  | 61 => ⟨S16384, .f32⟩
  | 62 => ⟨S16384x1, .f32⟩
  | 63 => ⟨S_, .f32⟩
  | 64 => ⟨S16384x1, .f32⟩
  | 65 => ⟨S16384x1, .f32⟩
  | 66 => ⟨S_, .f32⟩
  | 67 => ⟨S16384x1, .f32⟩
  | 68 => ⟨S16384x1, .f32⟩
  | 69 => ⟨S16384x1, .f32⟩
  | 70 => ⟨S16384x1, .f32⟩
  | 71 => ⟨S_, .f32⟩
  | 72 => ⟨S16384x1, .f32⟩
  | 73 => ⟨S16384x1, .f32⟩
  | 74 => ⟨S16384x256, .f32⟩
  | 75 => ⟨S16384x256, .f32⟩
  | 76 => ⟨S16384x1024, .f32⟩
  | 77 => ⟨S16384x1024, .f32⟩
  | 78 => ⟨S16384x1024, .f32⟩
  | 79 => ⟨S16384x1024, .f32⟩
  | 80 => ⟨S1024x1024, .f32⟩
  | 81 => ⟨S1024x1024, .f32⟩
  | 82 => ⟨S16384x1024, .f32⟩
  | 83 => ⟨S16384x1024, .f32⟩
  | 84 => ⟨S_, .f32⟩
  | 85 => ⟨S1024, .f32⟩
  | 86 => ⟨S1x1024, .f32⟩
  | 87 => ⟨S16384x1024, .f32⟩
  | 88 => ⟨S16384x1024, .f32⟩
  | 89 => ⟨S16384x256, .f32⟩
  | 90 => ⟨S16384x256, .f32⟩
  | 91 => ⟨S16384x256, .f32⟩
  | 92 => ⟨S16384x256, .f32⟩
  | 93 => ⟨S16384x256, .f32⟩
  | 94 => ⟨S_, .f32⟩
  | 95 => ⟨S16384, .f32⟩
  | 96 => ⟨S16384x1, .f32⟩
  | 97 => ⟨S16384x256, .f32⟩
  | 98 => ⟨S16384x256, .f32⟩
  | 99 => ⟨S16384x1, .f32⟩
  | 100 => ⟨S_, .f32⟩
  | 101 => ⟨S16384x1, .f32⟩
  | 102 => ⟨S16384x1, .f32⟩
  | 103 => ⟨S_, .f32⟩
  | 104 => ⟨S16384, .f32⟩
  | 105 => ⟨S16384x256, .f32⟩
  | 106 => ⟨S16384x256, .f32⟩
  | 107 => ⟨S16384x256, .f32⟩
  | 108 => ⟨S16384x256, .f32⟩
  | 109 => ⟨S16384x256, .f32⟩
  | 110 => ⟨S16384x256, .f32⟩
  | 111 => ⟨S_, .f32⟩
  | 112 => ⟨S16384, .f32⟩
  | 113 => ⟨S16384x1, .f32⟩
  | 114 => ⟨S16384x256, .f32⟩
  | 115 => ⟨S16384x256, .f32⟩
  | 116 => ⟨S16384x1, .f32⟩
  | 117 => ⟨S_, .f32⟩
  | 118 => ⟨S16384x1, .f32⟩
  | 119 => ⟨S16384x1, .f32⟩
  | 120 => ⟨S_, .f32⟩
  | 121 => ⟨S16384, .f32⟩
  | 122 => ⟨S16384x256, .f32⟩
  | 123 => ⟨S16384x256, .f32⟩
  | 124 => ⟨S16384x256, .f32⟩
  | 125 => ⟨S16384x256, .f32⟩
  | 126 => ⟨S16384x256, .f32⟩
  | 127 => ⟨S16384x256, .f32⟩
  | _ => ⟨S16384x1024, .f32⟩

abbrev hbmTy0_1 (i : Nat) : BufTy := match i % 128 with
  | 0 => ⟨S_, .f32⟩
  | 1 => ⟨S16384, .f32⟩
  | 2 => ⟨S16384x1, .f32⟩
  | 3 => ⟨S16384x256, .f32⟩
  | 4 => ⟨S16384x256, .f32⟩
  | 5 => ⟨S16384x1, .f32⟩
  | 6 => ⟨S_, .f32⟩
  | 7 => ⟨S16384x1, .f32⟩
  | 8 => ⟨S16384x1, .f32⟩
  | 9 => ⟨S_, .f32⟩
  | 10 => ⟨S16384, .f32⟩
  | 11 => ⟨S16384x256, .f32⟩
  | 12 => ⟨S16384x256, .f32⟩
  | 13 => ⟨S16384x256, .f32⟩
  | 14 => ⟨S16384x256, .f32⟩
  | 15 => ⟨S16384x256, .f32⟩
  | 16 => ⟨S16384x256, .f32⟩
  | 17 => ⟨S_, .f32⟩
  | 18 => ⟨S16384, .f32⟩
  | 19 => ⟨S16384x1, .f32⟩
  | 20 => ⟨S16384x256, .f32⟩
  | 21 => ⟨S16384x256, .f32⟩
  | 22 => ⟨S16384x1, .f32⟩
  | 23 => ⟨S_, .f32⟩
  | 24 => ⟨S16384x1, .f32⟩
  | 25 => ⟨S16384x1, .f32⟩
  | 26 => ⟨S_, .f32⟩
  | 27 => ⟨S16384, .f32⟩
  | 28 => ⟨S16384x256, .f32⟩
  | 29 => ⟨S16384x256, .f32⟩
  | 30 => ⟨S16384x256, .f32⟩
  | 31 => ⟨S16384x256, .f32⟩
  | 32 => ⟨S16384x256, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_v42 : Ref sig .tc := ⟨.hbm, 62, rfl⟩
abbrev main_cst_12 : Ref sig .tc := ⟨.hbm, 63, rfl⟩
abbrev main_v43 : Ref sig .tc := ⟨.hbm, 64, rfl⟩
abbrev main_v44 : Ref sig .tc := ⟨.hbm, 65, rfl⟩
abbrev main_cst_13 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_14 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_15 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_16 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_17 : Ref sig .tc := ⟨.hbm, 100, rfl⟩
abbrev main_v75 : Ref sig .tc := ⟨.hbm, 101, rfl⟩
abbrev main_v76 : Ref sig .tc := ⟨.hbm, 102, rfl⟩
abbrev main_cst_18 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_19 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_20 : Ref sig .tc := ⟨.hbm, 117, rfl⟩
abbrev main_v89 : Ref sig .tc := ⟨.hbm, 118, rfl⟩
abbrev main_v90 : Ref sig .tc := ⟨.hbm, 119, rfl⟩
abbrev main_cst_21 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_22 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_23 : Ref sig .tc := ⟨.hbm, 134, rfl⟩
abbrev main_v103 : Ref sig .tc := ⟨.hbm, 135, rfl⟩
abbrev main_v104 : Ref sig .tc := ⟨.hbm, 136, rfl⟩
abbrev main_cst_24 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_25 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_cst_26 : Ref sig .tc := ⟨.hbm, 151, rfl⟩
abbrev main_v117 : Ref sig .tc := ⟨.hbm, 152, rfl⟩
abbrev main_v118 : Ref sig .tc := ⟨.hbm, 153, rfl⟩
abbrev main_cst_27 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩
abbrev S1024x8x512 : Shape := ⟨3, ![1024, 8, 512]⟩
abbrev S8x1024x512 : Shape := ⟨3, ![8, 1024, 512]⟩
abbrev S8x512x1024 : Shape := ⟨3, ![8, 512, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S512x512 : Shape := ⟨2, ![512, 512]⟩
abbrev S1x512x1024 : Shape := ⟨3, ![1, 512, 1024]⟩
abbrev S1x1024x512 : Shape := ⟨3, ![1, 1024, 512]⟩
abbrev S1024x512 : Shape := ⟨2, ![1024, 512]⟩
abbrev S1024 : Shape := ⟨1, ![1024]⟩

abbrev nBuf : Space → Nat
  | .hbm => 34
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .bf16⟩
  | .hbm, ⟨25, _⟩ => ⟨S1024x4096, .bf16⟩
  | .hbm, ⟨26, _⟩ => ⟨S1024x8x512, .bf16⟩
  | .hbm, ⟨27, _⟩ => ⟨S8x1024x512, .bf16⟩
  | .hbm, ⟨28, _⟩ => ⟨S4096x1024, .bf16⟩
  | .hbm, ⟨29, _⟩ => ⟨S8x512x1024, .bf16⟩
  | .hbm, ⟨30, _⟩ => ⟨S16384x1024, .f32⟩
  | .hbm, ⟨31, _⟩ => ⟨S16384x1024, .bf16⟩
  | .hbm, ⟨32, _⟩ => ⟨S16384x4096, .bf16⟩
  | .hbm, ⟨33, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S8x1024x512, .bf16⟩
  | .local _ .vmem, ⟨8, _⟩ => ⟨S8x512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x4096, .bf16⟩
  | .local _ .vmem, ⟨14, _⟩ => ⟨S512x4096, .bf16⟩
  | .local _ .vmem, ⟨15, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩
abbrev S1024 : Shape := ⟨1, ![1024]⟩

abbrev nBuf : Space → Nat
  | .hbm => 119
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .i1⟩
  | .hbm, ⟨31, _⟩ => ⟨S_, .f32⟩
  | .hbm, ⟨32, _⟩ => ⟨S16384x4096, .f32⟩
  | .hbm, ⟨33, _⟩ => ⟨S16384x4096, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x4096, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S_, .f32⟩
  | .hbm, ⟨42, _⟩ => ⟨S16384x4096, .f32⟩
  | .hbm, ⟨43, _⟩ => ⟨S16384x4096, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S_, .f32⟩
  | .hbm, ⟨63, _⟩ => ⟨S16384, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S16384x1, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x4096, .f32⟩
  | .hbm, ⟨85, _⟩ => ⟨S_, .f32⟩
  | .hbm, ⟨86, _⟩ => ⟨S16384x4096, .f32⟩
  | .hbm, ⟨87, _⟩ => ⟨S16384x4096, .f32⟩
  | .hbm, ⟨88, _⟩ => ⟨S_, .f32⟩
  | .hbm, ⟨89, _⟩ => ⟨S16384x4096, .f32⟩
  | .hbm, ⟨90, _⟩ => ⟨S16384x4096, .i1⟩
  | .hbm, ⟨91, _⟩ => ⟨S_, .f32⟩
  | .hbm, ⟨92, _⟩ => ⟨S16384x4096, .f32⟩
  | .hbm, ⟨93, _⟩ => ⟨S16384x4096, .f32⟩
  | .hbm, ⟨94, _⟩ => ⟨S16384x1024, .f32⟩
  | .hbm, ⟨95, _⟩ => ⟨S16384x4096, .f32⟩
  | .hbm, ⟨96, _⟩ => ⟨S16384x4096, .f32⟩
  | .hbm, ⟨97, _⟩ => ⟨S16384x4096, .f32⟩
  | .hbm, ⟨98, _⟩ => ⟨S16384x4096, .f32⟩
  | .hbm, ⟨99, _⟩ => ⟨S_, .f32⟩
  | .hbm, ⟨100, _⟩ => ⟨S16384x4096, .f32⟩
  | .hbm, ⟨101, _⟩ => ⟨S16384x4096, .f32⟩
  | .hbm, ⟨102, _⟩ => ⟨S16384x1024, .f32⟩
  | .hbm, ⟨103, _⟩ => ⟨S_, .f32⟩
  | .hbm, ⟨104, _⟩ => ⟨S16384, .f32⟩
  | .hbm, ⟨105, _⟩ => ⟨S16384x1, .f32⟩
  | .hbm, ⟨106, _⟩ => ⟨S_, .f32⟩
  | .hbm, ⟨107, _⟩ => ⟨S16384x1, .f32⟩
  | .hbm, ⟨108, _⟩ => ⟨S16384x1, .f32⟩
  | .hbm, ⟨109, _⟩ => ⟨S_, .f32⟩
  | .hbm, ⟨110, _⟩ => ⟨S16384x1, .f32⟩
  | .hbm, ⟨111, _⟩ => ⟨S16384x1, .f32⟩
  | .hbm, ⟨112, _⟩ => ⟨S16384x1, .f32⟩
  | .hbm, ⟨113, _⟩ => ⟨S16384x1024, .f32⟩
  | .hbm, ⟨114, _⟩ => ⟨S16384x1024, .f32⟩
  | .hbm, ⟨115, _⟩ => ⟨S16384x1024, .f32⟩
  | .hbm, ⟨116, _⟩ => ⟨S16384x1024, .f32⟩
  | .hbm, ⟨117, _⟩ => ⟨S16384x1024, .bf16⟩
  | .hbm, ⟨118, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_cst_12 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_call1_cst : Ref sig .tc := ⟨.hbm, 85, rfl⟩
abbrev main_call1_v0 : Ref sig .tc := ⟨.hbm, 86, rfl⟩
abbrev main_v64 : Ref sig .tc := ⟨.hbm, 87, rfl⟩
abbrev main_cst_13 : Ref sig .tc := ⟨.hbm, 88, rfl⟩
abbrev main_v65 : Ref sig .tc := ⟨.hbm, 89, rfl⟩
abbrev main_v66 : Ref sig .tc := ⟨.hbm, 90, rfl⟩
abbrev main_cst_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_15 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_16 : Ref sig .tc := ⟨.hbm, 103, rfl⟩
abbrev main_v77 : Ref sig .tc := ⟨.hbm, 104, rfl⟩
abbrev main_v78 : Ref sig .tc := ⟨.hbm, 105, rfl⟩
abbrev main_cst_17 : Ref sig .tc := ⟨.hbm, 106, rfl⟩
abbrev main_v79 : Ref sig .tc := ⟨.hbm, 107, rfl⟩
abbrev main_v80 : Ref sig .tc := ⟨.hbm, 108, rfl⟩
abbrev main_cst_18 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩

abbrev nD : Nat := 1
abbrev τ : Topo := Topo.v7x

variable {F : FTy → Type} [FloatOps F]
-- ==== Kernel4.lean ====
abbrev S16384x1024 : Shape := ⟨2, ![16384, 1024]⟩
abbrev S16384x2560 : Shape := ⟨2, ![16384, 2560]⟩
abbrev S1x1024 : Shape := ⟨2, ![1, 1024]⟩
abbrev S1024x2560 : Shape := ⟨2, ![1024, 2560]⟩
abbrev S2560x1024 : Shape := ⟨2, ![2560, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x2560, .bf16⟩
  | .hbm, ⟨2, _⟩ => ⟨S16384x1024, .f32⟩
  | .hbm, ⟨3, _⟩ => ⟨S1x1024, .f32⟩
  | .hbm, ⟨4, _⟩ => ⟨S1024x2560, .f32⟩
  | .hbm, ⟨5, _⟩ => ⟨S1024x2560, .bf16⟩
  | .hbm, ⟨6, _⟩ => ⟨S2560x1024, .bf16⟩
  | .hbm, ⟨7, _⟩ => ⟨S16384x1024, .f32⟩
  | .hbm, ⟨8, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2560, .bf16⟩
  | .local _ .vmem, ⟨3, _⟩ => ⟨S1024x2560, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S2560x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2560x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S16384x1024 : Shape := ⟨2, ![16384, 1024]⟩
abbrev S16384x2560 : Shape := ⟨2, ![16384, 2560]⟩
abbrev S1x1024 : Shape := ⟨2, ![1, 1024]⟩
abbrev S1024x2560 : Shape := ⟨2, ![1024, 2560]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2560, .bf16⟩
  | .hbm, ⟨2, _⟩ => ⟨S16384x1024, .f32⟩
  | .hbm, ⟨3, _⟩ => ⟨S1x1024, .f32⟩
  | .hbm, ⟨4, _⟩ => ⟨S1024x2560, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x2560, .f32⟩
  | .hbm, ⟨25, _⟩ => ⟨S16384x2560, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel5.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S8x512x1024 : Shape := ⟨3, ![8, 512, 1024]⟩
abbrev S16384x4096 : Shape := ⟨2, ![16384, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩

abbrev nBuf : Space → Nat
  | .hbm => 11
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1024x4096, .bf16⟩
  | .hbm, ⟨5, _⟩ => ⟨S1024x8x512, .bf16⟩
  | .hbm, ⟨6, _⟩ => ⟨S8x1024x512, .bf16⟩
  | .hbm, ⟨7, _⟩ => ⟨S4096x1024, .bf16⟩
  | .hbm, ⟨8, _⟩ => ⟨S8x512x1024, .bf16⟩
  | .hbm, ⟨9, _⟩ => ⟨S16384x1024, .f32⟩
  | .hbm, ⟨10, _⟩ => ⟨S16384x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S8x512x1024, .bf16⟩
  | .local _ .vmem, ⟨5, _⟩ => ⟨S512x1024, .f32⟩
  | .local _ .vmem, ⟨6, _⟩ => ⟨S512x1024, .f32⟩
  | .local _ .vmem, ⟨7, _⟩ => ⟨S512x4096, .bf16⟩
  | .local _ .vmem, ⟨8, _⟩ => ⟨S512x4096, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x4096, .f32⟩
  | .hbm, ⟨42, _⟩ => ⟨S_, .f32⟩
  | .hbm, ⟨43, _⟩ => ⟨S16384x4096, .f32⟩
  | .hbm, ⟨44, _⟩ => ⟨S16384x4096, .f32⟩
  | .hbm, ⟨45, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_cst : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call1_cst : Ref sig .tc := ⟨.hbm, 42, rfl⟩
abbrev main_call1_v0 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel6.lean ====
abbrev S16384x1024 : Shape := ⟨2, ![16384, 1024]⟩
abbrev S1x1024 : Shape := ⟨2, ![1, 1024]⟩
abbrev S1024x2560 : Shape := ⟨2, ![1024, 2560]⟩
abbrev S2560x1024 : Shape := ⟨2, ![2560, 1024]⟩
abbrev S16384x2560 : Shape := ⟨2, ![16384, 2560]⟩
abbrev S16384x768 : Shape := ⟨2, ![16384, 768]⟩
abbrev S1024x1024 : Shape := ⟨2, ![1024, 1024]⟩
abbrev S1024x768 : Shape := ⟨2, ![1024, 768]⟩
abbrev S1024 : Shape := ⟨1, ![1024]⟩
abbrev S1024x1 : Shape := ⟨2, ![1024, 1]⟩
abbrev S1024x256 : Shape := ⟨2, ![1024, 256]⟩
abbrev S1024x512 : Shape := ⟨2, ![1024, 512]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2560, .f32⟩
  | .hbm, ⟨3, _⟩ => ⟨S1024x2560, .bf16⟩
  | .hbm, ⟨4, _⟩ => ⟨S2560x1024, .bf16⟩
  | .hbm, ⟨5, _⟩ => ⟨S16384x2560, .f32⟩
  | .hbm, ⟨6, _⟩ => ⟨S16384x768, .bf16⟩
  | .hbm, ⟨7, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2560x1024, .bf16⟩
  | .local _ .vmem, ⟨4, _⟩ => ⟨S1024x2560, .f32⟩
  | .local _ .vmem, ⟨5, _⟩ => ⟨S1024x2560, .f32⟩
  | .local _ .vmem, ⟨6, _⟩ => ⟨S1024x768, .bf16⟩
  | .local _ .vmem, ⟨7, _⟩ => ⟨S1024x768, .bf16⟩
  | .local _ .vmem, ⟨8, _⟩ => ⟨S1024x1024, .bf16⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S16384x1024 : Shape := ⟨2, ![16384, 1024]⟩
abbrev S1x1024 : Shape := ⟨2, ![1, 1024]⟩
abbrev S1024x2560 : Shape := ⟨2, ![1024, 2560]⟩
abbrev S_ : Shape := ⟨0, ![]⟩
abbrev S16384 : Shape := ⟨1, ![16384]⟩
abbrev S16384x1 : Shape := ⟨2, ![16384, 1]⟩
abbrev S16384x2560 : Shape := ⟨2, ![16384, 2560]⟩
abbrev S16384x768 : Shape := ⟨2, ![16384, 768]⟩
abbrev S16384x256 : Shape := ⟨2, ![16384, 256]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2560, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x2560, .f32⟩
  | .hbm, ⟨19, _⟩ => ⟨S16384x768, .f32⟩
  | .hbm, ⟨20, _⟩ => ⟨S16384x256, .f32⟩
  | .hbm, ⟨21, _⟩ => ⟨S16384x256, .f32⟩
  | .hbm, ⟨22, _⟩ => ⟨S16384x256, .f32⟩
  | .hbm, ⟨23, _⟩ => ⟨S_, .f32⟩
  | .hbm, ⟨24, _⟩ => ⟨S16384x256, .f32⟩
  | .hbm, ⟨25, _⟩ => ⟨S16384x256, .f32⟩
  | .hbm, ⟨26, _⟩ => ⟨S16384x768, .f32⟩
  | .hbm, ⟨27, _⟩ => ⟨S16384x768, .bf16⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Kernel7.lean ====
abbrev S16384x256 : Shape := ⟨2, ![16384, 256]⟩
abbrev S16384x1024 : Shape := ⟨2, ![16384, 1024]⟩
abbrev S1x1024 : Shape := ⟨2, ![1, 1024]⟩
abbrev S1024x1024 : Shape := ⟨2, ![1024, 1024]⟩
abbrev S1024x256 : Shape := ⟨2, ![1024, 256]⟩
abbrev S1024 : Shape := ⟨1, ![1024]⟩
abbrev S1024x1 : Shape := ⟨2, ![1024, 1]⟩
abbrev S1x256 : Shape := ⟨2, ![1, 256]⟩
abbrev S256x1024 : Shape := ⟨2, ![256, 1024]⟩

abbrev nBuf : Space → Nat
  | .hbm => 9
  | .vmem => 14
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x1024, .f32⟩
  | .hbm, ⟨5, _⟩ => ⟨S1x1024, .f32⟩
  | .hbm, ⟨6, _⟩ => ⟨S1024x1024, .f32⟩
  | .hbm, ⟨7, _⟩ => ⟨S1024x1024, .bf16⟩
  | .hbm, ⟨8, _⟩ => ⟨S16384x1024, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S16384x256 : Shape := ⟨2, ![16384, 256]⟩
abbrev S16384x1024 : Shape := ⟨2, ![16384, 1024]⟩
abbrev S1x1024 : Shape := ⟨2, ![1, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩

abbrev nBuf : Space → Nat
  | .hbm => 64
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x1024, .f32⟩
  | .hbm, ⟨5, _⟩ => ⟨S1x1024, .f32⟩
  | .hbm, ⟨6, _⟩ => ⟨S1024x1024, .f32⟩
  | .hbm, ⟨7, _⟩ => ⟨S16384x256, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x256, .f32⟩
  | .hbm, ⟨19, _⟩ => ⟨S16384x256, .f32⟩
  | .hbm, ⟨20, _⟩ => ⟨S16384x256, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x256, .f32⟩
  | .hbm, ⟨45, _⟩ => ⟨S16384x256, .f32⟩
  | .hbm, ⟨46, _⟩ => ⟨S16384x256, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S16384x256, .f32⟩
  | .hbm, ⟨58, _⟩ => ⟨S16384x256, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== Kernel8.lean ====
abbrev S16384x1024 : Shape := ⟨2, ![16384, 1024]⟩
abbrev S1x1024 : Shape := ⟨2, ![1, 1024]⟩
abbrev S8x128 : Shape := ⟨2, ![8, 128]⟩
abbrev S1024x1024 : Shape := ⟨2, ![1024, 1024]⟩
abbrev S1024 : Shape := ⟨1, ![1024]⟩
abbrev S1024x1 : Shape := ⟨2, ![1024, 1]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S8x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference8Ideal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S8x128 : Shape := ⟨2, ![8, 128]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S16384, .f32⟩
  | .hbm, ⟨40, _⟩ => ⟨S_, .f32⟩
  | .hbm, ⟨41, _⟩ => ⟨S16384, .f32⟩
  | .hbm, ⟨42, _⟩ => ⟨S16384, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S16384, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S8x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel9.lean ====
abbrev S16384x1024 : Shape := ⟨2, ![16384, 1024]⟩
abbrev S16384x4096 : Shape := ⟨2, ![16384, 4096]⟩
abbrev S8x1024x512 : Shape := ⟨3, ![8, 1024, 512]⟩
abbrev S1024x1024 : Shape := ⟨2, ![1024, 1024]⟩
abbrev S1024x4096 : Shape := ⟨2, ![1024, 4096]⟩
abbrev S1024x512 : Shape := ⟨2, ![1024, 512]⟩
abbrev S1 : Shape := ⟨1, ![1]⟩
abbrev S_ : Shape := ⟨0, ![]⟩
abbrev S1x1024x512 : Shape := ⟨3, ![1, 1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S8x1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x4096, .bf16⟩
  | .local _ .vmem, ⟨3, _⟩ => ⟨S1024x4096, .bf16⟩
  | .local _ .vmem, ⟨4, _⟩ => ⟨S1024x4096, .f32⟩
  | .local _ .vmem, ⟨5, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference9Ideal.lean ====
abbrev S16384x1024 : Shape := ⟨2, ![16384, 1024]⟩
abbrev S16384x4096 : Shape := ⟨2, ![16384, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S_, .f32⟩
  | .hbm, ⟨3, _⟩ => ⟨S1024x4096, .f32⟩
  | .hbm, ⟨4, _⟩ => ⟨S16384x1024, .f32⟩
  | .hbm, ⟨5, _⟩ => ⟨S16384x4096, .f32⟩
  | .hbm, ⟨6, _⟩ => ⟨S16384x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S16384x1024 : Shape := ⟨2, ![16384, 1024]⟩
abbrev S16384x4096 : Shape := ⟨2, ![16384, 4096]⟩
abbrev S8x512x1024 : Shape := ⟨3, ![8, 512, 1024]⟩
abbrev S512x1024 : Shape := ⟨2, ![512, 1024]⟩
abbrev S512x4096 : Shape := ⟨2, ![512, 4096]⟩
abbrev S1024x4096 : Shape := ⟨2, ![1024, 4096]⟩
abbrev S1 : Shape := ⟨1, ![1]⟩
abbrev S1024x512 : Shape := ⟨2, ![1024, 512]⟩
abbrev S_ : Shape := ⟨0, ![]⟩
abbrev S1x512x1024 : Shape := ⟨3, ![1, 512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x4096, .bf16⟩
  | .hbm, ⟨2, _⟩ => ⟨S8x512x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S1024x4096, .f32⟩
  | .local _ .vmem, ⟨5, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference10Ideal.lean ====
abbrev S16384x1024 : Shape := ⟨2, ![16384, 1024]⟩
abbrev S16384x4096 : Shape := ⟨2, ![16384, 4096]⟩
abbrev S_ : Shape := ⟨0, ![]⟩
abbrev S4096x1024 : Shape := ⟨2, ![4096, 1024]⟩
abbrev S1024x4096 : Shape := ⟨2, ![1024, 4096]⟩
abbrev S8x512x1024 : Shape := ⟨3, ![8, 512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x4096, .bf16⟩
  | .hbm, ⟨2, _⟩ => ⟨S_, .f32⟩
  | .hbm, ⟨3, _⟩ => ⟨S4096x1024, .f32⟩
  | .hbm, ⟨4, _⟩ => ⟨S16384x4096, .f32⟩
  | .hbm, ⟨5, _⟩ => ⟨S16384x4096, .f32⟩
  | .hbm, ⟨6, _⟩ => ⟨S16384x1024, .f32⟩
  | .hbm, ⟨7, _⟩ => ⟨S1024x4096, .f32⟩
  | .hbm, ⟨8, _⟩ => ⟨S4096x1024, .f32⟩
  | .hbm, ⟨9, _⟩ => ⟨S8x512x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Attn.Setup.lean ====
/-
  The launch of the attention gradient's kernel: what the host prepares before the region, the blocks the windows
  stage, the buffers the body owns beside them (two scratch accumulators, two copy semaphores, the two results left in
  HBM), and the frame claim's post read off a frame run's.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Proof.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- The stretches of host operations before the region (Launch.lean), in order. -/
abbrev hostLists : List (List (HloOp τ sig (Elt F))) :=
  [hostOps0, hostOps0_1, hostOps0_2, hostOps0_3, hostOps0_4, hostOps0_5, hostOps0_6, hostOps0_7, hostOps0_8, hostOps0_9]

/-- Core `c`'s TensorCore buffers when the region is entered: after the host operations. -/
abbrev V (c : Dev nD) (b : Ref sig .tc) : Buf (Elt F) ((c : Thread nD τ).loc b) := StableHlo.after hostLists.flatten (fun b => m (c, b)) b

theorem hostLists_sub : (hostLists (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub,
    hostOps0_8_sub, hostOps0_9_sub⟩

theorem hostLists_fresh : (hostLists (F := F)).Forall fun ops => ops.Forall fun op => op.fresh = ∅ := by
  simp only [List.Forall]; repeat' constructor

set_option maxHeartbeats 800000 in
/-- @main up to the region, at the certificate's variants `𝒱₀`: the host operations then the region
    (`Pipeline.hmain_prefixes`, off `main_chain`). -/
theorem hmain (𝒱₀ : Variants) : Pipeline.HMain (Ix := Unit) (Name := ℕ) (U := Pipeline.UD sig nD τ) (Lvl := ℕ) (cfgs (F := F)) 0 defs₀ 𝒱₀ m (main (F := F)) (V m) :=
  Pipeline.hmain_prefixes (cfgs (F := F)) 0 defs₀ 𝒱₀ m main hostLists hostLists_sub hostLists_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostLists, hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostLists, hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's staging buffer holds its block at every point, for proof data over these arrays that leave it there. -/
theorem before0_0_of {c : Dev nD} (dat : Dat τ (Elt F) Unit ℕ (Pipeline.UD sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for proof data over these arrays that leave it there. -/
theorem before0_1_of {c : Dev nD} (dat : Dat τ (Elt F) Unit ℕ (Pipeline.UD sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for proof data over these arrays that leave it there. -/
theorem before0_2_of {c : Dev nD} (dat : Dat τ (Elt F) Unit ℕ (Pipeline.UD sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for proof data over these arrays that leave it there. -/
theorem before0_3_of {c : Dev nD} (dat : Dat τ (Elt F) Unit ℕ (Pipeline.UD sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, for proof data over these arrays that leave it there. -/
theorem before0_4_of {c : Dev nD} (dat : Dat τ (Elt F) Unit ℕ (Pipeline.UD sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, for proof data over these arrays that leave it there. -/
theorem before0_5_of {c : Dev nD} (dat : Dat τ (Elt F) Unit ℕ (Pipeline.UD sig nD τ) ℕ (cfg0 (F := F)) c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, for proof data over these arrays that leave it there. -/
theorem before0_6_of {c : Dev nD} (dat : Dat τ (Elt F) Unit ℕ (Pipeline.UD sig nD τ) ℕ (cfg0 (F := F)) c) (hA : dat.A 6 = V m c (Pipeline.arrRef spec0 6))
    (hafter : ∀ t, dat.after 6 t = iblk m c 6 t) (t : Fin (cfg0 (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The operands left in HBM the body WRITES by its own transfers, as references (results accumulated in place; the
    run's post says nothing of them: Lib/Pipeline/Frame.lean `FramePostR`). -/
def R0 : Finset (Ref sig .tc) := {main_v40_1, main_v40_2}

/-! ## The kernel body's memrefs and what it may hold -/

/-- Each window's staging memref at a point, and that it is a whole buffer. -/
abbrev ms0_0 (t : Fin (cfg0 (F := F)).N) : Memref sig .tc .vmem S256x128 .bf16 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S16384x128 .bf16 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S16384x128 .bf16 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S256x128 .f32 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S256x128 .f32 := win0_4.stage ((cfg0 (F := F)).slots t 4)
abbrev hs0_4 (t : Fin (cfg0 (F := F)).N) : (ms0_4 t).IsWhole := hstage0_4 (((cfg0 (F := F)).slots t 4).cast nbuf0_4)
abbrev ms0_5 (t : Fin (cfg0 (F := F)).N) : Memref sig .tc .vmem S256x256 .bf16 := win0_5.stage ((cfg0 (F := F)).slots t 5)
abbrev hs0_5 (t : Fin (cfg0 (F := F)).N) : (ms0_5 t).IsWhole := hstage0_5 (((cfg0 (F := F)).slots t 5).cast nbuf0_5)
abbrev ms0_6 (t : Fin (cfg0 (F := F)).N) : Memref sig .tc .vmem S256x256 .bf16 := win0_6.stage ((cfg0 (F := F)).slots t 6)
abbrev hs0_6 (t : Fin (cfg0 (F := F)).N) : (ms0_6 t).IsWhole := hstage0_6 (((cfg0 (F := F)).slots t 6).cast nbuf0_6)
abbrev ms0_7 (t : Fin (cfg0 (F := F)).N) : Memref sig .tc .vmem S256x128 .f32 := win0_7.stage ((cfg0 (F := F)).slots t 7)
abbrev hs0_7 (t : Fin (cfg0 (F := F)).N) : (ms0_7 t).IsWhole := hstage0_7 (((cfg0 (F := F)).slots t 7).cast nbuf0_7)
/-- The scratch operands: whole scoped buffers of the kernel's own, passed beside the windows. -/
abbrev scM0_0 : Memref sig .tc .vmem S16384x128 .f32 := Memref.whole cc0_scratch0
abbrev scM0_1 : Memref sig .tc .vmem S16384x128 .f32 := Memref.whole cc0_scratch1
/-- The results left in HBM that the body's own copies out of scratch write, whole. -/
abbrev hbM0_0 : Memref sig .tc .hbm S2x16384x128 .f32 := Memref.whole main_v40_1
abbrev hbM0_1 : Memref sig .tc .hbm S2x16384x128 .f32 := Memref.whole main_v40_2
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 14, SemLoc.dma 15] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 14) 0 ∗ semVal ((c : Thread nD τ), SemLoc.dma 15) 0) := by
  rw [Pipeline.ownSems0_eq_of_list c osem0 [0, 1] (by decide) (by decide)]; rfl
/-- The HBM operands the body only reads (none: it writes every operand left in HBM by its own copies out), as references: unscoped, no window's array (`Pipeline.restRefs`). -/
def H0 : Finset (Ref sig .tc) := {}
theorem H0_sub : H0 ⊆ Pipeline.restRefs sig spec0 := by decide
/-- The ones it writes (`R0`, stated with the kit) are unscoped, no window's array, and none of `H0`. -/
theorem R0_sub : R0 ⊆ Pipeline.restRefs sig spec0 \ H0 := by decide
/-- The read operands' points-tos at the launch contents, listed (none: `emp`). -/
theorem hbmPts0_eq (c : Dev nD) :
    (bigSep H0 (fun b => ((c : Thread nD τ).loc b) ↦{fullShare} V m c b) : sProp 𝕄) = iprop(emp) := by
  rw [BI.bigSep_eq_bigSepL_of_eq [] (by decide) (by decide)]; rfl
/-- The written operands' points-tos at some contents each (`Pipeline.owned`), listed. -/
theorem ownedPts0_eq (c : Dev nD) :
    (Pipeline.owned R0 c : sProp 𝕄) = iprop((∃ f, hbPt0 c hbM0_0 f) ∗ (∃ f, hbPt0 c hbM0_1 f)) := by
  unfold Pipeline.owned; rw [BI.bigSep_eq_bigSepL_of_eq [main_v40_1, main_v40_2] (by decide) (by decide)]; rfl

/-- The invariant of a body with transfers of its own that write some HBM operands, `Pipeline.ΦDR`, conjunct by conjunct:
    the scratch operands owned at some contents, the generator register at some state, the own cells at zero, the HBM
    operands read at their launch contents, the HBM operands written at some contents — what the body obligation hands
    the run and takes back. -/
theorem PhiDR0_eq (c : Dev nD) :
    (Pipeline.ΦDR osem0 spec0 H0 R0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 14) 0 ∗ semVal ((c : Thread nD τ), SemLoc.dma 15) 0) ∗ iprop(emp) ∗ iprop((∃ f, hbPt0 c hbM0_0 f) ∗ (∃ f, hbPt0 c hbM0_1 f))) := by
  rw [Pipeline.ΦDR_eq, scopedRest0_eq, ownSems00_eq, hbmPts0_eq, ownedPts0_eq]; simp only [scM0_0, scM0_1, owns_whole]; try rfl

end Cert.Proof.Attn

end
-- ==== Proof.Attn.Trip.lean ====
/-
  One trip of the attention gradient's loop as a function of the values it reads: what the carry becomes and what the tile's
  two accumulator blocks become.
-/
module

public import proofs.«01_k».proof.Proof.Attn.Setup

@[expose] public section

set_option maxRecDepth 16384

noncomputable section

namespace Cert.Proof.Attn

open Cert.KernelIdeal Cert.KernelIdeal.Gen

open Idealize.ShloMosaic Idealize.ShloMosaic.TcCoe Idealize.ShloMosaic.Tactic

variable {F : FTy → Type} [FloatOps F] [Named F]

/-- The word of key tile `n - 1`: `-1` when no tile is left. -/
def tileWord (n : ℕ) : BitVec 32 := BitVec.ofNat 32 n - 1#32

/-- Tile `n` of 64 lies inside the key block, and starts at a multiple of 256. -/
theorem chk_tile (n : ℕ) (hn : n < 64) : k0_chk1 (tileWord (n + 1)) := by
  have h : ∀ j : Fin 64, k0_chk1 (tileWord (j.val + 1)) := by decide +kernel
  exact h ⟨n, hn⟩

/-- Key tile `n` of a block's contents. -/
def tileV {e : EltTy} (x : Vec F S16384x128 e) (n : ℕ) : Vec F S256x128 e :=
  View.ld x (Rect.unit (s := S16384x128) (k0_off1 (tileWord (n % 64 + 1))) S256x128.size
    (k0_off1_inb _ (chk_tile (n % 64) (Nat.mod_lt _ (by decide)))))

/-- The loop's carry: tile word, whether a stick is alive, the query gradient, and two sums for each of two heads. -/
abbrev Carry (F : FTy → Type) : Type :=
  BitVec 32 × BitVec 32 × FVec F S256x128 .f32 × FVec F S256x1 .f32 × FVec F S256x1 .f32 × FVec F S256x1 .f32 × FVec F S256x1 .f32

/-- What stays fixed during the loop: the query tile's word, the two triangles, and for each of the two heads the query
    block, the incoming gradient block, the row sums of gradient times output and the head's lanes. -/
structure Env (F : FTy → Type) where
  a : BitVec 32
  up : Vec F S256x256 .bf16
  ue : Vec F S256x256 .bf16
  q0 : Vec F S256x128 .bf16
  d0 : FVec F S256x128 .bf16
  t0 : FVec F S256x1 .f32
  m0 : IVec S1x128 1
  q1 : Vec F S256x128 .bf16
  d1 : FVec F S256x128 .bf16
  t1 : FVec F S256x1 .f32
  m1 : IVec S1x128 1

namespace Env

variable (e : Env F) (w : BitVec 32) (kt vt : Vec F S256x128 .bf16) (r : Carry F)

/-- The second head's weights. -/
def w1 : FVec F S256x256 .bf16 := k0_pay43 e.q1 r.2.2.2.2.1 kt (k0_pay21 w e.a) e.up e.up

/-- The second head's row sums of the logarithms of one minus beta. -/
def c1 : FVec F S256x1 .f32 := k0_pay48 r.2.2.2.2.1 (k0_pay42 e.q1 kt (k0_pay21 w e.a))

/-- The second head's row sums of gradient times weight. -/
def g1 : FVec F S256x1 .f32 := k0_pay49 e.d1 r.2.2.2.2.2.2 vt (e.w1 w kt r)

/-- The first head's row sums of the logarithms of one minus beta. -/
def c0 : FVec F S256x1 .f32 := k0_pay37 r.2.2.2.1 (k0_pay27 e.q0 w e.a kt)

/-- The first head's row sums of gradient times weight. -/
def g0 : FVec F S256x1 .f32 :=
  k0_pay38 r.2.2.2.2.2.1 (k0_pay32 e.d0 r.2.2.2.1 vt (k0_pay21 w e.a) (k0_pay26 e.q0 kt) (k0_pay29 e.q0 w e.a kt)
    (k0_pay30 e.q0 w e.a kt e.up) e.up)

/-- The query gradient after the first head. -/
def dqa : FVec F S256x128 .f32 :=
  k0_pay34 e.d0 e.t0 e.m0 r.2.2.1 r.2.2.2.1 r.2.2.2.2.2.1 kt vt (k0_pay21 w e.a) (k0_pay26 e.q0 kt) (k0_pay29 e.q0 w e.a kt)
    (k0_pay30 e.q0 w e.a kt e.up) e.up e.ue e.ue

/-- The query gradient after both heads. -/
def dqb : FVec F S256x128 .f32 :=
  k0_pay46 e.d1 e.t1 e.m1 r.2.2.2.2.2.2 kt vt (k0_pay21 w e.a) (e.dqa w kt vt r) (k0_pay41 e.q1 kt) (e.w1 w kt r) e.ue e.ue

/-- The carry after the trip. -/
def trip : Carry F :=
  (Scalar.subi w 1#32,
    Scalar.extui (Scalar.cmpf .ogt (k0_pay3 (e.c0 w kt r) (e.c1 w kt r)) (Named.named κ "log_cut" 0xC2D00000#32)),
    e.dqb w kt vt r, e.c0 w kt r, e.c1 w kt r, e.g0 w kt vt r, e.g1 w kt vt r)

/-- The tile's block of the key gradient after the trip, from the block before. -/
def tripK (old : Vec F S256x128 .f32) : FVec F S256x128 .f32 :=
  k0_pay1 (k0_pay50 e.q1 e.d1 e.t1 r.2.2.2.2.2.2 vt (k0_pay21 w e.a)
    (k0_pay35 e.q0 e.d0 e.t0 r.2.2.2.1 r.2.2.2.2.2.1 vt (k0_pay21 w e.a) k0_pay22 (k0_pay26 e.q0 kt) (k0_pay29 e.q0 w e.a kt)
      (k0_pay30 e.q0 w e.a kt e.up) e.up e.ue e.ue)
    (k0_pay41 e.q1 kt) (e.w1 w kt r) e.ue e.ue old)

/-- The tile's block of the value gradient after the trip, from the block before. -/
def tripV (old : Vec F S256x128 .f32) : FVec F S256x128 .f32 :=
  k0_pay2 (k0_pay47 e.d1 (k0_pay36 e.d0 k0_pay23
    (k0_pay31 r.2.2.2.1 (k0_pay21 w e.a) (k0_pay26 e.q0 kt) (k0_pay29 e.q0 w e.a kt) (k0_pay30 e.q0 w e.a kt e.up) e.up)
    (constant S256x128 .f32 0x00000000#32)) (e.w1 w kt r)) old

end Env

/-- The loop from key tile `n - 1`: trip after trip while a stick is alive. -/
def walk (e : Env F) (kt vt : ℕ → Vec F S256x128 .bf16) : ℕ → Carry F → Carry F
  | 0, r => r
  | n + 1, r =>
    if Scalar.andi (Scalar.cmpi .sge (tileWord (n + 1)) 0#32) (Scalar.cmpi .sgt r.2.1 0#32) = 1#1 then
      walk e kt vt n (e.trip (tileWord (n + 1)) (kt n) (vt n) r)
    else r

/-- What stays fixed during the loop, at the query tile with word `a`, from the query block, the incoming gradient's block,
    the output's block and the triangles. -/
def envOfBlocks (a : BitVec 32) (x0 : Vec F S256x128 .bf16) (x3 x4 : Vec F S256x128 .f32) (x5 x6 : Vec F S256x256 .bf16) : Env F where
  a := a
  up := x5
  ue := x6
  q0 := k0_pay13 x0 k0_pay9
  d0 := k0_pay14 (k0_pay6 x3) k0_pay9
  t0 := k0_pay12 (k0_pay7 x3 x4) k0_pay10 k0_pay11
  m0 := k0_pay9
  q1 := k0_pay17 x0 k0_pay8
  d1 := k0_pay18 (k0_pay6 x3) k0_pay8
  t1 := k0_pay16 (k0_pay7 x3 x4) k0_pay8
  m1 := k0_pay15 k0_pay8

/-- The carry the loop starts from when `n` tiles are to be visited. -/
def carry₀ (n : ℕ) : Carry F := (tileWord n, 1#32, k0_pay19, k0_pay20, k0_pay20, k0_pay20, k0_pay20)

/-- The query gradient's block at query tile `j`. -/
def dqOf (j : ℕ) (x0 : Vec F S256x128 .bf16) (x1 x2 : Vec F S16384x128 .bf16) (x3 x4 : Vec F S256x128 .f32) (x5 x6 : Vec F S256x256 .bf16) :
    Vec F S256x128 .f32 :=
  (walk (envOfBlocks (BitVec.ofNat 32 j) x0 x3 x4 x5 x6) (tileV x1) (tileV x2) (j + 1) (carry₀ (j + 1))).2.2.1

end Cert.Proof.Attn

end
-- ==== Proof.Attn.Loop.lean ====
/-
  The attention gradient's loop over key tiles, a label that calls itself: from key tile `n - 1` down to tile 0, ended
  early when every stick of the tile's rows has been used up. Whatever the comparison says, the tile index descends, so
  the label returns; on the way it reads the key and value blocks and the two triangles and adds into the two
  accumulators, leaving the blocks and triangles as they were.  What it returns and what it leaves in the accumulators are
  functions of what it was given.
-/
module

public import proofs.«01_k».proof.Proof.Attn.Trip
public import Idealize.ShloMosaic.Lib.Pipeline.Value

@[expose] public section

set_option maxRecDepth 16384

noncomputable section

namespace Cert.Proof.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- With no tile left the loop's test fails. -/
theorem test_zero (w : BitVec 32) : ¬Scalar.andi (Scalar.cmpi .sge (tileWord 0) 0#32) (Scalar.cmpi .sgt w 0#32) = 1#1 := by
  have h : Scalar.cmpi .sge (tileWord 0) 0#32 = 0#1 := by decide
  rw [h]
  show ¬(0#1 &&& Scalar.cmpi .sgt w 0#32) = 1#1
  rw [BitVec.zero_and]; decide

/-- The next tile's word. -/
theorem tileWord_pred (n : ℕ) : Scalar.subi (tileWord (n + 1)) 1#32 = tileWord n := by
  show BitVec.ofNat 32 (n + 1) - 1#32 - 1#32 = BitVec.ofNat 32 n - 1#32
  rw [BitVec.ofNat_add, BitVec.add_sub_cancel]

section Label

variable (c : Dev nD) (i : grid0.Coords)
  (arg3 : Memref sig .tc .vmem S16384x128 .bf16) (harg3 : arg3.IsWhole) (arg4 : Memref sig .tc .vmem S16384x128 .bf16) (harg4 : arg4.IsWhole)
  (arg7 : Memref sig .tc .vmem S256x256 .bf16) (harg7 : arg7.IsWhole) (arg8 : Memref sig .tc .vmem S256x256 .bf16) (harg8 : arg8.IsWhole)
  (arg12 : Memref sig .tc .vmem S16384x128 .f32) (harg12 : arg12.IsWhole) (arg13 : Memref sig .tc .vmem S16384x128 .f32) (harg13 : arg13.IsWhole)

/-- Key tile `n` of a block. -/
def tileOf {e : EltTy} (arg : Memref sig .tc .vmem S16384x128 e) (f : Buf (Elt F) (arg.view.loc (c : Thread nD τ))) (n : ℕ) : Vec F S256x128 e :=
  View.readAt (Elt F) arg.view (Rect.unit (s := S16384x128) (k0_off1 (tileWord (n % 64 + 1))) S256x128.size
    (k0_off1_inb _ (chk_tile (n % 64) (Nat.mod_lt _ (by decide))))).toLoadRect f

theorem tileOf_eq {e : EltTy} (arg : Memref sig .tc .vmem S16384x128 e) (f : Buf (Elt F) (arg.view.loc (c : Thread nD τ))) (n : ℕ) (hn : n < 64)
    (h : k0_chk1 (tileWord (n + 1))) :
    tileOf c arg f n = View.readAt (Elt F) arg.view (Rect.unit (s := S16384x128) (k0_off1 (tileWord (n + 1))) S256x128.size (k0_off1_inb _ h)).toLoadRect f := by
  have aux : ∀ (m : ℕ) (hm : k0_chk1 (tileWord (m + 1))), m = n →
      View.readAt (Elt F) arg.view (Rect.unit (s := S16384x128) (k0_off1 (tileWord (m + 1))) S256x128.size (k0_off1_inb _ hm)).toLoadRect f
        = View.readAt (Elt F) arg.view (Rect.unit (s := S16384x128) (k0_off1 (tileWord (n + 1))) S256x128.size (k0_off1_inb _ h)).toLoadRect f := by
    rintro m hm rfl; rfl
  exact aux _ (chk_tile (n % 64) (Nat.mod_lt _ (by decide))) (Nat.mod_eq_of_lt hn)

/-- A buffer after key tile `n` of it has been overwritten. -/
def putTile {e : EltTy} (arg : Memref sig .tc .vmem S16384x128 e) (f : Buf (Elt F) (arg.view.loc (c : Thread nD τ))) (n : ℕ) (v : Vec F S256x128 e) :
    Buf (Elt F) (arg.view.loc (c : Thread nD τ)) :=
  arg.view.writes (Elt F) f [⟨Rect.unit (s := S16384x128) (k0_off1 (tileWord (n % 64 + 1))) S256x128.size
    (k0_off1_inb _ (chk_tile (n % 64) (Nat.mod_lt _ (by decide)))), v⟩]

theorem putTile_eq {e : EltTy} (arg : Memref sig .tc .vmem S16384x128 e) (f : Buf (Elt F) (arg.view.loc (c : Thread nD τ))) (n : ℕ) (v : Vec F S256x128 e)
    (hn : n < 64) (h : k0_chk1 (tileWord (n + 1))) :
    putTile c arg f n v = arg.view.writes (Elt F) f [⟨Rect.unit (s := S16384x128) (k0_off1 (tileWord (n + 1))) S256x128.size (k0_off1_inb _ h), v⟩] := by
  have aux : ∀ (m : ℕ) (hm : k0_chk1 (tileWord (m + 1))), m = n →
      arg.view.writes (Elt F) f [⟨Rect.unit (s := S16384x128) (k0_off1 (tileWord (m + 1))) S256x128.size (k0_off1_inb _ hm), v⟩]
        = arg.view.writes (Elt F) f [⟨Rect.unit (s := S16384x128) (k0_off1 (tileWord (n + 1))) S256x128.size (k0_off1_inb _ h), v⟩] := by
    rintro m hm rfl; rfl
  exact aux _ (chk_tile (n % 64) (Nat.mod_lt _ (by decide))) (Nat.mod_eq_of_lt hn)

/-- The whole of a triangle's block. -/
def triOf (arg : Memref sig .tc .vmem S256x256 .bf16) (f : Buf (Elt F) (arg.view.loc (c : Thread nD τ))) : Vec F S256x256 .bf16 :=
  View.readAt (Elt F) arg.view (Rect.unit (s := S256x256) ![0, 0] S256x256.size inb_S256x256_S256x256_0_0).toLoadRect f

/-- Key tile `n` of a block holding `x`. -/
theorem tileOf_unread {e : EltTy} (arg : Memref sig .tc .vmem S16384x128 e) (harg : arg.IsWhole) (x : Vec F S16384x128 e) :
    tileOf c arg (harg.unread x) = tileV x := by
  funext n
  unfold tileOf tileV
  rw [View.readAt_eq_ld, harg.read_unread]

/-- The whole of a triangle's block holding `x`. -/
theorem triOf_unread (arg : Memref sig .tc .vmem S256x256 .bf16) (harg : arg.IsWhole) (x : Vec F S256x256 .bf16) :
    triOf c arg (harg.unread x) = x := by
  unfold triOf
  rw [View.readAt_eq_ld, harg.read_unread, View.ld_unit_zero (S := S256x256) (by funext a; fin_cases a <;> rfl)]

/-- The key gradient's accumulator after the loop from key tile `n - 1`. -/
def walkK (e : Env F) (kt vt : ℕ → Vec F S256x128 .bf16) : ℕ → Carry F → Buf (Elt F) (arg12.view.loc (c : Thread nD τ)) →
    Buf (Elt F) (arg12.view.loc (c : Thread nD τ))
  | 0, _, f => f
  | n + 1, r, f =>
    if Scalar.andi (Scalar.cmpi .sge (tileWord (n + 1)) 0#32) (Scalar.cmpi .sgt r.2.1 0#32) = 1#1 then
      walkK e kt vt n (e.trip (tileWord (n + 1)) (kt n) (vt n) r)
        (putTile c arg12 f n (e.tripK (tileWord (n + 1)) (kt n) (vt n) r (tileOf c arg12 f n)))
    else f

/-- The value gradient's accumulator after the loop from key tile `n - 1`. -/
def walkV (e : Env F) (kt vt : ℕ → Vec F S256x128 .bf16) : ℕ → Carry F → Buf (Elt F) (arg13.view.loc (c : Thread nD τ)) →
    Buf (Elt F) (arg13.view.loc (c : Thread nD τ))
  | 0, _, f => f
  | n + 1, r, f =>
    if Scalar.andi (Scalar.cmpi .sge (tileWord (n + 1)) 0#32) (Scalar.cmpi .sgt r.2.1 0#32) = 1#1 then
      walkV e kt vt n (e.trip (tileWord (n + 1)) (kt n) (vt n) r)
        (putTile c arg13 f n (e.tripV (tileWord (n + 1)) (kt n) r (tileOf c arg13 f n)))
    else f

/-- The buffers the loop works on: the key and value blocks, the two triangles and the two accumulators at their contents. -/
def held (f3 : Buf (Elt F) (arg3.view.loc (c : Thread nD τ))) (f4 : Buf (Elt F) (arg4.view.loc (c : Thread nD τ)))
    (f7 : Buf (Elt F) (arg7.view.loc (c : Thread nD τ))) (f8 : Buf (Elt F) (arg8.view.loc (c : Thread nD τ)))
    (f12 : Buf (Elt F) (arg12.view.loc (c : Thread nD τ))) (f13 : Buf (Elt F) (arg13.view.loc (c : Thread nD τ))) : sProp 𝕄 :=
  iprop((arg3.view.loc (c : Thread nD τ) ↦[arg3.view.set]{fullShare} f3) ∗ (arg4.view.loc (c : Thread nD τ) ↦[arg4.view.set]{fullShare} f4)
    ∗ (arg7.view.loc (c : Thread nD τ) ↦[arg7.view.set]{fullShare} f7) ∗ (arg8.view.loc (c : Thread nD τ) ↦[arg8.view.set]{fullShare} f8)
    ∗ (arg12.view.loc (c : Thread nD τ) ↦[arg12.view.set]{fullShare} f12) ∗ (arg13.view.loc (c : Thread nD τ) ↦[arg13.view.set]{fullShare} f13))

/-- The label's specification: it takes the buffers, returns the carry `r` and gives the buffers back, the two accumulators
    at `g12` and `g13`. -/
def spec (f3 : Buf (Elt F) (arg3.view.loc (c : Thread nD τ))) (f4 : Buf (Elt F) (arg4.view.loc (c : Thread nD τ)))
    (f7 : Buf (Elt F) (arg7.view.loc (c : Thread nD τ))) (f8 : Buf (Elt F) (arg8.view.loc (c : Thread nD τ)))
    (f12 g12 : Buf (Elt F) (arg12.view.loc (c : Thread nD τ))) (f13 g13 : Buf (Elt F) (arg13.view.loc (c : Thread nD τ))) (r : Carry F) : sWPT 𝕄 (Carry F) := do
  sWPT.consume (held c arg3 arg4 arg7 arg8 arg12 arg13 f3 f4 f7 f8 f12 f13)
  sWPT.produce (held c arg3 arg4 arg7 arg8 arg12 arg13 f3 f4 f7 f8 g12 g13)
  pure r

theorem spec_apply (f3 f4 f7 f8 f12 g12 f13 g13) (r : Carry F) (K : Carry F → sProp 𝕄) :
    spec c arg3 arg4 arg7 arg8 arg12 arg13 f3 f4 f7 f8 f12 g12 f13 g13 r K
      = iprop(held c arg3 arg4 arg7 arg8 arg12 arg13 f3 f4 f7 f8 f12 f13
          ∗ (held c arg3 arg4 arg7 arg8 arg12 arg13 f3 f4 f7 f8 g12 g13 -∗ K r)) := rfl

/-- What stays fixed during the loop, from the label's arguments. -/
def envOf (f7 : Buf (Elt F) (arg7.view.loc (c : Thread nD τ))) (f8 : Buf (Elt F) (arg8.view.loc (c : Thread nD τ)))
    (v46 : Vec F S256x128 .bf16) (v51 : FVec F S256x128 .bf16) (v41 : FVec F S256x1 .f32) (v35 : IVec S1x128 1)
    (v64 : Vec F S256x128 .bf16) (v69 : FVec F S256x128 .bf16) (v59 : FVec F S256x1 .f32) (v53 : IVec S1x128 1) : Env F :=
  ⟨BitVec.ofNat 32 (i 1).val, triOf c arg7 f7, triOf c arg8 f8, v46, v51, v41, v35, v64, v69, v59, v53⟩

/-- The label's body meets the specification when entered at tile `n - 1`, by induction on `n`: a tile's work is run,
    and the call for the next tile is answered by the induction hypothesis. -/
theorem spec_le (v46 : Vec F S256x128 .bf16) (v51 : FVec F S256x128 .bf16) (v41 : FVec F S256x1 .f32) (v35 : IVec S1x128 1)
    (v64 : Vec F S256x128 .bf16) (v69 : FVec F S256x128 .bf16) (v59 : FVec F S256x1 .f32) (v53 : IVec S1x128 1)
    (f3 : Buf (Elt F) (arg3.view.loc (c : Thread nD τ))) (f4 : Buf (Elt F) (arg4.view.loc (c : Thread nD τ)))
    (f7 : Buf (Elt F) (arg7.view.loc (c : Thread nD τ))) (f8 : Buf (Elt F) (arg8.view.loc (c : Thread nD τ))) (E : Set ℕ) :
    ∀ n, n ≤ 64 → ∀ (f12 : Buf (Elt F) (arg12.view.loc (c : Thread nD τ))) (f13 : Buf (Elt F) (arg13.view.loc (c : Thread nD τ)))
      (alive : BitVec 32) (dq : FVec F S256x128 .f32) (c0 c1 g0 g1 : FVec F S256x1 .f32) (K : Carry F → sProp 𝕄),
      spec c arg3 arg4 arg7 arg8 arg12 arg13 f3 f4 f7 f8
        f12 (walkK c arg12 (envOf c i arg7 arg8 f7 f8 v46 v51 v41 v35 v64 v69 v59 v53) (tileOf c arg3 f3) (tileOf c arg4 f4) n (tileWord n, alive, dq, c0, c1, g0, g1) f12)
        f13 (walkV c arg13 (envOf c i arg7 arg8 f7 f8 v46 v51 v41 v35 v64 v69 v59 v53) (tileOf c arg3 f3) (tileOf c arg4 f4) n (tileWord n, alive, dq, c0, c1, g0, g1) f13)
        (walk (envOf c i arg7 arg8 f7 f8 v46 v51 v41 v35 v64 v69 v59 v53) (tileOf c arg3 f3) (tileOf c arg4 f4) n (tileWord n, alive, dq, c0, c1, g0, g1)) K
      ⊢ wp frame (wpE (defs₀ (F := F)) Variants.nat (c : Thread nD τ) (some n)) E
          (defs₀ (F := F) .tc 1 ⟨i, arg3, harg3, arg4, harg4, v46, arg7, harg7, v51, v41, arg8, harg8, v35, v64, v69, v59, v53,
            arg12, harg12, arg13, harg13, tileWord n, alive, dq, c0, c1, g0, g1⟩) K := by
  intro n
  induction n with
  | zero =>
    intro _ f12 f13 alive dq c0 c1 g0 g1 K
    rw [spec_apply]
    show _ ⊢ wp frame (wpE (defs₀ (F := F)) Variants.nat (c : Thread nD τ) (some 0)) E
      (cc0_while1 i arg3 harg3 arg4 harg4 v46 arg7 harg7 v51 v41 arg8 harg8 v35 v64 v69 v59 v53
            arg12 harg12 arg13 harg13 (tileWord 0) alive dq c0 c1 g0 g1) K
    simp only [cc0_while1_eq_skeleton]; unfold cc0_while1_skel
    have htest := test_zero alive
    simp only [htest, ↓reduceIte, Prog.pure_eq_ret, walk, walkK, walkV]
    iintro ⟨H, Hk⟩
    rw [wp_ret]; imodintro
    iapply Hk
    iexact H
  | succ n ih =>
    intro hn f12 f13 alive dq c0 c1 g0 g1 K
    rw [spec_apply]
    show _ ⊢ wp frame (wpE (defs₀ (F := F)) Variants.nat (c : Thread nD τ) (some (n + 1))) E
      (cc0_while1 i arg3 harg3 arg4 harg4 v46 arg7 harg7 v51 v41 arg8 harg8 v35 v64 v69 v59 v53
            arg12 harg12 arg13 harg13 (tileWord (n + 1)) alive dq c0 c1 g0 g1) K
    simp only [cc0_while1_eq_skeleton]; unfold cc0_while1_skel
    by_cases htest : Scalar.andi (Scalar.cmpi .sge (tileWord (n + 1)) 0#32) (Scalar.cmpi .sgt alive 0#32) = 1#1
    · simp only [htest, ↓reduceIte]
      simp only [k0_part3_eq_skeleton, k0_part4_eq_skeleton, k0_part5_eq_skeleton, k0_part6_eq_skeleton]
      have hn' : n < 64 := hn
      have hchk := chk_tile n hn'
      let r : Carry F := (tileWord (n + 1), alive, dq, c0, c1, g0, g1)
      let e := envOf c i arg7 arg8 f7 f8 v46 v51 v41 v35 v64 v69 v59 v53
      let kt := tileOf c arg3 f3
      let vt := tileOf c arg4 f4
      let ktn : Vec F S256x128 .bf16 := View.readAt (Elt F) arg3.view (Rect.unit (s := S16384x128) (k0_off1 (tileWord (n + 1))) S256x128.size (k0_off1_inb _ hchk)).toLoadRect f3
      let vtn : Vec F S256x128 .bf16 := View.readAt (Elt F) arg4.view (Rect.unit (s := S16384x128) (k0_off1 (tileWord (n + 1))) S256x128.size (k0_off1_inb _ hchk)).toLoadRect f4
      let f12t := arg12.view.writes (Elt F) f12 [⟨Rect.unit (s := S16384x128) (k0_off1 (tileWord (n + 1))) S256x128.size (k0_off1_inb _ hchk),
        e.tripK (tileWord (n + 1)) ktn vtn r (View.readAt (Elt F) arg12.view (Rect.unit (s := S16384x128) (k0_off1 (tileWord (n + 1))) S256x128.size (k0_off1_inb _ hchk)).toLoadRect f12)⟩]
      let f13t := arg13.view.writes (Elt F) f13 [⟨Rect.unit (s := S16384x128) (k0_off1 (tileWord (n + 1))) S256x128.size (k0_off1_inb _ hchk),
        e.tripV (tileWord (n + 1)) ktn r (View.readAt (Elt F) arg13.view (Rect.unit (s := S16384x128) (k0_off1 (tileWord (n + 1))) S256x128.size (k0_off1_inb _ hchk)).toLoadRect f13)⟩]
      let rt : Carry F := (tileWord n, (e.trip (tileWord (n + 1)) ktn vtn r).2)
      have hrt : e.trip (tileWord (n + 1)) ktn vtn r = rt := by
        show (Scalar.subi (tileWord (n + 1)) 1#32, (e.trip (tileWord (n + 1)) ktn vtn r).2) = rt
        rw [tileWord_pred]
      have hkt : kt n = ktn := tileOf_eq c arg3 f3 n hn' hchk
      have hvt : vt n = vtn := tileOf_eq c arg4 f4 n hn' hchk
      have h12 : putTile c arg12 f12 n (e.tripK (tileWord (n + 1)) ktn vtn r (tileOf c arg12 f12 n)) = f12t := by
        rw [putTile_eq c arg12 f12 n _ hn' hchk, tileOf_eq c arg12 f12 n hn' hchk]
      have h13 : putTile c arg13 f13 n (e.tripV (tileWord (n + 1)) ktn r (tileOf c arg13 f13 n)) = f13t := by
        rw [putTile_eq c arg13 f13 n _ hn' hchk, tileOf_eq c arg13 f13 n hn' hchk]
      have hw : walk e kt vt (n + 1) r = walk e kt vt n rt := by
        rw [walk, if_pos htest, hkt, hvt, hrt]
      have hwK : walkK c arg12 e kt vt (n + 1) r f12 = walkK c arg12 e kt vt n rt f12t := by
        rw [walkK, if_pos htest, hkt, hvt, hrt, h12]
      have hwV : walkV c arg13 e kt vt (n + 1) r f13 = walkV c arg13 e kt vt n rt f13t := by
        rw [walkV, if_pos htest, hkt, hvt, hrt, h13]
      show iprop(held c arg3 arg4 arg7 arg8 arg12 arg13 f3 f4 f7 f8 f12 f13
          ∗ (held c arg3 arg4 arg7 arg8 arg12 arg13 f3 f4 f7 f8 (walkK c arg12 e kt vt (n + 1) r f12) (walkV c arg13 e kt vt (n + 1) r f13) -∗ K (walk e kt vt (n + 1) r))) ⊢ _
      rw [hw, hwK, hwV]
      unfold held
      iintro ⟨⟨H3, H4, H7, H8, H12, H13⟩, Hk⟩
      sl_exec
      rw [tileWord_pred]
      iapply (wp_call_spec Variants.nat (c : Thread nD τ) (some (n + 1)) E _ n
        (fun u hu => by cases hu; exact Nat.lt_succ_self n) (ih (Nat.le_of_succ_le hn) _ _ _ _ _ _ _ _))
      show _ ⊢ spec c arg3 arg4 arg7 arg8 arg12 arg13 f3 f4 f7 f8 f12t (walkK c arg12 e kt vt n rt f12t) f13t (walkV c arg13 e kt vt n rt f13t) (walk e kt vt n rt) _
      iintro ⟨⟨⟨⟨⟨⟨H3, H4⟩, H7⟩, H8⟩, H12⟩, H13⟩, Hk⟩
      rw [spec_apply]; unfold held
      isplitl [H3 H4 H7 H8 H12 H13]
      · isplitl [H3]; · iexact H3
        isplitl [H4]; · iexact H4
        isplitl [H7]; · iexact H7
        isplitl [H8]; · iexact H8
        isplitl [H12]; · iexact H12
        iexact H13
      iintro H
      rw [wp_ret]; imodintro
      iapply Hk
      iexact H
    · simp only [htest, ↓reduceIte, Prog.pure_eq_ret, walk, walkK, walkV]
      iintro ⟨H, Hk⟩
      rw [wp_ret]; imodintro
      iapply Hk
      iexact H

/-- The same at any word known to be the tile's. -/
theorem spec_le_word (v46 : Vec F S256x128 .bf16) (v51 : FVec F S256x128 .bf16) (v41 : FVec F S256x1 .f32) (v35 : IVec S1x128 1)
    (v64 : Vec F S256x128 .bf16) (v69 : FVec F S256x128 .bf16) (v59 : FVec F S256x1 .f32) (v53 : IVec S1x128 1)
    (f3 : Buf (Elt F) (arg3.view.loc (c : Thread nD τ))) (f4 : Buf (Elt F) (arg4.view.loc (c : Thread nD τ)))
    (f7 : Buf (Elt F) (arg7.view.loc (c : Thread nD τ))) (f8 : Buf (Elt F) (arg8.view.loc (c : Thread nD τ))) (E : Set ℕ)
    (n : ℕ) (hn : n ≤ 64) (w : BitVec 32) (hw : w = tileWord n) (f12 : Buf (Elt F) (arg12.view.loc (c : Thread nD τ))) (f13 : Buf (Elt F) (arg13.view.loc (c : Thread nD τ)))
    (alive : BitVec 32) (dq : FVec F S256x128 .f32) (c0 c1 g0 g1 : FVec F S256x1 .f32) (K : Carry F → sProp 𝕄) :
      spec c arg3 arg4 arg7 arg8 arg12 arg13 f3 f4 f7 f8
        f12 (walkK c arg12 (envOf c i arg7 arg8 f7 f8 v46 v51 v41 v35 v64 v69 v59 v53) (tileOf c arg3 f3) (tileOf c arg4 f4) n (tileWord n, alive, dq, c0, c1, g0, g1) f12)
        f13 (walkV c arg13 (envOf c i arg7 arg8 f7 f8 v46 v51 v41 v35 v64 v69 v59 v53) (tileOf c arg3 f3) (tileOf c arg4 f4) n (tileWord n, alive, dq, c0, c1, g0, g1) f13)
        (walk (envOf c i arg7 arg8 f7 f8 v46 v51 v41 v35 v64 v69 v59 v53) (tileOf c arg3 f3) (tileOf c arg4 f4) n (tileWord n, alive, dq, c0, c1, g0, g1)) K
      ⊢ wp frame (wpE (defs₀ (F := F)) Variants.nat (c : Thread nD τ) (some n)) E
          (defs₀ (F := F) .tc 1 ⟨i, arg3, harg3, arg4, harg4, v46, arg7, harg7, v51, v41, arg8, harg8, v35, v64, v69, v59, v53,
            arg12, harg12, arg13, harg13, w, alive, dq, c0, c1, g0, g1⟩) K := by
  subst hw
  exact spec_le c i arg3 harg3 arg4 harg4 arg7 harg7 arg8 harg8 arg12 harg12 arg13 harg13 v46 v51 v41 v35 v64 v69 v59 v53 f3 f4 f7 f8 E n hn f12 f13 alive dq c0 c1 g0 g1 K

end Label

end Cert.Proof.Attn

end
-- ==== Proof.Attn.Acc.lean ====
/-
  The two accumulators of the attention gradient's loop as values: a tile of rows overwritten, the accumulators after the
  loop as functions of the blocks and of what they held before, and that the buffers the loop leaves read as these.
-/
module

public import proofs.«01_k».proof.Proof.Attn.Loop
public import Idealize.ShloMosaic.Lib.WritesUnit
public import Idealize.ShloMosaic.Lib.Pointwise

@[expose] public section

set_option maxRecDepth 16384

noncomputable section

namespace Cert.Proof.Attn

open Cert.KernelIdeal Cert.KernelIdeal.Gen

open Idealize.ShloMosaic Idealize.ShloMosaic.TcCoe Idealize.ShloMosaic.Tactic

variable {F : FTy → Type} [FloatOps F] [Named F]

/-- Key tile `n` starts at row `256 n`, column 0. -/
theorem off_row (n : ℕ) (hn : n < 64) : k0_off1 (tileWord (n % 64 + 1)) = ![256 * n, 0] := by
  have h : ∀ j : Fin 64, k0_off1 (tileWord (j.val + 1)) 0 = 256 * j.val ∧ k0_off1 (tileWord (j.val + 1)) 1 = 0 := by decide +kernel
  rw [Nat.mod_eq_of_lt hn]
  funext a
  match a with
  | ⟨0, _⟩ => exact (h ⟨n, hn⟩).1
  | ⟨1, _⟩ => exact (h ⟨n, hn⟩).2

/-- An accumulator `x` with the rows of key tile `n` overwritten by `v`. -/
def setTile (x : Vec F S16384x128 .f32) (n : ℕ) (v : Vec F S256x128 .f32) : Vec F S16384x128 .f32 := fun y =>
  if h : 256 * n ≤ (y 0).val ∧ (y 0).val < 256 * n + 256 then v (ix2 (⟨(y 0).val - 256 * n, by omega⟩ : Fin 256) (y 1)) else x y

section Label

variable (c : Dev nD) (arg : Memref sig .tc .vmem S16384x128 .f32)

/-- The buffer after key tile `n` of it has been overwritten reads as its old reading with the tile overwritten. -/
theorem read_putTile (f : Buf (Elt F) (arg.view.loc (c : Thread nD τ))) (n : ℕ) (hn : n < 64) (v : Vec F S256x128 .f32) :
    View.read (Elt F) arg.view (putTile c arg f n v) = setTile (View.read (Elt F) arg.view f) n v := by
  funext y
  unfold putTile setTile
  by_cases h : 256 * n ≤ (y 0).val ∧ (y 0).val < 256 * n + 256
  · rw [dif_pos h]
    exact View.read_writes_cons_rows_of_mem (Val := Elt F) arg.view f _ v [] y (ix2 (⟨(y 0).val - 256 * n, by omega⟩ : Fin 256) (y 1)) (off_row n hn)
      (by show (y 0).val = 256 * n + ((y 0).val - 256 * n); omega) rfl
  · rw [dif_neg h]
    exact View.read_writes_cons_rows_of_not_mem (Val := Elt F) (W := 256) arg.view f _ v [] y (off_row n hn) rfl (by omega)

/-- A key tile read off a buffer is the tile of its reading. -/
theorem tileOf_read (f : Buf (Elt F) (arg.view.loc (c : Thread nD τ))) (n : ℕ) : tileOf c arg f n = tileV (View.read (Elt F) arg.view f) n := by
  unfold tileOf tileV
  rw [View.readAt_eq_ld]

end Label

/-- The key gradient's accumulator after the loop from key tile `n - 1`. -/
def accK (e : Env F) (kt vt : ℕ → Vec F S256x128 .bf16) : ℕ → Carry F → Vec F S16384x128 .f32 → Vec F S16384x128 .f32
  | 0, _, x => x
  | n + 1, r, x =>
    if Scalar.andi (Scalar.cmpi .sge (tileWord (n + 1)) 0#32) (Scalar.cmpi .sgt r.2.1 0#32) = 1#1 then
      accK e kt vt n (e.trip (tileWord (n + 1)) (kt n) (vt n) r)
        (setTile x n (e.tripK (tileWord (n + 1)) (kt n) (vt n) r (tileV x n)))
    else x

/-- The value gradient's accumulator after the loop from key tile `n - 1`. -/
def accV (e : Env F) (kt vt : ℕ → Vec F S256x128 .bf16) : ℕ → Carry F → Vec F S16384x128 .f32 → Vec F S16384x128 .f32
  | 0, _, x => x
  | n + 1, r, x =>
    if Scalar.andi (Scalar.cmpi .sge (tileWord (n + 1)) 0#32) (Scalar.cmpi .sgt r.2.1 0#32) = 1#1 then
      accV e kt vt n (e.trip (tileWord (n + 1)) (kt n) (vt n) r)
        (setTile x n (e.tripV (tileWord (n + 1)) (kt n) r (tileV x n)))
    else x

/-- The key gradient's accumulator as a buffer reads as the accumulator. -/
theorem read_walkK (c : Dev nD) (arg : Memref sig .tc .vmem S16384x128 .f32) (e : Env F) (kt vt : ℕ → Vec F S256x128 .bf16) :
    ∀ (n : ℕ), n ≤ 64 → ∀ (r : Carry F) (f : Buf (Elt F) (arg.view.loc (c : Thread nD τ))),
      View.read (Elt F) arg.view (walkK c arg e kt vt n r f) = accK e kt vt n r (View.read (Elt F) arg.view f)
  | 0, _, _, _ => rfl
  | n + 1, hn, r, f => by
    unfold walkK accK
    split
    · rw [read_walkK c arg e kt vt n (by omega), read_putTile c arg f n (by omega), tileOf_read]
    · rfl

/-- The value gradient's accumulator as a buffer reads as the accumulator. -/
theorem read_walkV (c : Dev nD) (arg : Memref sig .tc .vmem S16384x128 .f32) (e : Env F) (kt vt : ℕ → Vec F S256x128 .bf16) :
    ∀ (n : ℕ), n ≤ 64 → ∀ (r : Carry F) (f : Buf (Elt F) (arg.view.loc (c : Thread nD τ))),
      View.read (Elt F) arg.view (walkV c arg e kt vt n r f) = accV e kt vt n r (View.read (Elt F) arg.view f)
  | 0, _, _, _ => rfl
  | n + 1, hn, r, f => by
    unfold walkV accV
    split
    · rw [read_walkV c arg e kt vt n (by omega), read_putTile c arg f n (by omega), tileOf_read]
    · rfl

/-- The key gradient's accumulator after query tile `j`, from what it held before: the first query tile starts it at zero. -/
def keyOf (j : ℕ) (x0 : Vec F S256x128 .bf16) (x1 x2 : Vec F S16384x128 .bf16) (x3 x4 : Vec F S256x128 .f32) (x5 x6 : Vec F S256x256 .bf16)
    (d : Vec F S16384x128 .f32) : Vec F S16384x128 .f32 :=
  accK (envOfBlocks (BitVec.ofNat 32 j) x0 x3 x4 x5 x6) (tileV x1) (tileV x2) (j + 1) (carry₀ (j + 1)) (if j = 0 then k0_pay4 else d)

/-- The value gradient's accumulator after query tile `j`, from what it held before: the first query tile starts it at zero. -/
def valOf (j : ℕ) (x0 : Vec F S256x128 .bf16) (x1 x2 : Vec F S16384x128 .bf16) (x3 x4 : Vec F S256x128 .f32) (x5 x6 : Vec F S256x256 .bf16)
    (d : Vec F S16384x128 .f32) : Vec F S16384x128 .f32 :=
  accV (envOfBlocks (BitVec.ofNat 32 j) x0 x3 x4 x5 x6) (tileV x1) (tileV x2) (j + 1) (carry₀ (j + 1)) (if j = 0 then k0_pay5 else d)

/-- Both copied results after query tile `j` of head pair `h`: the last query tile overwrites the head pair's slab with the
    accumulator. -/
def putSlab (h j : ℕ) (x : Vec F S16384x128 .f32) (g : Vec F S2x16384x128 .f32) : Vec F S2x16384x128 .f32 := fun y =>
  if j = 63 ∧ (y 0).val = h then x (ix2 (y 1) (y 2)) else g y

end Cert.Proof.Attn

end
-- ==== Proof.Attn.Slab.lean ====
/-
  The copy out of an accumulator into one slab of a result left in memory, as a value.
-/
module

public import proofs.«01_k».proof.Proof.Attn.Acc

@[expose] public section

set_option maxRecDepth 16384

noncomputable section

namespace Cert.Proof.Attn

open Cert.KernelIdeal Cert.KernelIdeal.Gen

open Idealize.ShloMosaic Idealize.ShloMosaic.TcCoe Idealize.ShloMosaic.Tactic

variable {F : FTy → Type} [FloatOps F] [Named F]

/-- The accumulator is copied out exactly after the last query tile. -/
theorem last_iff (i : grid0.Coords) : k0_cond2 i = 1#1 ↔ (i 1).val = 63 := by
  have h : ∀ j : Fin 64, Scalar.cmpi .ne (Scalar.extui (Scalar.cmpi .eq (BitVec.ofNat 32 j.val) 63#32)) 0#32 = 1#1 ↔ j.val = 63 := by decide +kernel
  exact h (i 1)

/-- The accumulators are zeroed exactly at the first query tile. -/
theorem first_iff (i : grid0.Coords) :
    Scalar.cmpi .ne (Scalar.extui (Scalar.cmpi .eq (BitVec.ofNat 32 (i 1).val) 0#32)) 0#32 = 1#1 ↔ (i 1).val = 0 := by
  have h : ∀ j : Fin 64, Scalar.cmpi .ne (Scalar.extui (Scalar.cmpi .eq (BitVec.ofNat 32 j.val) 0#32)) 0#32 = 1#1 ↔ j.val = 0 := by decide +kernel
  exact h (i 1)

theorem off_slab (i : grid0.Coords) : k0_off2 i = ![(i 0).val, 0, 0] := by
  have h : ∀ j : Fin 2, (BitVec.ofNat 32 j.val).toNat = j.val := by decide
  show ![(BitVec.ofNat 32 (i 0).val).toNat, 0, 0] = _
  rw [h (i 0)]

/-- Dropping the slab's unit axis keeps row and lane. -/
theorem drop_unit (k : Fin 16384) (l : Fin 128) (h : S16384x128.numel = S1x16384x128.numel) :
    Shape.reshapeEquiv h (ix2 k l) = (ix3 (0 : Fin 1) k l : S1x16384x128.Idx) := by
  have e := shapeCast_dropUnit_apply ![16384, 128] (fun x : S1x16384x128.Idx => x) (h : S1x16384x128.ShapeCasts S16384x128) (ix2 k l)
  refine Eq.trans e ?_
  funext a
  match a with
  | ⟨0, _⟩ => rfl
  | ⟨1, _⟩ => rfl
  | ⟨2, _⟩ => rfl

/-- A copy of `w` into the slab of head pair `i 0` of a result, at the last query tile, overwrites that slab. -/
theorem write_slab (M : Memref sig .tc .hbm S2x16384x128 .f32) (i : grid0.Coords) (hi : (i 1).val = 63) (hc : k0_cond2 i = 1#1)
    (g : M.view.ty.Contents (Elt F)) (w : Vec F S16384x128 .f32) :
    View.read (Elt F) M.view (View.write (Elt F) ((M.slice (Rect.unit (s := S2x16384x128) (k0_off2 i) S1x16384x128.size (k0_off2_inb i hc)) (fun _ => rfl)).squeeze S16384x128
        squeezes_S1x16384x128_S16384x128).view g w Finset.univ)
      = putSlab (i 0).val (i 1).val w (View.read (Elt F) M.view g) := by
  refine (congrArg (View.read (Elt F) M.view) (View.write_reshape_univ (Val := Elt F)
    (v := M.view.slice (Rect.unit (s := S2x16384x128) (k0_off2 i) S1x16384x128.size (k0_off2_inb i hc)))
    squeezes_S1x16384x128_S16384x128.numel_eq g w)).trans ?_
  funext y
  unfold putSlab
  by_cases hy : (y 0).val = (i 0).val
  · rw [if_pos ⟨hi, hy⟩]
    refine (View.read_writes_cons_unit_of_mem (Val := Elt F) M.view g _ _ [] y (ix3 (0 : Fin 1) (y 1) (y 2)) (off_slab i) fun a => ?_).trans ?_
    · match a with
      | ⟨0, _⟩ => exact hy
      | ⟨1, _⟩ => exact (Nat.zero_add _).symm
      | ⟨2, _⟩ => exact (Nat.zero_add _).symm
    · refine congrArg w ?_
      exact (Equiv.symm_apply_eq _).mpr (drop_unit (y 1) (y 2) _).symm
  · rw [if_neg fun h => hy h.2]
    refine View.read_writes_cons_unit_of_not_mem (Val := Elt F) M.view g _ _ [] y (off_slab i) (0 : Fin 3) ?_
    show (y 0).val < (i 0).val ∨ (i 0).val + 1 ≤ (y 0).val
    omega

/-- Before the last query tile the results stay as they were. -/
theorem putSlab_ne (h j : ℕ) (hj : j ≠ 63) (x : Vec F S16384x128 .f32) (g : Vec F S2x16384x128 .f32) : putSlab h j x g = g := by
  funext y
  exact if_neg fun h' => hj h'.1

/-- A whole buffer reads as its contents. -/
theorem read_whole_mem (b : Ref sig .tc) (f : b.ty.Contents (Elt F)) : View.read (Elt F) (Memref.whole b).view f = f :=
  View.read_whole b f

/-- The copy into the first result's slab, as its contents. -/
theorem write_slab0 (i : grid0.Coords) (hi : (i 1).val = 63) (hc : k0_cond2 i = 1#1) (g : Vec F S2x16384x128 .f32) (w x : Vec F S16384x128 .f32) (hw : w = x) :
    View.write (Elt F) (((Memref.whole main_v40_1).slice (Rect.unit (s := S2x16384x128) (k0_off2 i) S1x16384x128.size (k0_off2_inb i hc)) (fun _ => rfl)).squeeze S16384x128
        squeezes_S1x16384x128_S16384x128).view g w Finset.univ
      = putSlab (i 0).val (i 1).val x g := by
  subst hw
  have e := write_slab (F := F) (Memref.whole main_v40_1) i hi hc g w
  exact (read_whole_mem main_v40_1 _).symm.trans (e.trans (congrArg (putSlab (i 0).val (i 1).val w) (read_whole_mem main_v40_1 g)))

/-- The copy into the second result's slab, as its contents. -/
theorem write_slab1 (i : grid0.Coords) (hi : (i 1).val = 63) (hc : k0_cond2 i = 1#1) (g : Vec F S2x16384x128 .f32) (w x : Vec F S16384x128 .f32) (hw : w = x) :
    View.write (Elt F) (((Memref.whole main_v40_2).slice (Rect.unit (s := S2x16384x128) (k0_off2 i) S1x16384x128.size (k0_off2_inb i hc)) (fun _ => rfl)).squeeze S16384x128
        squeezes_S1x16384x128_S16384x128).view g w Finset.univ
      = putSlab (i 0).val (i 1).val x g := by
  subst hw
  have e := write_slab (F := F) (Memref.whole main_v40_2) i hi hc g w
  exact (read_whole_mem main_v40_2 _).symm.trans (e.trans (congrArg (putSlab (i 0).val (i 1).val w) (read_whole_mem main_v40_2 g)))

end Cert.Proof.Attn

end
-- ==== Proof.Attn.Body.lean ====
/-
  The attention gradient's body, run once on any whole staging memrefs: it leaves its inputs as they were, the query
  gradient's block and the two accumulators at some contents, its DMA cells at zero and the two results it copies out at
  some contents.  The loop over key tiles is answered by its specification (Loop.lean); the pipeline's proof data, the body
  obligation, the launch and the frame follow.
-/
module

public import proofs.«01_k».proof.Proof.Attn.Slab
public import Idealize.ShloMosaic.Lib.Claim

@[expose] public section

set_option maxRecDepth 16384

noncomputable section

namespace Cert.Proof.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The kernel's own arithmetic for the first key tile's word (`((j + 1) * 256 - 1)` divided by 256, rounded down) at query tile
    `j` is the word the loop's specification starts from. -/
def startWord (a : BitVec 32) : BitVec 32 :=
  let v74 := Scalar.subi (Scalar.muli (Scalar.addi a 1#32) 256#32) 1#32
  let v75 := Scalar.divsi v74 256#32
  let v80 := Scalar.subi (Scalar.extui (Scalar.cmpi .sgt v74 0#32)) (Scalar.extui (Scalar.cmpi .slt v74 0#32))
  let v85 := Scalar.subi (Scalar.extui (Scalar.cmpi .sgt 256#32 0#32)) (Scalar.extui (Scalar.cmpi .slt 256#32 0#32))
  Scalar.select (Scalar.andi (Scalar.cmpi .ne v80 v85) (Scalar.cmpi .ne (Scalar.remsi v74 256#32) 0#32)) (Scalar.subi v75 1#32) v75

theorem startWord_eq (j : Fin 64) : startWord (BitVec.ofNat 32 j.val) = tileWord (j.val + 1) := by
  revert j; decide +kernel

theorem hz2 : (![0, 0] : Fin 2 → ℕ) = fun _ => 0 := by funext a; fin_cases a <;> rfl

/-- The loop's query gradient, its values read off the staging memrefs, is the block's. -/
theorem dq_walk (c : Dev nD) (i : grid0.Coords) (arg2 : Memref sig .tc .vmem S256x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x256 .bf16) (harg7 : arg7.IsWhole) (arg8 : Memref sig .tc .vmem S256x256 .bf16) (harg8 : arg8.IsWhole)
    (x0 : Vec F S256x128 .bf16) (x1 : Vec F S16384x128 .bf16) (x2 : Vec F S16384x128 .bf16) (x3 : Vec F S256x128 .f32) (x4 : Vec F S256x128 .f32) (x5 : Vec F S256x256 .bf16) (x6 : Vec F S256x256 .bf16) :
    ((walk (envOf c i arg7 arg8 (harg7.unread x5) (harg8.unread x6)
      (k0_pay13 (View.readAt (Elt F) arg2.view (Rect.unit (s := S256x128) ![0, 0] S256x128.size inb_S256x128_S256x128_0_0).toLoadRect (harg2.unread x0)) k0_pay9)
      (k0_pay14 (k0_pay6 (View.readAt (Elt F) arg5.view (Rect.unit (s := S256x128) ![0, 0] S256x128.size inb_S256x128_S256x128_0_0).toLoadRect (harg5.unread x3))) k0_pay9)
      (k0_pay12 (k0_pay7 (View.readAt (Elt F) arg5.view (Rect.unit (s := S256x128) ![0, 0] S256x128.size inb_S256x128_S256x128_0_0).toLoadRect (harg5.unread x3)) (View.readAt (Elt F) arg6.view (Rect.unit (s := S256x128) ![0, 0] S256x128.size inb_S256x128_S256x128_0_0).toLoadRect (harg6.unread x4))) k0_pay10 k0_pay11)
      k0_pay9
      (k0_pay17 (View.readAt (Elt F) arg2.view (Rect.unit (s := S256x128) ![0, 0] S256x128.size inb_S256x128_S256x128_0_0).toLoadRect (harg2.unread x0)) k0_pay8)
      (k0_pay18 (k0_pay6 (View.readAt (Elt F) arg5.view (Rect.unit (s := S256x128) ![0, 0] S256x128.size inb_S256x128_S256x128_0_0).toLoadRect (harg5.unread x3))) k0_pay8)
      (k0_pay16 (k0_pay7 (View.readAt (Elt F) arg5.view (Rect.unit (s := S256x128) ![0, 0] S256x128.size inb_S256x128_S256x128_0_0).toLoadRect (harg5.unread x3)) (View.readAt (Elt F) arg6.view (Rect.unit (s := S256x128) ![0, 0] S256x128.size inb_S256x128_S256x128_0_0).toLoadRect (harg6.unread x4))) k0_pay8)
      (k0_pay15 k0_pay8))
      (tileOf c arg3 (harg3.unread x1)) (tileOf c arg4 (harg4.unread x2)) ((i 1).val + 1) (tileWord ((i 1).val + 1), 1#32, k0_pay19, k0_pay20, k0_pay20, k0_pay20, k0_pay20)).2.2.1 : Vec F S256x128 .f32)
      = dqOf (i 1).val x0 x1 x2 x3 x4 x5 x6 := by
  unfold envOf dqOf envOfBlocks carry₀
  rw [tileOf_unread, tileOf_unread, triOf_unread, triOf_unread, View.readAt_eq_ld, View.readAt_eq_ld, View.readAt_eq_ld, harg2.read_unread, harg5.read_unread, harg6.read_unread,
    View.ld_unit_zero (S := S256x128) hz2, View.ld_unit_zero (S := S256x128) hz2, View.ld_unit_zero (S := S256x128) hz2]

/-- A whole store of the query gradient's block leaves it. -/
theorem dq_store (arg9 : Memref sig .tc .vmem S256x128 .f32) (f7 : arg9.view.ty.Contents (Elt F)) (v w : Vec F S256x128 .f32) (h : v = w) :
    View.read (Elt F) arg9.view (arg9.view.writes (Elt F) f7 [⟨Rect.unit (s := S256x128) ![0, 0] ![256, 128] inb_S256x128_S256x128_0_0, v⟩]) = w := by
  subst h
  have hc : ∀ y, ∃ p ∈ ([⟨Rect.unit (s := S256x128) ![0, 0] ![256, 128] inb_S256x128_S256x128_0_0, v⟩] : List (View.Piece (Elt F) S256x128 .f32)), y ∈ p.1.set := fun y =>
    ⟨_, List.mem_singleton_self _, View.mem_set_unit_zero (S := S256x128) hz2 inb_S256x128_S256x128_0_0 y⟩
  rw [View.read_writes_eq_canon (Val := Elt F) arg9.view f7 _ hc]
  exact View.canon_unit_zero (Val := Elt F) (S := S256x128) (e := .f32) hz2 inb_S256x128_S256x128_0_0 v

/-- The key gradient's accumulator after the loop, its values read off the staging memrefs, is the query tile's. -/
theorem key_walk (c : Dev nD) (i : grid0.Coords) (arg2 : Memref sig .tc .vmem S256x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x256 .bf16) (harg7 : arg7.IsWhole) (arg8 : Memref sig .tc .vmem S256x256 .bf16) (harg8 : arg8.IsWhole)
    (x0 : Vec F S256x128 .bf16) (x1 : Vec F S16384x128 .bf16) (x2 : Vec F S16384x128 .bf16) (x3 : Vec F S256x128 .f32) (x4 : Vec F S256x128 .f32) (x5 : Vec F S256x256 .bf16) (x6 : Vec F S256x256 .bf16) (arg12 : Memref sig .tc .vmem S16384x128 .f32)
    (d : Vec F S16384x128 .f32) (f : Buf (Elt F) (arg12.view.loc (c : Thread nD τ))) (hf : View.read (Elt F) arg12.view f = if (i 1).val = 0 then k0_pay4 else d) :
    View.read (Elt F) arg12.view (walkK c arg12 (envOf c i arg7 arg8 (harg7.unread x5) (harg8.unread x6)
      (k0_pay13 (View.readAt (Elt F) arg2.view (Rect.unit (s := S256x128) ![0, 0] S256x128.size inb_S256x128_S256x128_0_0).toLoadRect (harg2.unread x0)) k0_pay9)
      (k0_pay14 (k0_pay6 (View.readAt (Elt F) arg5.view (Rect.unit (s := S256x128) ![0, 0] S256x128.size inb_S256x128_S256x128_0_0).toLoadRect (harg5.unread x3))) k0_pay9)
      (k0_pay12 (k0_pay7 (View.readAt (Elt F) arg5.view (Rect.unit (s := S256x128) ![0, 0] S256x128.size inb_S256x128_S256x128_0_0).toLoadRect (harg5.unread x3)) (View.readAt (Elt F) arg6.view (Rect.unit (s := S256x128) ![0, 0] S256x128.size inb_S256x128_S256x128_0_0).toLoadRect (harg6.unread x4))) k0_pay10 k0_pay11)
      k0_pay9
      (k0_pay17 (View.readAt (Elt F) arg2.view (Rect.unit (s := S256x128) ![0, 0] S256x128.size inb_S256x128_S256x128_0_0).toLoadRect (harg2.unread x0)) k0_pay8)
      (k0_pay18 (k0_pay6 (View.readAt (Elt F) arg5.view (Rect.unit (s := S256x128) ![0, 0] S256x128.size inb_S256x128_S256x128_0_0).toLoadRect (harg5.unread x3))) k0_pay8)
      (k0_pay16 (k0_pay7 (View.readAt (Elt F) arg5.view (Rect.unit (s := S256x128) ![0, 0] S256x128.size inb_S256x128_S256x128_0_0).toLoadRect (harg5.unread x3)) (View.readAt (Elt F) arg6.view (Rect.unit (s := S256x128) ![0, 0] S256x128.size inb_S256x128_S256x128_0_0).toLoadRect (harg6.unread x4))) k0_pay8)
      (k0_pay15 k0_pay8))
      (tileOf c arg3 (harg3.unread x1)) (tileOf c arg4 (harg4.unread x2)) ((i 1).val + 1) (tileWord ((i 1).val + 1), 1#32, k0_pay19, k0_pay20, k0_pay20, k0_pay20, k0_pay20) f)
      = keyOf (i 1).val x0 x1 x2 x3 x4 x5 x6 d := by
  rw [read_walkK c arg12 _ _ _ _ (i 1).isLt, hf]
  unfold envOf keyOf envOfBlocks carry₀
  rw [tileOf_unread, tileOf_unread, triOf_unread, triOf_unread, View.readAt_eq_ld, View.readAt_eq_ld, View.readAt_eq_ld, harg2.read_unread, harg5.read_unread, harg6.read_unread,
    View.ld_unit_zero (S := S256x128) hz2, View.ld_unit_zero (S := S256x128) hz2, View.ld_unit_zero (S := S256x128) hz2]

/-- The value gradient's accumulator after the loop, its values read off the staging memrefs, is the query tile's. -/
theorem val_walk (c : Dev nD) (i : grid0.Coords) (arg2 : Memref sig .tc .vmem S256x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x256 .bf16) (harg7 : arg7.IsWhole) (arg8 : Memref sig .tc .vmem S256x256 .bf16) (harg8 : arg8.IsWhole)
    (x0 : Vec F S256x128 .bf16) (x1 : Vec F S16384x128 .bf16) (x2 : Vec F S16384x128 .bf16) (x3 : Vec F S256x128 .f32) (x4 : Vec F S256x128 .f32) (x5 : Vec F S256x256 .bf16) (x6 : Vec F S256x256 .bf16) (arg13 : Memref sig .tc .vmem S16384x128 .f32)
    (d : Vec F S16384x128 .f32) (f : Buf (Elt F) (arg13.view.loc (c : Thread nD τ))) (hf : View.read (Elt F) arg13.view f = if (i 1).val = 0 then k0_pay5 else d) :
    View.read (Elt F) arg13.view (walkV c arg13 (envOf c i arg7 arg8 (harg7.unread x5) (harg8.unread x6)
      (k0_pay13 (View.readAt (Elt F) arg2.view (Rect.unit (s := S256x128) ![0, 0] S256x128.size inb_S256x128_S256x128_0_0).toLoadRect (harg2.unread x0)) k0_pay9)
      (k0_pay14 (k0_pay6 (View.readAt (Elt F) arg5.view (Rect.unit (s := S256x128) ![0, 0] S256x128.size inb_S256x128_S256x128_0_0).toLoadRect (harg5.unread x3))) k0_pay9)
      (k0_pay12 (k0_pay7 (View.readAt (Elt F) arg5.view (Rect.unit (s := S256x128) ![0, 0] S256x128.size inb_S256x128_S256x128_0_0).toLoadRect (harg5.unread x3)) (View.readAt (Elt F) arg6.view (Rect.unit (s := S256x128) ![0, 0] S256x128.size inb_S256x128_S256x128_0_0).toLoadRect (harg6.unread x4))) k0_pay10 k0_pay11)
      k0_pay9
      (k0_pay17 (View.readAt (Elt F) arg2.view (Rect.unit (s := S256x128) ![0, 0] S256x128.size inb_S256x128_S256x128_0_0).toLoadRect (harg2.unread x0)) k0_pay8)
      (k0_pay18 (k0_pay6 (View.readAt (Elt F) arg5.view (Rect.unit (s := S256x128) ![0, 0] S256x128.size inb_S256x128_S256x128_0_0).toLoadRect (harg5.unread x3))) k0_pay8)
      (k0_pay16 (k0_pay7 (View.readAt (Elt F) arg5.view (Rect.unit (s := S256x128) ![0, 0] S256x128.size inb_S256x128_S256x128_0_0).toLoadRect (harg5.unread x3)) (View.readAt (Elt F) arg6.view (Rect.unit (s := S256x128) ![0, 0] S256x128.size inb_S256x128_S256x128_0_0).toLoadRect (harg6.unread x4))) k0_pay8)
      (k0_pay15 k0_pay8))
      (tileOf c arg3 (harg3.unread x1)) (tileOf c arg4 (harg4.unread x2)) ((i 1).val + 1) (tileWord ((i 1).val + 1), 1#32, k0_pay19, k0_pay20, k0_pay20, k0_pay20, k0_pay20) f)
      = valOf (i 1).val x0 x1 x2 x3 x4 x5 x6 d := by
  rw [read_walkV c arg13 _ _ _ _ (i 1).isLt, hf]
  unfold envOf valOf envOfBlocks carry₀
  rw [tileOf_unread, tileOf_unread, triOf_unread, triOf_unread, View.readAt_eq_ld, View.readAt_eq_ld, View.readAt_eq_ld, harg2.read_unread, harg5.read_unread, harg6.read_unread,
    View.ld_unit_zero (S := S256x128) hz2, View.ld_unit_zero (S := S256x128) hz2, View.ld_unit_zero (S := S256x128) hz2]

/-- A whole store of an accumulator leaves it. -/
theorem acc_store (arg : Memref sig .tc .vmem S16384x128 .f32) (f : arg.view.ty.Contents (Elt F)) (v : Vec F S16384x128 .f32) :
    View.read (Elt F) arg.view (arg.view.writes (Elt F) f [⟨Rect.unit (s := S16384x128) ![0, 0] S16384x128.size inb_S16384x128_S16384x128_0_0, v⟩]) = v := by
  have hc : ∀ y, ∃ p ∈ ([⟨Rect.unit (s := S16384x128) ![0, 0] S16384x128.size inb_S16384x128_S16384x128_0_0, v⟩] : List (View.Piece (Elt F) S16384x128 .f32)), y ∈ p.1.set := fun y =>
    ⟨_, List.mem_singleton_self _, View.mem_set_unit_zero (S := S16384x128) hz2 inb_S16384x128_S16384x128_0_0 y⟩
  rw [View.read_writes_eq_canon (Val := Elt F) arg.view f _ hc]
  exact View.canon_unit_zero (Val := Elt F) (S := S16384x128) (e := .f32) hz2 inb_S16384x128_S16384x128_0_0 v

attribute [local irreducible] walk walkK walkV dqOf keyOf valOf tileOf envOf in
set_option maxHeartbeats 4000000 in
/-- The body's run. -/
theorem body_run (c : Dev nD) (i : grid0.Coords) (arg2 : Memref sig .tc .vmem S256x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x128 .f32) (harg9 : arg9.IsWhole) (arg12 : Memref sig .tc .vmem S16384x128 .f32) (harg12 : arg12.IsWhole) (arg13 : Memref sig .tc .vmem S16384x128 .f32) (harg13 : arg13.IsWhole)
    (x0 : Vec F S256x128 .bf16) (x1 : Vec F S16384x128 .bf16) (x2 : Vec F S16384x128 .bf16) (x3 : Vec F S256x128 .f32) (x4 : Vec F S256x128 .f32) (x5 : Vec F S256x256 .bf16) (x6 : Vec F S256x256 .bf16) (d12 d13 : Vec F S16384x128 .f32) (g0 g1 : Vec F S2x16384x128 .f32) (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
    ∗ (∃ d, owns (c : Thread nD τ) arg9 fullShare d) ∗ owns (c : Thread nD τ) arg12 fullShare d12 ∗ owns (c : Thread nD τ) arg13 fullShare d13
    ∗ semVal ((c : Thread nD τ), SemLoc.dma 14) 0 ∗ semVal ((c : Thread nD τ), SemLoc.dma 15) 0 ∗ hbPt0 c hbM0_0 g0 ∗ hbPt0 c hbM0_1 g1 ∗ owes (c : Thread nD τ) 0 W
    ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
    ∗ owns (c : Thread nD τ) arg9 fullShare (dqOf (i 1).val x0 x1 x2 x3 x4 x5 x6) ∗ owns (c : Thread nD τ) arg12 fullShare (keyOf (i 1).val x0 x1 x2 x3 x4 x5 x6 d12) ∗ owns (c : Thread nD τ) arg13 fullShare (valOf (i 1).val x0 x1 x2 x3 x4 x5 x6 d13)
    ∗ semVal ((c : Thread nD τ), SemLoc.dma 14) 0 ∗ semVal ((c : Thread nD τ), SemLoc.dma 15) 0 ∗ hbPt0 c hbM0_0 (putSlab (i 0).val (i 1).val (keyOf (i 1).val x0 x1 x2 x3 x4 x5 x6 d12) g0) ∗ hbPt0 c hbM0_1 (putSlab (i 0).val (i 1).val (valOf (i 1).val x0 x1 x2 x3 x4 x5 x6 d13) g1) ∗ (∃ W', owes (c : Thread nD τ) 0 W')) -∗ K ⟨⟩))
    ⊢ wp frame (wpE (defs₀ (F := F)) Variants.nat c none) Set.univ (cc0_attn_bwd i arg2 harg2 arg3 harg3 arg4 harg4 arg5 harg5 arg6 harg6 arg7 harg7 arg8 harg8 arg9 harg9 (Memref.whole main_v40_1) (Memref.isWhole_whole _) (Memref.whole main_v40_2) (Memref.isWhole_whole _) arg12 harg12 arg13 harg13 cc0_scratch2) K := by
  by_cases hc0 : Scalar.cmpi .ne (Scalar.extui (Scalar.cmpi .eq (BitVec.ofNat 32 (i 1).val) 0#32)) 0#32 = 1#1 <;>
  by_cases hc1 : k0_cond2 i = 1#1
  all_goals
    simp only [cc0_attn_bwd_eq_skeleton]; unfold cc0_attn_bwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hs0, HS0⟩, ⟨%fs1, %hs1, HS1⟩, Hq0, Hq1, Hh0, Hh1, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    iapply (wp_call_spec Variants.nat (c : Thread nD τ) none Set.univ _ ((i 1).val + 1)
      (fun u hu => nomatch hu) (spec_le_word c i arg3 harg3 arg4 harg4 arg7 harg7 arg8 harg8 arg12 harg12 arg13 harg13 _ _ _ _ _ _ _ _
        (harg3.unread x1) (harg4.unread x2) (harg7.unread x5) (harg8.unread x6) Set.univ ((i 1).val + 1) (i 1).isLt _ (startWord_eq (i 1)) _ _ _ _ _ _ _ _))
    rw [spec_apply]; unfold held
    isplitl [H1 H2 H5 H6 HS0 HS1]
    · isplitl [H1]; · iexact H1
      isplitl [H2]; · iexact H2
      isplitl [H5]; · iexact H5
      isplitl [H6]; · iexact H6
      isplitl [HS0]; · iexact HS0
      iexact HS1
    iintro ⟨H1, H2, H5, H6, HS0, HS1⟩
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      refine dq_store arg9 _ _ _ ?_
      exact dq_walk c i arg2 harg2 arg3 harg3 arg4 harg4 arg5 harg5 arg6 harg6 arg7 harg7 arg8 harg8 x0 x1 x2 x3 x4 x5 x6
    isplitl [HS0]
    · iexists _; isplitr; swap; · iexact HS0
      ipureintro
      refine key_walk c i arg2 harg2 arg3 harg3 arg4 harg4 arg5 harg5 arg6 harg6 arg7 harg7 arg8 harg8 x0 x1 x2 x3 x4 x5 x6 arg12 d12 _ ?_
      first
        | (have hz := (first_iff i).mp hc0
           refine Eq.trans ?_ (if_pos hz).symm
           exact acc_store arg12 fs0 k0_pay4)
        | (have hz := mt (first_iff i).mpr hc0
           refine Eq.trans ?_ (if_neg hz).symm
           exact hs0)
    isplitl [HS1]
    · iexists _; isplitr; swap; · iexact HS1
      ipureintro
      refine val_walk c i arg2 harg2 arg3 harg3 arg4 harg4 arg5 harg5 arg6 harg6 arg7 harg7 arg8 harg8 x0 x1 x2 x3 x4 x5 x6 arg13 d13 _ ?_
      first
        | (have hz := (first_iff i).mp hc0
           refine Eq.trans ?_ (if_pos hz).symm
           exact acc_store arg13 fs1 k0_pay5)
        | (have hz := mt (first_iff i).mpr hc0
           refine Eq.trans ?_ (if_neg hz).symm
           exact hs1)
    isplitl [Hq0]; · iexact Hq0
    isplitl [Hq1]; · iexact Hq1
    isplitl [Hh0]
    · first
        | (have hz := (last_iff i).mp hc1
           rw [← write_slab0 i hz hc1 g0 _ _ (key_walk c i arg2 harg2 arg3 harg3 arg4 harg4 arg5 harg5 arg6 harg6 arg7 harg7 arg8 harg8 x0 x1 x2 x3 x4 x5 x6 arg12 d12 _
             (by
              first
                | (have hz := (first_iff i).mp hc0
                   refine Eq.trans ?_ (if_pos hz).symm
                   exact acc_store arg12 fs0 k0_pay4)
                | (have hz := mt (first_iff i).mpr hc0
                   refine Eq.trans ?_ (if_neg hz).symm
                   exact hs0)))]
           iexact Hh0)
        | (have hz := mt (last_iff i).mpr hc1
           rw [putSlab_ne _ _ hz]
           iexact Hh0)
    isplitl [Hh1]
    · first
        | (have hz := (last_iff i).mp hc1
           rw [← write_slab1 i hz hc1 g1 _ _ (val_walk c i arg2 harg2 arg3 harg3 arg4 harg4 arg5 harg5 arg6 harg6 arg7 harg7 arg8 harg8 x0 x1 x2 x3 x4 x5 x6 arg13 d13 _
             (by
              first
                | (have hz := (first_iff i).mp hc0
                   refine Eq.trans ?_ (if_pos hz).symm
                   exact acc_store arg13 fs1 k0_pay5)
                | (have hz := mt (first_iff i).mpr hc0
                   refine Eq.trans ?_ (if_neg hz).symm
                   exact hs1)))]
           iexact Hh1)
        | (have hz := mt (last_iff i).mpr hc1
           rw [putSlab_ne _ _ hz]
           iexact Hh1)
    iexists _; iexact HW

end Cert.Proof.Attn

end
-- ==== Proof.Attn.Frame.lean ====
/-
  The attention gradient's run: the pipeline's proof data (the blocks of the seven inputs, the query gradient's block as the
  loop leaves it, the two accumulators and the two results copied out of them as the points so far leave them), the body obligation from the
  body's run, the launch, and the claim that every execution ends with the arguments unchanged and every counter at zero.
-/
module

public import proofs.«01_k».proof.Proof.Attn.Body
public import Idealize.ShloMosaic.Lib.Claim
public import Idealize.ShloMosaic.Lib.Pipeline.FrameValue

@[expose] public section

set_option maxRecDepth 16384

noncomputable section

namespace Cert.Proof.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The query gradient's block at a grid point, from the input blocks there. -/
def dqBlk (c : Dev nD) (t : Fin (cfg0 (F := F)).N) : Vec F S256x128 .f32 :=
  dqOf ((grid0.coords t) 1).val (iblk m c 0 t) (iblk m c 1 t) (iblk m c 2 t) (iblk m c 3 t) (iblk m c 4 t) (iblk m c 5 t) (iblk m c 6 t)

/-- The grid's points, in order: the pair of heads outside, the query tile inside. -/
theorem point_h : ∀ t : Fin grid0.N, ((grid0.coords t) 0).val = t.val / 64 := by decide +kernel
theorem point_q : ∀ t : Fin grid0.N, ((grid0.coords t) 1).val = t.val % 64 := by decide +kernel

/-- The key gradient's accumulator after the first `n` grid points. -/
def keyAt (c : Dev nD) : ℕ → Vec F S16384x128 .f32
  | 0 => k0_pay4
  | n + 1 =>
    if h : n < (cfg0 (F := F)).N then
      keyOf ((grid0.coords ⟨n, h⟩) 1).val (iblk m c 0 ⟨n, h⟩) (iblk m c 1 ⟨n, h⟩) (iblk m c 2 ⟨n, h⟩) (iblk m c 3 ⟨n, h⟩) (iblk m c 4 ⟨n, h⟩)
        (iblk m c 5 ⟨n, h⟩) (iblk m c 6 ⟨n, h⟩) (keyAt c n)
    else keyAt c n

/-- The value gradient's accumulator after the first `n` grid points. -/
def valAt (c : Dev nD) : ℕ → Vec F S16384x128 .f32
  | 0 => k0_pay5
  | n + 1 =>
    if h : n < (cfg0 (F := F)).N then
      valOf ((grid0.coords ⟨n, h⟩) 1).val (iblk m c 0 ⟨n, h⟩) (iblk m c 1 ⟨n, h⟩) (iblk m c 2 ⟨n, h⟩) (iblk m c 3 ⟨n, h⟩) (iblk m c 4 ⟨n, h⟩)
        (iblk m c 5 ⟨n, h⟩) (iblk m c 6 ⟨n, h⟩) (valAt c n)
    else valAt c n

theorem keyAt_succ (c : Dev nD) (t : Fin (cfg0 (F := F)).N) : keyAt m c (t.val + 1)
    = keyOf ((grid0.coords t) 1).val (iblk m c 0 t) (iblk m c 1 t) (iblk m c 2 t) (iblk m c 3 t) (iblk m c 4 t) (iblk m c 5 t) (iblk m c 6 t) (keyAt m c t.val) :=
  dif_pos t.isLt

theorem valAt_succ (c : Dev nD) (t : Fin (cfg0 (F := F)).N) : valAt m c (t.val + 1)
    = valOf ((grid0.coords t) 1).val (iblk m c 0 t) (iblk m c 1 t) (iblk m c 2 t) (iblk m c 3 t) (iblk m c 4 t) (iblk m c 5 t) (iblk m c 6 t) (valAt m c t.val) :=
  dif_pos t.isLt

/-- The first query tile does not look at what the accumulators held. -/
theorem keyOf_first (j : ℕ) (hj : j = 0) (x0 : Vec F S256x128 .bf16) (x1 x2 : Vec F S16384x128 .bf16) (x3 x4 : Vec F S256x128 .f32) (x5 x6 : Vec F S256x256 .bf16)
    (d d' : Vec F S16384x128 .f32) : keyOf j x0 x1 x2 x3 x4 x5 x6 d = keyOf j x0 x1 x2 x3 x4 x5 x6 d' := by
  unfold keyOf; rw [if_pos hj, if_pos hj]
theorem valOf_first (j : ℕ) (hj : j = 0) (x0 : Vec F S256x128 .bf16) (x1 x2 : Vec F S16384x128 .bf16) (x3 x4 : Vec F S256x128 .f32) (x5 x6 : Vec F S256x256 .bf16)
    (d d' : Vec F S16384x128 .f32) : valOf j x0 x1 x2 x3 x4 x5 x6 d = valOf j x0 x1 x2 x3 x4 x5 x6 d' := by
  unfold valOf; rw [if_pos hj, if_pos hj]

/-- A result copied out of an accumulator running through the contents `acc`, after the first `n` grid points, from the
    contents `g` it had at the start. -/
def copied (acc : ℕ → Vec F S16384x128 .f32) (g : Vec F S2x16384x128 .f32) : ℕ → Vec F S2x16384x128 .f32
  | 0 => g
  | n + 1 => putSlab (n / 64) (n % 64) (acc (n + 1)) (copied acc g n)

/-- What such a result holds at the end: in each pair of heads' slab the accumulator after that pair's last query tile. -/
def slabs (acc : ℕ → Vec F S16384x128 .f32) : Vec F S2x16384x128 .f32 := fun y => acc (64 * (y 0).val + 64) (ix2 (y 1) (y 2))

theorem copied_done (acc : ℕ → Vec F S16384x128 .f32) (g : Vec F S2x16384x128 .f32) (y : S2x16384x128.Idx) :
    ∀ n, 64 * (y 0).val + 64 ≤ n → copied acc g n y = slabs acc y
  | 0, h => absurd h (by omega)
  | n + 1, h => by
    show putSlab (n / 64) (n % 64) (acc (n + 1)) (copied acc g n) y = _
    unfold putSlab
    split
    · next hc =>
      have e : n + 1 = 64 * (y 0).val + 64 := by omega
      unfold slabs
      rw [e]
    · next hc => exact copied_done acc g y n (by omega)

theorem copied_all (acc : ℕ → Vec F S16384x128 .f32) (g : Vec F S2x16384x128 .f32) : copied acc g (cfg0 (F := F)).N = slabs acc := by
  funext y
  have hy : (y 0).val < 2 := (y 0).isLt
  refine copied_done acc g y _ ?_
  rw [show (cfg0 (F := F)).N = 128 from (by decide : grid0.N = 128)]
  omega

/-- What holds between points, after the first `n`: the two accumulators at their contents (any at the start), the
    generator register at some state, the body's own counters at zero, and the two results the body copies out with the
    slabs of the finished pairs of heads in place. -/
def inv (c : Dev nD) (n : ℕ) : sProp 𝕄 :=
  iprop(iprop((∃ d, iprop(⌜n ≠ 0 → d = keyAt m c n⌝ ∗ owns (c : Thread nD τ) scM0_0 fullShare d)) ∗ (∃ d, iprop(⌜n ≠ 0 → d = valAt m c n⌝ ∗ owns (c : Thread nD τ) scM0_1 fullShare d)))
    ∗ (∃ r, prngReg c r) ∗ iprop(semVal ((c : Thread nD τ), SemLoc.dma 14) 0 ∗ semVal ((c : Thread nD τ), SemLoc.dma 15) 0) ∗ iprop(emp)
    ∗ iprop((∃ g, hbPt0 c hbM0_0 (copied (keyAt m c) g n)) ∗ (∃ g, hbPt0 c hbM0_1 (copied (valAt m c) g n))))

/-- What the run leaves in the two results the body copies out. -/
def outs (c : Dev nD) (b : Ref sig .tc) : Buf (Elt F) ((c : Thread nD τ).loc b) :=
  Function.update (Function.update (V m c) main_v40_1 (slabs (keyAt m c))) main_v40_2 (slabs (valAt m c)) b

theorem outs_1 (c : Dev nD) : outs m c main_v40_1 = slabs (keyAt m c) := by
  unfold outs
  rw [Function.update_of_ne (by decide), Function.update_self]
theorem outs_2 (c : Dev nD) : outs m c main_v40_2 = slabs (valAt m c) := by
  unfold outs
  rw [Function.update_self]

/-- The launch's invariant, the two copied results at given contents, conjunct by conjunct. -/
theorem PhiDRG0_eq (G : (c : Dev nD) → (b : Ref sig .tc) → Buf (Elt F) ((c : Thread nD τ).loc b)) (c : Dev nD) :
    (Pipeline.ΦDRG osem0 spec0 H0 R0 (V m) G c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 14) 0 ∗ semVal ((c : Thread nD τ), SemLoc.dma 15) 0) ∗ iprop(emp) ∗ iprop(hbPt0 c hbM0_0 (G c main_v40_1) ∗ hbPt0 c hbM0_1 (G c main_v40_2))) := by
  have hr : (Pipeline.routed R0 c (G c) : sProp 𝕄) = iprop(hbPt0 c hbM0_0 (G c main_v40_1) ∗ hbPt0 c hbM0_1 (G c main_v40_2)) := by
    unfold Pipeline.routed; rw [BI.bigSep_eq_bigSepL_of_eq [main_v40_1, main_v40_2] (by decide) (by decide)]; rfl
  rw [Pipeline.ΦDRG_eq, scopedRest0_eq, ownSems00_eq, hbmPts0_eq, hr]; simp only [scM0_0, scM0_1, owns_whole]; try rfl

/-- The launch gives what holds before the first point. -/
theorem inv_in (c : Dev nD) : (Pipeline.ΦDRG osem0 spec0 H0 R0 (V m) (V m) c : sProp 𝕄) ⊢ inv m c 0 := by
  rw [PhiDRG0_eq]
  unfold inv
  iintro ⟨⟨⟨%d0, HS0⟩, ⟨%d1, HS1⟩⟩, Hg, Hq, He, ⟨Hh0, Hh1⟩⟩
  isplitl [HS0 HS1]
  · isplitl [HS0]
    · iexists d0; isplitr; · ipureintro; exact fun h => absurd rfl h
      iexact HS0
    · iexists d1; isplitr; · ipureintro; exact fun h => absurd rfl h
      iexact HS1
  isplitl [Hg]; · iexact Hg
  isplitl [Hq]; · iexact Hq
  isplitl [He]; · iexact He
  isplitl [Hh0]
  · iexists _; iexact Hh0
  · iexists _; iexact Hh1

/-- What holds after the last point gives the two results. -/
theorem inv_out (c : Dev nD) : inv m c (cfg0 (F := F)).N ⊢ (Pipeline.ΦDRG osem0 spec0 H0 R0 (V m) (outs m) c : sProp 𝕄) := by
  rw [PhiDRG0_eq, outs_1, outs_2]
  unfold inv
  simp only [copied_all]
  iintro ⟨⟨⟨%d0, -, HS0⟩, ⟨%d1, -, HS1⟩⟩, Hg, Hq, He, ⟨⟨%g0, Hh0⟩, ⟨%g1, Hh1⟩⟩⟩
  isplitl [HS0 HS1]
  · isplitl [HS0]
    · iexists d0; iexact HS0
    · iexists d1; iexact HS1
  isplitl [Hg]; · iexact Hg
  isplitl [Hq]; · iexact Hq
  isplitl [He]; · iexact He
  isplitl [Hh0]
  · iexact Hh0
  · iexact Hh1

/-- One more point: the accumulators. -/
theorem key_step (c : Dev nD) (t : Fin (cfg0 (F := F)).N) (d : Vec F S16384x128 .f32) (hd : t.val ≠ 0 → d = keyAt m c t.val) :
    keyOf ((grid0.coords t) 1).val (iblk m c 0 t) (iblk m c 1 t) (iblk m c 2 t) (iblk m c 3 t) (iblk m c 4 t) (iblk m c 5 t) (iblk m c 6 t) d = keyAt m c (t.val + 1) := by
  rw [keyAt_succ]
  by_cases h : t.val = 0
  · exact keyOf_first _ ((point_q t).trans (by rw [h])) _ _ _ _ _ _ _ _ _
  · rw [hd h]
theorem val_step (c : Dev nD) (t : Fin (cfg0 (F := F)).N) (d : Vec F S16384x128 .f32) (hd : t.val ≠ 0 → d = valAt m c t.val) :
    valOf ((grid0.coords t) 1).val (iblk m c 0 t) (iblk m c 1 t) (iblk m c 2 t) (iblk m c 3 t) (iblk m c 4 t) (iblk m c 5 t) (iblk m c 6 t) d = valAt m c (t.val + 1) := by
  rw [valAt_succ]
  by_cases h : t.val = 0
  · exact valOf_first _ ((point_q t).trans (by rw [h])) _ _ _ _ _ _ _ _ _
  · rw [hd h]

/-- One more point: a copied result. -/
theorem copied_succ (acc : ℕ → Vec F S16384x128 .f32) (g : Vec F S2x16384x128 .f32) (t : Fin (cfg0 (F := F)).N) (x : Vec F S16384x128 .f32) (hx : x = acc (t.val + 1)) :
    putSlab ((grid0.coords t) 0).val ((grid0.coords t) 1).val x (copied acc g t.val) = copied acc g (t.val + 1) := by
  subst hx
  rw [point_h t, point_q t]
  rfl

/-- The pipeline's proof data on core `c`: the arrays as the region finds them, each input's staging buffer left at its
    block, and between points the launch's own invariant. -/
def dats (_ : Fin 1) (c : Dev nD) : Dat τ (Elt F) Unit ℕ (Pipeline.UD sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqBlk m c t
  Φ t := inv m c t.val
  q w := Pipeline.shareOf spec0 w
  owed _ := 0

theorem Phi_at (c : Dev nD) (t : Fin ((cfg0 (F := F)).N + 1)) : (dats m 0 c).Φ t = inv m c t.val := by
  dsimp only [dats]

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = iblk m c 5 t := by dsimp only [dats]; rfl
theorem after0_6 (c : Dev nD) (t : Fin (cfg0 (F := F)).N) : (dats m 0 c).after 6 t = iblk m c 6 t := by dsimp only [dats]; rfl

theorem after0_7 (c : Dev nD) (t : Fin (cfg0 (F := F)).N) : (dats m 0 c).after 7 t = dqBlk m c t := by dsimp only [dats]; rfl

theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d
theorem before0_4 (c : Dev nD) (t : Fin (cfg0 (F := F)).N) (d) : (dats m 0 c).before 4 t d = iblk m c 4 t :=
  before0_4_of m (dats m 0 c) (A_eq m c 4) (after0_4 m c) t d
theorem before0_5 (c : Dev nD) (t : Fin (cfg0 (F := F)).N) (d) : (dats m 0 c).before 5 t d = iblk m c 5 t :=
  before0_5_of m (dats m 0 c) (A_eq m c 5) (after0_5 m c) t d
theorem before0_6 (c : Dev nD) (t : Fin (cfg0 (F := F)).N) (d) : (dats m 0 c).before 6 t d = iblk m c 6 t :=
  before0_6_of m (dats m 0 c) (A_eq m c 6) (after0_6 m c) t d

/-- What the body is called with at point `t`, the windows one by one. -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- And what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 4000000 in
/-- The body at any point, by its run. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3, before0_4, before0_5, before0_6]
  rw [Phi_at m c t.succ, Phi_at m c t.castSucc, Fin.val_succ, Fin.val_castSucc,
    after0_0, after0_1, after0_2, after0_3, after0_4, after0_5, after0_6, after0_7]
  unfold inv Dat.owesAt Pipeline.owesWithin
  rw [show (dats m 0 c).owed t.castSucc = 0 from rfl, show (dats m 0 c).owed t.succ = 0 from rfl]
  iintro ⟨⟨⟨⟨%e0, %he0, HS0⟩, ⟨%e1, %he1, HS1⟩⟩, Hg, ⟨Hq0, Hq1⟩, -, ⟨⟨%g0, Hh0⟩, ⟨%g1, Hh1⟩⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) e0 e1 (copied (keyAt m c) g0 t.val) (copied (valAt m c) g1 t.val) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, H5, H6, H7, HS0, HS1, Hq0, Hq1, Hh0, Hh1, ⟨%W', HW'⟩⟩
  isplitl [HS0 HS1 Hg Hq0 Hq1 Hh0 Hh1]
  · isplitl [HS0 HS1]
    · isplitl [HS0]
      · iexists _; isplitr; swap; · iexact HS0
        ipureintro; exact fun _ => key_step m c t e0 he0
      · iexists _; isplitr; swap; · iexact HS1
        ipureintro; exact fun _ => val_step m c t e1 he1
    isplitl [Hg]
    · iexact Hg
    isplitl [Hq0 Hq1]
    · isplitl [Hq0]; · iexact Hq0
      iexact Hq1
    isplitr; · iempintro
    isplitl [Hh0]
    · iexists g0
      rw [← copied_succ (keyAt m c) g0 t _ (key_step m c t e0 he0)]
      iexact Hh0
    · iexists g1
      rw [← copied_succ (valAt m c) g1 t _ (val_step m c t e1 he1)]
      iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body at `t`. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body obligation at every point. -/
theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

set_option backward.isDefEq.respectTransparency.types false in
/-- The launch: every execution ends with the windows' arrays as the proof data say and every counter at zero. -/
theorem run_main : θ_run defs (onTc (τ := τ) (main (F := F))) (s₀ m ρ) (fun r => (Pipeline.FramePostRG (cfgs (F := F)) (dats m) (0 : Fin 1) R0 (V m) (outs m)) r ∧ r.2.sem = fun _ => 0) :=
  Pipeline.θ_run_frame_dmaRG_shared (Q' := _) (cfgs (F := F)) (dats m) (0 : Fin 1) launch₀0 osem0 defs₀ Variants.nat ownSemFacts0 H0 R0 H0_sub R0_sub m ρ main
    (hbody := fun c => (body_obligation m c).loose) (hq := fun _ _ _ => rfl)
    (howed := fun _ _ => rfl) (V := V m) (hmain := hmain m Variants.nat) (hA := A_eq m) (G := outs m)
    (hin := fun c => by rw [Phi_at]; exact inv_in m c) (hout := fun c => by rw [Phi_at]; exact inv_out m c)

/-- Every execution ends with the query gradient's array as the proof data say, the key and the value gradients' slabs at
    the accumulators after each pair of heads' last query tile, the two arguments unchanged and every
    counter at zero. -/
theorem run_value : θ_run defs (onTc (τ := τ) (main (F := F))) ⟨m, fun _ => 0, ρ⟩ (fun r => (∀ c : Dev nD,
      (r.2.mem ((c.tc : Thread nD τ).loc main_v40_0) = (dats m 0 c).arrAt 7 (cfg0 (F := F)).N
      ∧ r.2.mem ((c.tc : Thread nD τ).loc main_v40_1) = slabs (keyAt m c)
      ∧ r.2.mem ((c.tc : Thread nD τ).loc main_v40_2) = slabs (valAt m c))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨⟨(h.1.toR c).1 7, (h.1.written c (by decide)).trans (outs_1 m c), (h.1.written c (by decide)).trans (outs_2 m c)⟩,
      ((h.1.toR c).1 0).trans (((dats m 0 c).arrAt_in 0 rfl _).trans ((A_eq m c 0).trans (V_main_arg0 m c))),
      ((h.1.toR c).1 3).trans (((dats m 0 c).arrAt_in 3 rfl _).trans ((A_eq m c 3).trans (V_main_arg1 m c)))⟩, h.2⟩) (run_main m ρ)

/-- The frame, at any reading of the floats: every execution ends, the two arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run_value m ρ)

end Cert.Proof.Attn

end
-- ==== Proof.Attn.Row.lean ====
/-
  One row of one head of stick-breaking attention and its gradient, over the reals: a query row `i`, the row `L` of its logits
  and the row `G` of its products of the incoming gradient with the values. Sums over the keys after a key and before a key,
  and how they split at the tiles of 256 keys.
-/
module

public import Idealize.ShloMosaic.Lib.IdealHost

@[expose] public section

noncomputable section

namespace Cert.Proof.Attn

/-- The softplus `log (1 + exp z)`, in the form that keeps the exponential at most one. -/
def sp (z : ℝ) : ℝ := max z 0 + Real.log (1 + Real.exp (-|z|))

/-- The softplus is `log (1 + exp z)`. -/
theorem exp_sp (z : ℝ) : Real.exp (sp z) = 1 + Real.exp z := by
  have h1 : (0 : ℝ) < 1 + Real.exp (-|z|) := by positivity
  unfold sp
  rw [Real.exp_add, Real.exp_log h1, mul_add, mul_one, ← Real.exp_add]
  rcases le_total 0 z with h | h
  · rw [max_eq_left h, abs_of_nonneg h, add_neg_cancel, Real.exp_zero, add_comm]
  · rw [max_eq_right h, abs_of_nonpos h, neg_neg, zero_add, Real.exp_zero]

/-- The softplus of a number and of its negation differ by the number. -/
theorem sp_neg (z : ℝ) : sp (-z) = sp z - z := by
  unfold sp
  rw [abs_neg]
  rcases le_total 0 z with h | h
  · rw [max_eq_left h, max_eq_right (neg_nonpos.mpr h)]; ring
  · rw [max_eq_right h, max_eq_left (neg_nonneg.mpr h)]; ring

/-- The two sigmoids of a number sum to one. -/
theorem sigmoids (z : ℝ) : Real.exp (-(sp z)) = 1 - Real.exp (-(sp (-z))) := by
  have e1 : Real.exp (-(sp z)) = (1 + Real.exp z)⁻¹ := by rw [Real.exp_neg, exp_sp]
  have e2 : Real.exp (-(sp (-z))) = Real.exp z * (1 + Real.exp z)⁻¹ := by
    rw [sp_neg, neg_sub, Real.exp_sub, exp_sp, div_eq_mul_inv]
  have h : (1 + Real.exp z) ≠ 0 := by positivity
  rw [e1, e2]
  field_simp
  ring

section

variable (L G : ℕ → ℝ) (i j : ℕ)

/-- The logarithm of one minus beta at key `j`, nothing at and after the query. -/
def lo : ℝ := if j < i then -(sp (L j)) else 0

/-- The logarithm of what the keys after `j` leave of the stick. -/
def stick : ℝ := ∑ x ∈ Finset.Ico (j + 1) 16384, lo L i x

/-- The attention weight of key `j`. -/
def wt : ℝ := if j < i then Real.exp (-(sp (-(L j))) + stick L i j) else 0

/-- The gradient of the logarithm of the weight: the gradient of the weight times the weight. -/
def gw : ℝ := G j * wt L i j

/-- What the keys before `j` receive. -/
def far : ℝ := ∑ x ∈ Finset.range j, gw L G i x

/-- The gradient of the logit. -/
def dx : ℝ := if j < i then gw L G i j - Real.exp (-(sp (-(L j)))) * (gw L G i j + far L G i j) else 0

end

/-! ## Sums and tiles -/

/-- The sum over a tile's keys after `b`. -/
theorem sum_above (f : ℕ → ℝ) (n : ℕ) (b : Fin 256) :
    ∑ x : Fin 256, f (256 * n + x.val) * (if b < x then 1 else 0) = ∑ x ∈ Finset.Ico (256 * n + b.val + 1) (256 * n + 256), f x := by
  have e : ∀ x : Fin 256, f (256 * n + x.val) * (if b < x then 1 else 0) = (fun y : ℕ => if b.val < y then f (256 * n + y) else 0) x.val :=
    fun x => by
      by_cases h : b < x
      · have h' : b.val < x.val := h
        simp [h, h']
      · have h' : ¬ b.val < x.val := h
        simp [h, h']
  rw [Finset.sum_congr rfl fun x _ => e x, Fin.sum_univ_eq_sum_range (fun y : ℕ => if b.val < y then f (256 * n + y) else 0) 256,
    ← Finset.sum_filter]
  have e2 : (Finset.range 256).filter (fun y => b.val < y) = Finset.Ico (b.val + 1) 256 := by
    ext y; simp only [Finset.mem_filter, Finset.mem_range, Finset.mem_Ico]; omega
  rw [e2, Finset.sum_Ico_add f (b.val + 1) 256 (256 * n)]
  exact congrArg (fun s => ∑ x ∈ s, f x) (by congr 1 <;> omega)

/-- The sum over a tile's keys from `b` on. -/
theorem sum_from (f : ℕ → ℝ) (n : ℕ) (b : Fin 256) :
    ∑ x : Fin 256, f (256 * n + x.val) * (if b ≤ x then 1 else 0) = ∑ x ∈ Finset.Ico (256 * n + b.val) (256 * n + 256), f x := by
  have e : ∀ x : Fin 256, f (256 * n + x.val) * (if b ≤ x then 1 else 0) = (fun y : ℕ => if b.val ≤ y then f (256 * n + y) else 0) x.val :=
    fun x => by
      by_cases h : b ≤ x
      · have h' : b.val ≤ x.val := h
        simp [h, h']
      · have h' : ¬ b.val ≤ x.val := h
        simp [h, h']
  rw [Finset.sum_congr rfl fun x _ => e x, Fin.sum_univ_eq_sum_range (fun y : ℕ => if b.val ≤ y then f (256 * n + y) else 0) 256,
    ← Finset.sum_filter]
  have e2 : (Finset.range 256).filter (fun y => b.val ≤ y) = Finset.Ico b.val 256 := by
    ext y; simp only [Finset.mem_filter, Finset.mem_range, Finset.mem_Ico]; omega
  rw [e2, Finset.sum_Ico_add f b.val 256 (256 * n)]
  exact congrArg (fun s => ∑ x ∈ s, f x) (by congr 1 <;> omega)

/-- A whole tile. -/
theorem sum_tile (f : ℕ → ℝ) (n : ℕ) :
    ∑ x : Fin 256, f (256 * n + x.val) = ∑ x ∈ Finset.Ico (256 * n) (256 * n + 256), f x := by
  rw [Fin.sum_univ_eq_sum_range (fun y : ℕ => f (256 * n + y)) 256, Finset.range_eq_Ico, Finset.sum_Ico_add f 0 256 (256 * n)]
  exact congrArg (fun s => ∑ x ∈ s, f x) (by congr 1 <;> omega)

/-- The keys after a key of tile `n`: those of later tiles, and those of the tile. -/
theorem sum_after (f : ℕ → ℝ) (n : ℕ) (hn : n < 64) (b : Fin 256) :
    ∑ x ∈ Finset.Ico (256 * (n + 1)) 16384, f x + ∑ x : Fin 256, f (256 * n + x.val) * (if b < x then 1 else 0)
      = ∑ x ∈ Finset.Ico (256 * n + b.val + 1) 16384, f x := by
  have hb := b.isLt
  rw [sum_above, add_comm, show 256 * (n + 1) = 256 * n + 256 by ring]
  exact Finset.sum_Ico_consecutive f (by omega) (by omega)

/-- The keys before a key of tile `n`: all but those of later tiles and those of the tile from the key on. -/
theorem sum_before (f : ℕ → ℝ) (n : ℕ) (hn : n < 64) (b : Fin 256) :
    ∑ x ∈ Finset.range 16384, f x - ∑ x ∈ Finset.Ico (256 * (n + 1)) 16384, f x - ∑ x : Fin 256, f (256 * n + x.val) * (if b ≤ x then 1 else 0)
      = ∑ x ∈ Finset.range (256 * n + b.val), f x := by
  have hb := b.isLt
  rw [sum_from, show 256 * (n + 1) = 256 * n + 256 by ring, Finset.range_eq_Ico, Finset.range_eq_Ico,
    ← Finset.sum_Ico_consecutive f (Nat.zero_le (256 * n + b.val)) (show 256 * n + b.val ≤ 16384 by omega),
    ← Finset.sum_Ico_consecutive f (show 256 * n + b.val ≤ 256 * n + 256 by omega) (show 256 * n + 256 ≤ 16384 by omega)]
  ring

/-- The keys from tile `n` on: those of later tiles, and the tile's. -/
theorem sum_on (f : ℕ → ℝ) (n : ℕ) (hn : n < 64) :
    ∑ x ∈ Finset.Ico (256 * (n + 1)) 16384, f x + ∑ x : Fin 256, f (256 * n + x.val) = ∑ x ∈ Finset.Ico (256 * n) 16384, f x := by
  rw [sum_tile, add_comm, show 256 * (n + 1) = 256 * n + 256 by ring]
  exact Finset.sum_Ico_consecutive f (by omega) (by omega)

/-- Nothing is summed where every key is at or after the query. -/
theorem sum_late (f : ℕ → ℝ) (i n : ℕ) (hf : ∀ x, i ≤ x → f x = 0) (h : i ≤ n) : ∑ x ∈ Finset.Ico n 16384, f x = 0 :=
  Finset.sum_eq_zero fun x hx => hf x (h.trans (Finset.mem_Ico.mp hx).1)

theorem lo_late (L : ℕ → ℝ) (i x : ℕ) (h : i ≤ x) : lo L i x = 0 := if_neg (not_lt.mpr h)
theorem wt_late (L : ℕ → ℝ) (i x : ℕ) (h : i ≤ x) : wt L i x = 0 := if_neg (not_lt.mpr h)
theorem gw_late (L G : ℕ → ℝ) (i x : ℕ) (h : i ≤ x) : gw L G i x = 0 := by rw [gw, wt_late L i x h, mul_zero]
theorem dx_late (L G : ℕ → ℝ) (i x : ℕ) (h : i ≤ x) : dx L G i x = 0 := if_neg (not_lt.mpr h)

/-! ## The same numbers among the extended reals -/

/-- A sum of reals is the sum of the extended reals. -/
theorem coe_sum {ι : Type} (s : Finset ι) (f : ι → ℝ) : ((∑ x ∈ s, f x : ℝ) : EReal) = ∑ x ∈ s, (f x : EReal) := by
  classical
  induction s using Finset.induction_on with
  | empty => simp
  | insert a s h ih => rw [Finset.sum_insert h, Finset.sum_insert h, EReal.coe_add, ih]

theorem coe_max (x y : ℝ) : ((max x y : ℝ) : EReal) = max (x : EReal) (y : EReal) :=
  EReal.coe_strictMono.monotone.map_max

theorem coe_min (x y : ℝ) : ((min x y : ℝ) : EReal) = min (x : EReal) (y : EReal) :=
  EReal.coe_strictMono.monotone.map_min

end Cert.Proof.Attn

end
-- ==== Proof.Attn.Head.lean ====
/-
  One trip of the attention gradient's loop over the reals, head by head: where the query block's and the incoming gradient's
  products with the tile's keys and values are the rows of logits and of gradients, and the carried sums are those over the
  keys after the tile, the trip's arrays are the attention weights, their gradients and the gradients of the logits, and the
  carried sums become those over the keys from the tile on.
-/
module

public import proofs.«01_k».proof.Proof.Attn.Trip
public import proofs.«01_k».proof.Proof.Attn.Row
public import Idealize.ShloMosaic.Lib.Pointwise

@[expose] public section

set_option maxRecDepth 16384

noncomputable section

namespace Cert.Proof.Attn

open Cert.KernelIdeal Cert.KernelIdeal.Gen

open Idealize.ShloMosaic

/-! ## Scalars -/

/-- The logarithm in the softplus of a real. -/
theorem log_part (z : ℝ) :
    Ideal.log (1 + Ideal.exp (0 - max (z : EReal) (-(z : EReal)))) = ((Real.log (1 + Real.exp (-|z|)) : ℝ) : EReal) := by
  have h1 : (0 : ℝ) < 1 + Real.exp (-|z|) := by positivity
  have h2 : (0 : EReal) - max (z : EReal) (-(z : EReal)) = ((-|z| : ℝ) : EReal) := by
    rw [← EReal.coe_neg z, ← coe_max, zero_sub, ← EReal.coe_neg]; rfl
  rw [h2, Ideal.exp_coe, ← EReal.coe_one, ← EReal.coe_add, Ideal.log_coe, if_neg (not_le.mpr h1)]

/-- The logarithm of beta, of a real logit. -/
theorem lb_coe (z : ℝ) :
    min (z : EReal) 0 - Ideal.log (1 + Ideal.exp (0 - max (z : EReal) (-(z : EReal)))) = ((-(sp (-z)) : ℝ) : EReal) := by
  rw [log_part, ← EReal.coe_zero, ← coe_min, ← EReal.coe_sub]
  refine congrArg _ ?_
  unfold sp
  rw [abs_neg]
  rcases le_total 0 z with h | h
  · rw [min_eq_right h, max_eq_right (neg_nonpos.mpr h)]; ring
  · rw [min_eq_left h, max_eq_left (neg_nonneg.mpr h)]; ring

/-- The logarithm of one minus beta, of a real logit. -/
theorem lom_coe (z : ℝ) :
    0 - max (z : EReal) 0 - Ideal.log (1 + Ideal.exp (0 - max (z : EReal) (-(z : EReal)))) = ((-(sp z) : ℝ) : EReal) := by
  rw [log_part, ← EReal.coe_zero, ← coe_max, ← EReal.coe_sub, ← EReal.coe_sub]
  refine congrArg _ ?_
  unfold sp
  ring

/-- A choice by a mask that says whether `p` holds, between two reals. -/
theorem select_coe (p : Prop) [Decidable p] (x y : ℝ) :
    Scalar.select (if p then 1#1 else 0#1) (x : EReal) (y : EReal) = ((if p then x else y : ℝ) : EReal) := by
  by_cases h : p
  · rw [if_pos h, if_pos h]; rfl
  · rw [if_neg h, if_neg h]; rfl

/-- A sum of reals times a triangle's entries. -/
theorem tri_sum (f u : Fin 256 → ℝ) : ∑ x, ((f x : ℝ) : EReal) * ((u x : ℝ) : EReal) = ((∑ x, f x * u x : ℝ) : EReal) := by
  rw [coe_sum]; exact Finset.sum_congr rfl fun x _ => (EReal.coe_mul _ _).symm

/-- A real less itself, times a triangle's entries, sums to nothing. -/
theorem tri_zero (f u : Fin 256 → ℝ) :
    ∑ x, (((f x : ℝ) : EReal) - ((f x : ℝ) : EReal)) * ((u x : ℝ) : EReal) = ((0 : ℝ) : EReal) := by
  refine (Finset.sum_eq_zero fun x _ => ?_).trans EReal.coe_zero.symm
  rw [← EReal.coe_sub, sub_self, EReal.coe_zero, zero_mul]

/-! ## One head of one trip -/

section

variable (L G : ℕ → ℕ → ℝ) (qi n : ℕ) (hn : n < 64)
variable (q d kt : Vec Ideal S256x128 .bf16) (vt : Vec Ideal S256x128 .bf16) (c g t : FVec Ideal S256x1 .f32) (up ue : Vec Ideal S256x256 .bf16)
variable (w v : BitVec 32)

/-- The mask of the tile: the keys before the query. -/
def MaskIs (mk : IVec S256x256 1) : Prop := ∀ a b : Fin 256, mk (ix2 a b) = if 256 * n + b.val < 256 * qi + a.val then 1#1 else 0#1

/-- The products of the query block's rows with the tile's keys are the rows of logits. -/
def LogitsAre : Prop := ∀ a b : Fin 256, ∑ x : Fin 128, q (ix2 a x) * kt (ix2 b x) = ((L (256 * qi + a.val) (256 * n + b.val) : ℝ) : EReal)

/-- The products of the incoming gradient's rows with the tile's values are the rows of gradients. -/
def GradsAre : Prop := ∀ a b : Fin 256, ∑ x : Fin 128, d (ix2 a x) * vt (ix2 b x) = ((G (256 * qi + a.val) (256 * n + b.val) : ℝ) : EReal)

/-- The carried sums of logarithms are those over the keys from tile `n` on. -/
def LoSums (n : ℕ) : Prop := ∀ a : Fin 256,
  c (ix2 a 0) = ((∑ x ∈ Finset.Ico (256 * n) 16384, lo (L (256 * qi + a.val)) (256 * qi + a.val) x : ℝ) : EReal)

/-- The carried sums of gradients are those over the keys from tile `n` on. -/
def GwSums (n : ℕ) : Prop := ∀ a : Fin 256,
  g (ix2 a 0) = ((∑ x ∈ Finset.Ico (256 * n) 16384, gw (L (256 * qi + a.val)) (G (256 * qi + a.val)) (256 * qi + a.val) x : ℝ) : EReal)

/-- The row sums of gradient times output are the sums of gradients over all keys. -/
def GwTotals : Prop := ∀ a : Fin 256,
  t (ix2 a 0) = ((∑ x ∈ Finset.range 16384, gw (L (256 * qi + a.val)) (G (256 * qi + a.val)) (256 * qi + a.val) x : ℝ) : EReal)

/-- The strict triangle: one where the key is after the other. -/
def UpIs : Prop := ∀ x b : Fin 256, up (ix2 x b) = ((if b < x then 1 else 0 : ℝ) : EReal)

/-- The triangle with its diagonal. -/
def UeIs : Prop := ∀ x b : Fin 256, ue (ix2 x b) = ((if b ≤ x then 1 else 0 : ℝ) : EReal)

variable {L G qi n q d kt vt c g t up ue w v}

/-- The weight, from the logarithms of beta and of one minus beta. -/
theorem wt_of (hn : n < 64) (hc : LoSums L qi c (n + 1)) (hu : UpIs up) (a b : Fin 256) (lov : Fin 256 → EReal)
    (hlo : ∀ x : Fin 256, lov x = ((lo (L (256 * qi + a.val)) (256 * qi + a.val) (256 * n + x.val) : ℝ) : EReal)) (lb : EReal)
    (hlb : lb = ((-(sp (-(L (256 * qi + a.val) (256 * n + b.val)))) : ℝ) : EReal)) :
    Scalar.select (if 256 * n + b.val < 256 * qi + a.val then 1#1 else 0#1)
      (Ideal.exp (lb + (c (ix2 a 0) + ∑ x, lov x * up (ix2 x b) + ∑ x, (lov x - lov x) * up (ix2 x b)))) 0
      = ((wt (L (256 * qi + a.val)) (256 * qi + a.val) (256 * n + b.val) : ℝ) : EReal) := by
  have e1 : ∑ x, lov x * up (ix2 x b) = ((∑ x : Fin 256, lo (L (256 * qi + a.val)) (256 * qi + a.val) (256 * n + x.val) * (if b < x then 1 else 0) : ℝ) : EReal) := by
    rw [← tri_sum]; exact Finset.sum_congr rfl fun x _ => by rw [hlo, hu]
  have e2 : ∑ x, (lov x - lov x) * up (ix2 x b) = ((0 : ℝ) : EReal) := by
    rw [← tri_zero (fun x => lo (L (256 * qi + a.val)) (256 * qi + a.val) (256 * n + x.val)) (fun x => if b < x then 1 else 0)]
    exact Finset.sum_congr rfl fun x _ => by rw [hlo, hu]
  rw [e1, e2, hlb, hc a, ← EReal.coe_add, ← EReal.coe_add, ← EReal.coe_add, Ideal.exp_coe, ← EReal.coe_zero, select_coe, add_zero, sum_after _ n hn b]
  rfl

/-- The gradient of the logit, from the gradients of the weights. -/
theorem dx_of (hn : n < 64) (hg : GwSums L G qi g (n + 1)) (ht : GwTotals L G qi t) (he : UeIs ue) (a b : Fin 256) (gwv : Fin 256 → EReal)
    (hgw : ∀ x : Fin 256, gwv x = ((gw (L (256 * qi + a.val)) (G (256 * qi + a.val)) (256 * qi + a.val) (256 * n + x.val) : ℝ) : EReal)) (lb : EReal)
    (hlb : lb = ((-(sp (-(L (256 * qi + a.val) (256 * n + b.val)))) : ℝ) : EReal)) :
    Scalar.select (if 256 * n + b.val < 256 * qi + a.val then 1#1 else 0#1)
      (gwv b - Ideal.exp lb * (gwv b + (t (ix2 a 0) - g (ix2 a 0) - ∑ x, gwv x * ue (ix2 x b) - ∑ x, (gwv x - gwv x) * ue (ix2 x b)))) 0
      = ((dx (L (256 * qi + a.val)) (G (256 * qi + a.val)) (256 * qi + a.val) (256 * n + b.val) : ℝ) : EReal) := by
  have e1 : ∑ x, gwv x * ue (ix2 x b) = ((∑ x : Fin 256, gw (L (256 * qi + a.val)) (G (256 * qi + a.val)) (256 * qi + a.val) (256 * n + x.val) * (if b ≤ x then 1 else 0) : ℝ) : EReal) := by
    rw [← tri_sum]; exact Finset.sum_congr rfl fun x _ => by rw [hgw, he]
  have e2 : ∑ x, (gwv x - gwv x) * ue (ix2 x b) = ((0 : ℝ) : EReal) := by
    rw [← tri_zero (fun x => gw (L (256 * qi + a.val)) (G (256 * qi + a.val)) (256 * qi + a.val) (256 * n + x.val)) (fun x => if b ≤ x then 1 else 0)]
    exact Finset.sum_congr rfl fun x _ => by rw [hgw, he]
  rw [e1, e2, hlb, hgw b, ht a, hg a, Ideal.exp_coe, ← EReal.coe_sub, ← EReal.coe_sub, ← EReal.coe_sub, ← EReal.coe_add, ← EReal.coe_mul, ← EReal.coe_sub,
    ← EReal.coe_zero, select_coe, sub_zero, sum_before _ n hn b]
  rfl

/-! ### The first head's arrays -/

theorem pay24_coe (hL : LogitsAre L qi n q kt) (a b : Fin 256) :
    k0_pay24 q kt (ix2 a b) = ((L (256 * qi + a.val) (256 * n + b.val) : ℝ) : EReal) := by
  pointwise [k0_pay24]
  exact hL a b

/-- The logarithm of beta. -/
theorem pay26_coe (hL : LogitsAre L qi n q kt) (a b : Fin 256) :
    k0_pay26 q kt (ix2 a b) = ((-(sp (-(L (256 * qi + a.val) (256 * n + b.val)))) : ℝ) : EReal) := by
  pointwise [k0_pay26, k0_pay25, k0_pay24]
  rw [hL a b, Ideal.absf_def]
  exact lb_coe _

/-- The logarithm of one minus beta, nothing at and after the query. -/
theorem pay27_coe (hL : LogitsAre L qi n q kt) (hm : MaskIs qi n (k0_pay21 w v)) (a b : Fin 256) :
    k0_pay27 q w v kt (ix2 a b) = ((lo (L (256 * qi + a.val)) (256 * qi + a.val) (256 * n + b.val) : ℝ) : EReal) := by
  pointwise [k0_pay27, k0_pay25, k0_pay24]
  rw [hL a b, Ideal.absf_def, lom_coe, hm a b, ← EReal.coe_zero, select_coe]
  rfl

/-- The weights. -/
theorem pay31_coe (hn : n < 64) (hL : LogitsAre L qi n q kt) (hm : MaskIs qi n (k0_pay21 w v)) (hc : LoSums L qi c (n + 1)) (hu : UpIs up) (a b : Fin 256) :
    k0_pay31 c (k0_pay21 w v) (k0_pay26 q kt) (k0_pay29 q w v kt) (k0_pay30 q w v kt up) up (ix2 a b)
      = ((wt (L (256 * qi + a.val)) (256 * qi + a.val) (256 * n + b.val) : ℝ) : EReal) := by
  have e : k0_pay31 c (k0_pay21 w v) (k0_pay26 q kt) (k0_pay29 q w v kt) (k0_pay30 q w v kt up) up (ix2 a b)
      = Scalar.select (k0_pay21 w v (ix2 a b)) (Ideal.exp (k0_pay26 q kt (ix2 a b) + (c (ix2 a 0) + ∑ x, k0_pay27 q w v kt (ix2 a x) * up (ix2 x b)
        + ∑ x, (k0_pay27 q w v kt (ix2 a x) - k0_pay27 q w v kt (ix2 a x)) * up (ix2 x b)))) 0 := by
    pointwise [k0_pay31, k0_pay30, k0_pay29, k0_pay28]
  rw [e, hm a b]
  exact wt_of hn hc hu a b _ (fun x => pay27_coe hL hm a x) _ (pay26_coe hL a b)

/-- The gradients of the logarithms of the weights. -/
theorem pay32_coe (hn : n < 64) (hL : LogitsAre L qi n q kt) (hG : GradsAre G qi n d vt) (hm : MaskIs qi n (k0_pay21 w v)) (hc : LoSums L qi c (n + 1)) (hu : UpIs up)
    (a b : Fin 256) :
    k0_pay32 d c vt (k0_pay21 w v) (k0_pay26 q kt) (k0_pay29 q w v kt) (k0_pay30 q w v kt up) up (ix2 a b)
      = ((gw (L (256 * qi + a.val)) (G (256 * qi + a.val)) (256 * qi + a.val) (256 * n + b.val) : ℝ) : EReal) := by
  have e : k0_pay32 d c vt (k0_pay21 w v) (k0_pay26 q kt) (k0_pay29 q w v kt) (k0_pay30 q w v kt up) up (ix2 a b)
      = (∑ x : Fin 128, d (ix2 a x) * vt (ix2 b x)) * k0_pay31 c (k0_pay21 w v) (k0_pay26 q kt) (k0_pay29 q w v kt) (k0_pay30 q w v kt up) up (ix2 a b) := by
    pointwise [k0_pay32]
  rw [e, hG a b, pay31_coe hn hL hm hc hu, ← EReal.coe_mul]
  rfl

/-- The gradients of the logits. -/
theorem pay33_coe (hn : n < 64) (hL : LogitsAre L qi n q kt) (hG : GradsAre G qi n d vt) (hm : MaskIs qi n (k0_pay21 w v)) (hc : LoSums L qi c (n + 1))
    (hg : GwSums L G qi g (n + 1)) (ht : GwTotals L G qi t) (hu : UpIs up) (he : UeIs ue) (a b : Fin 256) :
    k0_pay33 d t c g vt (k0_pay21 w v) (k0_pay26 q kt) (k0_pay29 q w v kt) (k0_pay30 q w v kt up) up ue ue (ix2 a b)
      = ((dx (L (256 * qi + a.val)) (G (256 * qi + a.val)) (256 * qi + a.val) (256 * n + b.val) : ℝ) : EReal) := by
  pointwise [k0_pay33]
  rw [hm a b]
  exact dx_of hn hg ht he a b _ (fun x => pay32_coe hn hL hG hm hc hu a x) _ (pay26_coe hL a b)

/-- The sums of logarithms, carried on. -/
theorem pay37_coe (hn : n < 64) (hL : LogitsAre L qi n q kt) (hm : MaskIs qi n (k0_pay21 w v)) (hc : LoSums L qi c (n + 1)) :
    LoSums L qi (k0_pay37 c (k0_pay27 q w v kt)) n := fun a => by
  pointwise [k0_pay37]
  rw [hc a, Finset.sum_congr rfl fun x _ => pay27_coe hL hm a x, ← coe_sum, ← EReal.coe_add, sum_on _ n hn]

/-- The sums of gradients, carried on. -/
theorem pay38_coe (hn : n < 64) (hL : LogitsAre L qi n q kt) (hG : GradsAre G qi n d vt) (hm : MaskIs qi n (k0_pay21 w v)) (hc : LoSums L qi c (n + 1))
    (hg : GwSums L G qi g (n + 1)) (hu : UpIs up) :
    GwSums L G qi (k0_pay38 g (k0_pay32 d c vt (k0_pay21 w v) (k0_pay26 q kt) (k0_pay29 q w v kt) (k0_pay30 q w v kt up) up)) n := fun a => by
  have e : k0_pay38 g (k0_pay32 d c vt (k0_pay21 w v) (k0_pay26 q kt) (k0_pay29 q w v kt) (k0_pay30 q w v kt up) up) (ix2 a 0)
      = g (ix2 a 0) + ∑ x, k0_pay32 d c vt (k0_pay21 w v) (k0_pay26 q kt) (k0_pay29 q w v kt) (k0_pay30 q w v kt up) up (ix2 a x) := by
    pointwise [k0_pay38]
  rw [e, hg a, Finset.sum_congr rfl fun x _ => pay32_coe hn hL hG hm hc hu a x, ← coe_sum, ← EReal.coe_add, sum_on _ n hn]

/-! ### The second head's arrays -/

/-- The logarithm of beta. -/
theorem pay41_coe (hL : LogitsAre L qi n q kt) (a b : Fin 256) :
    k0_pay41 q kt (ix2 a b) = ((-(sp (-(L (256 * qi + a.val) (256 * n + b.val)))) : ℝ) : EReal) := by
  pointwise [k0_pay41, k0_pay40, k0_pay39]
  rw [hL a b, Ideal.absf_def]
  exact lb_coe _

/-- The logarithm of one minus beta, nothing at and after the query. -/
theorem pay42_coe (hL : LogitsAre L qi n q kt) {mk : IVec S256x256 1} (hm : MaskIs qi n mk) (a b : Fin 256) :
    k0_pay42 q kt mk (ix2 a b) = ((lo (L (256 * qi + a.val)) (256 * qi + a.val) (256 * n + b.val) : ℝ) : EReal) := by
  pointwise [k0_pay42, k0_pay40, k0_pay39]
  rw [hL a b, Ideal.absf_def, lom_coe, hm a b, ← EReal.coe_zero, select_coe]
  rfl

/-- The weights. -/
theorem pay43_coe (hn : n < 64) (hL : LogitsAre L qi n q kt) {mk : IVec S256x256 1} (hm : MaskIs qi n mk) (hc : LoSums L qi c (n + 1)) (hu : UpIs up) (a b : Fin 256) :
    k0_pay43 q c kt mk up up (ix2 a b) = ((wt (L (256 * qi + a.val)) (256 * qi + a.val) (256 * n + b.val) : ℝ) : EReal) := by
  pointwise [k0_pay43]
  rw [hm a b]
  exact wt_of hn hc hu a b _ (fun x => pay42_coe hL hm a x) _ (pay41_coe hL a b)

/-- The gradients of the logarithms of the weights. -/
theorem pay44_coe {wv : FVec Ideal S256x256 .bf16} (hG : GradsAre G qi n d vt)
    (hw : ∀ a b : Fin 256, wv (ix2 a b) = ((wt (L (256 * qi + a.val)) (256 * qi + a.val) (256 * n + b.val) : ℝ) : EReal)) (a b : Fin 256) :
    k0_pay44 d vt wv (ix2 a b) = ((gw (L (256 * qi + a.val)) (G (256 * qi + a.val)) (256 * qi + a.val) (256 * n + b.val) : ℝ) : EReal) := by
  pointwise [k0_pay44]
  rw [hG a b, hw a b, ← EReal.coe_mul]
  rfl

/-- The gradients of the logits. -/
theorem pay45_coe (hn : n < 64) (hL : LogitsAre L qi n q kt) {wv : FVec Ideal S256x256 .bf16} (hG : GradsAre G qi n d vt)
    (hw : ∀ a b : Fin 256, wv (ix2 a b) = ((wt (L (256 * qi + a.val)) (256 * qi + a.val) (256 * n + b.val) : ℝ) : EReal))
    {mk : IVec S256x256 1} (hm : MaskIs qi n mk) (hg : GwSums L G qi g (n + 1)) (ht : GwTotals L G qi t) (he : UeIs ue) (a b : Fin 256) :
    k0_pay45 d t g vt mk (k0_pay41 q kt) wv ue ue (ix2 a b)
      = ((dx (L (256 * qi + a.val)) (G (256 * qi + a.val)) (256 * qi + a.val) (256 * n + b.val) : ℝ) : EReal) := by
  pointwise [k0_pay45]
  rw [hm a b]
  exact dx_of hn hg ht he a b _ (fun x => pay44_coe hG hw a x) _ (pay41_coe hL a b)

/-- The sums of logarithms, carried on. -/
theorem pay48_coe (hn : n < 64) (hL : LogitsAre L qi n q kt) {mk : IVec S256x256 1} (hm : MaskIs qi n mk) (hc : LoSums L qi c (n + 1)) :
    LoSums L qi (k0_pay48 c (k0_pay42 q kt mk)) n := fun a => by
  pointwise [k0_pay48]
  rw [hc a, Finset.sum_congr rfl fun x _ => pay42_coe hL hm a x, ← coe_sum, ← EReal.coe_add, sum_on _ n hn]

/-- The sums of gradients, carried on. -/
theorem pay49_coe (hn : n < 64) {wv : FVec Ideal S256x256 .bf16} (hG : GradsAre G qi n d vt)
    (hw : ∀ a b : Fin 256, wv (ix2 a b) = ((wt (L (256 * qi + a.val)) (256 * qi + a.val) (256 * n + b.val) : ℝ) : EReal))
    (hg : GwSums L G qi g (n + 1)) : GwSums L G qi (k0_pay49 d g vt wv) n := fun a => by
  pointwise [k0_pay49]
  rw [hg a, Finset.sum_congr rfl fun x _ => pay44_coe hG hw a x, ← coe_sum, ← EReal.coe_add, sum_on _ n hn]

end

end Cert.Proof.Attn

end
-- ==== Proof.Attn.Walk.lean ====
/-
  The attention gradient's loop over the reals: from the tile of the query itself down to the first tile, the carry holds the
  sums over the keys from the current tile on, and no stick dies while the logits are real, so the loop ends with the query
  gradient's block.
-/
module

public import proofs.«01_k».proof.Proof.Attn.Head
public import Idealize.ShloMosaic.Lib.WordCmp

@[expose] public section

set_option maxRecDepth 16384

noncomputable section

namespace Cert.Proof.Attn

open Cert.KernelIdeal Cert.KernelIdeal.Gen

open Idealize.ShloMosaic

/-! ## Words -/

/-- Tile `n`'s word is `n`. -/
theorem tileWord_succ (n : ℕ) (hn : n < 64) : tileWord (n + 1) = BitVec.ofNat 32 n := by
  have h : ∀ j : Fin 64, tileWord (j.val + 1) = BitVec.ofNat 32 j.val := by decide +kernel
  exact h ⟨n, hn⟩

/-- Tile `n`'s word is not negative. -/
theorem tileWord_ge (n : ℕ) (hn : n < 64) : Scalar.andi (Scalar.cmpi .sge (tileWord (n + 1)) 0#32) (Scalar.cmpi .sgt 1#32 0#32) = 1#1 := by
  have h : ∀ j : Fin 64, Scalar.andi (Scalar.cmpi .sge (tileWord (j.val + 1)) 0#32) (Scalar.cmpi .sgt 1#32 0#32) = 1#1 := by decide +kernel
  exact h ⟨n, hn⟩

/-- The mask of key tile `n` and query tile `qi`: the keys before the query. -/
theorem mask_is (qi n : ℕ) (hq : qi < 64) (hn : n < 64) : MaskIs qi n (k0_pay21 (tileWord (n + 1)) (BitVec.ofNat 32 qi)) := fun a b => by
  have ha := a.isLt
  have hb := b.isLt
  have key : ∀ (x y : ℕ), x < 64 → y < 256 → IntOp.addi (Scalar.muli (BitVec.ofNat 32 x) 256#32) (BitVec.ofNat 32 y) = BitVec.ofNat 32 (256 * x + y) :=
    fun x y _ _ => by
      show BitVec.ofNat 32 x * BitVec.ofNat 32 256 + BitVec.ofNat 32 y = _
      rw [← BitVec.ofNat_mul, ← BitVec.ofNat_add, Nat.mul_comm]
  pointwise [k0_pay21]
  rw [tileWord_succ n hn, key n b.val hn hb, key qi a.val hq ha, WordCmp.cmpi_slt_ofNat (by omega) (by omega)]
  by_cases h : 256 * n + b.val < 256 * qi + a.val
  · simp [h]
  · simp [h]

/-! ## Whether a stick is alive -/

/-- A comparison with the constant that stands for minus infinity. -/
theorem stick_alive (c0 c1 : FVec Ideal S256x1 .f32) (r : ℝ) (h : c0 (ix2 0 0) = (r : EReal)) :
    Scalar.extui (Scalar.cmpf .ogt (k0_pay3 c0 c1) (Named.named κ "log_cut" 0xC2D00000#32)) = 1#32 := by
  have e : k0_pay3 c0 c1 = Finset.fold max (Ideal.ofBits FTy.f32 4286578688#32) (fun x : Fin 256 × Fin 1 => max (c0 (ix2 x.1 0)) (c1 (ix2 x.1 0))) Finset.univ := by
    pointwise [k0_pay3]
  have h2 : (⊥ : EReal) < k0_pay3 c0 c1 := by
    rw [e, Finset.lt_fold_max]
    refine Or.inr ⟨(0, 0), Finset.mem_univ _, lt_of_lt_of_le ?_ (le_max_left _ _)⟩
    show (⊥ : EReal) < c0 (ix2 0 0)
    rw [h]; exact EReal.bot_lt_coe r
  rw [IdealRules.named_const.ideal_named_scalar (κ := κ) (name := "log_cut") (φ := .f32) 0xC2D00000#32 ⊥ rfl, Ideal.scalar_cmpf_def]
  have h3 : Ideal.cmp .ogt (k0_pay3 c0 c1) ⊥ = 1#1 := by
    simp [Ideal.cmp, h2]
  rw [h3]
  rfl

/-! ## The loop -/

/-- The gradient of the logit in the head of lane `l` of a head pair. -/
def dxL (L0 G0 L1 G1 : ℕ → ℕ → ℝ) (l i j : ℕ) : ℝ := if l < 64 then dx (L0 i) (G0 i) i j else dx (L1 i) (G1 i) i j

section

variable (L0 G0 L1 G1 K : ℕ → ℕ → ℝ) (qi : ℕ) (hq : qi < 64) (e : Env Ideal) (kt vt : ℕ → Vec Ideal S256x128 .bf16)

/-- What the loop works on, over the reals: the tiles' keys, each head's rows of logits and gradients and their sums, the
    triangles, and the lanes of the two heads. -/
structure RealEnv : Prop where
  hq : qi < 64
  ha : e.a = BitVec.ofNat 32 qi
  key : ∀ n, n < 64 → ∀ (b : Fin 256) (l : Fin 128), kt n (ix2 b l) = ((K (256 * n + b.val) l.val : ℝ) : EReal)
  logit0 : ∀ n, n < 64 → LogitsAre L0 qi n e.q0 (kt n)
  logit1 : ∀ n, n < 64 → LogitsAre L1 qi n e.q1 (kt n)
  grad0 : ∀ n, n < 64 → GradsAre G0 qi n e.d0 (vt n)
  grad1 : ∀ n, n < 64 → GradsAre G1 qi n e.d1 (vt n)
  total0 : GwTotals L0 G0 qi e.t0
  total1 : GwTotals L1 G1 qi e.t1
  up : UpIs e.up
  ue : UeIs e.ue
  lane0 : ∀ l : Fin 128, e.m0 (ix2 0 l) = if l.val < 64 then 1#1 else 0#1
  lane1 : ∀ l : Fin 128, e.m1 (ix2 0 l) = if l.val < 64 then 0#1 else 1#1

/-- The carry before tile `n - 1`: a stick is alive, and the sums are those over the keys from tile `n` on. -/
structure Inv (n : ℕ) (r : Carry Ideal) : Prop where
  alive : r.2.1 = 1#32
  dq : ∀ (a : Fin 256) (l : Fin 128), r.2.2.1 (ix2 a l)
    = ((∑ x ∈ Finset.Ico (256 * n) 16384, dxL L0 G0 L1 G1 l.val (256 * qi + a.val) x * K x l.val : ℝ) : EReal)
  c0 : LoSums L0 qi r.2.2.2.1 n
  c1 : LoSums L1 qi r.2.2.2.2.1 n
  g0 : GwSums L0 G0 qi r.2.2.2.2.2.1 n
  g1 : GwSums L1 G1 qi r.2.2.2.2.2.2 n

variable {L0 G0 L1 G1 K qi e kt vt}

/-- One trip keeps the invariant. -/
theorem Inv.trip (H : RealEnv L0 G0 L1 G1 K qi e kt vt) (n : ℕ) (hn : n < 64) (r : Carry Ideal) (I : Inv L0 G0 L1 G1 K qi (n + 1) r) :
    Inv L0 G0 L1 G1 K qi n (e.trip (tileWord (n + 1)) (kt n) (vt n) r) := by
  have hm : MaskIs qi n (k0_pay21 (tileWord (n + 1)) e.a) := by rw [H.ha]; exact mask_is qi n H.hq hn
  have hw : ∀ a b : Fin 256, e.w1 (tileWord (n + 1)) (kt n) r (ix2 a b) = ((wt (L1 (256 * qi + a.val)) (256 * qi + a.val) (256 * n + b.val) : ℝ) : EReal) :=
    pay43_coe hn (H.logit1 n hn) hm I.c1 H.up
  have hc0 : LoSums L0 qi (e.c0 (tileWord (n + 1)) (kt n) r) n := pay37_coe hn (H.logit0 n hn) hm I.c0
  refine ⟨stick_alive _ _ _ (hc0 0), fun a l => ?_, hc0, pay48_coe hn (H.logit1 n hn) hm I.c1,
    pay38_coe hn (H.logit0 n hn) (H.grad0 n hn) hm I.c0 I.g0 H.up, pay49_coe hn (H.grad1 n hn) hw I.g1⟩
  have e0 : e.dqb (tileWord (n + 1)) (kt n) (vt n) r (ix2 a l)
      = e.dqa (tileWord (n + 1)) (kt n) (vt n) r (ix2 a l)
        + ∑ x : Fin 256, k0_pay45 e.d1 e.t1 r.2.2.2.2.2.2 (vt n) (k0_pay21 (tileWord (n + 1)) e.a) (k0_pay41 e.q1 (kt n)) (e.w1 (tileWord (n + 1)) (kt n) r) e.ue e.ue (ix2 a x)
          * Scalar.select (e.m1 (ix2 0 l)) (kt n (ix2 x l)) (((0#32).toInt : ℝ) : EReal) := by
    unfold Env.dqb
    pointwise [k0_pay46]
  have e1 : e.dqa (tileWord (n + 1)) (kt n) (vt n) r (ix2 a l)
      = r.2.2.1 (ix2 a l)
        + ∑ x : Fin 256, k0_pay33 e.d0 e.t0 r.2.2.2.1 r.2.2.2.2.2.1 (vt n) (k0_pay21 (tileWord (n + 1)) e.a) (k0_pay26 e.q0 (kt n)) (k0_pay29 e.q0 (tileWord (n + 1)) e.a (kt n))
            (k0_pay30 e.q0 (tileWord (n + 1)) e.a (kt n) e.up) e.up e.ue e.ue (ix2 a x)
          * Scalar.select (e.m0 (ix2 0 l)) (kt n (ix2 x l)) (((0#32).toInt : ℝ) : EReal) := by
    unfold Env.dqa
    pointwise [k0_pay34]
  have s0 : ∑ x : Fin 256, k0_pay33 e.d0 e.t0 r.2.2.2.1 r.2.2.2.2.2.1 (vt n) (k0_pay21 (tileWord (n + 1)) e.a) (k0_pay26 e.q0 (kt n)) (k0_pay29 e.q0 (tileWord (n + 1)) e.a (kt n))
            (k0_pay30 e.q0 (tileWord (n + 1)) e.a (kt n) e.up) e.up e.ue e.ue (ix2 a x)
          * Scalar.select (e.m0 (ix2 0 l)) (kt n (ix2 x l)) (((0#32).toInt : ℝ) : EReal)
      = ((∑ x : Fin 256, dx (L0 (256 * qi + a.val)) (G0 (256 * qi + a.val)) (256 * qi + a.val) (256 * n + x.val) * (if l.val < 64 then K (256 * n + x.val) l.val else 0) : ℝ) : EReal) := by
    rw [coe_sum]
    refine Finset.sum_congr rfl fun x _ => ?_
    rw [pay33_coe hn (H.logit0 n hn) (H.grad0 n hn) hm I.c0 I.g0 H.total0 H.up H.ue, H.lane0 l, H.key n hn x l, select_coe, ← EReal.coe_mul]
    simp
  have s1 : ∑ x : Fin 256, k0_pay45 e.d1 e.t1 r.2.2.2.2.2.2 (vt n) (k0_pay21 (tileWord (n + 1)) e.a) (k0_pay41 e.q1 (kt n)) (e.w1 (tileWord (n + 1)) (kt n) r) e.ue e.ue (ix2 a x)
          * Scalar.select (e.m1 (ix2 0 l)) (kt n (ix2 x l)) (((0#32).toInt : ℝ) : EReal)
      = ((∑ x : Fin 256, dx (L1 (256 * qi + a.val)) (G1 (256 * qi + a.val)) (256 * qi + a.val) (256 * n + x.val) * (if ¬ l.val < 64 then K (256 * n + x.val) l.val else 0) : ℝ) : EReal) := by
    rw [coe_sum]
    refine Finset.sum_congr rfl fun x _ => ?_
    have hl : e.m1 (ix2 0 l) = if ¬ l.val < 64 then 1#1 else 0#1 := by
      rw [H.lane1 l]; by_cases h : l.val < 64
      · rw [if_pos h, if_neg (not_not.mpr h)]
      · rw [if_neg h, if_pos h]
    rw [pay45_coe hn (H.logit1 n hn) (H.grad1 n hn) hw hm I.g1 H.total1 H.ue, hl, H.key n hn x l, select_coe, ← EReal.coe_mul]
    simp
  show e.dqb (tileWord (n + 1)) (kt n) (vt n) r (ix2 a l) = _
  rw [e0, e1, s0, s1, I.dq a l, ← EReal.coe_add, ← EReal.coe_add, add_assoc, ← Finset.sum_add_distrib,
    ← sum_on (fun x => dxL L0 G0 L1 G1 l.val (256 * qi + a.val) x * K x l.val) n hn]
  refine congrArg (fun s : ℝ => ((_ + s : ℝ) : EReal)) (Finset.sum_congr rfl fun x _ => ?_)
  unfold dxL
  by_cases h : l.val < 64
  · simp [h]
  · simp [h]

/-- The loop keeps the invariant down to the first tile. -/
theorem Inv.walk (H : RealEnv L0 G0 L1 G1 K qi e kt vt) : ∀ (n : ℕ), n ≤ 64 → ∀ r : Carry Ideal, Inv L0 G0 L1 G1 K qi n r →
    Inv L0 G0 L1 G1 K qi 0 (Attn.walk e kt vt n r)
  | 0, _, r, I => I
  | n + 1, hn, r, I => by
    have ht : Scalar.andi (Scalar.cmpi .sge (tileWord (n + 1)) 0#32) (Scalar.cmpi .sgt r.2.1 0#32) = 1#1 := by
      rw [I.alive]; exact tileWord_ge n hn
    have ew : Attn.walk e kt vt (n + 1) r = Attn.walk e kt vt n (e.trip (tileWord (n + 1)) (kt n) (vt n) r) := if_pos ht
    rw [ew]
    exact Inv.walk H n (by omega) _ (Inv.trip H n hn r I)

/-- The carry the loop starts from at query tile `qi`: no key from the next tile on is before a query of the tile. -/
theorem Inv.start (hq : qi < 64) : Inv L0 G0 L1 G1 K qi (qi + 1) (carry₀ (qi + 1)) := by
  have hz : ∀ a : Fin 256, (k0_pay20 : FVec Ideal S256x1 .f32) (ix2 a 0) = ((0 : ℝ) : EReal) := fun a => by
    rw [EReal.coe_zero]; pointwise [k0_pay20]
  have hl : ∀ a : Fin 256, 256 * qi + a.val ≤ 256 * (qi + 1) := fun a => by have := a.isLt; omega
  refine ⟨rfl, fun a l => ?_, fun a => ?_, fun a => ?_, fun a => ?_, fun a => ?_⟩
  · show (k0_pay19 : FVec Ideal S256x128 .f32) (ix2 a l) = _
    rw [sum_late _ (256 * qi + a.val) _ (fun x hx => by unfold dxL; rw [dx_late _ _ _ _ hx, dx_late _ _ _ _ hx]; simp) (hl a), EReal.coe_zero]
    pointwise [k0_pay19]
  · exact (hz a).trans (congrArg _ (sum_late _ (256 * qi + a.val) _ (lo_late _ _) (hl a)).symm)
  · exact (hz a).trans (congrArg _ (sum_late _ (256 * qi + a.val) _ (lo_late _ _) (hl a)).symm)
  · exact (hz a).trans (congrArg _ (sum_late _ (256 * qi + a.val) _ (gw_late _ _ _) (hl a)).symm)
  · exact (hz a).trans (congrArg _ (sum_late _ (256 * qi + a.val) _ (gw_late _ _ _) (hl a)).symm)

end

end Cert.Proof.Attn

end
-- ==== Proof.Attn.Window.lean ====
/-
  Sums over a window that reaches from a position to the end of the last axis, or from its start to the position, of rows of reals.
-/
module

public import proofs.«01_k».proof.Proof.Attn.Row
public import Idealize.ShloMosaic.Lib.ValueIdx
public import Idealize.ShloMosaic.Lib.Pointwise
public import Idealize.ShloMosaic.Lib.ShapeFacts
public import Idealize.ShloMosaic.Lib.IdealHost

@[expose] public section

noncomputable section

namespace Cert.Proof.Attn

open Idealize.ShloMosaic

/-- Adding up a list of numbers one after another gives their sum. -/
theorem foldl_sum {M : ℕ} (g : Fin M → EReal) (v : EReal) (hv : v = 0) (s : EReal → Fin M → EReal) (hs : ∀ r n, s r n = r + g n) :
    (List.finRange M).foldl s v = ∑ n : Fin M, g n := by
  subst hv
  have e : s = fun r n => r + g n := funext fun r => funext fun n => hs r n
  rw [Fin.sum_univ_def, List.sum_eq_foldl, List.foldl_map, e]

/-- The position of an index of a window that is one wide on the first two axes. -/
theorem window_pos {N : ℕ} (n : Fin (⟨3, ![1, 1, N]⟩ : Shape).numel) :
    ((⟨3, ![1, 1, N]⟩ : Shape).rowMajor.symm n 0).val = 0 ∧ ((⟨3, ![1, 1, N]⟩ : Shape).rowMajor.symm n 1).val = 0
      ∧ ((⟨3, ![1, 1, N]⟩ : Shape).rowMajor.symm n 2).val = n.val := by
  generalize hw : (⟨3, ![1, 1, N]⟩ : Shape).rowMajor.symm n = w
  have h := congrArg Fin.val ((Equiv.symm_apply_eq _).mp hw)
  rw [Shape.rowMajor_val_three] at h
  have h0 : (w 0).val < 1 := (w 0).isLt
  have h1 : (w 1).val < 1 := (w 1).isLt
  have h0' : (w 0).val = 0 := by omega
  have h1' : (w 1).val = 0 := by omega
  rw [h0', h1', Nat.zero_mul, Nat.zero_add, Nat.zero_mul, Nat.zero_add] at h
  exact ⟨h0', h1', h.symm⟩

/-- The number of elements of that window. -/
theorem window_numel (N : ℕ) : (⟨3, ![1, 1, N]⟩ : Shape).numel = N := by
  rw [Shape.numel_rank3]
  show 1 * 1 * N = N
  omega

/-- A sum over a range of positions, as a sum of reals. -/
theorem sum_positions {M N : ℕ} (hM : M = N) (g : Fin M → EReal) (f : ℕ → ℝ) (hg : ∀ n, g n = ((f n.val : ℝ) : EReal)) :
    ∑ n : Fin M, g n = ((∑ n ∈ Finset.range N, f n : ℝ) : EReal) := by
  subst hM
  rw [Finset.sum_congr rfl fun n _ => hg n, coe_sum]
  exact Fin.sum_univ_eq_sum_range (fun n => (f n : EReal)) M

/-- The window from a position to the end: the sum over the positions from it on. -/
theorem window_from {H R N P : ℕ} (hP : P + 1 = N) (x : (⟨3, ![H, R, N]⟩ : Shape).Idx → EReal) {u : Shape} (init : u.Idx → EReal)
    (hw : (⟨3, ![H, R, N]⟩ : Shape).ReduceWindows (![1, 1, N] : Fin 3 → Nat) ![1, 1, 1] ![0, 0, 0] ![0, 0, P] ⟨3, ![H, R, N]⟩)
    (hu : 0 < u.numel) (hi : init (Shape.Idx.first hu) = 0) (f : ℕ → ℝ) (h : Fin H) (r : Fin R)
    (hx : ∀ j : Fin N, x (ix3 h r j) = ((f j.val : ℝ) : EReal)) (j : Fin N) :
    Host.reduceWindow (· + ·) ![1, 1, N] ![1, 1, 1] ![0, 0, 0] ![0, 0, P] x init hw hu (ix3 h r j)
      = ((∑ y ∈ Finset.Ico j.val N, f y : ℝ) : EReal) := by
  have hj := j.isLt
  have hh := h.isLt
  have hr := r.isLt
  unfold Host.reduceWindow
  refine (foldl_sum (fun n => (((if j.val + n.val < N then f (j.val + n.val) else 0 : ℝ)) : EReal)) _ hi _ (fun s n => ?_)).trans ?_
  · obtain ⟨w0, w1, w2⟩ := window_pos (N := N) n
    dsimp only
    refine congrArg (s + ·) ?_
    split
    · next hin =>
      have h2 := hin 2
      change 0 ≤ j.val * 1 + ((⟨3, ![1, 1, N]⟩ : Shape).rowMajor.symm n 2).val
        ∧ j.val * 1 + ((⟨3, ![1, 1, N]⟩ : Shape).rowMajor.symm n 2).val - 0 < N at h2
      rw [w2] at h2
      rw [if_pos (by omega)]
      refine (congrArg x (funext fun a => Fin.ext ?_)).trans (hx ⟨j.val + n.val, by omega⟩)
      match a with
      | ⟨0, _⟩ =>
        show h.val * 1 + ((⟨3, ![1, 1, N]⟩ : Shape).rowMajor.symm n 0).val - 0 = h.val
        omega
      | ⟨1, _⟩ =>
        show r.val * 1 + ((⟨3, ![1, 1, N]⟩ : Shape).rowMajor.symm n 1).val - 0 = r.val
        omega
      | ⟨2, _⟩ =>
        show j.val * 1 + ((⟨3, ![1, 1, N]⟩ : Shape).rowMajor.symm n 2).val - 0 = j.val + n.val
        omega
    · next hin =>
      rw [if_neg fun hle => hin fun a => by
        match a with
        | ⟨0, _⟩ =>
          show 0 ≤ h.val * 1 + ((⟨3, ![1, 1, N]⟩ : Shape).rowMajor.symm n 0).val
            ∧ h.val * 1 + ((⟨3, ![1, 1, N]⟩ : Shape).rowMajor.symm n 0).val - 0 < H
          omega
        | ⟨1, _⟩ =>
          show 0 ≤ r.val * 1 + ((⟨3, ![1, 1, N]⟩ : Shape).rowMajor.symm n 1).val
            ∧ r.val * 1 + ((⟨3, ![1, 1, N]⟩ : Shape).rowMajor.symm n 1).val - 0 < R
          omega
        | ⟨2, _⟩ =>
          show 0 ≤ j.val * 1 + ((⟨3, ![1, 1, N]⟩ : Shape).rowMajor.symm n 2).val
            ∧ j.val * 1 + ((⟨3, ![1, 1, N]⟩ : Shape).rowMajor.symm n 2).val - 0 < N
          omega]
      exact hi
  · refine (sum_positions (window_numel N) _ (fun n => if j.val + n < N then f (j.val + n) else 0) fun n => rfl).trans ?_
    refine congrArg ((↑) : ℝ → EReal) ?_
    rw [← Finset.sum_filter, Finset.sum_Ico_eq_sum_range]
    exact congrArg (fun s => ∑ n ∈ s, f (j.val + n)) (by ext y; simp only [Finset.mem_filter, Finset.mem_range]; omega)

/-- The window from the start to a position: the sum over the positions up to it. -/
theorem window_upto {H R N P : ℕ} (hP : P + 1 = N) (x : (⟨3, ![H, R, N]⟩ : Shape).Idx → EReal) {u : Shape} (init : u.Idx → EReal)
    (hw : (⟨3, ![H, R, N]⟩ : Shape).ReduceWindows (![1, 1, N] : Fin 3 → Nat) ![1, 1, 1] ![0, 0, P] ![0, 0, 0] ⟨3, ![H, R, N]⟩)
    (hu : 0 < u.numel) (hi : init (Shape.Idx.first hu) = 0) (f : ℕ → ℝ) (h : Fin H) (r : Fin R)
    (hx : ∀ j : Fin N, x (ix3 h r j) = ((f j.val : ℝ) : EReal)) (j : Fin N) :
    Host.reduceWindow (· + ·) ![1, 1, N] ![1, 1, 1] ![0, 0, P] ![0, 0, 0] x init hw hu (ix3 h r j)
      = ((∑ y ∈ Finset.range (j.val + 1), f y : ℝ) : EReal) := by
  have hj := j.isLt
  have hh := h.isLt
  have hr := r.isLt
  unfold Host.reduceWindow
  refine (foldl_sum (fun n => (((if P ≤ j.val + n.val then f (j.val + n.val - P) else 0 : ℝ)) : EReal)) _ hi _ (fun s n => ?_)).trans ?_
  · obtain ⟨w0, w1, w2⟩ := window_pos (N := N) n
    have hn : n.val < N := lt_of_lt_of_eq n.isLt (window_numel N)
    dsimp only
    refine congrArg (s + ·) ?_
    split
    · next hin =>
      have h2 := hin 2
      change P ≤ j.val * 1 + ((⟨3, ![1, 1, N]⟩ : Shape).rowMajor.symm n 2).val
        ∧ j.val * 1 + ((⟨3, ![1, 1, N]⟩ : Shape).rowMajor.symm n 2).val - P < N at h2
      rw [w2] at h2
      rw [if_pos (by omega)]
      refine (congrArg x (funext fun a => Fin.ext ?_)).trans (hx ⟨j.val + n.val - P, by omega⟩)
      match a with
      | ⟨0, _⟩ =>
        show h.val * 1 + ((⟨3, ![1, 1, N]⟩ : Shape).rowMajor.symm n 0).val - 0 = h.val
        omega
      | ⟨1, _⟩ =>
        show r.val * 1 + ((⟨3, ![1, 1, N]⟩ : Shape).rowMajor.symm n 1).val - 0 = r.val
        omega
      | ⟨2, _⟩ =>
        show j.val * 1 + ((⟨3, ![1, 1, N]⟩ : Shape).rowMajor.symm n 2).val - P = j.val + n.val - P
        omega
    · next hin =>
      rw [if_neg fun hle => hin fun a => by
        match a with
        | ⟨0, _⟩ =>
          show 0 ≤ h.val * 1 + ((⟨3, ![1, 1, N]⟩ : Shape).rowMajor.symm n 0).val
            ∧ h.val * 1 + ((⟨3, ![1, 1, N]⟩ : Shape).rowMajor.symm n 0).val - 0 < H
          omega
        | ⟨1, _⟩ =>
          show 0 ≤ r.val * 1 + ((⟨3, ![1, 1, N]⟩ : Shape).rowMajor.symm n 1).val
            ∧ r.val * 1 + ((⟨3, ![1, 1, N]⟩ : Shape).rowMajor.symm n 1).val - 0 < R
          omega
        | ⟨2, _⟩ =>
          show P ≤ j.val * 1 + ((⟨3, ![1, 1, N]⟩ : Shape).rowMajor.symm n 2).val
            ∧ j.val * 1 + ((⟨3, ![1, 1, N]⟩ : Shape).rowMajor.symm n 2).val - P < N
          omega]
      exact hi
  · refine (sum_positions (window_numel N) _ (fun n => if P ≤ j.val + n then f (j.val + n - P) else 0) fun n => rfl).trans ?_
    refine congrArg ((↑) : ℝ → EReal) ?_
    have e : (Finset.range N).filter (fun n => P ≤ j.val + n) = Finset.Ico (P - j.val) N := by
      ext y; simp only [Finset.mem_filter, Finset.mem_range, Finset.mem_Ico]; omega
    rw [← Finset.sum_filter, e, Finset.sum_Ico_eq_sum_range, show N - (P - j.val) = j.val + 1 by omega]
    exact Finset.sum_congr rfl fun n _ => congrArg f (by omega)

end Cert.Proof.Attn

end
-- ==== Proof.Attn.Ref.lean ====
/-
  The reference's arrays, one operation after another, at arguments that are real: the logits and the products of the incoming
  gradient with the values of a head, the masked softplus, the sums over the keys after and before a key, the attention weights,
  the gradient of the logits and the gradients of queries, keys and values.
-/
module

public import proofs.«01_k».proof.Proof.Attn.Head
public import proofs.«01_k».proof.Proof.Attn.Window
public import proofs.«01_k».proof.Proof.Gen.ReferenceIdeal.Read
public import Idealize.ShloMosaic.Lib.WordCmp

@[expose] public section

set_option maxRecDepth 16384

noncomputable section

namespace Cert.Proof.Attn

open Idealize.ShloMosaic Cert.ReferenceIdeal Cert.ReferenceIdeal.Gen Cert.ReferenceIdeal.Read

/-- The logit of query `r` and key `j` of head `h`: queries are the first 256 columns, keys the next, 64 columns a head. -/
def lg (X : ℕ → ℕ → ℝ) (h r j : ℕ) : ℝ := ∑ e ∈ Finset.range 64, X r (64 * h + e) * X j (256 + (64 * h + e))

/-- The incoming gradient of query `r` times the value of key `j`, over head `h`: values are the last 256 columns. -/
def gm (X D : ℕ → ℕ → ℝ) (h r j : ℕ) : ℝ := ∑ e ∈ Finset.range 64, D r (64 * h + e) * X j (512 + (64 * h + e))

/-! ## Scalars -/

/-- The word of zero. -/
theorem zero_word : (FloatOps.ofBits (F := Ideal) .f32 0x00000000#32 : EReal) = 0 := Ideal.ofBits_zero_f32

/-- The word of plus infinity. -/
theorem top_word : (FloatOps.ofBits (F := Ideal) .f32 0x7F800000#32 : EReal) = ⊤ := by
  show Ideal.ofBits .f32 0x7F800000#32 = ⊤
  simp [Ideal.ofBits, Ideal.ieee]

/-- A comparison of two indices as words. -/
theorem slt_words (a b : ℕ) (ha : a < 16384) (hb : b < 16384) :
    IntOp.cmpi .slt (BitVec.ofNat 32 a) (BitVec.ofNat 32 b) = if a < b then 1#1 else 0#1 := by
  rw [WordCmp.cmpi_slt_ofNat (by omega) (by omega)]
  by_cases h : a < b <;> simp [h]

/-- The host's softplus of a real. -/
theorem softplus_coe (z : ℝ) :
    Scalar.select (Ideal.cmp .une ((z : EReal) - 0) ((z : EReal) - 0)) ((z : EReal) + 0)
      (max (z : EReal) 0 + Ideal.log (1 + Ideal.exp (-(max ((z : EReal) - 0) (-((z : EReal) - 0)))))) = ((sp z : ℝ) : EReal) := by
  have h : Ideal.cmp .une ((z : EReal) - 0) ((z : EReal) - 0) = 0#1 := by simp [Ideal.cmp]
  rw [h, sub_zero]
  show max (z : EReal) 0 + Ideal.log (1 + Ideal.exp (-(max (z : EReal) (-(z : EReal))))) = _
  rw [← zero_sub (max (z : EReal) (-(z : EReal))), log_part, ← EReal.coe_zero, ← coe_max, ← EReal.coe_add]
  rfl

/-- The host's guard against an infinite argument leaves a real as it is. -/
theorem guard_coe (z : ℝ) : Scalar.select (Ideal.cmp .oeq (z : EReal) ⊤) (0 : EReal) (z : EReal) = (z : EReal) := by
  have h : Ideal.cmp .oeq (z : EReal) ⊤ = 0#1 := by simp [Ideal.cmp]
  rw [h]
  rfl

/-- The slope of the softplus, as the exponential of a difference. -/
theorem slope_coe (z y : ℝ) :
    Ideal.exp (Scalar.select (Ideal.cmp .oeq (z : EReal) ⊤) (0 : EReal) (z : EReal)
      - Scalar.select (Ideal.cmp .oeq (y : EReal) ⊤) (0 : EReal) (y : EReal)) = ((Real.exp (z - y) : ℝ) : EReal) := by
  rw [guard_coe, guard_coe, ← EReal.coe_sub, Ideal.exp_coe]

/-- A sum of products of reals. -/
theorem dot_coe {n : ℕ} (a b : Fin n → EReal) (f g : ℕ → ℝ) (ha : ∀ k, a k = ((f k.val : ℝ) : EReal))
    (hb : ∀ k, b k = ((g k.val : ℝ) : EReal)) : ∑ k, a k * b k = ((∑ k ∈ Finset.range n, f k * g k : ℝ) : EReal) := by
  rw [Finset.sum_congr rfl fun k _ => show a k * b k = ((f k.val * g k.val : ℝ) : EReal) by rw [ha, hb, EReal.coe_mul], ← coe_sum,
    Fin.sum_univ_eq_sum_range (fun k => f k * g k) n]

section

variable (x0 : (⟨S16384x768, .bf16⟩ : BufTy).Contents (Elt Ideal)) (x1 : (⟨S16384x256, .f32⟩ : BufTy).Contents (Elt Ideal))
  (X D : ℕ → ℕ → ℝ)
  (hX : ∀ y : S16384x768.Idx, x0 y = ((X (y 0).val (y 1).val : ℝ) : EReal))
  (hD : ∀ y : S16384x256.Idx, x1 y = ((D (y 0).val (y 1).val : ℝ) : EReal))

include hX

/-- The queries, head by head. -/
theorem q_entry (i : S16384x4x64.Idx) :
    val_main_v6 (F := Ideal) x0 i = ((X (i 0).val (64 * (i 1).val + (i 2).val) : ℝ) : EReal) := by
  have h0 : (i 0).val < 16384 := (i 0).isLt
  have h1 : (i 1).val < 4 := (i 1).isLt
  have h2 : (i 2).val < 64 := (i 2).isLt
  rw [val_main_v6_apply, val_main_v1_apply, val_main_v0_apply]
  refine (hX _).trans (congrArg₂ (fun a b => ((X a b : ℝ) : EReal)) ?_ ?_)
  · show (((i 0).val * 4 + (i 1).val) * 64 + (i 2).val) / 256 = (i 0).val
    omega
  · show (((i 0).val * 4 + (i 1).val) * 64 + (i 2).val) % 256 = 64 * (i 1).val + (i 2).val
    omega

/-- The keys, head by head. -/
theorem k_entry (i : S16384x4x64.Idx) :
    val_main_v7 (F := Ideal) x0 i = ((X (i 0).val (256 + (64 * (i 1).val + (i 2).val)) : ℝ) : EReal) := by
  have h0 : (i 0).val < 16384 := (i 0).isLt
  have h1 : (i 1).val < 4 := (i 1).isLt
  have h2 : (i 2).val < 64 := (i 2).isLt
  rw [val_main_v7_apply, val_main_v3_apply, val_main_v2_apply]
  refine (hX _).trans (congrArg₂ (fun a b => ((X a b : ℝ) : EReal)) ?_ ?_)
  · show (((i 0).val * 4 + (i 1).val) * 64 + (i 2).val) / 256 = (i 0).val
    omega
  · show 256 + (((i 0).val * 4 + (i 1).val) * 64 + (i 2).val) % 256 = 256 + (64 * (i 1).val + (i 2).val)
    omega

/-- The values, head by head. -/
theorem v_entry (i : S16384x4x64.Idx) :
    val_main_v8 (F := Ideal) x0 i = ((X (i 0).val (512 + (64 * (i 1).val + (i 2).val)) : ℝ) : EReal) := by
  have h0 : (i 0).val < 16384 := (i 0).isLt
  have h1 : (i 1).val < 4 := (i 1).isLt
  have h2 : (i 2).val < 64 := (i 2).isLt
  rw [val_main_v8_apply, val_main_v5_apply, val_main_v4_apply]
  refine (hX _).trans (congrArg₂ (fun a b => ((X a b : ℝ) : EReal)) ?_ ?_)
  · show (((i 0).val * 4 + (i 1).val) * 64 + (i 2).val) / 256 = (i 0).val
    omega
  · show 512 + (((i 0).val * 4 + (i 1).val) * 64 + (i 2).val) % 256 = 512 + (64 * (i 1).val + (i 2).val)
    omega

/-- The logits. -/
theorem logit_entry (i : S4x16384x16384.Idx) :
    val_main_v15 (F := Ideal) x0 i = ((lg X (i 0).val (i 1).val (i 2).val : ℝ) : EReal) := by
  rw [val_main_v15_apply]
  exact dot_coe _ _ (fun e => X (i 1).val (64 * (i 0).val + e)) (fun e => X (i 2).val (256 + (64 * (i 0).val + e)))
    (fun k => q_entry x0 X hX (lidx_main_v15 i k)) (fun k => k_entry x0 X hX (ridx_main_v15 i k))

omit hX in
/-- The mask: the keys before the query. -/
theorem mask_entry (i : S16384x16384.Idx) : val_main_v14 (F := Ideal) i = if (i 1).val < (i 0).val then 1#1 else 0#1 := by
  rw [val_main_v14_apply, val_main_v12_apply, val_main_v10_apply, val_main_v9_apply, val_main_v13_apply, val_main_v11_apply, val_main_v9_apply]
  exact slt_words (i 1).val (i 0).val (i 1).isLt (i 0).isLt

omit hX in
/-- The mask, the same for every head, where the softplus is masked. -/
theorem mask19 (i : S4x16384x16384.Idx) : val_main_v19_1 (F := Ideal) i = if (i 2).val < (i 1).val then 1#1 else 0#1 :=
  (val_main_v19_1_apply i).trans (mask_entry (idx_main_v19_1 i))

omit hX in
/-- The mask, the same for every head, where the weights are masked. -/
theorem mask24 (i : S4x16384x16384.Idx) : val_main_v24_1 (F := Ideal) i = if (i 2).val < (i 1).val then 1#1 else 0#1 :=
  (val_main_v24_1_apply i).trans (mask_entry (idx_main_v24_1 i))

/-- The softplus of the negated logits. -/
theorem sp_entry0 (i : S4x16384x16384.Idx) :
    val_main_call0_v1_0 (F := Ideal) x0 i = ((sp (-(lg X (i 0).val (i 1).val (i 2).val)) : ℝ) : EReal) := by
  have hz : val_main_call0_v0 (F := Ideal) x0 i = ((-(lg X (i 0).val (i 1).val (i 2).val) : ℝ) : EReal) := by
    rw [val_main_call0_v0_apply, logit_entry x0 X hX]
    exact (EReal.coe_neg _).symm
  simp only [val_main_call0_v1_0_apply, val_main_call0_call0_v4_apply, val_main_call0_call0_v3_apply, val_main_call0_call0_v6_apply,
    val_main_call0_call0_v11_apply, val_main_call0_call0_v10_apply, val_main_call0_call0_v9_apply, val_main_call0_call0_v8_apply,
    val_main_call0_call0_v7_apply, val_main_call0_call0_v1_apply, val_main_call0_call0_v0_apply, val_main_call0_call0_v2_apply,
    val_main_call0_call0_v5_apply, val_main_call0_call0_cst_apply, hz, zero_word]
  exact softplus_coe _

/-- The softplus of the logits. -/
theorem sp_entry1 (i : S4x16384x16384.Idx) :
    val_main_call1_v1_0 (F := Ideal) x0 i = ((sp (lg X (i 0).val (i 1).val (i 2).val) : ℝ) : EReal) := by
  have hz : val_main_call1_v0 (F := Ideal) x0 i = ((lg X (i 0).val (i 1).val (i 2).val : ℝ) : EReal) := by
    rw [val_main_call1_v0_apply, val_main_v17_apply, logit_entry x0 X hX]
    exact neg_neg (_ : EReal)
  simp only [val_main_call1_v1_0_apply, val_main_call1_call0_v4_apply, val_main_call1_call0_v3_apply, val_main_call1_call0_v6_apply,
    val_main_call1_call0_v11_apply, val_main_call1_call0_v10_apply, val_main_call1_call0_v9_apply, val_main_call1_call0_v8_apply,
    val_main_call1_call0_v7_apply, val_main_call1_call0_v1_apply, val_main_call1_call0_v0_apply, val_main_call1_call0_v2_apply,
    val_main_call1_call0_v5_apply, val_main_call1_call0_cst_apply, hz, zero_word]
  exact softplus_coe _

/-- One minus beta, as the slope of the first softplus. -/
theorem slope_entry0 (i : S4x16384x16384.Idx) :
    val_main_v16_1 (F := Ideal) x0 i = ((Real.exp (-(sp (lg X (i 0).val (i 1).val (i 2).val))) : ℝ) : EReal) := by
  have hz : val_main_call0_v0 (F := Ideal) x0 i = ((-(lg X (i 0).val (i 1).val (i 2).val) : ℝ) : EReal) := by
    rw [val_main_call0_v0_apply, logit_entry x0 X hX]
    exact (EReal.coe_neg _).symm
  simp only [val_main_v16_1_apply, val_main_call0_call0_v21_apply, val_main_call0_call0_v20_apply, val_main_call0_call0_v19_apply,
    val_main_call0_call0_cst_3_apply, val_main_call0_call0_v18_apply, val_main_call0_call0_v17_apply, val_main_call0_call0_cst_2_apply,
    val_main_call0_call0_v16_apply, val_main_call0_call0_v15_apply, val_main_call0_call0_cst_1_apply, val_main_call0_call0_v14_apply,
    val_main_call0_call0_v13_apply, val_main_call0_call0_cst_0_apply, hz, sp_entry0 x0 X hX, zero_word, top_word]
  refine (slope_coe _ _).trans (congrArg (fun y : ℝ => ((Real.exp y : ℝ) : EReal)) ?_)
  rw [sp_neg]
  ring

/-- Beta, as the slope of the second softplus. -/
theorem slope_entry1 (i : S4x16384x16384.Idx) :
    val_main_v18_1 (F := Ideal) x0 i = ((Real.exp (-(sp (-(lg X (i 0).val (i 1).val (i 2).val)))) : ℝ) : EReal) := by
  have hz : val_main_call1_v0 (F := Ideal) x0 i = ((lg X (i 0).val (i 1).val (i 2).val : ℝ) : EReal) := by
    rw [val_main_call1_v0_apply, val_main_v17_apply, logit_entry x0 X hX]
    exact neg_neg (_ : EReal)
  simp only [val_main_v18_1_apply, val_main_call1_call0_v21_apply, val_main_call1_call0_v20_apply, val_main_call1_call0_v19_apply,
    val_main_call1_call0_cst_3_apply, val_main_call1_call0_v18_apply, val_main_call1_call0_v17_apply, val_main_call1_call0_cst_2_apply,
    val_main_call1_call0_v16_apply, val_main_call1_call0_v15_apply, val_main_call1_call0_cst_1_apply, val_main_call1_call0_v14_apply,
    val_main_call1_call0_v13_apply, val_main_call1_call0_cst_0_apply, hz, sp_entry1 x0 X hX, zero_word, top_word]
  refine (slope_coe _ _).trans (congrArg (fun y : ℝ => ((Real.exp y : ℝ) : EReal)) ?_)
  rw [sp_neg]
  ring

/-- The masked logarithms of one minus beta. -/
theorem lo_entry (i : S4x16384x16384.Idx) :
    val_main_v19_0 (F := Ideal) x0 i = ((lo (lg X (i 0).val (i 1).val) (i 1).val (i 2).val : ℝ) : EReal) := by
  rw [val_main_v19_0_apply, mask19, val_main_v18_0_apply, sp_entry1 x0 X hX, val_main_call2_v2_apply, val_main_call2_v0_apply,
    val_main_cst_apply, zero_word]
  exact select_coe _ _ _

/-- The sums over the keys from a key on. -/
theorem from_entry (i : S4x16384x16384.Idx) :
    val_main_v20 (F := Ideal) x0 i
      = ((∑ y ∈ Finset.Ico (i 2).val 16384, lo (lg X (i 0).val (i 1).val) (i 1).val y : ℝ) : EReal) := by
  have hi : val_main_call3_v0 (F := Ideal) (Shape.Idx.first h_S_) = (0 : EReal) := (val_main_call3_v0_apply _).trans zero_word
  have h := window_from (H := 4) (R := 16384) (N := 16384) (P := 16383) rfl (val_main_v19_0 (F := Ideal) x0)
    (fun _ : (⟨0, ![]⟩ : Shape).Idx => val_main_call3_v0 (F := Ideal) (Shape.Idx.first h_S_))
    reduceWindows_S4x16384x16384_S4x16384x16384_w1s1p0_0_w1s1p0_0_w16384s1p0_16383 (by decide) hi
    (lo (lg X (i 0).val (i 1).val) (i 1).val) (i 0) (i 1)
    (fun j => lo_entry x0 X hX (ix3 (i 0) (i 1) j)) (i 2)
  unfold val_main_v20 Host.reduceWindowAdd
  rw [Ideal.hostReduceWindowAdd_def]
  unfold Ideal.hostReduceWindowAdd
  exact (congrArg _ (eq_ix3 i)).trans h

/-- The sums over the keys after a key. -/
theorem stick_entry (i : S4x16384x16384.Idx) :
    val_main_v21 (F := Ideal) x0 i = ((stick (lg X (i 0).val (i 1).val) (i 1).val (i 2).val : ℝ) : EReal) := by
  have h2 : (i 2).val < 16384 := (i 2).isLt
  rw [val_main_v21_apply, from_entry x0 X hX, lo_entry x0 X hX, Finset.sum_eq_sum_Ico_succ_bot h2]
  refine (EReal.coe_sub _ _).symm.trans (congrArg ((↑) : ℝ → EReal) ?_)
  rw [add_sub_cancel_left]
  rfl

/-- The exponential of the logarithm of a weight, before the mask. -/
theorem exp_entry (i : S4x16384x16384.Idx) :
    val_main_v23 (F := Ideal) x0 i
      = ((Real.exp (-(sp (-(lg X (i 0).val (i 1).val (i 2).val))) + stick (lg X (i 0).val (i 1).val) (i 1).val (i 2).val) : ℝ) : EReal) := by
  rw [val_main_v23_apply, val_main_v22_apply, val_main_v16_0_apply, sp_entry0 x0 X hX, stick_entry x0 X hX]
  refine Eq.trans ?_ (Ideal.exp_coe _)
  rw [EReal.coe_add, EReal.coe_neg]
  rfl

/-- The attention weights. -/
theorem wt_entry (i : S4x16384x16384.Idx) :
    val_main_v24_0 (F := Ideal) x0 i = ((wt (lg X (i 0).val (i 1).val) (i 1).val (i 2).val : ℝ) : EReal) := by
  rw [val_main_v24_0_apply, mask24, exp_entry x0 X hX, val_main_call4_v2_apply, val_main_call4_v0_apply, val_main_cst_0_apply, zero_word]
  exact select_coe _ _ _

/-- The attention's result. -/
theorem out_entry (i : S16384x256.Idx) :
    val_main_v27 (F := Ideal) x0 i
      = ((∑ j ∈ Finset.range 16384, X j (512 + (i 1).val) * wt (lg X ((i 1).val / 64) (i 0).val) (i 0).val j : ℝ) : EReal) := by
  have h0 : (i 0).val < 16384 := (i 0).isLt
  have h1 : (i 1).val < 256 := (i 1).isLt
  rw [val_main_v27_apply, val_main_v26_apply, val_main_v25_apply]
  refine (dot_coe _ _ (fun k => X k (512 + (64 * ((((i 0).val * 256 + (i 1).val) / 64) % 4) + ((i 0).val * 256 + (i 1).val) % 64)))
    (fun k => wt (lg X ((((i 0).val * 256 + (i 1).val) / 64) % 4) (((i 0).val * 256 + (i 1).val) / 256)) (((i 0).val * 256 + (i 1).val) / 256) k)
    (fun k => v_entry x0 X hX (lidx_main_v25 (idx_main_v26 (idx_main_v27 i)) k))
    (fun k => wt_entry x0 X hX (ridx_main_v25 (idx_main_v26 (idx_main_v27 i)) k))).trans ?_
  rw [show (((i 0).val * 256 + (i 1).val) / 64) % 4 = (i 1).val / 64 by omega, show ((i 0).val * 256 + (i 1).val) / 256 = (i 0).val by omega,
    show 64 * ((i 1).val / 64) + ((i 0).val * 256 + (i 1).val) % 64 = (i 1).val by omega]

/-! ## The gradient -/

include hD

omit hX in
/-- The incoming gradient, head by head. -/
theorem do_entry (i : S4x64x16384.Idx) :
    val_main_v29 (F := Ideal) x1 i = ((D (i 2).val (64 * (i 0).val + (i 1).val) : ℝ) : EReal) := by
  have h0 : (i 0).val < 4 := (i 0).isLt
  have h1 : (i 1).val < 64 := (i 1).isLt
  have h2 : (i 2).val < 16384 := (i 2).isLt
  rw [val_main_v29_apply, val_main_v28_apply]
  refine (hD _).trans (congrArg₂ (fun a b => ((D a b : ℝ) : EReal)) ?_ ?_)
  · show (((i 2).val * 4 + (i 0).val) * 64 + (i 1).val) / 256 = (i 2).val
    omega
  · show (((i 2).val * 4 + (i 0).val) * 64 + (i 1).val) % 256 = 64 * (i 0).val + (i 1).val
    omega

/-- The incoming gradient times the values. -/
theorem gm_entry (i : S4x16384x16384.Idx) :
    val_main_v30 (F := Ideal) x0 x1 i = ((gm X D (i 0).val (i 1).val (i 2).val : ℝ) : EReal) := by
  rw [val_main_v30_apply]
  exact dot_coe _ _ (fun e => D (i 1).val (64 * (i 0).val + e)) (fun e => X (i 2).val (512 + (64 * (i 0).val + e)))
    (fun k => do_entry x1 D hD (lidx_main_v30 i k)) (fun k => v_entry x0 X hX (ridx_main_v30 i k))

/-- The gradients of the logarithms of the weights. -/
theorem gw_entry (i : S4x16384x16384.Idx) :
    val_main_v34 (F := Ideal) x0 x1 i
      = ((gw (lg X (i 0).val (i 1).val) (gm X D (i 0).val (i 1).val) (i 1).val (i 2).val : ℝ) : EReal) := by
  rw [val_main_v34_apply, val_main_v33_apply, mask24, gm_entry x0 x1 X D hX hD, exp_entry x0 X hX, val_main_call5_v0_apply,
    val_main_call5_cst_apply, zero_word, ← EReal.coe_zero, select_coe]
  refine (EReal.coe_mul _ _).symm.trans (congrArg ((↑) : ℝ → EReal) ?_)
  unfold gw wt
  by_cases h : (i 2).val < (i 1).val
  · rw [if_pos h, if_pos h]
  · rw [if_neg h, if_neg h, zero_mul, mul_zero]

/-- What the keys up to a key receive. -/
theorem upto_entry (i : S4x16384x16384.Idx) :
    val_main_v36 (F := Ideal) x0 x1 i
      = ((∑ y ∈ Finset.range ((i 2).val + 1), gw (lg X (i 0).val (i 1).val) (gm X D (i 0).val (i 1).val) (i 1).val y : ℝ) : EReal) := by
  have hi : val_main_call6_v0 (F := Ideal) (Shape.Idx.first h_S_) = (0 : EReal) := (val_main_call6_v0_apply _).trans zero_word
  have h := window_upto (H := 4) (R := 16384) (N := 16384) (P := 16383) rfl (val_main_v34 (F := Ideal) x0 x1)
    (fun _ : (⟨0, ![]⟩ : Shape).Idx => val_main_call6_v0 (F := Ideal) (Shape.Idx.first h_S_))
    reduceWindows_S4x16384x16384_S4x16384x16384_w1s1p0_0_w1s1p0_0_w16384s1p16383_0 (by decide) hi
    (gw (lg X (i 0).val (i 1).val) (gm X D (i 0).val (i 1).val) (i 1).val) (i 0) (i 1)
    (fun j => gw_entry x0 x1 X D hX hD (ix3 (i 0) (i 1) j)) (i 2)
  unfold val_main_v36 Host.reduceWindowAdd
  rw [Ideal.hostReduceWindowAdd_def]
  unfold Ideal.hostReduceWindowAdd
  exact (congrArg _ (eq_ix3 i)).trans h

/-- What the keys before a key receive, masked. -/
theorem far_entry (i : S4x16384x16384.Idx) :
    val_main_v38 (F := Ideal) x0 x1 i
      = (((if (i 2).val < (i 1).val then far (lg X (i 0).val (i 1).val) (gm X D (i 0).val (i 1).val) (i 1).val (i 2).val else 0 : ℝ)) : EReal) := by
  rw [val_main_v38_apply, mask19, val_main_v37_apply, val_main_v35_apply, gw_entry x0 x1 X D hX hD, upto_entry x0 x1 X D hX hD,
    val_main_call7_v0_apply, val_main_call7_cst_apply, zero_word, ← EReal.coe_zero, ← select_coe]
  refine congrArg (fun y => Scalar.select _ y _) ?_
  refine (congrArg (· + _) (EReal.coe_neg _).symm).trans ((EReal.coe_add _ _).symm.trans (congrArg ((↑) : ℝ → EReal) ?_))
  rw [Finset.sum_range_succ]
  unfold far
  ring

/-- The gradient of the logits. -/
theorem dx_entry (i : S4x16384x16384.Idx) :
    val_main_v42 (F := Ideal) x0 x1 i
      = ((dx (lg X (i 0).val (i 1).val) (gm X D (i 0).val (i 1).val) (i 1).val (i 2).val : ℝ) : EReal) := by
  rw [val_main_v42_apply, val_main_v40_apply, val_main_v39_apply, val_main_call8_v1_apply, val_main_call8_v0_apply, val_main_v41_apply,
    val_main_call9_v1_apply, val_main_call9_v0_apply, far_entry x0 x1 X D hX hD, gw_entry x0 x1 X D hX hD, slope_entry0 x0 X hX,
    slope_entry1 x0 X hX]
  generalize hL : lg X (i 0).val (i 1).val = L
  generalize hG : gm X D (i 0).val (i 1).val = G
  generalize (i 1).val = r
  generalize (i 2).val = j
  have e : ∀ f b g s : ℝ, (-(-(-((f : ℝ) : EReal) * (b : EReal))) : EReal) + (-(-(g : EReal) * (s : EReal))) = ((-(-(-f * b)) + -(-g * s) : ℝ) : EReal) :=
    fun f b g s => by
      simp only [EReal.coe_add, EReal.coe_neg, EReal.coe_mul]
  refine (e _ _ _ _).trans (congrArg ((↑) : ℝ → EReal) ?_)
  unfold dx
  by_cases h : j < r
  · rw [if_pos h, if_pos h, sigmoids]
    simp only [neg_neg]
    ring
  · have hg : gw L G r j = 0 := by unfold gw wt; rw [if_neg h, mul_zero]
    rw [if_neg h, if_neg h, hg]
    ring

/-- The gradient of the queries. -/
theorem dq_entry (i : S16384x256.Idx) :
    val_main_v49 (F := Ideal) x0 x1 i
      = ((∑ j ∈ Finset.range 16384, dx (lg X ((i 1).val / 64) (i 0).val) (gm X D ((i 1).val / 64) (i 0).val) (i 0).val j
          * X j (256 + (i 1).val) : ℝ) : EReal) := by
  have h0 : (i 0).val < 16384 := (i 0).isLt
  have h1 : (i 1).val < 256 := (i 1).isLt
  rw [val_main_v49_apply, val_main_v46_apply, val_main_v45_apply]
  refine (dot_coe _ _
    (fun k => dx (lg X ((((i 0).val * 256 + (i 1).val) / 64) % 4) (((i 0).val * 256 + (i 1).val) / 256))
      (gm X D ((((i 0).val * 256 + (i 1).val) / 64) % 4) (((i 0).val * 256 + (i 1).val) / 256)) (((i 0).val * 256 + (i 1).val) / 256) k)
    (fun k => X k (256 + (64 * ((((i 0).val * 256 + (i 1).val) / 64) % 4) + ((i 0).val * 256 + (i 1).val) % 64)))
    (fun k => dx_entry x0 x1 X D hX hD (lidx_main_v45 (idx_main_v46 (idx_main_v49 i)) k))
    (fun k => k_entry x0 X hX (ridx_main_v45 (idx_main_v46 (idx_main_v49 i)) k))).trans ?_
  rw [show (((i 0).val * 256 + (i 1).val) / 64) % 4 = (i 1).val / 64 by omega, show ((i 0).val * 256 + (i 1).val) / 256 = (i 0).val by omega,
    show 64 * ((i 1).val / 64) + ((i 0).val * 256 + (i 1).val) % 64 = (i 1).val by omega]

/-- The gradient of the keys. -/
theorem dk_entry (i : S16384x256.Idx) :
    val_main_v48 (F := Ideal) x0 x1 i
      = ((∑ r ∈ Finset.range 16384, dx (lg X ((i 1).val / 64) r) (gm X D ((i 1).val / 64) r) r (i 0).val * X r (i 1).val : ℝ) : EReal) := by
  have h0 : (i 0).val < 16384 := (i 0).isLt
  have h1 : (i 1).val < 256 := (i 1).isLt
  rw [val_main_v48_apply, val_main_v44_apply, val_main_v43_apply]
  refine (dot_coe _ _
    (fun k => dx (lg X ((((i 0).val * 256 + (i 1).val) / 64) % 4) k)
      (gm X D ((((i 0).val * 256 + (i 1).val) / 64) % 4) k) k (((i 0).val * 256 + (i 1).val) / 256))
    (fun k => X k (64 * ((((i 0).val * 256 + (i 1).val) / 64) % 4) + ((i 0).val * 256 + (i 1).val) % 64))
    (fun k => dx_entry x0 x1 X D hX hD (lidx_main_v43 (idx_main_v44 (idx_main_v48 i)) k))
    (fun k => q_entry x0 X hX (ridx_main_v43 (idx_main_v44 (idx_main_v48 i)) k))).trans ?_
  rw [show (((i 0).val * 256 + (i 1).val) / 64) % 4 = (i 1).val / 64 by omega, show ((i 0).val * 256 + (i 1).val) / 256 = (i 0).val by omega,
    show 64 * ((i 1).val / 64) + ((i 0).val * 256 + (i 1).val) % 64 = (i 1).val by omega]

/-- The gradient of the values. -/
theorem dv_entry (i : S16384x256.Idx) :
    val_main_v47 (F := Ideal) x0 x1 i
      = ((∑ r ∈ Finset.range 16384, D r (i 1).val * wt (lg X ((i 1).val / 64) r) r (i 0).val : ℝ) : EReal) := by
  have h0 : (i 0).val < 16384 := (i 0).isLt
  have h1 : (i 1).val < 256 := (i 1).isLt
  rw [val_main_v47_apply, val_main_v32_apply, val_main_v31_apply]
  refine (dot_coe _ _
    (fun k => D k (64 * ((((i 0).val * 256 + (i 1).val) / 64) % 4) + ((i 0).val * 256 + (i 1).val) % 64))
    (fun k => wt (lg X ((((i 0).val * 256 + (i 1).val) / 64) % 4) k) k (((i 0).val * 256 + (i 1).val) / 256))
    (fun k => do_entry x1 D hD (lidx_main_v31 (idx_main_v32 (idx_main_v47 i)) k))
    (fun k => wt_entry x0 X hX (ridx_main_v31 (idx_main_v32 (idx_main_v47 i)) k))).trans ?_
  rw [show (((i 0).val * 256 + (i 1).val) / 64) % 4 = (i 1).val / 64 by omega, show ((i 0).val * 256 + (i 1).val) / 256 = (i 0).val by omega,
    show 64 * ((i 1).val / 64) + ((i 0).val * 256 + (i 1).val) % 64 = (i 1).val by omega]

end

end Cert.Proof.Attn

end
-- ==== Proof.Attn.Block.lean ====
/-
  The blocks of one invocation, over the reals: where the query, key, value, gradient and output blocks hold real numbers, what the
  loop works on is a pair of heads' rows of logits and of gradients, each head on its half of the 128 lanes.
-/
module

public import proofs.«01_k».proof.Proof.Attn.Walk
public import proofs.«01_k».proof.Proof.Attn.Ref
public import Idealize.ShloMosaic.Lib.Pipeline.ValueKit.Tiles

@[expose] public section

set_option maxRecDepth 16384

noncomputable section

namespace Cert.Proof.Attn

open Cert.KernelIdeal Cert.KernelIdeal.Gen

open Idealize.ShloMosaic

/-- Tile `n` of a block of keys starts at row `256 n`. -/
theorem off_tile (n : ℕ) (hn : n < 64) : k0_off1 (tileWord (n + 1)) 0 = 256 * n ∧ k0_off1 (tileWord (n + 1)) 1 = 0 := by
  have h : ∀ j : Fin 64, k0_off1 (tileWord (j.val + 1)) 0 = 256 * j.val ∧ k0_off1 (tileWord (j.val + 1)) 1 = 0 := by decide +kernel
  exact h ⟨n, hn⟩

/-- Row `b` of tile `n` is row `256 n + b` of the block. -/
theorem tileV_apply {F : FTy → Type} [FloatOps F] [Named F] {e : EltTy} (x : Vec F S16384x128 e) (n : ℕ) (hn : n < 64) (b : Fin 256) (l : Fin 128)
    (r : Fin 16384) (hr : r.val = 256 * n + b.val) : tileV x n (ix2 b l) = x (ix2 r l) := by
  obtain ⟨h0, h1⟩ := off_tile n hn
  unfold tileV
  refine View.ld_unit_apply_of x _ _ _ _ (ix2 r l) fun a => ?_
  match a with
  | ⟨0, _⟩ =>
    show r.val = k0_off1 (tileWord (n % 64 + 1)) 0 + b.val
    rw [Nat.mod_eq_of_lt hn, h0]
    omega
  | ⟨1, _⟩ =>
    show l.val = k0_off1 (tileWord (n % 64 + 1)) 1 + l.val
    rw [Nat.mod_eq_of_lt hn, h1]
    omega

/-- The lanes of the first head. -/
theorem lane_first (l : Fin 128) : k0_pay9 (ix2 0 l) = if l.val < 64 then 1#1 else 0#1 := by
  pointwise [k0_pay9, k0_pay8]
  revert l
  decide +kernel

/-- The lanes of the second head. -/
theorem lane_second (l : Fin 128) : k0_pay15 k0_pay8 (ix2 0 l) = if l.val < 64 then 0#1 else 1#1 := by
  pointwise [k0_pay15, k0_pay8]
  revert l
  decide +kernel

/-- The zero that a masked lane holds. -/
theorem zero_lane : (((0#32).toInt : ℝ) : EReal) = ((0 : ℝ) : EReal) := by simp

/-- A lane of the first head's masked block. -/
theorem masked_first (l : Fin 128) (x : ℝ) (z : EReal) (hz : z = ((0 : ℝ) : EReal)) :
    Scalar.select (k0_pay9 (ix2 0 l)) (x : EReal) z = ((if l.val < 64 then x else 0 : ℝ) : EReal) := by
  rw [lane_first, hz, select_coe]

/-- A lane of the second head's masked block. -/
theorem masked_second (l : Fin 128) (x : ℝ) (z : EReal) (hz : z = ((0 : ℝ) : EReal)) :
    Scalar.select (k0_pay15 k0_pay8 (ix2 0 l)) (x : EReal) z = ((if l.val < 64 then 0 else x : ℝ) : EReal) := by
  rw [lane_second, hz]
  by_cases h : l.val < 64
  · rw [if_pos h, if_pos h]; rfl
  · rw [if_neg h, if_neg h]; rfl

/-- The sum over the lanes of the first head. -/
theorem sum_first (f g : ℕ → ℝ) :
    ∑ x ∈ Finset.range 128, (if x < 64 then f x else 0) * g x = ∑ x ∈ Finset.range 64, f x * g x := by
  rw [show (128 : ℕ) = 64 + 64 from rfl, Finset.sum_range_add,
    Finset.sum_eq_zero (f := fun x => (if 64 + x < 64 then f (64 + x) else 0) * g (64 + x)) fun x _ => by rw [if_neg (by omega), zero_mul], add_zero]
  exact Finset.sum_congr rfl fun x hx => by rw [if_pos (Finset.mem_range.mp hx)]

/-- The sum over the lanes of the second head. -/
theorem sum_second (f g : ℕ → ℝ) :
    ∑ x ∈ Finset.range 128, (if x < 64 then 0 else f x) * g x = ∑ x ∈ Finset.range 64, f (64 + x) * g (64 + x) := by
  rw [show (128 : ℕ) = 64 + 64 from rfl, Finset.sum_range_add,
    Finset.sum_eq_zero (s := Finset.range 64) (f := fun x => (if x < 64 then 0 else f x) * g x)
      fun x hx => by rw [if_pos (Finset.mem_range.mp hx), zero_mul], zero_add]
  exact Finset.sum_congr rfl fun x hx => by rw [if_neg (by omega)]

/-- The attention's result over the reals. -/
def outR (X : ℕ → ℕ → ℝ) (r c : ℕ) : ℝ := ∑ j ∈ Finset.range 16384, X j (512 + c) * wt (lg X (c / 64) r) r j

/-- The incoming gradient times the attention's result, over a head, is the sum of the gradients of the logarithms of the weights. -/
theorem total_of (X D : ℕ → ℕ → ℝ) (h r : ℕ) :
    ∑ e ∈ Finset.range 64, D r (64 * h + e) * outR X r (64 * h + e)
      = ∑ j ∈ Finset.range 16384, gw (lg X h r) (gm X D h r) r j := by
  have e1 : ∀ e ∈ Finset.range 64, D r (64 * h + e) * outR X r (64 * h + e)
      = ∑ j ∈ Finset.range 16384, D r (64 * h + e) * X j (512 + (64 * h + e)) * wt (lg X h r) r j := fun e he => by
    have he' := Finset.mem_range.mp he
    unfold outR
    rw [show (64 * h + e) / 64 = h by omega, Finset.mul_sum]
    exact Finset.sum_congr rfl fun j _ => by ring
  rw [Finset.sum_congr rfl e1, Finset.sum_comm]
  refine Finset.sum_congr rfl fun j _ => ?_
  unfold gw gm
  rw [Finset.sum_mul]

section

variable (X D : ℕ → ℕ → ℝ) (p qi : ℕ) (x0 : Vec Ideal S256x128 .bf16) (x1 x2 : Vec Ideal S16384x128 .bf16)
  (x3 x4 : Vec Ideal S256x128 .f32) (x5 x6 : Vec Ideal S256x256 .bf16)

/-- The blocks of query tile `qi` of the pair of heads `p`. -/
structure Blocks : Prop where
  hq : qi < 64
  b0 : ∀ (a : Fin 256) (l : Fin 128), x0 (ix2 a l) = ((X (256 * qi + a.val) (128 * p + l.val) : ℝ) : EReal)
  b1 : ∀ (r : Fin 16384) (l : Fin 128), x1 (ix2 r l) = ((X r.val (256 + (128 * p + l.val)) : ℝ) : EReal)
  b2 : ∀ (r : Fin 16384) (l : Fin 128), x2 (ix2 r l) = ((X r.val (512 + (128 * p + l.val)) : ℝ) : EReal)
  b3 : ∀ (a : Fin 256) (l : Fin 128), x3 (ix2 a l) = ((D (256 * qi + a.val) (128 * p + l.val) : ℝ) : EReal)
  b4 : ∀ (a : Fin 256) (l : Fin 128), x4 (ix2 a l) = ((outR X (256 * qi + a.val) (128 * p + l.val) : ℝ) : EReal)
  b5 : UpIs x5
  b6 : UeIs x6

variable {X D p qi x0 x1 x2 x3 x4 x5 x6}

/-- A tile's keys. -/
theorem Blocks.key (B : Blocks X D p qi x0 x1 x2 x3 x4 x5 x6) (n : ℕ) (hn : n < 64) (b : Fin 256) (l : Fin 128) :
    tileV x1 n (ix2 b l) = ((X (256 * n + b.val) (256 + (128 * p + l.val)) : ℝ) : EReal) := by
  have hb := b.isLt
  rw [tileV_apply x1 n hn b l ⟨256 * n + b.val, by omega⟩ rfl, B.b1]

/-- A tile's values. -/
theorem Blocks.val (B : Blocks X D p qi x0 x1 x2 x3 x4 x5 x6) (n : ℕ) (hn : n < 64) (b : Fin 256) (l : Fin 128) :
    tileV x2 n (ix2 b l) = ((X (256 * n + b.val) (512 + (128 * p + l.val)) : ℝ) : EReal) := by
  have hb := b.isLt
  rw [tileV_apply x2 n hn b l ⟨256 * n + b.val, by omega⟩ rfl, B.b2]

/-- The first head's query block. -/
theorem Blocks.q0 (B : Blocks X D p qi x0 x1 x2 x3 x4 x5 x6) (a : Fin 256) (l : Fin 128) :
    k0_pay13 x0 k0_pay9 (ix2 a l) = ((if l.val < 64 then X (256 * qi + a.val) (128 * p + l.val) else 0 : ℝ) : EReal) := by
  have e : k0_pay13 x0 k0_pay9 (ix2 a l) = Scalar.select (k0_pay9 (ix2 0 l)) (x0 (ix2 a l)) (((0#32).toInt : ℝ) : EReal) := by
    pointwise [k0_pay13]
  rw [e, B.b0]
  exact masked_first l _ _ zero_lane

/-- The second head's query block. -/
theorem Blocks.q1 (B : Blocks X D p qi x0 x1 x2 x3 x4 x5 x6) (a : Fin 256) (l : Fin 128) :
    k0_pay17 x0 k0_pay8 (ix2 a l) = ((if l.val < 64 then 0 else X (256 * qi + a.val) (128 * p + l.val) : ℝ) : EReal) := by
  have e : k0_pay17 x0 k0_pay8 (ix2 a l) = Scalar.select (k0_pay15 k0_pay8 (ix2 0 l)) (x0 (ix2 a l)) (((0#32).toInt : ℝ) : EReal) := by
    pointwise [k0_pay17]
  rw [e, B.b0]
  exact masked_second l _ _ zero_lane

/-- The first head's gradient block. -/
theorem Blocks.d0 (B : Blocks X D p qi x0 x1 x2 x3 x4 x5 x6) (a : Fin 256) (l : Fin 128) :
    k0_pay14 (k0_pay6 x3) k0_pay9 (ix2 a l) = ((if l.val < 64 then D (256 * qi + a.val) (128 * p + l.val) else 0 : ℝ) : EReal) := by
  have e : k0_pay14 (k0_pay6 x3) k0_pay9 (ix2 a l) = Scalar.select (k0_pay9 (ix2 0 l)) (x3 (ix2 a l)) (((0#32).toInt : ℝ) : EReal) := by
    pointwise [k0_pay14, k0_pay6]
  rw [e, B.b3]
  exact masked_first l _ _ zero_lane

/-- The second head's gradient block. -/
theorem Blocks.d1 (B : Blocks X D p qi x0 x1 x2 x3 x4 x5 x6) (a : Fin 256) (l : Fin 128) :
    k0_pay18 (k0_pay6 x3) k0_pay8 (ix2 a l) = ((if l.val < 64 then 0 else D (256 * qi + a.val) (128 * p + l.val) : ℝ) : EReal) := by
  have e : k0_pay18 (k0_pay6 x3) k0_pay8 (ix2 a l) = Scalar.select (k0_pay15 k0_pay8 (ix2 0 l)) (x3 (ix2 a l)) (((0#32).toInt : ℝ) : EReal) := by
    pointwise [k0_pay18, k0_pay6]
  rw [e, B.b3]
  exact masked_second l _ _ zero_lane

/-- The first head's row sums of the incoming gradient times the result. -/
theorem Blocks.t0 (B : Blocks X D p qi x0 x1 x2 x3 x4 x5 x6) :
    GwTotals (lg X (2 * p)) (gm X D (2 * p)) qi (k0_pay12 (k0_pay7 x3 x4) k0_pay10 k0_pay11) := fun a => by
  have e : k0_pay12 (k0_pay7 x3 x4) k0_pay10 k0_pay11 (ix2 a 0)
      = ∑ x : Fin 128, Scalar.select (k0_pay9 (ix2 0 x)) (x3 (ix2 a x) * x4 (ix2 a x)) 0 := by
    pointwise [k0_pay12, k0_pay7, k0_pay6, k0_pay10, k0_pay11]
  rw [e]
  have e2 : ∀ x : Fin 128, Scalar.select (k0_pay9 (ix2 0 x)) (x3 (ix2 a x) * x4 (ix2 a x)) 0
      = (((if x.val < 64 then D (256 * qi + a.val) (128 * p + x.val) else 0) * outR X (256 * qi + a.val) (128 * p + x.val) : ℝ) : EReal) := fun x => by
    rw [B.b3, B.b4, ← EReal.coe_mul]
    refine (masked_first x _ _ EReal.coe_zero.symm).trans ?_
    by_cases h : x.val < 64
    · rw [if_pos h, if_pos h]
    · rw [if_neg h, if_neg h, zero_mul]
  rw [Finset.sum_congr rfl fun x _ => e2 x, ← coe_sum,
    Fin.sum_univ_eq_sum_range (fun x => (if x < 64 then D (256 * qi + a.val) (128 * p + x) else 0) * outR X (256 * qi + a.val) (128 * p + x)) 128,
    sum_first (fun x => D (256 * qi + a.val) (128 * p + x)) (fun x => outR X (256 * qi + a.val) (128 * p + x)), ← total_of X D (2 * p)]
  rw [show 64 * (2 * p) = 128 * p by ring]

/-- The second head's row sums of the incoming gradient times the result. -/
theorem Blocks.t1 (B : Blocks X D p qi x0 x1 x2 x3 x4 x5 x6) :
    GwTotals (lg X (2 * p + 1)) (gm X D (2 * p + 1)) qi (k0_pay16 (k0_pay7 x3 x4) k0_pay8) := fun a => by
  have e : k0_pay16 (k0_pay7 x3 x4) k0_pay8 (ix2 a 0)
      = ∑ x : Fin 128, Scalar.select (k0_pay15 k0_pay8 (ix2 0 x)) (x3 (ix2 a x) * x4 (ix2 a x)) 0 := by
    pointwise [k0_pay16, k0_pay7, k0_pay6]
  rw [e]
  have e2 : ∀ x : Fin 128, Scalar.select (k0_pay15 k0_pay8 (ix2 0 x)) (x3 (ix2 a x) * x4 (ix2 a x)) 0
      = (((if x.val < 64 then 0 else D (256 * qi + a.val) (128 * p + x.val)) * outR X (256 * qi + a.val) (128 * p + x.val) : ℝ) : EReal) := fun x => by
    rw [B.b3, B.b4, ← EReal.coe_mul]
    refine (masked_second x _ _ EReal.coe_zero.symm).trans ?_
    by_cases h : x.val < 64
    · rw [if_pos h, if_pos h, zero_mul]
    · rw [if_neg h, if_neg h]
  rw [Finset.sum_congr rfl fun x _ => e2 x, ← coe_sum,
    Fin.sum_univ_eq_sum_range (fun x => (if x < 64 then 0 else D (256 * qi + a.val) (128 * p + x)) * outR X (256 * qi + a.val) (128 * p + x)) 128,
    sum_second (fun x => D (256 * qi + a.val) (128 * p + x)) (fun x => outR X (256 * qi + a.val) (128 * p + x)), ← total_of X D (2 * p + 1)]
  rw [show 64 * (2 * p + 1) = 128 * p + 64 by ring]
  exact congrArg ((↑) : ℝ → EReal) (Finset.sum_congr rfl fun x _ => by rw [add_assoc])

/-- Lane sums of the first head's block with a tile's keys or values. -/
theorem lanes_first (u v : ℕ → ℕ → ℝ) (o : ℕ) (q : Vec Ideal S256x128 .bf16) (kt : Vec Ideal S256x128 .bf16) (n : ℕ)
    (hqv : ∀ (a : Fin 256) (l : Fin 128), q (ix2 a l) = ((if l.val < 64 then u (256 * qi + a.val) (128 * p + l.val) else 0 : ℝ) : EReal))
    (hk : ∀ (b : Fin 256) (l : Fin 128), kt (ix2 b l) = ((v (256 * n + b.val) (o + (128 * p + l.val)) : ℝ) : EReal)) (a b : Fin 256) :
    ∑ x : Fin 128, q (ix2 a x) * kt (ix2 b x)
      = ((∑ e ∈ Finset.range 64, u (256 * qi + a.val) (64 * (2 * p) + e) * v (256 * n + b.val) (o + (64 * (2 * p) + e)) : ℝ) : EReal) := by
  rw [dot_coe _ _ (fun x => if x < 64 then u (256 * qi + a.val) (128 * p + x) else 0) (fun x => v (256 * n + b.val) (o + (128 * p + x))) (hqv a) (hk b),
    sum_first (fun x => u (256 * qi + a.val) (128 * p + x)) (fun x => v (256 * n + b.val) (o + (128 * p + x))), show 64 * (2 * p) = 128 * p by ring]

/-- Lane sums of the second head's block with a tile's keys or values. -/
theorem lanes_second (u v : ℕ → ℕ → ℝ) (o : ℕ) (q : Vec Ideal S256x128 .bf16) (kt : Vec Ideal S256x128 .bf16) (n : ℕ)
    (hqv : ∀ (a : Fin 256) (l : Fin 128), q (ix2 a l) = ((if l.val < 64 then 0 else u (256 * qi + a.val) (128 * p + l.val) : ℝ) : EReal))
    (hk : ∀ (b : Fin 256) (l : Fin 128), kt (ix2 b l) = ((v (256 * n + b.val) (o + (128 * p + l.val)) : ℝ) : EReal)) (a b : Fin 256) :
    ∑ x : Fin 128, q (ix2 a x) * kt (ix2 b x)
      = ((∑ e ∈ Finset.range 64, u (256 * qi + a.val) (64 * (2 * p + 1) + e) * v (256 * n + b.val) (o + (64 * (2 * p + 1) + e)) : ℝ) : EReal) := by
  rw [dot_coe _ _ (fun x => if x < 64 then 0 else u (256 * qi + a.val) (128 * p + x)) (fun x => v (256 * n + b.val) (o + (128 * p + x))) (hqv a) (hk b),
    sum_second (fun x => u (256 * qi + a.val) (128 * p + x)) (fun x => v (256 * n + b.val) (o + (128 * p + x))), show 64 * (2 * p + 1) = 128 * p + 64 by ring]
  exact congrArg ((↑) : ℝ → EReal) (Finset.sum_congr rfl fun x _ => by rw [add_assoc])

/-- What the loop works on. -/
theorem Blocks.env (B : Blocks X D p qi x0 x1 x2 x3 x4 x5 x6) :
    RealEnv (lg X (2 * p)) (gm X D (2 * p)) (lg X (2 * p + 1)) (gm X D (2 * p + 1)) (fun r l => X r (256 + (128 * p + l))) qi
      (envOfBlocks (BitVec.ofNat 32 qi) x0 x3 x4 x5 x6) (tileV x1) (tileV x2) where
  hq := B.hq
  ha := rfl
  key := fun n hn b l => B.key n hn b l
  logit0 := fun n hn a b => lanes_first X X 256 _ _ n (fun a l => B.q0 a l) (B.key n hn) a b
  logit1 := fun n hn a b => lanes_second X X 256 _ _ n (fun a l => B.q1 a l) (B.key n hn) a b
  grad0 := fun n hn a b => lanes_first D X 512 _ _ n (fun a l => B.d0 a l) (B.val n hn) a b
  grad1 := fun n hn a b => lanes_second D X 512 _ _ n (fun a l => B.d1 a l) (B.val n hn) a b
  total0 := B.t0
  total1 := B.t1
  up := B.b5
  ue := B.b6
  lane0 := lane_first
  lane1 := lane_second

/-- The block of the query gradient. -/
theorem Blocks.dq (B : Blocks X D p qi x0 x1 x2 x3 x4 x5 x6) (a : Fin 256) (l : Fin 128) :
    dqOf qi x0 x1 x2 x3 x4 x5 x6 (ix2 a l)
      = ((∑ j ∈ Finset.range 16384, dx (lg X ((128 * p + l.val) / 64) (256 * qi + a.val)) (gm X D ((128 * p + l.val) / 64) (256 * qi + a.val))
          (256 * qi + a.val) j * X j (256 + (128 * p + l.val)) : ℝ) : EReal) := by
  have hq := B.hq
  have hl := l.isLt
  have I := Inv.walk B.env (qi + 1) (by omega) _ (Inv.start (L0 := lg X (2 * p)) (G0 := gm X D (2 * p)) (L1 := lg X (2 * p + 1))
    (G1 := gm X D (2 * p + 1)) (K := fun r l => X r (256 + (128 * p + l))) B.hq)
  refine (I.dq a l).trans (congrArg ((↑) : ℝ → EReal) ?_)
  rw [Nat.mul_zero, ← Finset.range_eq_Ico]
  refine Finset.sum_congr rfl fun j _ => congrArg (· * X j (256 + (128 * p + l.val))) ?_
  unfold dxL
  by_cases h : l.val < 64
  · rw [show (128 * p + l.val) / 64 = 2 * p by omega]
    simp [h]
  · rw [show (128 * p + l.val) / 64 = 2 * p + 1 by omega]
    simp [h]

end

end Cert.Proof.Attn

end
-- ==== Proof.Attn.Host.lean ====
/-
  What the host prepares for the attention gradient: the attention's result, which is the reference's forward value, and the two
  triangles of zeros and ones.
-/
module

public import proofs.«01_k».proof.Proof.Attn.Block
public import Idealize.ShloMosaic.Lib.StableHlo.RunRead

@[expose] public section

set_option maxRecDepth 16384

noncomputable section

namespace Cert.Proof.Attn

open Cert.KernelIdeal Cert.KernelIdeal.Gen

open Idealize.ShloMosaic Idealize.ShloMosaic.TcCoe Idealize.ShloMosaic.StableHlo Idealize.SL.Sem

/-- A bit read as a number. -/
theorem bit_coe (p : Prop) [Decidable p] : FloatOps.uitofp (F := Ideal) FTy.bf16 (BitVec.ofBool (decide p)) = ((if p then 1 else 0 : ℝ) : EReal) := by
  change ((((BitVec.ofBool (decide p)).toNat : ℝ)) : EReal) = _
  by_cases h : p <;> simp [h]

/-- A small number's word, read signed. -/
theorem small_word : ∀ x : Fin 256, (BitVec.ofNat 32 x.val).toInt = (x.val : ℤ) := by
  decide +kernel

/-- A small number's word less one, read signed. -/
theorem pred_word : ∀ x : Fin 256, (BitVec.ofNat 32 x.val + 4294967295#32).toInt = (x.val : ℤ) - 1 := by
  decide +kernel

/-- The triangle above the diagonal, as the host computes it. -/
theorem tri_upper (x b : Fin 256) : uitofp (F := Ideal) FTy.bf16
      (cmpi CmpIPredicate.sge
        (addi (iotaInDim S256x256 32 0) (broadcastInDim S256x256 ![] bcast_S_S256x256 (constantI S_ 32 4294967295#32)))
        (iotaInDim S256x256 32 1))
      (ix2 x b) = ((if b < x then 1 else 0 : ℝ) : EReal) := by
  pointwise []
  change FloatOps.uitofp (F := Ideal) FTy.bf16 (BitVec.ofBool (decide ((BitVec.ofNat 32 b.val).toInt ≤ (BitVec.ofNat 32 x.val + 4294967295#32).toInt))) = _
  rw [bit_coe, pred_word, small_word b]
  simp only [show ((b.val : ℤ) ≤ (x.val : ℤ) - 1) ↔ b < x from by rw [Fin.lt_def]; omega]

/-- The triangle with its diagonal, as the host computes it. -/
theorem tri_upper_eq (x b : Fin 256) : uitofp (F := Ideal) FTy.bf16
      (cmpi CmpIPredicate.sge
        (addi (iotaInDim S256x256 32 0) (broadcastInDim S256x256 ![] bcast_S_S256x256 (constantI S_ 32 0#32)))
        (iotaInDim S256x256 32 1))
      (ix2 x b) = ((if b ≤ x then 1 else 0 : ℝ) : EReal) := by
  pointwise []
  change FloatOps.uitofp (F := Ideal) FTy.bf16 (BitVec.ofBool (decide ((BitVec.ofNat 32 b.val).toInt ≤ (BitVec.ofNat 32 x.val + 0#32).toInt))) = _
  rw [bit_coe, BitVec.add_zero, small_word b, small_word x]
  simp only [show ((b.val : ℤ) ≤ (x.val : ℤ)) ↔ b ≤ x from by rw [Fin.le_def]; omega]

variable (m : (ℓ : Loc nD τ sig) → Buf (Elt Ideal) ℓ)

set_option maxHeartbeats 4000000 in
/-- The triangle above the diagonal, as the host computes it. -/
theorem V_upper (c : Dev nD) (x b : Fin 256) :
    (V m c main_v33 : Vec Ideal S256x256 .bf16) (ix2 x b) = ((if b < x then 1 else 0 : ℝ) : EReal) := by
  delta V hostLists hostOps0 hostOps0_1 hostOps0_2 hostOps0_3 hostOps0_4 hostOps0_5 hostOps0_6 hostOps0_7 hostOps0_8 hostOps0_9
  simp only [List.flatten_cons, List.flatten_nil, List.append_nil, List.cons_append, List.nil_append,
    TRef.binary, TRef.nullary, TRef.ternary, TRef.unary, TRef.toBuf, TRef.ofBuf, cast_eq]
  after_reads_simp
  exact tri_upper x b

set_option maxHeartbeats 4000000 in
/-- The triangle with its diagonal, as the host computes it. -/
theorem V_upper_eq (c : Dev nD) (x b : Fin 256) :
    (V m c main_v39 : Vec Ideal S256x256 .bf16) (ix2 x b) = ((if b ≤ x then 1 else 0 : ℝ) : EReal) := by
  delta V hostLists hostOps0 hostOps0_1 hostOps0_2 hostOps0_3 hostOps0_4 hostOps0_5 hostOps0_6 hostOps0_7 hostOps0_8 hostOps0_9
  simp only [List.flatten_cons, List.flatten_nil, List.append_nil, List.cons_append, List.nil_append,
    TRef.binary, TRef.nullary, TRef.ternary, TRef.unary, TRef.toBuf, TRef.ofBuf, cast_eq]
  after_reads_simp
  exact tri_upper_eq x b

set_option maxHeartbeats 4000000 in
/-- The attention's result, as the host computes it. -/
theorem V_out (c : Dev nD) :
    (V m c main_v27 : Vec Ideal S16384x256 .f32) = Cert.ReferenceIdeal.Read.val_main_v27 (F := Ideal) (m ((c : Thread nD τ).loc main_arg0)) := by
  delta V hostLists hostOps0 hostOps0_1 hostOps0_2 hostOps0_3 hostOps0_4 hostOps0_5 hostOps0_6 hostOps0_7 hostOps0_8 hostOps0_9
  simp only [List.flatten_cons, List.flatten_nil, List.append_nil, List.cons_append, List.nil_append,
    TRef.binary, TRef.nullary, TRef.ternary, TRef.unary, TRef.toBuf, TRef.ofBuf, cast_eq]
  after_reads_simp
  rfl

end Cert.Proof.Attn

end
-- ==== Proof.Attn.Keys.lean ====
/-
  The two accumulators of the attention gradient's loop over the reals: a tile's trip adds to a tile of rows the query tile's
  terms, so that after the loop every row has received them.
-/
module

public import proofs.«01_k».proof.Proof.Attn.Block
public import proofs.«01_k».proof.Proof.Attn.Acc
public import Idealize.ShloMosaic.Lib.Pointwise
public import Idealize.ShloMosaic.Lib.IdealHost

@[expose] public section

set_option maxRecDepth 16384

noncomputable section

namespace Cert.Proof.Attn

open Cert.KernelIdeal Cert.KernelIdeal.Gen

open Idealize.ShloMosaic

/-- The attention weight in the head of lane `l` of a head pair. -/
def wtL (L0 L1 : ℕ → ℕ → ℝ) (l i j : ℕ) : ℝ := if l < 64 then wt (L0 i) i j else wt (L1 i) i j

/-- An accumulator's tile overwritten, over the reals. -/
theorem setTile_coe (x : Vec Ideal S16384x128 .f32) (n : ℕ) (v : Vec Ideal S256x128 .f32) (Z S : ℕ → ℕ → ℝ)
    (hx : ∀ (k : Fin 16384) (l : Fin 128), x (ix2 k l) = ((Z k.val l.val : ℝ) : EReal))
    (hv : ∀ (b : Fin 256) (l : Fin 128), v (ix2 b l) = ((Z (256 * n + b.val) l.val + S (256 * n + b.val) l.val : ℝ) : EReal)) (k : Fin 16384) (l : Fin 128) :
    setTile x n v (ix2 k l) = ((Z k.val l.val + (if 256 * n ≤ k.val ∧ k.val < 256 * n + 256 then S k.val l.val else 0) : ℝ) : EReal) := by
  unfold setTile
  by_cases h : 256 * n ≤ k.val ∧ k.val < 256 * n + 256
  · rw [if_pos h]
    refine (dif_pos h).trans ((hv ⟨k.val - 256 * n, by omega⟩ l).trans ?_)
    rw [show 256 * n + (k.val - 256 * n) = k.val by omega]
  · rw [if_neg h, add_zero]
    exact (dif_neg h).trans (hx k l)

section

variable {L0 G0 L1 G1 K : ℕ → ℕ → ℝ} {qi : ℕ} {e : Env Ideal} {kt vt : ℕ → Vec Ideal S256x128 .bf16}

/-- One trip adds the query tile's terms to the key gradient's tile. -/
theorem tripK_coe (H : RealEnv L0 G0 L1 G1 K qi e kt vt) (Q : ℕ → ℕ → ℝ)
    (hq0 : ∀ (a : Fin 256) (l : Fin 128), e.q0 (ix2 a l) = ((if l.val < 64 then Q (256 * qi + a.val) l.val else 0 : ℝ) : EReal))
    (hq1 : ∀ (a : Fin 256) (l : Fin 128), e.q1 (ix2 a l) = ((if l.val < 64 then 0 else Q (256 * qi + a.val) l.val : ℝ) : EReal))
    (n : ℕ) (hn : n < 64) (r : Carry Ideal) (I : Inv L0 G0 L1 G1 K qi (n + 1) r) (old : Vec Ideal S256x128 .f32) (o : ℝ) (b : Fin 256) (l : Fin 128)
    (ho : old (ix2 b l) = (o : EReal)) :
    e.tripK (tileWord (n + 1)) (kt n) (vt n) r old (ix2 b l)
      = ((o + ∑ a : Fin 256, dxL L0 G0 L1 G1 l.val (256 * qi + a.val) (256 * n + b.val) * Q (256 * qi + a.val) l.val : ℝ) : EReal) := by
  have hm : MaskIs qi n (k0_pay21 (tileWord (n + 1)) e.a) := by rw [H.ha]; exact mask_is qi n H.hq hn
  have hw : ∀ a b : Fin 256, e.w1 (tileWord (n + 1)) (kt n) r (ix2 a b) = ((wt (L1 (256 * qi + a.val)) (256 * qi + a.val) (256 * n + b.val) : ℝ) : EReal) :=
    pay43_coe hn (H.logit1 n hn) hm I.c1 H.up
  have e0 : e.tripK (tileWord (n + 1)) (kt n) (vt n) r old (ix2 b l)
      = old (ix2 b l)
        + (∑ a : Fin 256, k0_pay33 e.d0 e.t0 r.2.2.2.1 r.2.2.2.2.2.1 (vt n) (k0_pay21 (tileWord (n + 1)) e.a) (k0_pay26 e.q0 (kt n)) (k0_pay29 e.q0 (tileWord (n + 1)) e.a (kt n))
            (k0_pay30 e.q0 (tileWord (n + 1)) e.a (kt n) e.up) e.up e.ue e.ue (ix2 a b) * e.q0 (ix2 a l)
          + ∑ a : Fin 256, k0_pay45 e.d1 e.t1 r.2.2.2.2.2.2 (vt n) (k0_pay21 (tileWord (n + 1)) e.a) (k0_pay41 e.q1 (kt n)) (e.w1 (tileWord (n + 1)) (kt n) r) e.ue e.ue (ix2 a b)
            * e.q1 (ix2 a l)) := by
    unfold Env.tripK
    pointwise [k0_pay1, k0_pay50, k0_pay35, k0_pay22]
  have s0 : ∀ a : Fin 256, k0_pay33 e.d0 e.t0 r.2.2.2.1 r.2.2.2.2.2.1 (vt n) (k0_pay21 (tileWord (n + 1)) e.a) (k0_pay26 e.q0 (kt n)) (k0_pay29 e.q0 (tileWord (n + 1)) e.a (kt n))
      (k0_pay30 e.q0 (tileWord (n + 1)) e.a (kt n) e.up) e.up e.ue e.ue (ix2 a b) * e.q0 (ix2 a l)
      = ((dx (L0 (256 * qi + a.val)) (G0 (256 * qi + a.val)) (256 * qi + a.val) (256 * n + b.val) * (if l.val < 64 then Q (256 * qi + a.val) l.val else 0) : ℝ) : EReal) := fun a => by
    rw [pay33_coe hn (H.logit0 n hn) (H.grad0 n hn) hm I.c0 I.g0 H.total0 H.up H.ue, hq0, ← EReal.coe_mul]
  have s1 : ∀ a : Fin 256, k0_pay45 e.d1 e.t1 r.2.2.2.2.2.2 (vt n) (k0_pay21 (tileWord (n + 1)) e.a) (k0_pay41 e.q1 (kt n)) (e.w1 (tileWord (n + 1)) (kt n) r) e.ue e.ue (ix2 a b)
      * e.q1 (ix2 a l)
      = ((dx (L1 (256 * qi + a.val)) (G1 (256 * qi + a.val)) (256 * qi + a.val) (256 * n + b.val) * (if l.val < 64 then 0 else Q (256 * qi + a.val) l.val) : ℝ) : EReal) := fun a => by
    rw [pay45_coe hn (H.logit1 n hn) (H.grad1 n hn) hw hm I.g1 H.total1 H.ue, hq1, ← EReal.coe_mul]
  rw [e0, ho, Finset.sum_congr rfl fun a _ => s0 a, Finset.sum_congr rfl fun a _ => s1 a,
    ← coe_sum, ← coe_sum, ← EReal.coe_add, ← EReal.coe_add, ← Finset.sum_add_distrib]
  refine congrArg (fun s : ℝ => ((o + s : ℝ) : EReal)) (Finset.sum_congr rfl fun a _ => ?_)
  unfold dxL
  by_cases h : l.val < 64
  · simp [h]
  · simp [h]

/-- One trip adds the query tile's terms to the value gradient's tile. -/
theorem tripV_coe (H : RealEnv L0 G0 L1 G1 K qi e kt vt) (Q : ℕ → ℕ → ℝ)
    (hq0 : ∀ (a : Fin 256) (l : Fin 128), e.d0 (ix2 a l) = ((if l.val < 64 then Q (256 * qi + a.val) l.val else 0 : ℝ) : EReal))
    (hq1 : ∀ (a : Fin 256) (l : Fin 128), e.d1 (ix2 a l) = ((if l.val < 64 then 0 else Q (256 * qi + a.val) l.val : ℝ) : EReal))
    (n : ℕ) (hn : n < 64) (r : Carry Ideal) (I : Inv L0 G0 L1 G1 K qi (n + 1) r) (old : Vec Ideal S256x128 .f32) (o : ℝ) (b : Fin 256) (l : Fin 128)
    (ho : old (ix2 b l) = (o : EReal)) :
    e.tripV (tileWord (n + 1)) (kt n) r old (ix2 b l)
      = ((o + ∑ a : Fin 256, wtL L0 L1 l.val (256 * qi + a.val) (256 * n + b.val) * Q (256 * qi + a.val) l.val : ℝ) : EReal) := by
  have hm : MaskIs qi n (k0_pay21 (tileWord (n + 1)) e.a) := by rw [H.ha]; exact mask_is qi n H.hq hn
  have hw : ∀ a b : Fin 256, e.w1 (tileWord (n + 1)) (kt n) r (ix2 a b) = ((wt (L1 (256 * qi + a.val)) (256 * qi + a.val) (256 * n + b.val) : ℝ) : EReal) :=
    pay43_coe hn (H.logit1 n hn) hm I.c1 H.up
  have e0 : e.tripV (tileWord (n + 1)) (kt n) r old (ix2 b l)
      = old (ix2 b l)
        + (∑ a : Fin 256, k0_pay31 r.2.2.2.1 (k0_pay21 (tileWord (n + 1)) e.a) (k0_pay26 e.q0 (kt n)) (k0_pay29 e.q0 (tileWord (n + 1)) e.a (kt n))
            (k0_pay30 e.q0 (tileWord (n + 1)) e.a (kt n) e.up) e.up (ix2 a b) * e.d0 (ix2 a l)
          + ∑ a : Fin 256, e.w1 (tileWord (n + 1)) (kt n) r (ix2 a b) * e.d1 (ix2 a l)) := by
    unfold Env.tripV
    pointwise [k0_pay2, k0_pay47, k0_pay36, k0_pay23]
  have s0 : ∀ a : Fin 256, k0_pay31 r.2.2.2.1 (k0_pay21 (tileWord (n + 1)) e.a) (k0_pay26 e.q0 (kt n)) (k0_pay29 e.q0 (tileWord (n + 1)) e.a (kt n))
      (k0_pay30 e.q0 (tileWord (n + 1)) e.a (kt n) e.up) e.up (ix2 a b) * e.d0 (ix2 a l)
      = ((wt (L0 (256 * qi + a.val)) (256 * qi + a.val) (256 * n + b.val) * (if l.val < 64 then Q (256 * qi + a.val) l.val else 0) : ℝ) : EReal) := fun a => by
    rw [pay31_coe hn (H.logit0 n hn) hm I.c0 H.up, hq0, ← EReal.coe_mul]
  have s1 : ∀ a : Fin 256, e.w1 (tileWord (n + 1)) (kt n) r (ix2 a b) * e.d1 (ix2 a l)
      = ((wt (L1 (256 * qi + a.val)) (256 * qi + a.val) (256 * n + b.val) * (if l.val < 64 then 0 else Q (256 * qi + a.val) l.val) : ℝ) : EReal) := fun a => by
    rw [hw, hq1, ← EReal.coe_mul]
  rw [e0, ho, Finset.sum_congr rfl fun a _ => s0 a, Finset.sum_congr rfl fun a _ => s1 a,
    ← coe_sum, ← coe_sum, ← EReal.coe_add, ← EReal.coe_add, ← Finset.sum_add_distrib]
  refine congrArg (fun s : ℝ => ((o + s : ℝ) : EReal)) (Finset.sum_congr rfl fun a _ => ?_)
  unfold wtL
  by_cases h : l.val < 64
  · simp [h]
  · simp [h]

/-- The loop from key tile `n - 1` adds the query tile's terms to every row of the key gradient before tile `n`. -/
theorem accK_coe (H : RealEnv L0 G0 L1 G1 K qi e kt vt) (Q : ℕ → ℕ → ℝ)
    (hq0 : ∀ (a : Fin 256) (l : Fin 128), e.q0 (ix2 a l) = ((if l.val < 64 then Q (256 * qi + a.val) l.val else 0 : ℝ) : EReal))
    (hq1 : ∀ (a : Fin 256) (l : Fin 128), e.q1 (ix2 a l) = ((if l.val < 64 then 0 else Q (256 * qi + a.val) l.val : ℝ) : EReal)) :
    ∀ (n : ℕ), n ≤ 64 → ∀ (r : Carry Ideal), Inv L0 G0 L1 G1 K qi n r → ∀ (x : Vec Ideal S16384x128 .f32) (Z : ℕ → ℕ → ℝ),
      (∀ (k : Fin 16384) (l : Fin 128), x (ix2 k l) = ((Z k.val l.val : ℝ) : EReal)) → ∀ (k : Fin 16384) (l : Fin 128),
      accK e kt vt n r x (ix2 k l)
        = ((Z k.val l.val + (if k.val < 256 * n then ∑ a : Fin 256, dxL L0 G0 L1 G1 l.val (256 * qi + a.val) k.val * Q (256 * qi + a.val) l.val else 0) : ℝ) : EReal)
  | 0, _, r, _, x, Z, hx, k, l => by
    rw [if_neg (by omega), add_zero]; exact hx k l
  | n + 1, hn, r, I, x, Z, hx, k, l => by
    have ht : Scalar.andi (Scalar.cmpi .sge (tileWord (n + 1)) 0#32) (Scalar.cmpi .sgt r.2.1 0#32) = 1#1 := by
      rw [I.alive]; exact tileWord_ge n hn
    have ew : accK e kt vt (n + 1) r x = accK e kt vt n (e.trip (tileWord (n + 1)) (kt n) (vt n) r)
        (setTile x n (e.tripK (tileWord (n + 1)) (kt n) (vt n) r (tileV x n))) := if_pos ht
    have hv : ∀ (b : Fin 256) (l : Fin 128), e.tripK (tileWord (n + 1)) (kt n) (vt n) r (tileV x n) (ix2 b l)
        = ((Z (256 * n + b.val) l.val + ∑ a : Fin 256, dxL L0 G0 L1 G1 l.val (256 * qi + a.val) (256 * n + b.val) * Q (256 * qi + a.val) l.val : ℝ) : EReal) := fun b l =>
      tripK_coe H Q hq0 hq1 n (by omega) r I _ _ b l
        ((tileV_apply x n (by omega) b l ⟨256 * n + b.val, by have := b.isLt; omega⟩ rfl).trans (hx _ l))
    rw [ew]
    refine (accK_coe H Q hq0 hq1 n (by omega) _ (Inv.trip H n (by omega) r I) _
      (fun k l => Z k l + (if 256 * n ≤ k ∧ k < 256 * n + 256 then ∑ a : Fin 256, dxL L0 G0 L1 G1 l (256 * qi + a.val) k * Q (256 * qi + a.val) l else 0))
      (setTile_coe x n _ Z (fun k l => ∑ a : Fin 256, dxL L0 G0 L1 G1 l (256 * qi + a.val) k * Q (256 * qi + a.val) l) hx hv) k l).trans ?_
    refine congrArg ((↑) : ℝ → EReal) ?_
    rw [add_assoc]
    refine congrArg (Z k.val l.val + ·) ?_
    by_cases h1 : k.val < 256 * n
    · rw [if_neg (by omega), if_pos h1, if_pos (by omega), zero_add]
    · by_cases h2 : k.val < 256 * n + 256
      · rw [if_pos ⟨by omega, h2⟩, if_neg h1, if_pos (by omega), add_zero]
      · rw [if_neg (by omega), if_neg h1, if_neg (by omega), add_zero]

/-- The loop from key tile `n - 1` adds the query tile's terms to every row of the value gradient before tile `n`. -/
theorem accV_coe (H : RealEnv L0 G0 L1 G1 K qi e kt vt) (Q : ℕ → ℕ → ℝ)
    (hq0 : ∀ (a : Fin 256) (l : Fin 128), e.d0 (ix2 a l) = ((if l.val < 64 then Q (256 * qi + a.val) l.val else 0 : ℝ) : EReal))
    (hq1 : ∀ (a : Fin 256) (l : Fin 128), e.d1 (ix2 a l) = ((if l.val < 64 then 0 else Q (256 * qi + a.val) l.val : ℝ) : EReal)) :
    ∀ (n : ℕ), n ≤ 64 → ∀ (r : Carry Ideal), Inv L0 G0 L1 G1 K qi n r → ∀ (x : Vec Ideal S16384x128 .f32) (Z : ℕ → ℕ → ℝ),
      (∀ (k : Fin 16384) (l : Fin 128), x (ix2 k l) = ((Z k.val l.val : ℝ) : EReal)) → ∀ (k : Fin 16384) (l : Fin 128),
      accV e kt vt n r x (ix2 k l)
        = ((Z k.val l.val + (if k.val < 256 * n then ∑ a : Fin 256, wtL L0 L1 l.val (256 * qi + a.val) k.val * Q (256 * qi + a.val) l.val else 0) : ℝ) : EReal)
  | 0, _, r, _, x, Z, hx, k, l => by
    rw [if_neg (by omega), add_zero]; exact hx k l
  | n + 1, hn, r, I, x, Z, hx, k, l => by
    have ht : Scalar.andi (Scalar.cmpi .sge (tileWord (n + 1)) 0#32) (Scalar.cmpi .sgt r.2.1 0#32) = 1#1 := by
      rw [I.alive]; exact tileWord_ge n hn
    have ew : accV e kt vt (n + 1) r x = accV e kt vt n (e.trip (tileWord (n + 1)) (kt n) (vt n) r)
        (setTile x n (e.tripV (tileWord (n + 1)) (kt n) r (tileV x n))) := if_pos ht
    have hv : ∀ (b : Fin 256) (l : Fin 128), e.tripV (tileWord (n + 1)) (kt n) r (tileV x n) (ix2 b l)
        = ((Z (256 * n + b.val) l.val + ∑ a : Fin 256, wtL L0 L1 l.val (256 * qi + a.val) (256 * n + b.val) * Q (256 * qi + a.val) l.val : ℝ) : EReal) := fun b l =>
      tripV_coe H Q hq0 hq1 n (by omega) r I _ _ b l
        ((tileV_apply x n (by omega) b l ⟨256 * n + b.val, by have := b.isLt; omega⟩ rfl).trans (hx _ l))
    rw [ew]
    refine (accV_coe H Q hq0 hq1 n (by omega) _ (Inv.trip H n (by omega) r I) _
      (fun k l => Z k l + (if 256 * n ≤ k ∧ k < 256 * n + 256 then ∑ a : Fin 256, wtL L0 L1 l (256 * qi + a.val) k * Q (256 * qi + a.val) l else 0))
      (setTile_coe x n _ Z (fun k l => ∑ a : Fin 256, wtL L0 L1 l (256 * qi + a.val) k * Q (256 * qi + a.val) l) hx hv) k l).trans ?_
    refine congrArg ((↑) : ℝ → EReal) ?_
    rw [add_assoc]
    refine congrArg (Z k.val l.val + ·) ?_
    by_cases h1 : k.val < 256 * n
    · rw [if_neg (by omega), if_pos h1, if_pos (by omega), zero_add]
    · by_cases h2 : k.val < 256 * n + 256
      · rw [if_pos ⟨by omega, h2⟩, if_neg h1, if_pos (by omega), add_zero]
      · rw [if_neg (by omega), if_neg h1, if_neg (by omega), add_zero]

end

section

variable {X D : ℕ → ℕ → ℝ} {p qi : ℕ} {x0 : Vec Ideal S256x128 .bf16} {x1 x2 : Vec Ideal S16384x128 .bf16}
  {x3 x4 : Vec Ideal S256x128 .f32} {x5 x6 : Vec Ideal S256x256 .bf16}

/-- A query tile adds its terms to every row of the key gradient, the first one starting from zero. -/
theorem Blocks.keyOf (B : Blocks X D p qi x0 x1 x2 x3 x4 x5 x6) (d : Vec Ideal S16384x128 .f32) (Z : ℕ → ℕ → ℝ)
    (hd : qi ≠ 0 → ∀ (k : Fin 16384) (l : Fin 128), d (ix2 k l) = ((Z k.val l.val : ℝ) : EReal)) (hz : qi = 0 → ∀ k l, Z k l = 0) (k : Fin 16384) (l : Fin 128) :
    Attn.keyOf qi x0 x1 x2 x3 x4 x5 x6 d (ix2 k l)
      = ((Z k.val l.val + ∑ a : Fin 256, dx (lg X ((128 * p + l.val) / 64) (256 * qi + a.val)) (gm X D ((128 * p + l.val) / 64) (256 * qi + a.val)) (256 * qi + a.val) k.val * X (256 * qi + a.val) (128 * p + l.val) : ℝ) : EReal) := by
  have hq := B.hq
  have hk := k.isLt
  have hl := l.isLt
  have hx : ∀ (k : Fin 16384) (l : Fin 128), (if qi = 0 then k0_pay4 (F := Ideal) else d : Vec Ideal S16384x128 .f32) (ix2 k l) = ((Z k.val l.val : ℝ) : EReal) := fun k l => by
    by_cases h : qi = 0
    · rw [if_pos h, hz h, EReal.coe_zero]
      pointwise [k0_pay4]
    · rw [if_neg h]; exact hd h k l
  refine (accK_coe B.env (fun r l => X r (128 * p + l)) (fun a l => B.q0 a l) (fun a l => B.q1 a l) (qi + 1) (by omega) _
    (Inv.start B.hq) _ Z hx k l).trans (congrArg (fun s : ℝ => ((Z k.val l.val + s : ℝ) : EReal)) ?_)
  have hs : ∀ a : Fin 256, dxL (lg X (2 * p)) (gm X D (2 * p)) (lg X (2 * p + 1)) (gm X D (2 * p + 1)) l.val (256 * qi + a.val) k.val
      = dx (lg X ((128 * p + l.val) / 64) (256 * qi + a.val)) (gm X D ((128 * p + l.val) / 64) (256 * qi + a.val)) (256 * qi + a.val) k.val := fun a => by
    unfold dxL
    by_cases h : l.val < 64
    · rw [show (128 * p + l.val) / 64 = 2 * p by omega, if_pos h]
    · rw [show (128 * p + l.val) / 64 = 2 * p + 1 by omega, if_neg h]
  by_cases h : k.val < 256 * (qi + 1)
  · rw [if_pos h]
    exact Finset.sum_congr rfl fun a _ => by rw [hs a]
  · rw [if_neg h]
    refine (Finset.sum_eq_zero fun a _ => ?_).symm
    have ha := a.isLt
    rw [dx_late _ _ _ _ (by omega), zero_mul]

/-- A query tile adds its terms to every row of the value gradient, the first one starting from zero. -/
theorem Blocks.valOf (B : Blocks X D p qi x0 x1 x2 x3 x4 x5 x6) (d : Vec Ideal S16384x128 .f32) (Z : ℕ → ℕ → ℝ)
    (hd : qi ≠ 0 → ∀ (k : Fin 16384) (l : Fin 128), d (ix2 k l) = ((Z k.val l.val : ℝ) : EReal)) (hz : qi = 0 → ∀ k l, Z k l = 0) (k : Fin 16384) (l : Fin 128) :
    Attn.valOf qi x0 x1 x2 x3 x4 x5 x6 d (ix2 k l)
      = ((Z k.val l.val + ∑ a : Fin 256, wt (lg X ((128 * p + l.val) / 64) (256 * qi + a.val)) (256 * qi + a.val) k.val * D (256 * qi + a.val) (128 * p + l.val) : ℝ) : EReal) := by
  have hq := B.hq
  have hk := k.isLt
  have hl := l.isLt
  have hx : ∀ (k : Fin 16384) (l : Fin 128), (if qi = 0 then k0_pay5 (F := Ideal) else d : Vec Ideal S16384x128 .f32) (ix2 k l) = ((Z k.val l.val : ℝ) : EReal) := fun k l => by
    by_cases h : qi = 0
    · rw [if_pos h, hz h, EReal.coe_zero]
      pointwise [k0_pay5]
    · rw [if_neg h]; exact hd h k l
  refine (accV_coe B.env (fun r l => D r (128 * p + l)) (fun a l => B.d0 a l) (fun a l => B.d1 a l) (qi + 1) (by omega) _
    (Inv.start B.hq) _ Z hx k l).trans (congrArg (fun s : ℝ => ((Z k.val l.val + s : ℝ) : EReal)) ?_)
  have hs : ∀ a : Fin 256, wtL (lg X (2 * p)) (lg X (2 * p + 1)) l.val (256 * qi + a.val) k.val
      = wt (lg X ((128 * p + l.val) / 64) (256 * qi + a.val)) (256 * qi + a.val) k.val := fun a => by
    unfold wtL
    by_cases h : l.val < 64
    · rw [show (128 * p + l.val) / 64 = 2 * p by omega, if_pos h]
    · rw [show (128 * p + l.val) / 64 = 2 * p + 1 by omega, if_neg h]
  by_cases h : k.val < 256 * (qi + 1)
  · rw [if_pos h]
    exact Finset.sum_congr rfl fun a _ => by rw [hs a]
  · rw [if_neg h]
    refine (Finset.sum_eq_zero fun a _ => ?_).symm
    have ha := a.isLt
    rw [wt_late _ _ _ (by omega), zero_mul]

end

end Cert.Proof.Attn

end
-- ==== Proof.Attn.Final.lean ====
/-
  The arrays of the query, the key and the value gradients after the run: each grid point's blocks, read off the arrays, what its
  block of the query gradients is, and what the accumulators hold once the query tiles of a pair of heads are through.
-/
module

public import proofs.«01_k».proof.Proof.Attn.Host
public import proofs.«01_k».proof.Proof.Attn.Frame
public import proofs.«01_k».proof.Proof.Attn.Keys
public import Idealize.ShloMosaic.Lib.Pipeline.ValueKit
public import Idealize.ShloMosaic.Lib.Pipeline.ReadBack

@[expose] public section

set_option maxRecDepth 16384

noncomputable section

namespace Cert.Proof.Attn

open Cert.KernelIdeal Cert.KernelIdeal.Gen

open Idealize.ShloMosaic Idealize.ShloMosaic.TcCoe Idealize.ShloMosaic.StableHlo Idealize.SL.Sem

variable (m : (ℓ : Loc nD τ sig) → Buf (Elt Ideal) ℓ)

/-- The grid's points, in order: the pair of heads outside, the query tile inside. -/
theorem coords_1 : ∀ t : Fin (cfg0 (F := Ideal)).N, ((grid0.coords t) 1).val = t.val % 64 :=
  (by decide +kernel : ∀ t : Fin grid0.N, ((grid0.coords t) 1).val = t.val % 64)

theorem index_0 : ∀ t : Fin (cfg0 (F := Ideal)).N, win0_0.index t = ![t.val % 64, t.val / 64] :=
  (by decide +kernel : ∀ t : Fin grid0.N, win0_0.index t = ![t.val % 64, t.val / 64])
theorem index_1 : ∀ t : Fin (cfg0 (F := Ideal)).N, win0_1.index t = ![0, 2 + t.val / 64] :=
  (by decide +kernel : ∀ t : Fin grid0.N, win0_1.index t = ![0, 2 + t.val / 64])
theorem index_2 : ∀ t : Fin (cfg0 (F := Ideal)).N, win0_2.index t = ![0, 4 + t.val / 64] :=
  (by decide +kernel : ∀ t : Fin grid0.N, win0_2.index t = ![0, 4 + t.val / 64])
theorem index_3 : ∀ t : Fin (cfg0 (F := Ideal)).N, win0_3.index t = ![t.val % 64, t.val / 64] :=
  (by decide +kernel : ∀ t : Fin grid0.N, win0_3.index t = ![t.val % 64, t.val / 64])
theorem index_4 : ∀ t : Fin (cfg0 (F := Ideal)).N, win0_4.index t = ![t.val % 64, t.val / 64] :=
  (by decide +kernel : ∀ t : Fin grid0.N, win0_4.index t = ![t.val % 64, t.val / 64])
theorem index_5 : ∀ t : Fin (cfg0 (F := Ideal)).N, win0_5.index t = ![0, 0] :=
  (by decide +kernel : ∀ t : Fin grid0.N, win0_5.index t = ![0, 0])
theorem index_6 : ∀ t : Fin (cfg0 (F := Ideal)).N, win0_6.index t = ![0, 0] :=
  (by decide +kernel : ∀ t : Fin grid0.N, win0_6.index t = ![0, 0])
theorem index_7 : ∀ t : Fin (cfg0 (F := Ideal)).N, win0_7.index t = ![t.val % 64, t.val / 64] :=
  (by decide +kernel : ∀ t : Fin grid0.N, win0_7.index t = ![t.val % 64, t.val / 64])

theorem lt128 (t : Fin (cfg0 (F := Ideal)).N) : t.val < 128 := lt_of_lt_of_eq t.isLt (by decide : (cfg0 (F := Ideal)).N = 128)

/-- Row `a` of query tile `t % 64`. -/
def rowQ (t : Fin (cfg0 (F := Ideal)).N) (a : Fin 256) : Fin 16384 := ⟨256 * (t.val % 64) + a.val, by have := a.isLt; omega⟩

/-- Lane `l` of the pair of heads `t / 64`, `o` lanes in. -/
def laneQ (n o : ℕ) (h : 256 + o ≤ n) (t : Fin (cfg0 (F := Ideal)).N) (l : Fin 128) : Fin n :=
  ⟨o + (128 * (t.val / 64) + l.val), by have := l.isLt; have := lt128 t; omega⟩

/-- The query block, read off the projection's result. -/
theorem blk_0 (c : Dev nD) (t : Fin (cfg0 (F := Ideal)).N) (a : Fin 256) (l : Fin 128) :
    (iblk m c 0 t : Vec Ideal S256x128 .bf16) (ix2 a l)
      = (m ((c : Thread nD τ).loc main_arg0) : Vec Ideal S16384x768 .bf16) (ix2 (rowQ t a) (laneQ 768 0 (by omega) t l)) := by
  rw [← V_main_arg0 m c]
  unfold rowQ laneQ
  blk_simp [iblk, index_0]
  refine congrArg (V m c main_arg0) ?_
  funext k
  apply Fin.ext
  match k with
  | ⟨0, _⟩ => blk_simp [index_0]; exact congrArg (· + a.val) (Nat.mul_comm _ _)
  | ⟨1, _⟩ => blk_simp [index_0]; exact congrArg (· + l.val) (Nat.mul_comm _ _)

/-- The keys of the pair of heads, read off the projection's result. -/
theorem blk_1 (c : Dev nD) (t : Fin (cfg0 (F := Ideal)).N) (a : Fin 16384) (l : Fin 128) :
    (iblk m c 1 t : Vec Ideal S16384x128 .bf16) (ix2 a l)
      = (m ((c : Thread nD τ).loc main_arg0) : Vec Ideal S16384x768 .bf16) (ix2 a (laneQ 768 256 (by omega) t l)) := by
  rw [← V_main_arg0 m c]
  unfold laneQ
  blk_simp [iblk, index_1]
  refine congrArg (V m c main_arg0) ?_
  funext k
  apply Fin.ext
  match k with
  | ⟨0, _⟩ => blk_simp [index_1]
  | ⟨1, _⟩ => blk_simp [index_1]; exact (by omega : (2 + t.val / 64) * 128 + l.val = 256 + (128 * (t.val / 64) + l.val))

/-- The values of the pair of heads, read off the projection's result. -/
theorem blk_2 (c : Dev nD) (t : Fin (cfg0 (F := Ideal)).N) (a : Fin 16384) (l : Fin 128) :
    (iblk m c 2 t : Vec Ideal S16384x128 .bf16) (ix2 a l)
      = (m ((c : Thread nD τ).loc main_arg0) : Vec Ideal S16384x768 .bf16) (ix2 a (laneQ 768 512 (by omega) t l)) := by
  rw [← V_main_arg0 m c]
  unfold laneQ
  blk_simp [iblk, index_2]
  refine congrArg (V m c main_arg0) ?_
  funext k
  apply Fin.ext
  match k with
  | ⟨0, _⟩ => blk_simp [index_2]
  | ⟨1, _⟩ => blk_simp [index_2]; exact (by omega : (4 + t.val / 64) * 128 + l.val = 512 + (128 * (t.val / 64) + l.val))

/-- The block of the incoming gradient. -/
theorem blk_3 (c : Dev nD) (t : Fin (cfg0 (F := Ideal)).N) (a : Fin 256) (l : Fin 128) :
    (iblk m c 3 t : Vec Ideal S256x128 .f32) (ix2 a l)
      = (m ((c : Thread nD τ).loc main_arg1) : Vec Ideal S16384x256 .f32) (ix2 (rowQ t a) (laneQ 256 0 (by omega) t l)) := by
  rw [← V_main_arg1 m c]
  unfold rowQ laneQ
  blk_simp [iblk, index_3]
  refine congrArg (V m c main_arg1) ?_
  funext k
  apply Fin.ext
  match k with
  | ⟨0, _⟩ => blk_simp [index_3]; exact congrArg (· + a.val) (Nat.mul_comm _ _)
  | ⟨1, _⟩ => blk_simp [index_3]; exact congrArg (· + l.val) (Nat.mul_comm _ _)

/-- The block of the attention's result. -/
theorem blk_4 (c : Dev nD) (t : Fin (cfg0 (F := Ideal)).N) (a : Fin 256) (l : Fin 128) :
    (iblk m c 4 t : Vec Ideal S256x128 .f32) (ix2 a l)
      = (V m c main_v27 : Vec Ideal S16384x256 .f32) (ix2 (rowQ t a) (laneQ 256 0 (by omega) t l)) := by
  unfold rowQ laneQ
  blk_simp [iblk, index_4]
  refine congrArg (V m c main_v27) ?_
  funext k
  apply Fin.ext
  match k with
  | ⟨0, _⟩ => blk_simp [index_4]; exact congrArg (· + a.val) (Nat.mul_comm _ _)
  | ⟨1, _⟩ => blk_simp [index_4]; exact congrArg (· + l.val) (Nat.mul_comm _ _)

/-- The triangle above the diagonal, whole at every grid point. -/
theorem blk_5 (c : Dev nD) (t : Fin (cfg0 (F := Ideal)).N) (a : Fin 256) (l : Fin 256) :
    (iblk m c 5 t : Vec Ideal S256x256 .bf16) (ix2 a l)
      = (V m c main_v33 : Vec Ideal S256x256 .bf16) (ix2 a l) := by
  blk_simp [iblk, index_5]
  refine congrArg (V m c main_v33) ?_
  funext k
  apply Fin.ext
  match k with
  | ⟨0, _⟩ => blk_simp [index_5]
  | ⟨1, _⟩ => blk_simp [index_5]

/-- The triangle with its diagonal, whole at every grid point. -/
theorem blk_6 (c : Dev nD) (t : Fin (cfg0 (F := Ideal)).N) (a : Fin 256) (l : Fin 256) :
    (iblk m c 6 t : Vec Ideal S256x256 .bf16) (ix2 a l)
      = (V m c main_v39 : Vec Ideal S256x256 .bf16) (ix2 a l) := by
  blk_simp [iblk, index_6]
  refine congrArg (V m c main_v39) ?_
  funext k
  apply Fin.ext
  match k with
  | ⟨0, _⟩ => blk_simp [index_6]
  | ⟨1, _⟩ => blk_simp [index_6]

/-- The blocks of a grid point over the reals, when both arguments are real. -/
theorem blocks_at (c : Dev nD) (t : Fin (cfg0 (F := Ideal)).N) (X D : ℕ → ℕ → ℝ)
    (hX : ∀ y : S16384x768.Idx, (m ((c : Thread nD τ).loc main_arg0) : Vec Ideal S16384x768 .bf16) y = ((X (y 0).val (y 1).val : ℝ) : EReal))
    (hD : ∀ y : S16384x256.Idx, (m ((c : Thread nD τ).loc main_arg1) : Vec Ideal S16384x256 .f32) y = ((D (y 0).val (y 1).val : ℝ) : EReal)) :
    Blocks X D (t.val / 64) (t.val % 64) (iblk m c 0 t) (iblk m c 1 t) (iblk m c 2 t) (iblk m c 3 t) (iblk m c 4 t) (iblk m c 5 t) (iblk m c 6 t) where
  hq := Nat.mod_lt _ (by decide)
  b0 a l := (blk_0 m c t a l).trans ((hX _).trans (congrArg (fun n : ℕ => ((X (256 * (t.val % 64) + a.val) n : ℝ) : EReal)) (Nat.zero_add _)))
  b1 r l := (blk_1 m c t r l).trans (hX _)
  b2 r l := (blk_2 m c t r l).trans (hX _)
  b3 a l := (blk_3 m c t a l).trans ((hD _).trans (congrArg (fun n : ℕ => ((D (256 * (t.val % 64) + a.val) n : ℝ) : EReal)) (Nat.zero_add _)))
  b4 a l := (blk_4 m c t a l).trans ((congrFun (V_out m c) _).trans ((out_entry _ X hX _).trans
    (congrArg (fun n : ℕ => ((outR X (256 * (t.val % 64) + a.val) n : ℝ) : EReal)) (Nat.zero_add (128 * (t.val / 64) + l.val)))))
  b5 x b := (blk_5 m c t x b).trans (V_upper m c x b)
  b6 x b := (blk_6 m c t x b).trans (V_upper_eq m c x b)

/-- The array of the query gradients after the run is the reference's, when both arguments are real. -/
theorem dq_array (c : Dev nD) (X D : ℕ → ℕ → ℝ)
    (hX : ∀ y : S16384x768.Idx, (m ((c : Thread nD τ).loc main_arg0) : Vec Ideal S16384x768 .bf16) y = ((X (y 0).val (y 1).val : ℝ) : EReal))
    (hD : ∀ y : S16384x256.Idx, (m ((c : Thread nD τ).loc main_arg1) : Vec Ideal S16384x256 .f32) y = ((D (y 0).val (y 1).val : ℝ) : EReal)) :
    (dats m 0 c).arrAt 7 (cfg0 (F := Ideal)).N
      = (Cert.ReferenceIdeal.Read.val_main_v49 (F := Ideal) (m ((c : Thread nD τ).loc main_arg0)) (m ((c : Thread nD τ).loc main_arg1)) : Vec Ideal S16384x256 .f32) := by
  refine (dats m 0 c).arrAt_eq_of_covers 7 _ (by decide +kernel) fun t hf y => ?_
  blk_simp
  rw [after0_7]
  refine Eq.trans (congrArg _ (eq_ix2 (n0 := 256) (n1 := 128) y)) ?_
  unfold dqBlk
  rw [coords_1 t]
  refine ((blocks_at m c t X D hX hD).dq (y 0) (y 1)).trans ?_
  refine Eq.trans ?_ (dq_entry _ _ X D hX hD _).symm
  have e0 : ((((cfg0 (F := Ideal)).win 7).blk t).view.emb y 0).val = 256 * (t.val % 64) + (y 0).val := by
    blk_simp [index_7]; exact congrArg (· + (y 0).val) (Nat.mul_comm _ _)
  have e1 : ((((cfg0 (F := Ideal)).win 7).blk t).view.emb y 1).val = 128 * (t.val / 64) + (y 1).val := by
    blk_simp [index_7]; exact congrArg (· + (y 1).val) (Nat.mul_comm _ _)
  exact (congrArg₂ (fun r k : ℕ => ((∑ j ∈ Finset.range 16384, dx (lg X (k / 64) r) (gm X D (k / 64) r) r j * X j (256 + k) : ℝ) : EReal)) e0 e1).symm

/-- After `n` query tiles of the pair of heads `p` the accumulator of the key gradients holds the terms of their queries. -/
theorem keys_after (c : Dev nD) (X D : ℕ → ℕ → ℝ)
    (hX : ∀ y : S16384x768.Idx, (m ((c : Thread nD τ).loc main_arg0) : Vec Ideal S16384x768 .bf16) y = ((X (y 0).val (y 1).val : ℝ) : EReal))
    (hD : ∀ y : S16384x256.Idx, (m ((c : Thread nD τ).loc main_arg1) : Vec Ideal S16384x256 .f32) y = ((D (y 0).val (y 1).val : ℝ) : EReal)) (p : ℕ) (hp : p < 2) : ∀ (n : ℕ), n ≠ 0 → n ≤ 64 → ∀ (k : Fin 16384) (l : Fin 128),
    keyAt m c (64 * p + n) (ix2 k l)
      = ((∑ r ∈ Finset.range (256 * n), dx (lg X ((128 * p + l.val) / 64) r) (gm X D ((128 * p + l.val) / 64) r) r k.val * X r (128 * p + l.val) : ℝ) : EReal)
  | 0, h0, _, _, _ => absurd rfl h0
  | n + 1, _, hn, k, l => by
    have hN : 64 * p + n < (cfg0 (F := Ideal)).N := lt_of_lt_of_eq (by omega) (by decide : 128 = (cfg0 (F := Ideal)).N)
    have hd : (64 * p + n) / 64 = p := by omega
    have hr : (64 * p + n) % 64 = n := by omega
    have B := blocks_at m c ⟨64 * p + n, hN⟩ X D hX hD
    rw [show ((⟨64 * p + n, hN⟩ : Fin (cfg0 (F := Ideal)).N).val / 64) = p from hd, show ((⟨64 * p + n, hN⟩ : Fin (cfg0 (F := Ideal)).N).val % 64) = n from hr] at B
    have e := keyAt_succ m c ⟨64 * p + n, hN⟩
    rw [show ((grid0.coords (⟨64 * p + n, hN⟩ : Fin (cfg0 (F := Ideal)).N)) 1).val = n from (coords_1 _).trans hr] at e
    refine (congrFun e (ix2 k l)).trans ?_
    refine (Blocks.keyOf B _ (fun k l => ∑ r ∈ Finset.range (256 * n), dx (lg X ((128 * p + l) / 64) r) (gm X D ((128 * p + l) / 64) r) r k * X r (128 * p + l))
      (fun h k l => keys_after c X D hX hD p hp n h (by omega) k l) (fun h k l => by rw [h]; rfl) k l).trans ?_
    refine congrArg ((↑) : ℝ → EReal) ?_
    rw [sum_tile (fun r => dx (lg X ((128 * p + l.val) / 64) r) (gm X D ((128 * p + l.val) / 64) r) r k.val * X r (128 * p + l.val)) n, Finset.range_eq_Ico,
      Finset.sum_Ico_consecutive _ (Nat.zero_le _) (by omega), ← Finset.range_eq_Ico]
    rfl

/-- The array of the key gradients after the run is the reference's, when both arguments are real. -/
theorem dk_array (c : Dev nD) (X D : ℕ → ℕ → ℝ)
    (hX : ∀ y : S16384x768.Idx, (m ((c : Thread nD τ).loc main_arg0) : Vec Ideal S16384x768 .bf16) y = ((X (y 0).val (y 1).val : ℝ) : EReal))
    (hD : ∀ y : S16384x256.Idx, (m ((c : Thread nD τ).loc main_arg1) : Vec Ideal S16384x256 .f32) y = ((D (y 0).val (y 1).val : ℝ) : EReal)) :
    slabs (keyAt m c)
      = (Cert.ReferenceIdeal.Read.val_main_v51 (F := Ideal) (m ((c : Thread nD τ).loc main_arg0)) (m ((c : Thread nD τ).loc main_arg1)) : Vec Ideal S2x16384x128 .f32) := by
  funext y
  have h0 : (y 0).val < 2 := (y 0).isLt
  have h2 : (y 2).val < 128 := (y 2).isLt
  refine (keys_after m c X D hX hD (y 0).val h0 64 (by decide) le_rfl (y 1) (y 2)).trans ?_
  refine Eq.trans ?_ (Cert.ReferenceIdeal.Read.val_main_v51_apply (F := Ideal) _ _ y).symm
  refine Eq.trans ?_ (Cert.ReferenceIdeal.Read.val_main_v50_apply (F := Ideal) _ _ _).symm
  refine Eq.trans ?_ (dk_entry _ _ X D hX hD _).symm
  have e0 : ((Cert.ReferenceIdeal.Read.idx_main_v50 (Cert.ReferenceIdeal.Read.idx_main_v51 y)) 0).val = (y 1).val := by
    show (((y 1).val * 2 + (y 0).val) * 128 + (y 2).val) / 256 = (y 1).val
    omega
  have e1 : ((Cert.ReferenceIdeal.Read.idx_main_v50 (Cert.ReferenceIdeal.Read.idx_main_v51 y)) 1).val = 128 * (y 0).val + (y 2).val := by
    show (((y 1).val * 2 + (y 0).val) * 128 + (y 2).val) % 256 = 128 * (y 0).val + (y 2).val
    omega
  exact (congrArg₂ (fun k q : ℕ => ((∑ r ∈ Finset.range 16384, dx (lg X (q / 64) r) (gm X D (q / 64) r) r k * X r q : ℝ) : EReal)) e0 e1).symm

/-- After `n` query tiles of the pair of heads `p` the accumulator of the value gradients holds the terms of their queries. -/
theorem values_after (c : Dev nD) (X D : ℕ → ℕ → ℝ)
    (hX : ∀ y : S16384x768.Idx, (m ((c : Thread nD τ).loc main_arg0) : Vec Ideal S16384x768 .bf16) y = ((X (y 0).val (y 1).val : ℝ) : EReal))
    (hD : ∀ y : S16384x256.Idx, (m ((c : Thread nD τ).loc main_arg1) : Vec Ideal S16384x256 .f32) y = ((D (y 0).val (y 1).val : ℝ) : EReal)) (p : ℕ) (hp : p < 2) : ∀ (n : ℕ), n ≠ 0 → n ≤ 64 → ∀ (k : Fin 16384) (l : Fin 128),
    valAt m c (64 * p + n) (ix2 k l)
      = ((∑ r ∈ Finset.range (256 * n), wt (lg X ((128 * p + l.val) / 64) r) r k.val * D r (128 * p + l.val) : ℝ) : EReal)
  | 0, h0, _, _, _ => absurd rfl h0
  | n + 1, _, hn, k, l => by
    have hN : 64 * p + n < (cfg0 (F := Ideal)).N := lt_of_lt_of_eq (by omega) (by decide : 128 = (cfg0 (F := Ideal)).N)
    have hd : (64 * p + n) / 64 = p := by omega
    have hr : (64 * p + n) % 64 = n := by omega
    have B := blocks_at m c ⟨64 * p + n, hN⟩ X D hX hD
    rw [show ((⟨64 * p + n, hN⟩ : Fin (cfg0 (F := Ideal)).N).val / 64) = p from hd, show ((⟨64 * p + n, hN⟩ : Fin (cfg0 (F := Ideal)).N).val % 64) = n from hr] at B
    have e := valAt_succ m c ⟨64 * p + n, hN⟩
    rw [show ((grid0.coords (⟨64 * p + n, hN⟩ : Fin (cfg0 (F := Ideal)).N)) 1).val = n from (coords_1 _).trans hr] at e
    refine (congrFun e (ix2 k l)).trans ?_
    refine (Blocks.valOf B _ (fun k l => ∑ r ∈ Finset.range (256 * n), wt (lg X ((128 * p + l) / 64) r) r k * D r (128 * p + l))
      (fun h k l => values_after c X D hX hD p hp n h (by omega) k l) (fun h k l => by rw [h]; rfl) k l).trans ?_
    refine congrArg ((↑) : ℝ → EReal) ?_
    rw [sum_tile (fun r => wt (lg X ((128 * p + l.val) / 64) r) r k.val * D r (128 * p + l.val)) n, Finset.range_eq_Ico,
      Finset.sum_Ico_consecutive _ (Nat.zero_le _) (by omega), ← Finset.range_eq_Ico]
    rfl

/-- The array of the value gradients after the run is the reference's, when both arguments are real. -/
theorem dv_array (c : Dev nD) (X D : ℕ → ℕ → ℝ)
    (hX : ∀ y : S16384x768.Idx, (m ((c : Thread nD τ).loc main_arg0) : Vec Ideal S16384x768 .bf16) y = ((X (y 0).val (y 1).val : ℝ) : EReal))
    (hD : ∀ y : S16384x256.Idx, (m ((c : Thread nD τ).loc main_arg1) : Vec Ideal S16384x256 .f32) y = ((D (y 0).val (y 1).val : ℝ) : EReal)) :
    slabs (valAt m c)
      = (Cert.ReferenceIdeal.Read.val_main_v53 (F := Ideal) (m ((c : Thread nD τ).loc main_arg0)) (m ((c : Thread nD τ).loc main_arg1)) : Vec Ideal S2x16384x128 .f32) := by
  funext y
  have h0 : (y 0).val < 2 := (y 0).isLt
  have h2 : (y 2).val < 128 := (y 2).isLt
  refine (values_after m c X D hX hD (y 0).val h0 64 (by decide) le_rfl (y 1) (y 2)).trans ?_
  refine Eq.trans (congrArg ((↑) : ℝ → EReal) (Finset.sum_congr rfl fun r _ => mul_comm _ _)) ?_
  refine Eq.trans ?_ (Cert.ReferenceIdeal.Read.val_main_v53_apply (F := Ideal) _ _ y).symm
  refine Eq.trans ?_ (Cert.ReferenceIdeal.Read.val_main_v52_apply (F := Ideal) _ _ _).symm
  refine Eq.trans ?_ (dv_entry _ _ X D hX hD _).symm
  have e0 : ((Cert.ReferenceIdeal.Read.idx_main_v52 (Cert.ReferenceIdeal.Read.idx_main_v53 y)) 0).val = (y 1).val := by
    show (((y 1).val * 2 + (y 0).val) * 128 + (y 2).val) / 256 = (y 1).val
    omega
  have e1 : ((Cert.ReferenceIdeal.Read.idx_main_v52 (Cert.ReferenceIdeal.Read.idx_main_v53 y)) 1).val = 128 * (y 0).val + (y 2).val := by
    show (((y 1).val * 2 + (y 0).val) * 128 + (y 2).val) % 256 = 128 * (y 0).val + (y 2).val
    omega
  exact (congrArg₂ (fun k q : ℕ => ((∑ r ∈ Finset.range 16384, D r q * wt (lg X (q / 64) r) r k : ℝ) : EReal)) e0 e1).symm

end Cert.Proof.Attn

end
-- ==== Proof.Attn.Finite.lean ====
/-
  What the precondition says of an entry: it is a real number.
-/
module

public import proofs.«01_k».proof.Proof.Attn.Ref
public import proofs.«01_k».proof.Pre_finite
public import proofs.«01_k».proof.Proof.Gen.Pre_finite
public import Idealize.ShloMosaic.Lib.ReduceAll

@[expose] public section

set_option maxRecDepth 16384

noncomputable section

namespace Cert.Proof.Attn

open Idealize.ShloMosaic Idealize.ShloMosaic.TcCoe Idealize.ShloMosaic.StableHlo Idealize.SL.Sem

/-- An extended real whose absolute value is below plus infinity is a real number. -/
theorem real_of_abs (x : EReal) (h : Ideal.cmp .olt (max x (-x)) (FloatOps.ofBits (F := Ideal) .f32 0x7F800000#32) = 1#1) :
    x = ((x.toReal : ℝ) : EReal) := by
  rw [top_word] at h
  have h' : max x (-x) < ⊤ := by
    by_contra hn
    have : Ideal.cmp .olt (max x (-x)) ⊤ = 0#1 := by
      change BitVec.ofBool (decide (max x (-x) < ⊤)) = 0#1
      rw [decide_eq_false hn]; rfl
    rw [this] at h
    exact absurd h (by decide)
  have h1 : x ≠ ⊤ := fun e => by rw [e] at h'; simp at h'
  have h2 : x ≠ ⊥ := fun e => by rw [e] at h'; simp at h'
  exact (EReal.coe_toReal h1 h2).symm

/-- The precondition, entry by entry: every entry of both arguments is a real number. -/
theorem finite_entries [Cert.Pre_finite.Facts] (x0 : Vec Ideal (⟨2, ![16384, 768]⟩ : Shape) .bf16) (x1 : Vec Ideal (⟨2, ![16384, 256]⟩ : Shape) .f32)
    (h : Cert.Pre_finite.fn (F := Ideal) x0 x1 = fun _ => 1#1) :
    (∀ i, x0 i = (((x0 i : EReal).toReal : ℝ) : EReal)) ∧ (∀ i, x1 i = (((x1 i : EReal).toReal : ℝ) : EReal)) := by
  have h0 := congrFun h (fun a => a.elim0)
  unfold Cert.Pre_finite.fn at h0
  dsimp only at h0
  obtain ⟨ha, hb⟩ := (IntOp.andi_eq_one).mp h0
  haveI : Subsingleton Cert.Pre_finite.S_.Idx := ⟨fun a b => funext fun k => k.elim0⟩
  refine ⟨fun i => real_of_abs _ ?_, fun i => real_of_abs _ ?_⟩
  · exact Host.reduce_andi_all _ _ _ _ _ ha i
  · exact Host.reduce_andi_all _ _ _ _ _ hb i

end Cert.Proof.Attn

end
-- ==== Proof.AttnBits.Body.lean ====
/-
  The attention gradient's body, run once on any whole staging memrefs: it leaves its inputs as they were, the query
  gradient's block and the two accumulators at some contents, its DMA cells at zero and the two results it copies out at
  some contents.  The loop over key tiles is answered by its specification (Loop.lean); the pipeline's proof data, the body
  obligation, the launch and the frame follow.
-/
module

public import proofs.«01_k».proof.Proof.AttnBits.Loop
public import Idealize.ShloMosaic.Lib.Claim

@[expose] public section

set_option maxRecDepth 16384

noncomputable section

namespace Cert.Proof.AttnBits

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The kernel's own arithmetic for the first key tile's word (`((j + 1) * 256 - 1)` divided by 256, rounded down) at query tile
    `j` is the word the loop's specification starts from. -/
def startWord (a : BitVec 32) : BitVec 32 :=
  let v74 := Scalar.subi (Scalar.muli (Scalar.addi a 1#32) 256#32) 1#32
  let v75 := Scalar.divsi v74 256#32
  let v80 := Scalar.subi (Scalar.extui (Scalar.cmpi .sgt v74 0#32)) (Scalar.extui (Scalar.cmpi .slt v74 0#32))
  let v85 := Scalar.subi (Scalar.extui (Scalar.cmpi .sgt 256#32 0#32)) (Scalar.extui (Scalar.cmpi .slt 256#32 0#32))
  Scalar.select (Scalar.andi (Scalar.cmpi .ne v80 v85) (Scalar.cmpi .ne (Scalar.remsi v74 256#32) 0#32)) (Scalar.subi v75 1#32) v75

theorem startWord_eq (j : Fin 64) : startWord (BitVec.ofNat 32 j.val) = tileWord (j.val + 1) := by
  revert j; decide +kernel

theorem hz2 : (![0, 0] : Fin 2 → ℕ) = fun _ => 0 := by funext a; fin_cases a <;> rfl

/-- The loop's query gradient, its values read off the staging memrefs, is the block's. -/
theorem dq_walk (c : Dev nD) (i : grid0.Coords) (arg2 : Memref sig .tc .vmem S256x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x256 .bf16) (harg7 : arg7.IsWhole) (arg8 : Memref sig .tc .vmem S256x256 .bf16) (harg8 : arg8.IsWhole)
    (x0 : Vec F S256x128 .bf16) (x1 : Vec F S16384x128 .bf16) (x2 : Vec F S16384x128 .bf16) (x3 : Vec F S256x128 .f32) (x4 : Vec F S256x128 .f32) (x5 : Vec F S256x256 .bf16) (x6 : Vec F S256x256 .bf16) :
    ((walk (envOf c i arg7 arg8 (harg7.unread x5) (harg8.unread x6)
      (k0_pay13 (View.readAt (Elt F) arg2.view (Rect.unit (s := S256x128) ![0, 0] S256x128.size inb_S256x128_S256x128_0_0).toLoadRect (harg2.unread x0)) k0_pay9)
      (k0_pay14 (k0_pay6 (View.readAt (Elt F) arg5.view (Rect.unit (s := S256x128) ![0, 0] S256x128.size inb_S256x128_S256x128_0_0).toLoadRect (harg5.unread x3))) k0_pay9)
      (k0_pay12 (k0_pay7 (View.readAt (Elt F) arg5.view (Rect.unit (s := S256x128) ![0, 0] S256x128.size inb_S256x128_S256x128_0_0).toLoadRect (harg5.unread x3)) (View.readAt (Elt F) arg6.view (Rect.unit (s := S256x128) ![0, 0] S256x128.size inb_S256x128_S256x128_0_0).toLoadRect (harg6.unread x4))) k0_pay10 k0_pay11)
      k0_pay9
      (k0_pay17 (View.readAt (Elt F) arg2.view (Rect.unit (s := S256x128) ![0, 0] S256x128.size inb_S256x128_S256x128_0_0).toLoadRect (harg2.unread x0)) k0_pay8)
      (k0_pay18 (k0_pay6 (View.readAt (Elt F) arg5.view (Rect.unit (s := S256x128) ![0, 0] S256x128.size inb_S256x128_S256x128_0_0).toLoadRect (harg5.unread x3))) k0_pay8)
      (k0_pay16 (k0_pay7 (View.readAt (Elt F) arg5.view (Rect.unit (s := S256x128) ![0, 0] S256x128.size inb_S256x128_S256x128_0_0).toLoadRect (harg5.unread x3)) (View.readAt (Elt F) arg6.view (Rect.unit (s := S256x128) ![0, 0] S256x128.size inb_S256x128_S256x128_0_0).toLoadRect (harg6.unread x4))) k0_pay8)
      (k0_pay15 k0_pay8))
      (tileOf c arg3 (harg3.unread x1)) (tileOf c arg4 (harg4.unread x2)) ((i 1).val + 1) (tileWord ((i 1).val + 1), 1#32, k0_pay19, k0_pay20, k0_pay20, k0_pay20, k0_pay20)).2.2.1 : Vec F S256x128 .f32)
      = dqOf (i 1).val x0 x1 x2 x3 x4 x5 x6 := by
  unfold envOf dqOf envOfBlocks carry₀
  rw [tileOf_unread, tileOf_unread, triOf_unread, triOf_unread, View.readAt_eq_ld, View.readAt_eq_ld, View.readAt_eq_ld, harg2.read_unread, harg5.read_unread, harg6.read_unread,
    View.ld_unit_zero (S := S256x128) hz2, View.ld_unit_zero (S := S256x128) hz2, View.ld_unit_zero (S := S256x128) hz2]

/-- A whole store of the query gradient's block leaves it. -/
theorem dq_store (arg9 : Memref sig .tc .vmem S256x128 .f32) (f7 : arg9.view.ty.Contents (Elt F)) (v w : Vec F S256x128 .f32) (h : v = w) :
    View.read (Elt F) arg9.view (arg9.view.writes (Elt F) f7 [⟨Rect.unit (s := S256x128) ![0, 0] ![256, 128] inb_S256x128_S256x128_0_0, v⟩]) = w := by
  subst h
  have hc : ∀ y, ∃ p ∈ ([⟨Rect.unit (s := S256x128) ![0, 0] ![256, 128] inb_S256x128_S256x128_0_0, v⟩] : List (View.Piece (Elt F) S256x128 .f32)), y ∈ p.1.set := fun y =>
    ⟨_, List.mem_singleton_self _, View.mem_set_unit_zero (S := S256x128) hz2 inb_S256x128_S256x128_0_0 y⟩
  rw [View.read_writes_eq_canon (Val := Elt F) arg9.view f7 _ hc]
  exact View.canon_unit_zero (Val := Elt F) (S := S256x128) (e := .f32) hz2 inb_S256x128_S256x128_0_0 v

attribute [local irreducible] walk dqOf tileOf envOf in
set_option maxHeartbeats 4000000 in
/-- The body's run. -/
theorem body_run (c : Dev nD) (i : grid0.Coords) (arg2 : Memref sig .tc .vmem S256x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x256 .bf16) (harg7 : arg7.IsWhole) (arg8 : Memref sig .tc .vmem S256x256 .bf16) (harg8 : arg8.IsWhole) (arg9 : Memref sig .tc .vmem S256x128 .f32) (harg9 : arg9.IsWhole) (arg12 : Memref sig .tc .vmem S16384x128 .f32) (harg12 : arg12.IsWhole) (arg13 : Memref sig .tc .vmem S16384x128 .f32) (harg13 : arg13.IsWhole)
    (x0 : Vec F S256x128 .bf16) (x1 : Vec F S16384x128 .bf16) (x2 : Vec F S16384x128 .bf16) (x3 : Vec F S256x128 .f32) (x4 : Vec F S256x128 .f32) (x5 : Vec F S256x256 .bf16) (x6 : Vec F S256x256 .bf16) (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
    ∗ (∃ d, owns (c : Thread nD τ) arg9 fullShare d) ∗ (∃ d, owns (c : Thread nD τ) arg12 fullShare d) ∗ (∃ d, owns (c : Thread nD τ) arg13 fullShare d)
    ∗ semVal ((c : Thread nD τ), SemLoc.dma 14) 0 ∗ semVal ((c : Thread nD τ), SemLoc.dma 15) 0 ∗ (∃ f, hbPt0 c hbM0_0 f) ∗ (∃ f, hbPt0 c hbM0_1 f) ∗ owes (c : Thread nD τ) 0 W
    ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
    ∗ owns (c : Thread nD τ) arg9 fullShare (dqOf (i 1).val x0 x1 x2 x3 x4 x5 x6) ∗ (∃ d, owns (c : Thread nD τ) arg12 fullShare d) ∗ (∃ d, owns (c : Thread nD τ) arg13 fullShare d)
    ∗ semVal ((c : Thread nD τ), SemLoc.dma 14) 0 ∗ semVal ((c : Thread nD τ), SemLoc.dma 15) 0 ∗ (∃ f, hbPt0 c hbM0_0 f) ∗ (∃ f, hbPt0 c hbM0_1 f) ∗ (∃ W', owes (c : Thread nD τ) 0 W')) -∗ K ⟨⟩))
    ⊢ wp frame (wpE (defs₀ (F := F)) Variants.nat c none) Set.univ (cc0_attn_bwd i arg2 harg2 arg3 harg3 arg4 harg4 arg5 harg5 arg6 harg6 arg7 harg7 arg8 harg8 arg9 harg9 (Memref.whole main_v40_1) (Memref.isWhole_whole _) (Memref.whole main_v40_2) (Memref.isWhole_whole _) arg12 harg12 arg13 harg13 cc0_scratch2) K := by
  by_cases hc0 : Scalar.cmpi .ne (Scalar.extui (Scalar.cmpi .eq (BitVec.ofNat 32 (i 1).val) 0#32)) 0#32 = 1#1 <;>
  by_cases hc1 : k0_cond2 i = 1#1
  all_goals
    simp only [cc0_attn_bwd_eq_skeleton]; unfold cc0_attn_bwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hq0, Hq1, ⟨%fw0, Hh0⟩, ⟨%fw1, Hh1⟩, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    iapply (wp_call_spec Variants.nat (c : Thread nD τ) none Set.univ _ ((i 1).val + 1)
      (fun u hu => nomatch hu) (spec_le_word c i arg3 harg3 arg4 harg4 arg7 harg7 arg8 harg8 arg12 harg12 arg13 harg13 _ _ _ _ _ _ _ _
        (harg3.unread x1) (harg4.unread x2) (harg7.unread x5) (harg8.unread x6) Set.univ ((i 1).val + 1) (i 1).isLt _ (startWord_eq (i 1)) _ _ _ _ _ _ _ _))
    rw [spec_apply]; unfold held
    isplitl [H1 H2 H5 H6 HS0 HS1]
    · isplitl [H1]; · iexact H1
      isplitl [H2]; · iexact H2
      isplitl [H5]; · iexact H5
      isplitl [H6]; · iexact H6
      isplitl [HS0]; · iexact HS0
      iexact HS1
    iintro ⟨H1, H2, H5, H6, HS0, HS1⟩
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      refine dq_store arg9 _ _ _ ?_
      exact dq_walk c i arg2 harg2 arg3 harg3 arg4 harg4 arg5 harg5 arg6 harg6 arg7 harg7 arg8 harg8 x0 x1 x2 x3 x4 x5 x6
    isplitl [HS0]
    · iexists _, _; isplitr; swap; · iexact HS0
      ipureintro; rfl
    isplitl [HS1]
    · iexists _, _; isplitr; swap; · iexact HS1
      ipureintro; rfl
    isplitl [Hq0]; · iexact Hq0
    isplitl [Hq1]; · iexact Hq1
    isplitl [Hh0]; · iexists _; iexact Hh0
    isplitl [Hh1]; · iexists _; iexact Hh1
    iexists _; iexact HW

end Cert.Proof.AttnBits

end
-- ==== Proof.AttnBits.Frame.lean ====
/-
  The attention gradient's run: the pipeline's proof data (the blocks of the seven inputs, the query gradient's block as the
  loop leaves it, the scratch and the two copied results at some contents between points), the body obligation from the
  body's run, the launch, and the claim that every execution ends with the arguments unchanged and every counter at zero.
-/
module

public import proofs.«01_k».proof.Proof.AttnBits.Body
public import Idealize.ShloMosaic.Lib.Claim

@[expose] public section

set_option maxRecDepth 16384

noncomputable section

namespace Cert.Proof.AttnBits

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The query gradient's block at a grid point, from the input blocks there. -/
def dqBlk (c : Dev nD) (t : Fin (cfg0 (F := F)).N) : Vec F S256x128 .f32 :=
  dqOf ((grid0.coords t) 1).val (iblk m c 0 t) (iblk m c 1 t) (iblk m c 2 t) (iblk m c 3 t) (iblk m c 4 t) (iblk m c 5 t) (iblk m c 6 t)

/-- The pipeline's proof data on core `c`: the arrays as the region finds them, each input's staging buffer left at its
    block, and between points the launch's own invariant. -/
def dats (_ : Fin 1) (c : Dev nD) : Dat τ (Elt F) Unit ℕ (Pipeline.UD sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqBlk m c t
  Φ _ := Pipeline.ΦDR osem0 spec0 H0 R0 (V m) c
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = iblk m c 5 t := by dsimp only [dats]; rfl
theorem after0_6 (c : Dev nD) (t : Fin (cfg0 (F := F)).N) : (dats m 0 c).after 6 t = iblk m c 6 t := by dsimp only [dats]; rfl

theorem after0_7 (c : Dev nD) (t : Fin (cfg0 (F := F)).N) : (dats m 0 c).after 7 t = dqBlk m c t := by dsimp only [dats]; rfl

theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d
theorem before0_4 (c : Dev nD) (t : Fin (cfg0 (F := F)).N) (d) : (dats m 0 c).before 4 t d = iblk m c 4 t :=
  before0_4_of m (dats m 0 c) (A_eq m c 4) (after0_4 m c) t d
theorem before0_5 (c : Dev nD) (t : Fin (cfg0 (F := F)).N) (d) : (dats m 0 c).before 5 t d = iblk m c 5 t :=
  before0_5_of m (dats m 0 c) (A_eq m c 5) (after0_5 m c) t d
theorem before0_6 (c : Dev nD) (t : Fin (cfg0 (F := F)).N) (d) : (dats m 0 c).before 6 t d = iblk m c 6 t :=
  before0_6_of m (dats m 0 c) (A_eq m c 6) (after0_6 m c) t d

/-- What the body is called with at point `t`, the windows one by one. -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- And what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 4000000 in
/-- The body at any point, by its run. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3, before0_4, before0_5, before0_6]
  rw [show (dats m 0 c).Φ t.succ = Pipeline.ΦDR osem0 spec0 H0 R0 (V m) c from rfl,
    show (dats m 0 c).Φ t.castSucc = Pipeline.ΦDR osem0 spec0 H0 R0 (V m) c from rfl, PhiDR0_eq,
    after0_0, after0_1, after0_2, after0_3, after0_4, after0_5, after0_6, after0_7]
  unfold Dat.owesAt Pipeline.owesWithin
  rw [show (dats m 0 c).owed t.castSucc = 0 from rfl, show (dats m 0 c).owed t.succ = 0 from rfl]
  iintro ⟨⟨⟨HS0, HS1⟩, Hg, ⟨Hq0, Hq1⟩, -, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, H5, H6, H7, HS0, HS1, Hq0, Hq1, Hh0, Hh1, ⟨%W', HW'⟩⟩
  isplitl [HS0 HS1 Hg Hq0 Hq1 Hh0 Hh1]
  · isplitl [HS0 HS1]
    · isplitl [HS0]; · iexact HS0
      iexact HS1
    isplitl [Hg]
    · iexact Hg
    isplitl [Hq0 Hq1]
    · isplitl [Hq0]; · iexact Hq0
      iexact Hq1
    isplitr; · iempintro
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body at `t`. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body obligation at every point. -/
theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

set_option backward.isDefEq.respectTransparency.types false in
/-- The launch: every execution ends with the windows' arrays as the proof data say and every counter at zero. -/
theorem run_main : θ_run defs (onTc (τ := τ) (main (F := F))) (s₀ m ρ) (fun r => (Pipeline.FramePostR (cfgs (F := F)) (dats m) (0 : Fin 1) R0 (V m)) r ∧ r.2.sem = fun _ => 0) :=
  Pipeline.θ_run_frame_dmaR_shared (Q' := _) (cfgs (F := F)) (dats m) (0 : Fin 1) launch₀0 osem0 defs₀ Variants.nat ownSemFacts0 H0 R0 H0_sub R0_sub m ρ main
    (hbody := fun c => (body_obligation m c).loose) (hq := fun _ _ _ => rfl)
    (howed := fun _ _ => rfl) (V := V m) (hmain := hmain m Variants.nat) (hA := A_eq m)
    (hin := fun c => Idealize.SL.BI.Entails.refl _) (hout := fun c => Idealize.SL.BI.Entails.refl _)

/-- Every execution ends with the query gradient's array as the proof data say, the two arguments unchanged and every
    counter at zero. -/
theorem run_value : θ_run defs (onTc (τ := τ) (main (F := F))) ⟨m, fun _ => 0, ρ⟩ (fun r => (∀ c : Dev nD,
      r.2.mem ((c.tc : Thread nD τ).loc main_v40_0) = (dats m 0 c).arrAt 7 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1 7,
      ((h.1 c).1 0).trans (((dats m 0 c).arrAt_in 0 rfl _).trans ((A_eq m c 0).trans (V_main_arg0 m c))),
      ((h.1 c).1 3).trans (((dats m 0 c).arrAt_in 3 rfl _).trans ((A_eq m c 3).trans (V_main_arg1 m c)))⟩, h.2⟩) (run_main m ρ)

/-- The frame, at any reading of the floats: every execution ends, the two arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run_value m ρ)

end Cert.Proof.AttnBits

end
-- ==== Proof.Attn.Claims.lean ====
/-
  The claims about the attention gradient: the frames, the one named constant, and that the arrays of the query,
  the key and the value gradients are those of the plain attention.
-/
module

public import proofs.«01_k».proof.Defs
public import proofs.«01_k».proof.Proof.Attn.Final
public import proofs.«01_k».proof.Proof.Attn.Finite
public import proofs.«01_k».proof.Proof.AttnBits.Frame
public import proofs.«01_k».proof.Proof.Gen.ReferenceIdeal.Run
public import Idealize.ShloMosaic.Adequacy
public import Idealize.ShloMosaic.Init

@[expose] public section

set_option maxRecDepth 16384

noncomputable section

namespace Cert.Proof.Attn

open Idealize.ShloMosaic Idealize.ShloMosaic.TcCoe Idealize.SL.Sem

/-- The frame of the attention gradient over the machine's floats. -/
theorem frame_bits : Cert.quiescent_Kernel := fun m ρ _ => AttnBits.frame (F := Bits) m ρ

/-- Its frame over the reals. -/
theorem frame_ideal : Cert.quiescent_KernelIdeal := fun m ρ _ => frame (F := Ideal) m ρ

/-- The same, where both arguments are finite. -/
theorem frame_ideal_finite : Cert.quiescent_KernelIdeal_pre_finite := fun m ρ _ => frame (F := Ideal) m ρ

/-- The frame of the reference: the arguments are kept, and there is no counter. -/
theorem frame_ref : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The same, where both arguments are finite. -/
theorem frame_ref_finite : Cert.quiescent_ReferenceIdeal_pre_finite := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The one rewrite: the constant that stands for the logarithm of a weight of zero is minus infinity. -/
theorem preserves : Cert.preserves_Kernel_KernelIdeal :=
  IdealRules.named_const.statement (φ := .f32) (name := "log_cut") (b := 0xC2D00000#32) (v := ⊥) (h := rfl)

/-- The entry of an array of two axes at two numbers, as a real number (zero outside the array). -/
def entries {n0 n1 : ℕ} (x : (⟨2, ![n0, n1]⟩ : Shape).Idx → EReal) (r k : ℕ) : ℝ :=
  if h : r < n0 ∧ k < n1 then (x (ix2 ⟨r, h.1⟩ ⟨k, h.2⟩)).toReal else 0

/-- An array of real entries, entry by entry. -/
theorem entries_eq {n0 n1 : ℕ} (x : (⟨2, ![n0, n1]⟩ : Shape).Idx → EReal)
    (h : ∀ i, x i = (((x i).toReal : ℝ) : EReal)) (y : (⟨2, ![n0, n1]⟩ : Shape).Idx) :
    x y = ((entries x (y 0).val (y 1).val : ℝ) : EReal) := by
  unfold entries
  rw [dif_pos ⟨(y 0).isLt, (y 1).isLt⟩]
  exact (h y).trans (congrArg (fun i => (((x i).toReal : ℝ) : EReal)) (eq_ix2 (n0 := n0) (n1 := n1) y))

/-- The kernel's arrays of query, key and value gradients are the gradients of the plain attention by its queries, its keys and
    its values, where both arguments are finite. -/
theorem algebraic : Cert.algebraic_KernelIdeal_ReferenceIdeal_pre_finite := by
  intro m g m' g' hpre hagree
  refine ⟨fun c => (dats m 0 c).arrAt 7 (Cert.KernelIdeal.cfg0 (F := Ideal)).N, fun c => slabs (keyAt m c), fun c => slabs (valAt m c),
    (θ_run Cert.KernelIdeal.defs _ _).mono (fun r h c => ?_) (run_value m g), ?_⟩
  · obtain ⟨⟨hq, hk, hv⟩, hargs⟩ := h.1 c
    exact ⟨hq, hk, hv, hargs⟩
  refine (θ_run Cert.ReferenceIdeal.defs _ _).mono (fun r h c => ?_) (Cert.ReferenceIdeal.Value.run (F := Ideal) m' g')
  obtain ⟨h0, h1, h2, hargs⟩ := h c
  obtain ⟨e0, e1⟩ := hagree c
  obtain ⟨f0, f1⟩ := finite_entries _ _ (hpre c)
  refine ⟨?_, ?_, ?_, hargs⟩
  · refine h0.trans ((Cert.ReferenceIdeal.Read.val_main_v49_eq (F := Ideal) _ _).trans ?_)
    rw [e0, e1]
    exact (dq_array m c _ _ (entries_eq _ f0) (entries_eq _ f1)).symm
  · refine h1.trans ((Cert.ReferenceIdeal.Read.val_main_v51_eq (F := Ideal) _ _).trans ?_)
    rw [e0, e1]
    exact (dk_array m c _ _ (entries_eq _ f0) (entries_eq _ f1)).symm
  · refine h2.trans ((Cert.ReferenceIdeal.Read.val_main_v53_eq (F := Ideal) _ _).trans ?_)
    rw [e0, e1]
    exact (dv_array m c _ _ (entries_eq _ f0) (entries_eq _ f1)).symm

end Cert.Proof.Attn

end
-- ==== Proof.OutProj.NormGrad.lean ====
module

public import Idealize.ShloMosaic.Lib.Pointwise
public import Idealize.ShloMosaic.Lib.IdealHost

@[expose] public section

noncomputable section

/-! The gradient of the root-mean-square norm, in the two forms in which the
programs write it, over the extended reals. -/

namespace Cert.Proof.OutProj

open Idealize.ShloMosaic

/-- The word of 256. -/
theorem ofBits_256 : Ideal.ofBits FTy.f32 1132462080#32 = ((256 : ℝ) : EReal) := by
  simp [Ideal.ofBits, Ideal.ieee, -EReal.coe_mul]; norm_num

/-- The word of minus one half. -/
theorem ofBits_neg_half : Ideal.ofBits FTy.f32 0xBF000000#32 = ((-(1/2) : ℝ) : EReal) := by
  simp [Ideal.ofBits, Ideal.ieee, -EReal.coe_mul, -EReal.coe_neg]; norm_num

/-- The norm's small addend is a positive real. -/
theorem ofBits_eps : ∃ e : ℝ, 0 < e ∧ Ideal.ofBits FTy.f32 0x358637BD#32 = (e : EReal) := by
  refine ⟨8796093 / 2 ^ 43, by norm_num, ?_⟩
  simp [Ideal.ofBits, Ideal.ieee, -EReal.coe_mul]; norm_num

/-- A square is not negative. -/
theorem sq_nonneg' (a : EReal) : 0 ≤ a * a := by
  induction a with
  | bot => simp
  | top => simp
  | coe a => exact_mod_cast mul_self_nonneg a

/-- A positive real factor goes into a sum. -/
theorem coe_mul_sum {ι : Type*} (s : Finset ι) (f : ι → EReal) (r : ℝ) (hr : 0 ≤ r) :
    ∑ k ∈ s, f k * (r : EReal) = (∑ k ∈ s, f k) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

/-- A value times `-a`, twice, is less the value times `2 a`. -/
theorem twice (P : EReal) (a b : ℝ) (ha : a < 0) (hb : 0 < b) (h : a + a = -b) :
    P * (a : EReal) + P * (a : EReal) = -(P * (b : EReal)) := by
  induction P with
  | bot => simp [EReal.bot_mul_coe_of_neg ha, EReal.bot_mul_coe_of_pos hb]
  | top => simp [EReal.top_mul_coe_of_neg ha, EReal.top_mul_coe_of_pos hb]
  | coe p =>
    norm_cast
    rw [← mul_add, h]; ring

/-- The norm's gradient at one entry, as the kernel writes it and as the derivative of the plain
norm reads. -/
theorem grad_eq_of {n : ℕ} (N : ℝ) (hN : 0 < N) (y u : Fin n → EReal) (c : Fin n) (e : ℝ) (he : 0 < e) :
    let M := Ideal.div (∑ k, y k * y k) (N : EReal) + (e : EReal)
    let r := Ideal.rsqrt M
    let q := Ideal.div ((∑ k, y k * u k) * (((-(1/2) : ℝ) : EReal) * Ideal.div r M)) (N : EReal)
    r * (u c - y c * r * Ideal.div (∑ k, u k * (y k * r)) (N : EReal))
      = u c * r + y c * q + q * y c := by
  intro M r q
  have h256 : N ≠ 0 := hN.ne'
  have hS : (0 : EReal) ≤ ∑ k, y k * y k := Finset.sum_nonneg fun k _ => sq_nonneg' (y k)
  have hM : M = (∑ k, y k * y k) * ((1 / N : ℝ) : EReal) + (e : EReal) := by
    simp only [M]; rw [Ideal.div_coe h256]
  generalize hSS : ∑ k, y k * y k = S at hS hM
  induction S with
  | bot => simp at hS
  | top =>
    have hMt : M = ⊤ := by
      rw [hM, EReal.top_mul_coe_of_pos (by positivity)]; simp
    have hr : r = 0 := by simp only [r]; rw [hMt]; rfl
    have hq : q = 0 := by
      simp only [q]; rw [hr, hMt]; simp [Ideal.div, h256]
    rw [hr, hq]; simp
  | coe s =>
    have hs : 0 ≤ s := by exact_mod_cast hS
    have hMr : M = ((s * (1 / N) + e : ℝ) : EReal) := by rw [hM]; norm_cast
    generalize hx : s * (1 / N) + e = x at hMr
    have hxp : 0 < x := by rw [← hx]; positivity
    have hr : r = (((Real.sqrt x)⁻¹ : ℝ) : EReal) := by
      simp only [r]; rw [hMr, Ideal.rsqrt_coe, if_neg (not_lt.mpr hxp.le), if_neg hxp.ne']
    have hsq : 0 < Real.sqrt x := Real.sqrt_pos.mpr hxp
    generalize hρ : (Real.sqrt x)⁻¹ = ρ at hr
    have hρ0 : 0 < ρ := by rw [← hρ]; positivity
    have hρx : 1 / x = ρ * ρ := by
      rw [← hρ, ← mul_inv, Real.mul_self_sqrt hxp.le, one_div]
    have hsum : ∑ k, u k * (y k * r) = (∑ k, y k * u k) * (ρ : EReal) := by
      rw [← coe_mul_sum _ _ _ hρ0.le]
      refine Finset.sum_congr rfl fun k _ => ?_
      rw [hr, ← mul_assoc, mul_comm (u k)]
    have hq : q = (∑ k, y k * u k) * ((-(1/2) * (ρ * (ρ * ρ)) * (1 / N) : ℝ) : EReal) := by
      simp only [q]
      rw [Ideal.div_coe h256, hMr, Ideal.div_coe hxp.ne', hr, hρx, mul_assoc]
      norm_cast
    rw [hsum, Ideal.div_coe h256, hq, hr]
    generalize ∑ k, y k * u k = T
    have h1 : y c * (ρ : EReal) * (T * (ρ : EReal) * ((1 / N : ℝ) : EReal)) = (y c * T) * ((ρ * ρ * (1 / N) : ℝ) : EReal) := by
      push_cast
      simp only [mul_assoc, mul_comm, mul_left_comm]
    rw [h1, sub_eq_add_neg, EReal.left_distrib_of_nonneg_of_ne_top (by exact_mod_cast hρ0.le) (EReal.coe_ne_top ρ),
      add_assoc, mul_comm (ρ : EReal) (u c), mul_comm (T * _) (y c), ← mul_assoc (y c) T,
      twice (y c * T) _ (ρ * (ρ * ρ) * (1 / N)) (by
        have := mul_pos (mul_pos hρ0 (mul_pos hρ0 hρ0)) (by positivity : 0 < 1 / N)
        linarith) (by positivity) (by ring)]
    congr 1
    rw [mul_neg]
    congr 1
    rw [mul_left_comm, ← EReal.coe_mul]
    congr 2
    ring

/-- The same over 256 entries. -/
theorem grad_eq (y u : Fin 256 → EReal) (c : Fin 256) (e : ℝ) (he : 0 < e) :
    let M := Ideal.div (∑ k, y k * y k) ((256 : ℝ) : EReal) + (e : EReal)
    let r := Ideal.rsqrt M
    let q := Ideal.div ((∑ k, y k * u k) * (((-(1/2) : ℝ) : EReal) * Ideal.div r M)) ((256 : ℝ) : EReal)
    r * (u c - y c * r * Ideal.div (∑ k, u k * (y k * r)) ((256 : ℝ) : EReal))
      = u c * r + y c * q + q * y c := grad_eq_of 256 (by norm_num) y u c e he

end Cert.Proof.OutProj
-- ==== Proof.OutProj.Blocks.lean ====
module

public import proofs.«01_k».proof.Proof.Gen.Kernel2Ideal.Value
public import proofs.«01_k».proof.Proof.OutProj.NormGrad
public import Idealize.ShloMosaic.Lib.Pipeline.ReadBack

@[expose] public section

noncomputable section

namespace Cert.Proof.OutProj

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The rows of `dx1` that grid point `t` reads. -/
def dxB (c : Dev nD) (t : Fin cfg0.N) : Vec Ideal S1024x1024 .f32 := iblk m c 0 t
/-- The rows of `y_a` that grid point `t` reads. -/
def yaB (c : Dev nD) (t : Fin cfg0.N) : Vec Ideal S1024x256 .f32 := iblk m c 1 t
/-- The rows of `y_b` that grid point `t` reads. -/
def ybB (c : Dev nD) (t : Fin cfg0.N) : Vec Ideal S1024x256 .f32 := iblk m c 2 t
/-- The rows of `y_c` that grid point `t` reads. -/
def ycB (c : Dev nD) (t : Fin cfg0.N) : Vec Ideal S1024x256 .f32 := iblk m c 3 t
/-- The rows of `y_d` that grid point `t` reads. -/
def ydB (c : Dev nD) (t : Fin cfg0.N) : Vec Ideal S1024x256 .f32 := iblk m c 4 t
/-- The gain row, as grid point `t` reads it. -/
def mgB (c : Dev nD) (t : Fin cfg0.N) : Vec Ideal S1x1024 .f32 := iblk m c 5 t
/-- The output projection, as grid point `t` reads it. -/
def woB (c : Dev nD) (t : Fin cfg0.N) : Vec Ideal S1024x1024 .bf16 := iblk m c 6 t

/-- The gain of a row's norm: the reciprocal root of its mean square and the small addend. -/
def rinv (y : Fin 256 → EReal) : EReal :=
  Ideal.rsqrt (Ideal.div (∑ k, y k * y k) (Ideal.ofBits FTy.f32 0x43800000#32) + Ideal.ofBits FTy.f32 0x358637BD#32)

/-- A row's norm. -/
def nrm (y : Fin 256 → EReal) (k : Fin 256) : EReal := y k * rinv y

/-- The norm's gradient as the kernel writes it. -/
def gradK (y u : Fin 256 → EReal) (k : Fin 256) : EReal :=
  rinv y * (u k - y k * rinv y * Ideal.div (∑ j, u j * (y j * rinv y)) (Ideal.ofBits FTy.f32 0x43800000#32))

/-- Four rows side by side. -/
def cat4 (a b c d : Fin 256 → EReal) (e : Fin 1024) : EReal :=
  if h : e.val < 256 then a ⟨e.val, h⟩
  else if h : e.val - 256 < 256 then b ⟨e.val - 256, h⟩
  else if h : e.val - 256 - 256 < 256 then c ⟨e.val - 256 - 256, h⟩
  else d ⟨e.val - 256 - 256 - 256, by have := e.isLt; omega⟩

/-- A row of `y`. -/
def rowOf {n : ℕ} (y : Vec Ideal (⟨2, ![n, 256]⟩ : Shape) .f32) (s : Fin n) : Fin 256 → EReal := fun k => y (ix2 s k)

/-- The gradient of the normed and gained row: `dx1` times the transposed projection. -/
def dnr {n : ℕ} (x : Vec Ideal (⟨2, ![n, 1024]⟩ : Shape) .f32) (w : Vec Ideal (⟨2, ![1024, 1024]⟩ : Shape) .bf16)
    (s : Fin n) (e : Fin 1024) : EReal := ∑ d : Fin 1024, x (ix2 s d) * w (ix2 e d)

/-- The normed rows side by side. -/
def nrmRow {n : ℕ} (ya yb yc yd : Vec Ideal (⟨2, ![n, 256]⟩ : Shape) .f32) (s : Fin n) : Fin 1024 → EReal :=
  cat4 (nrm (rowOf ya s)) (nrm (rowOf yb s)) (nrm (rowOf yc s)) (nrm (rowOf yd s))

/-- The gradient that reaches a norm, `o` columns in. -/
def upG {n : ℕ} (x : Vec Ideal (⟨2, ![n, 1024]⟩ : Shape) .f32) (w : Vec Ideal (⟨2, ![1024, 1024]⟩ : Shape) .bf16)
    (g : Vec Ideal (⟨2, ![1, 1024]⟩ : Shape) .f32) (o : ℕ) (ho : o + 256 ≤ 1024) (s : Fin n) (k : Fin 256) : EReal :=
  dnr x w s ⟨o + k.val, by omega⟩ * g (ix2 0 ⟨o + k.val, by omega⟩)

theorem dya_A (c : Dev nD) (t : Fin cfg0.N) (h0 : t.val % 16 = 0) (s : Fin 1024) (k : Fin 256) :
    (outsAt0 m c t.val t.isLt).1 (ix2 s k) = gradK (rowOf (yaB m c t) s) (upG (dxB m c t) (woB m c t) (mgB m c t) 0 (by omega) s) k := by
  rw [outsAt0_A m c t h0]
  dsimp only
  unfold out0_A_7
  rw [View.read_writes_eq_canon _ _ _ (by intro y; apply cover0_A_7)]
  unfold kernelRun0_A
  dsimp only
  rw [View.canon_unit_zero hz]
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1024x256) hz, View.ld_unit_zero (S := S1024x1024) hz]
  change k0_pay13 (k0_pay7 (yaB m c t)) (k0_pay8 (yaB m c t)) (k0_pay12 (dxB m c t) (woB m c t)
        (View.ld (mgB m c t) (Rect.unit (s := S1x1024) ![0, 0] S1x256.size inb_S1x1024_S1x256_0_0))) (ix2 s k) = _
  generalize yaB m c t = y
  generalize dxB m c t = x
  generalize woB m c t = w
  generalize mgB m c t = g
  pointwise [k0_pay13, k0_pay7, k0_pay8, k0_pay12, k0_pay9, k0_pay6, k0_pay5, gradK, upG, dnr, rinv, rowOf, Nat.zero_add]

theorem dya_B (c : Dev nD) (t : Fin cfg0.N) (h0 : ¬t.val % 16 = 0) (s : Fin 1024) (k : Fin 256) :
    (outsAt0 m c t.val t.isLt).1 (ix2 s k) = gradK (rowOf (yaB m c t) s) (upG (dxB m c t) (woB m c t) (mgB m c t) 0 (by omega) s) k := by
  rw [outsAt0_B m c t h0]
  dsimp only
  unfold out0_B_7
  rw [View.read_writes_eq_canon _ _ _ (by intro y; apply cover0_B_7)]
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1024x256) hz, View.ld_unit_zero (S := S1024x1024) hz]
  change k0_pay13 (k0_pay7 (yaB m c t)) (k0_pay8 (yaB m c t)) (k0_pay12 (dxB m c t) (woB m c t)
        (View.ld (mgB m c t) (Rect.unit (s := S1x1024) ![0, 0] S1x256.size inb_S1x1024_S1x256_0_0))) (ix2 s k) = _
  generalize yaB m c t = y
  generalize dxB m c t = x
  generalize woB m c t = w
  generalize mgB m c t = g
  pointwise [k0_pay13, k0_pay7, k0_pay8, k0_pay12, k0_pay9, k0_pay6, k0_pay5, gradK, upG, dnr, rinv, rowOf, Nat.zero_add]

theorem dyb_A (c : Dev nD) (t : Fin cfg0.N) (h0 : t.val % 16 = 0) (s : Fin 1024) (k : Fin 256) :
    (outsAt0 m c t.val t.isLt).2.1 (ix2 s k) = gradK (rowOf (ybB m c t) s) (upG (dxB m c t) (woB m c t) (mgB m c t) 256 (by omega) s) k := by
  rw [outsAt0_A m c t h0]
  dsimp only
  unfold out0_A_8
  rw [View.read_writes_eq_canon _ _ _ (by intro y; apply cover0_A_8)]
  unfold kernelRun0_A
  dsimp only
  rw [View.canon_unit_zero hz]
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1024x256) hz, View.ld_unit_zero (S := S1024x1024) hz]
  change k0_pay20 (k0_pay14 (ybB m c t)) (k0_pay15 (ybB m c t)) (k0_pay19 (k0_pay6 (dxB m c t) (woB m c t))
        (View.ld (mgB m c t) (Rect.unit (s := S1x1024) ![0, 256] S1x256.size inb_S1x1024_S1x256_0_256))) (ix2 s k) = _
  generalize ybB m c t = y
  generalize dxB m c t = x
  generalize woB m c t = w
  generalize mgB m c t = g
  pointwise [k0_pay20, k0_pay14, k0_pay15, k0_pay19, k0_pay16, k0_pay6, k0_pay5, gradK, upG, dnr, rinv, rowOf, Nat.zero_add]

theorem dyb_B (c : Dev nD) (t : Fin cfg0.N) (h0 : ¬t.val % 16 = 0) (s : Fin 1024) (k : Fin 256) :
    (outsAt0 m c t.val t.isLt).2.1 (ix2 s k) = gradK (rowOf (ybB m c t) s) (upG (dxB m c t) (woB m c t) (mgB m c t) 256 (by omega) s) k := by
  rw [outsAt0_B m c t h0]
  dsimp only
  unfold out0_B_8
  rw [View.read_writes_eq_canon _ _ _ (by intro y; apply cover0_B_8)]
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1024x256) hz, View.ld_unit_zero (S := S1024x1024) hz]
  change k0_pay20 (k0_pay14 (ybB m c t)) (k0_pay15 (ybB m c t)) (k0_pay19 (k0_pay6 (dxB m c t) (woB m c t))
        (View.ld (mgB m c t) (Rect.unit (s := S1x1024) ![0, 256] S1x256.size inb_S1x1024_S1x256_0_256))) (ix2 s k) = _
  generalize ybB m c t = y
  generalize dxB m c t = x
  generalize woB m c t = w
  generalize mgB m c t = g
  pointwise [k0_pay20, k0_pay14, k0_pay15, k0_pay19, k0_pay16, k0_pay6, k0_pay5, gradK, upG, dnr, rinv, rowOf, Nat.zero_add]

theorem dyc_A (c : Dev nD) (t : Fin cfg0.N) (h0 : t.val % 16 = 0) (s : Fin 1024) (k : Fin 256) :
    (outsAt0 m c t.val t.isLt).2.2.1 (ix2 s k) = gradK (rowOf (ycB m c t) s) (upG (dxB m c t) (woB m c t) (mgB m c t) 512 (by omega) s) k := by
  rw [outsAt0_A m c t h0]
  dsimp only
  unfold out0_A_9
  rw [View.read_writes_eq_canon _ _ _ (by intro y; apply cover0_A_9)]
  unfold kernelRun0_A
  dsimp only
  rw [View.canon_unit_zero hz]
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1024x256) hz, View.ld_unit_zero (S := S1024x1024) hz]
  change k0_pay27 (k0_pay21 (ycB m c t)) (k0_pay22 (ycB m c t)) (k0_pay26 (k0_pay6 (dxB m c t) (woB m c t))
        (View.ld (mgB m c t) (Rect.unit (s := S1x1024) ![0, 512] S1x256.size inb_S1x1024_S1x256_0_512))) (ix2 s k) = _
  generalize ycB m c t = y
  generalize dxB m c t = x
  generalize woB m c t = w
  generalize mgB m c t = g
  pointwise [k0_pay27, k0_pay21, k0_pay22, k0_pay26, k0_pay23, k0_pay6, k0_pay5, gradK, upG, dnr, rinv, rowOf, Nat.zero_add]

theorem dyc_B (c : Dev nD) (t : Fin cfg0.N) (h0 : ¬t.val % 16 = 0) (s : Fin 1024) (k : Fin 256) :
    (outsAt0 m c t.val t.isLt).2.2.1 (ix2 s k) = gradK (rowOf (ycB m c t) s) (upG (dxB m c t) (woB m c t) (mgB m c t) 512 (by omega) s) k := by
  rw [outsAt0_B m c t h0]
  dsimp only
  unfold out0_B_9
  rw [View.read_writes_eq_canon _ _ _ (by intro y; apply cover0_B_9)]
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1024x256) hz, View.ld_unit_zero (S := S1024x1024) hz]
  change k0_pay27 (k0_pay21 (ycB m c t)) (k0_pay22 (ycB m c t)) (k0_pay26 (k0_pay6 (dxB m c t) (woB m c t))
        (View.ld (mgB m c t) (Rect.unit (s := S1x1024) ![0, 512] S1x256.size inb_S1x1024_S1x256_0_512))) (ix2 s k) = _
  generalize ycB m c t = y
  generalize dxB m c t = x
  generalize woB m c t = w
  generalize mgB m c t = g
  pointwise [k0_pay27, k0_pay21, k0_pay22, k0_pay26, k0_pay23, k0_pay6, k0_pay5, gradK, upG, dnr, rinv, rowOf, Nat.zero_add]

theorem dyd_A (c : Dev nD) (t : Fin cfg0.N) (h0 : t.val % 16 = 0) (s : Fin 1024) (k : Fin 256) :
    (outsAt0 m c t.val t.isLt).2.2.2.1 (ix2 s k) = gradK (rowOf (ydB m c t) s) (upG (dxB m c t) (woB m c t) (mgB m c t) 768 (by omega) s) k := by
  rw [outsAt0_A m c t h0]
  dsimp only
  unfold out0_A_10
  rw [View.read_writes_eq_canon _ _ _ (by intro y; apply cover0_A_10)]
  unfold kernelRun0_A
  dsimp only
  rw [View.canon_unit_zero hz]
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1024x256) hz, View.ld_unit_zero (S := S1024x1024) hz]
  change k0_pay1 (k0_pay28 (ydB m c t)) (k0_pay29 (ydB m c t)) (k0_pay33 (k0_pay6 (dxB m c t) (woB m c t))
        (View.ld (mgB m c t) (Rect.unit (s := S1x1024) ![0, 768] S1x256.size inb_S1x1024_S1x256_0_768))) (ix2 s k) = _
  generalize ydB m c t = y
  generalize dxB m c t = x
  generalize woB m c t = w
  generalize mgB m c t = g
  pointwise [k0_pay1, k0_pay28, k0_pay29, k0_pay33, k0_pay30, k0_pay6, k0_pay5, gradK, upG, dnr, rinv, rowOf, Nat.zero_add]

theorem dyd_B (c : Dev nD) (t : Fin cfg0.N) (h0 : ¬t.val % 16 = 0) (s : Fin 1024) (k : Fin 256) :
    (outsAt0 m c t.val t.isLt).2.2.2.1 (ix2 s k) = gradK (rowOf (ydB m c t) s) (upG (dxB m c t) (woB m c t) (mgB m c t) 768 (by omega) s) k := by
  rw [outsAt0_B m c t h0]
  dsimp only
  unfold out0_B_10
  rw [View.read_writes_eq_canon _ _ _ (by intro y; apply cover0_B_10)]
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1024x256) hz, View.ld_unit_zero (S := S1024x1024) hz]
  change k0_pay1 (k0_pay28 (ydB m c t)) (k0_pay29 (ydB m c t)) (k0_pay33 (k0_pay6 (dxB m c t) (woB m c t))
        (View.ld (mgB m c t) (Rect.unit (s := S1x1024) ![0, 768] S1x256.size inb_S1x1024_S1x256_0_768))) (ix2 s k) = _
  generalize ydB m c t = y
  generalize dxB m c t = x
  generalize woB m c t = w
  generalize mgB m c t = g
  pointwise [k0_pay1, k0_pay28, k0_pay29, k0_pay33, k0_pay30, k0_pay6, k0_pay5, gradK, upG, dnr, rinv, rowOf, Nat.zero_add]

end Cert.Proof.OutProj
-- ==== Proof.OutProj.Acc.lean ====
module

public import proofs.«01_k».proof.Proof.OutProj.Blocks

@[expose] public section

set_option maxRecDepth 16384

noncomputable section

namespace Cert.Proof.OutProj

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The index of entry `k` of a quarter of the gain row. -/
theorem emb_quarter (o : ℕ) (inb : ∀ a, (![0, o] : Fin 2 → ℕ) a + S1x256.size a ≤ S1x1024.size a) (a : Fin 1) (k : Fin 256) (h : o + k.val < 1024) :
    (Rect.unit (s := S1x1024) ![0, o] S1x256.size inb).emb (ix2 a k) = (ix2 0 ⟨o + k.val, h⟩ : S1x1024.Idx) := by
  funext b
  apply Fin.ext
  rw [Rect.emb_apply]
  match b with
  | ⟨0, _⟩ => simp
  | ⟨1, _⟩ => simp

/-- The index of an entry of a quarter of the normed rows. -/
theorem emb_quarter_rows (o : ℕ) (inb : ∀ a, (![0, o] : Fin 2 → ℕ) a + S1024x256.size a ≤ S1024x1024.size a) (a : Fin 1024) (k : Fin 256) (h : o + k.val < 1024) :
    (Rect.unit (s := S1024x1024) ![0, o] S1024x256.size inb).emb (ix2 a k) = (ix2 a ⟨o + k.val, h⟩ : S1024x1024.Idx) := by
  funext b
  apply Fin.ext
  rw [Rect.emb_apply]
  match b with
  | ⟨0, _⟩ => simp
  | ⟨1, _⟩ => simp

variable (a b c d : Fin 256 → EReal) (k : Fin 256)

theorem cat4_0 (h : 0 + k.val < 1024) : cat4 a b c d ⟨0 + k.val, h⟩ = a k := by
  unfold cat4
  rw [dif_pos (by have := k.isLt; show 0 + k.val < 256; omega)]
  exact congrArg a (Fin.ext (Nat.zero_add _))

theorem cat4_1 (h : 256 + k.val < 1024) : cat4 a b c d ⟨256 + k.val, h⟩ = b k := by
  have := k.isLt
  unfold cat4
  rw [dif_neg (by show ¬256 + k.val < 256; omega), dif_pos (by show 256 + k.val - 256 < 256; omega)]
  exact congrArg b (Fin.ext (by show 256 + k.val - 256 = k.val; omega))

theorem cat4_2 (h : 512 + k.val < 1024) : cat4 a b c d ⟨512 + k.val, h⟩ = c k := by
  have := k.isLt
  unfold cat4
  rw [dif_neg (by show ¬512 + k.val < 256; omega), dif_neg (by show ¬512 + k.val - 256 < 256; omega),
    dif_pos (by show 512 + k.val - 256 - 256 < 256; omega)]
  exact congrArg c (Fin.ext (by show 512 + k.val - 256 - 256 = k.val; omega))

theorem cat4_3 (h : 768 + k.val < 1024) : cat4 a b c d ⟨768 + k.val, h⟩ = d k := by
  have := k.isLt
  unfold cat4
  rw [dif_neg (by show ¬768 + k.val < 256; omega), dif_neg (by show ¬768 + k.val - 256 < 256; omega),
    dif_neg (by show ¬768 + k.val - 256 - 256 < 256; omega)]
  exact congrArg d (Fin.ext (by show 768 + k.val - 256 - 256 - 256 = k.val; omega))

/-- What one grid point adds to the gain's gradient. -/
def addG {n : ℕ} (x : Vec Ideal (⟨2, ![n, 1024]⟩ : Shape) .f32) (w : Vec Ideal (⟨2, ![1024, 1024]⟩ : Shape) .bf16)
    (ya yb yc yd : Vec Ideal (⟨2, ![n, 256]⟩ : Shape) .f32) (e : Fin 1024) : EReal :=
  ∑ s : Fin n, dnr x w s e * nrmRow ya yb yc yd s e

/-- What one grid point adds to the projection's gradient. -/
def addW {n : ℕ} (x : Vec Ideal (⟨2, ![n, 1024]⟩ : Shape) .f32) (g : Vec Ideal (⟨2, ![1, 1024]⟩ : Shape) .f32)
    (ya yb yc yd : Vec Ideal (⟨2, ![n, 256]⟩ : Shape) .f32) (e f : Fin 1024) : EReal :=
  ∑ s : Fin n, nrmRow ya yb yc yd s e * g (ix2 0 e) * x (ix2 s f)

/-- Quarter 0 of the gain's gradient: what was there and the point's sum. -/
theorem quarterG_0 (cc : Dev nD) (t : Fin cfg0.N) (prev : Vec Ideal S1x256 .f32) (a : Fin 1) (k : Fin 256) :
    k0_pay11 (dxB m cc t) (woB m cc t) (yaB m cc t) prev (ix2 a k) = prev (ix2 0 k)
      + addG (dxB m cc t) (woB m cc t) (yaB m cc t) (ybB m cc t) (ycB m cc t) (ydB m cc t) ⟨0 + k.val, by omega⟩ := by
  obtain rfl : a = 0 := Subsingleton.elim a 0
  unfold addG nrmRow
  simp only [cat4_0]
  generalize dxB m cc t = x
  generalize woB m cc t = w
  generalize yaB m cc t = y
  pointwise [k0_pay11, k0_pay8, k0_pay7, k0_pay9, k0_pay6, k0_pay5, dnr, nrm, rinv, rowOf, Nat.zero_add]

/-- Quarter 0 of the normed and gained rows. -/
theorem quarterN_0 (cc : Dev nD) (t : Fin cfg0.N) (s : Fin 1024) (k : Fin 256) :
    k0_pay10 (yaB m cc t) (View.ld (mgB m cc t) (Rect.unit (s := S1x1024) ![0, 0] S1x256.size inb_S1x1024_S1x256_0_0)) (ix2 s k)
      = nrmRow (yaB m cc t) (ybB m cc t) (ycB m cc t) (ydB m cc t) s ⟨0 + k.val, by omega⟩ * mgB m cc t (ix2 0 ⟨0 + k.val, by omega⟩) := by
  unfold nrmRow
  simp only [cat4_0]
  generalize mgB m cc t = g
  generalize yaB m cc t = y
  pointwise [k0_pay10, k0_pay8, k0_pay7, k0_pay9, nrm, rinv, rowOf, Nat.zero_add]

/-- Quarter 1 of the gain's gradient: what was there and the point's sum. -/
theorem quarterG_1 (cc : Dev nD) (t : Fin cfg0.N) (prev : Vec Ideal S1x256 .f32) (a : Fin 1) (k : Fin 256) :
    k0_pay18 (k0_pay6 (dxB m cc t) (woB m cc t)) (ybB m cc t) prev (ix2 a k) = prev (ix2 0 k)
      + addG (dxB m cc t) (woB m cc t) (yaB m cc t) (ybB m cc t) (ycB m cc t) (ydB m cc t) ⟨256 + k.val, by omega⟩ := by
  obtain rfl : a = 0 := Subsingleton.elim a 0
  unfold addG nrmRow
  simp only [cat4_1]
  generalize dxB m cc t = x
  generalize woB m cc t = w
  generalize ybB m cc t = y
  pointwise [k0_pay18, k0_pay15, k0_pay14, k0_pay16, k0_pay6, k0_pay5, dnr, nrm, rinv, rowOf, Nat.zero_add]

/-- Quarter 1 of the normed and gained rows. -/
theorem quarterN_1 (cc : Dev nD) (t : Fin cfg0.N) (s : Fin 1024) (k : Fin 256) :
    k0_pay17 (ybB m cc t) (View.ld (mgB m cc t) (Rect.unit (s := S1x1024) ![0, 256] S1x256.size inb_S1x1024_S1x256_0_256)) (ix2 s k)
      = nrmRow (yaB m cc t) (ybB m cc t) (ycB m cc t) (ydB m cc t) s ⟨256 + k.val, by omega⟩ * mgB m cc t (ix2 0 ⟨256 + k.val, by omega⟩) := by
  unfold nrmRow
  simp only [cat4_1]
  generalize mgB m cc t = g
  generalize ybB m cc t = y
  pointwise [k0_pay17, k0_pay15, k0_pay14, k0_pay16, nrm, rinv, rowOf, Nat.zero_add]

/-- Quarter 2 of the gain's gradient: what was there and the point's sum. -/
theorem quarterG_2 (cc : Dev nD) (t : Fin cfg0.N) (prev : Vec Ideal S1x256 .f32) (a : Fin 1) (k : Fin 256) :
    k0_pay25 (k0_pay6 (dxB m cc t) (woB m cc t)) (ycB m cc t) prev (ix2 a k) = prev (ix2 0 k)
      + addG (dxB m cc t) (woB m cc t) (yaB m cc t) (ybB m cc t) (ycB m cc t) (ydB m cc t) ⟨512 + k.val, by omega⟩ := by
  obtain rfl : a = 0 := Subsingleton.elim a 0
  unfold addG nrmRow
  simp only [cat4_2]
  generalize dxB m cc t = x
  generalize woB m cc t = w
  generalize ycB m cc t = y
  pointwise [k0_pay25, k0_pay22, k0_pay21, k0_pay23, k0_pay6, k0_pay5, dnr, nrm, rinv, rowOf, Nat.zero_add]

/-- Quarter 2 of the normed and gained rows. -/
theorem quarterN_2 (cc : Dev nD) (t : Fin cfg0.N) (s : Fin 1024) (k : Fin 256) :
    k0_pay24 (ycB m cc t) (View.ld (mgB m cc t) (Rect.unit (s := S1x1024) ![0, 512] S1x256.size inb_S1x1024_S1x256_0_512)) (ix2 s k)
      = nrmRow (yaB m cc t) (ybB m cc t) (ycB m cc t) (ydB m cc t) s ⟨512 + k.val, by omega⟩ * mgB m cc t (ix2 0 ⟨512 + k.val, by omega⟩) := by
  unfold nrmRow
  simp only [cat4_2]
  generalize mgB m cc t = g
  generalize ycB m cc t = y
  pointwise [k0_pay24, k0_pay22, k0_pay21, k0_pay23, nrm, rinv, rowOf, Nat.zero_add]

/-- Quarter 3 of the gain's gradient: what was there and the point's sum. -/
theorem quarterG_3 (cc : Dev nD) (t : Fin cfg0.N) (prev : Vec Ideal S1x256 .f32) (a : Fin 1) (k : Fin 256) :
    k0_pay32 (k0_pay6 (dxB m cc t) (woB m cc t)) (ydB m cc t) prev (ix2 a k) = prev (ix2 0 k)
      + addG (dxB m cc t) (woB m cc t) (yaB m cc t) (ybB m cc t) (ycB m cc t) (ydB m cc t) ⟨768 + k.val, by omega⟩ := by
  obtain rfl : a = 0 := Subsingleton.elim a 0
  unfold addG nrmRow
  simp only [cat4_3]
  generalize dxB m cc t = x
  generalize woB m cc t = w
  generalize ydB m cc t = y
  pointwise [k0_pay32, k0_pay29, k0_pay28, k0_pay30, k0_pay6, k0_pay5, dnr, nrm, rinv, rowOf, Nat.zero_add]

/-- Quarter 3 of the normed and gained rows. -/
theorem quarterN_3 (cc : Dev nD) (t : Fin cfg0.N) (s : Fin 1024) (k : Fin 256) :
    k0_pay31 (ydB m cc t) (View.ld (mgB m cc t) (Rect.unit (s := S1x1024) ![0, 768] S1x256.size inb_S1x1024_S1x256_0_768)) (ix2 s k)
      = nrmRow (yaB m cc t) (ybB m cc t) (ycB m cc t) (ydB m cc t) s ⟨768 + k.val, by omega⟩ * mgB m cc t (ix2 0 ⟨768 + k.val, by omega⟩) := by
  unfold nrmRow
  simp only [cat4_3]
  generalize mgB m cc t = g
  generalize ydB m cc t = y
  pointwise [k0_pay31, k0_pay29, k0_pay28, k0_pay30, nrm, rinv, rowOf, Nat.zero_add]

/-- An entry whose column lies in a quarter is in that quarter's rectangle of the scratch. -/
theorem mem_rows (o : ℕ) (inb : ∀ a, (![0, o] : Fin 2 → ℕ) a + S1024x256.size a ≤ S1024x1024.size a) (j : S1024x1024.Idx)
    (h : o ≤ (j 1).val) (h' : (j 1).val < o + 256) : j ∈ (Rect.unit (s := S1024x1024) ![0, o] S1024x256.size inb).set := by
  rw [Rect.mem_set_unit]
  intro b
  match b with
  | ⟨0, _⟩ => exact ⟨Nat.zero_le _, by have : (j 0).val < 1024 := (j 0).isLt; show (j 0).val < 0 + 1024; omega⟩
  | ⟨1, _⟩ => exact ⟨h, h'⟩

/-- An entry of a quarter is in that quarter's rectangle of the gain row. -/
theorem mem_row (o : ℕ) (inb : ∀ a, (![0, o] : Fin 2 → ℕ) a + S1x256.size a ≤ S1x1024.size a) (j : S1x1024.Idx)
    (h : o ≤ (j 1).val) (h' : (j 1).val < o + 256) : j ∈ (Rect.unit (s := S1x1024) ![0, o] S1x256.size inb).set := by
  rw [Rect.mem_set_unit]
  intro b
  match b with
  | ⟨0, _⟩ => exact ⟨Nat.zero_le _, by have : (j 0).val < 1 := (j 0).isLt; show (j 0).val < 0 + 1; omega⟩
  | ⟨1, _⟩ => exact ⟨h, h'⟩

/-- The scratch, read whole after its four quarters are stored: the normed and gained rows. -/
theorem scratch_read (c : Dev nD) (t : Fin cfg0.N) (v : View sig .tc .vmem S1024x1024 .bf16) :
    v.readCov (Val := Elt Ideal) [
      ⟨Rect.unit (s := S1024x1024) ![0, 768] S1024x256.size inb_S1024x1024_S1024x256_0_768, k0_pay31 (ydB m c t) (View.ld (mgB m c t) (Rect.unit (s := S1x1024) ![0, 768] S1x256.size inb_S1x1024_S1x256_0_768))⟩,
      ⟨Rect.unit (s := S1024x1024) ![0, 512] S1024x256.size inb_S1024x1024_S1024x256_0_512, k0_pay24 (ycB m c t) (View.ld (mgB m c t) (Rect.unit (s := S1x1024) ![0, 512] S1x256.size inb_S1x1024_S1x256_0_512))⟩,
      ⟨Rect.unit (s := S1024x1024) ![0, 256] S1024x256.size inb_S1024x1024_S1024x256_0_256, k0_pay17 (ybB m c t) (View.ld (mgB m c t) (Rect.unit (s := S1x1024) ![0, 256] S1x256.size inb_S1x1024_S1x256_0_256))⟩,
      ⟨Rect.unit (s := S1024x1024) ![0, 0] S1024x256.size inb_S1024x1024_S1024x256_0_0, k0_pay10 (yaB m c t) (View.ld (mgB m c t) (Rect.unit (s := S1x1024) ![0, 0] S1x256.size inb_S1x1024_S1x256_0_0))⟩]
      (Rect.unit (s := S1024x1024) ![0, 0] S1024x1024.size inb_S1024x1024_S1024x1024_0_0).toLoadRect
      = (fun i => nrmRow (yaB m c t) (ybB m c t) (ycB m c t) (ydB m c t) (i 0) (i 1) * mgB m c t (ix2 0 (i 1)) : Vec Ideal S1024x1024 .bf16) := by
  rw [View.readCov_eq_canon']
  refine funext fun (j : S1024x1024.Idx) => ?_
  have hj : (Rect.unit (s := S1024x1024) ![0, 0] S1024x1024.size inb_S1024x1024_S1024x1024_0_0).toLoadRect.idx j = (j : S1024x1024.Idx) := by
    funext b; apply Fin.ext
    match b with
    | ⟨0, _⟩ => show 0 + 1 * (j 0).val = (j 0).val; omega
    | ⟨1, _⟩ => show 0 + 1 * (j 1).val = (j 1).val; omega
  refine (congrArg (View.canon (Val := Elt Ideal) (e := .bf16) _) hj).trans ?_
  refine View.canon_append_of_piecesOf (Val := Elt Ideal) (e := .bf16) ((fun i => nrmRow (yaB m c t) (ybB m c t) (ycB m c t) (ydB m c t) (i 0) (i 1) * mgB m c t (ix2 0 (i 1)) : Vec Ideal S1024x1024 .bf16)) [] [_, _, _, _] ?_ j ?_
  · refine ⟨?_, ?_, ?_, ?_, trivial⟩
    · intro x
      obtain ⟨a, k, rfl⟩ : ∃ (a : Fin 1024) (k : Fin 256), x = ix2 a k := ⟨x 0, x 1, eq_ix2 x⟩
      refine (quarterN_3 m c t a k).trans ?_
      erw [emb_quarter_rows 768 inb_S1024x1024_S1024x256_0_768 a k (by omega)]
      rfl
    · intro x
      obtain ⟨a, k, rfl⟩ : ∃ (a : Fin 1024) (k : Fin 256), x = ix2 a k := ⟨x 0, x 1, eq_ix2 x⟩
      refine (quarterN_2 m c t a k).trans ?_
      erw [emb_quarter_rows 512 inb_S1024x1024_S1024x256_0_512 a k (by omega)]
      rfl
    · intro x
      obtain ⟨a, k, rfl⟩ : ∃ (a : Fin 1024) (k : Fin 256), x = ix2 a k := ⟨x 0, x 1, eq_ix2 x⟩
      refine (quarterN_1 m c t a k).trans ?_
      erw [emb_quarter_rows 256 inb_S1024x1024_S1024x256_0_256 a k (by omega)]
      rfl
    · intro x
      obtain ⟨a, k, rfl⟩ : ∃ (a : Fin 1024) (k : Fin 256), x = ix2 a k := ⟨x 0, x 1, eq_ix2 x⟩
      refine (quarterN_0 m c t a k).trans ?_
      erw [emb_quarter_rows 0 inb_S1024x1024_S1024x256_0_0 a k (by omega)]
      rfl
  · have h1 : (j 1).val < 1024 := (j 1).isLt
    have h0 : (j 0).val < 1024 := (j 0).isLt
    by_cases q0 : (j 1).val < 256
    · exact ⟨_, List.mem_cons_of_mem _ (List.mem_cons_of_mem _ (List.mem_cons_of_mem _ (List.mem_singleton_self _))), mem_rows 0 inb_S1024x1024_S1024x256_0_0 j (by omega) (by omega)⟩
    by_cases q1 : (j 1).val < 512
    · exact ⟨_, List.mem_cons_of_mem _ (List.mem_cons_of_mem _ List.mem_cons_self), mem_rows 256 inb_S1024x1024_S1024x256_0_256 j (by omega) (by omega)⟩
    by_cases q2 : (j 1).val < 768
    · exact ⟨_, List.mem_cons_of_mem _ List.mem_cons_self, mem_rows 512 inb_S1024x1024_S1024x256_0_512 j (by omega) (by omega)⟩
    · exact ⟨_, List.mem_cons_self, mem_rows 768 inb_S1024x1024_S1024x256_0_768 j (by omega) (by omega)⟩

theorem dmg_B (c : Dev nD) (t : Fin cfg0.N) (h0 : ¬t.val % 16 = 0) (i : S1x1024.Idx) :
    (outsAt0 m c t.val t.isLt).2.2.2.2.1 i = (outsAt0 m c (t.val - 1) (Nat.lt_of_le_of_lt (Nat.sub_le _ _) t.isLt)).2.2.2.2.1 i + addG (dxB m c t) (woB m c t) (yaB m c t) (ybB m c t) (ycB m c t) (ydB m c t) (i 1) := by
  rw [outsAt0_B m c t h0]
  dsimp only
  unfold out0_B_11
  rw [View.read_writes_eq_canon _ _ _ (by intro y; apply cover0_B_11)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_11 t).read_unread, (hs0_12 t).read_unread, View.ld_unit_zero (S := S1024x256) hz, View.ld_unit_zero (S := S1024x1024) hz, View.ld_unit_zero (S := S1x1024) hz]
  generalize (outsAt0 m c (t.val - 1) (Nat.lt_of_le_of_lt (Nat.sub_le _ _) t.isLt)).2.2.2.2.1 = prev
  refine View.canon_append_of_piecesOf (Val := Elt Ideal) (e := .f32) ((fun i => prev i + addG (dxB m c t) (woB m c t) (yaB m c t) (ybB m c t) (ycB m c t) (ydB m c t) (i 1) : Vec Ideal S1x1024 .f32)) [] [_, _, _, _] ?_ i ?_
  · refine ⟨?_, ?_, ?_, ?_, trivial⟩
    · intro x
      obtain ⟨a, k, rfl⟩ : ∃ (a : Fin 1) (k : Fin 256), x = ix2 a k := ⟨x 0, x 1, eq_ix2 x⟩
      refine (quarterG_3 m c t _ a k).trans ?_
      erw [emb_quarter 768 inb_S1x1024_S1x256_0_768 a k (by omega)]
      exact congrArg (fun z => prev z + _) (emb_quarter 768 inb_S1x1024_S1x256_0_768 0 k (by omega))
    · intro x
      obtain ⟨a, k, rfl⟩ : ∃ (a : Fin 1) (k : Fin 256), x = ix2 a k := ⟨x 0, x 1, eq_ix2 x⟩
      refine (quarterG_2 m c t _ a k).trans ?_
      erw [emb_quarter 512 inb_S1x1024_S1x256_0_512 a k (by omega)]
      exact congrArg (fun z => prev z + _) (emb_quarter 512 inb_S1x1024_S1x256_0_512 0 k (by omega))
    · intro x
      obtain ⟨a, k, rfl⟩ : ∃ (a : Fin 1) (k : Fin 256), x = ix2 a k := ⟨x 0, x 1, eq_ix2 x⟩
      refine (quarterG_1 m c t _ a k).trans ?_
      erw [emb_quarter 256 inb_S1x1024_S1x256_0_256 a k (by omega)]
      exact congrArg (fun z => prev z + _) (emb_quarter 256 inb_S1x1024_S1x256_0_256 0 k (by omega))
    · intro x
      obtain ⟨a, k, rfl⟩ : ∃ (a : Fin 1) (k : Fin 256), x = ix2 a k := ⟨x 0, x 1, eq_ix2 x⟩
      refine (quarterG_0 m c t _ a k).trans ?_
      erw [emb_quarter 0 inb_S1x1024_S1x256_0_0 a k (by omega)]
      exact congrArg (fun z => prev z + _) (emb_quarter 0 inb_S1x1024_S1x256_0_0 0 k (by omega))
  · have h1 : (i 1).val < 1024 := (i 1).isLt
    by_cases q0 : (i 1).val < 256
    · exact ⟨_, List.mem_cons_of_mem _ (List.mem_cons_of_mem _ (List.mem_cons_of_mem _ (List.mem_singleton_self _))), mem_row 0 inb_S1x1024_S1x256_0_0 i (by omega) (by omega)⟩
    by_cases q1 : (i 1).val < 512
    · exact ⟨_, List.mem_cons_of_mem _ (List.mem_cons_of_mem _ List.mem_cons_self), mem_row 256 inb_S1x1024_S1x256_0_256 i (by omega) (by omega)⟩
    by_cases q2 : (i 1).val < 768
    · exact ⟨_, List.mem_cons_of_mem _ List.mem_cons_self, mem_row 512 inb_S1x1024_S1x256_0_512 i (by omega) (by omega)⟩
    · exact ⟨_, List.mem_cons_self, mem_row 768 inb_S1x1024_S1x256_0_768 i (by omega) (by omega)⟩

theorem dw_B (c : Dev nD) (t : Fin cfg0.N) (h0 : ¬t.val % 16 = 0) (i : S1024x1024.Idx) :
    (outsAt0 m c t.val t.isLt).2.2.2.2.2 i = (outsAt0 m c (t.val - 1) (Nat.lt_of_le_of_lt (Nat.sub_le _ _) t.isLt)).2.2.2.2.2 i + addW (dxB m c t) (mgB m c t) (yaB m c t) (ybB m c t) (ycB m c t) (ydB m c t) (i 0) (i 1) := by
  rw [outsAt0_B m c t h0]
  dsimp only
  unfold out0_B_12
  rw [View.read_writes_eq_canon _ _ _ (by intro y; apply cover0_B_12)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_11 t).read_unread, (hs0_12 t).read_unread, View.ld_unit_zero (S := S1024x256) hz, View.ld_unit_zero (S := S1024x1024) hz, View.ld_unit_zero (S := S1x1024) hz]
  rw [View.canon_unit_zero (S := S1024x1024) hz]
  generalize (outsAt0 m c (t.val - 1) (Nat.lt_of_le_of_lt (Nat.sub_le _ _) t.isLt)).2.2.2.2.2 = prev
  refine (congrArg (fun v => k0_pay2 (k0_pay5 (dxB m c t)) prev v i) (scratch_read m c t _)).trans ?_
  unfold addW
  obtain ⟨e, f, rfl⟩ : ∃ (e : Fin 1024) (f : Fin 1024), i = ix2 e f := ⟨i 0, i 1, eq_ix2 i⟩
  generalize nrmRow (yaB m c t) (ybB m c t) (ycB m c t) (ydB m c t) = N
  generalize dxB m c t = x
  generalize mgB m c t = g
  pointwise [k0_pay2, k0_pay5, k0_pay4]

theorem dmg_A (c : Dev nD) (t : Fin cfg0.N) (h0 : t.val % 16 = 0) (i : S1x1024.Idx) :
    (outsAt0 m c t.val t.isLt).2.2.2.2.1 i = 0 + addG (dxB m c t) (woB m c t) (yaB m c t) (ybB m c t) (ycB m c t) (ydB m c t) (i 1) := by
  rw [outsAt0_A m c t h0]
  dsimp only
  unfold out0_A_11
  rw [View.read_writes_eq_canon _ _ _ (by intro y; apply cover0_A_11)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_11 t).read_unread, (hs0_12 t).read_unread, View.ld_unit_zero (S := S1024x256) hz, View.ld_unit_zero (S := S1024x1024) hz, View.ld_unit_zero (S := S1x1024) hz]
  simp (disch := first | rfl | decide) only [View.readCov_skip, View.readCov_fill]
  refine View.canon_append_of_piecesOf (Val := Elt Ideal) (e := .f32) ((fun i => 0 + addG (dxB m c t) (woB m c t) (yaB m c t) (ybB m c t) (ycB m c t) (ydB m c t) (i 1) : Vec Ideal S1x1024 .f32)) [_] [_, _, _, _] ?_ i ?_
  · refine ⟨?_, ?_, ?_, ?_, trivial⟩
    · intro x
      obtain ⟨a, k, rfl⟩ : ∃ (a : Fin 1) (k : Fin 256), x = ix2 a k := ⟨x 0, x 1, eq_ix2 x⟩
      refine (quarterG_3 m c t _ a k).trans ?_
      erw [emb_quarter 768 inb_S1x1024_S1x256_0_768 a k (by omega)]
      pointwise [k0_pay3]
    · intro x
      obtain ⟨a, k, rfl⟩ : ∃ (a : Fin 1) (k : Fin 256), x = ix2 a k := ⟨x 0, x 1, eq_ix2 x⟩
      refine (quarterG_2 m c t _ a k).trans ?_
      erw [emb_quarter 512 inb_S1x1024_S1x256_0_512 a k (by omega)]
      pointwise [k0_pay3]
    · intro x
      obtain ⟨a, k, rfl⟩ : ∃ (a : Fin 1) (k : Fin 256), x = ix2 a k := ⟨x 0, x 1, eq_ix2 x⟩
      refine (quarterG_1 m c t _ a k).trans ?_
      erw [emb_quarter 256 inb_S1x1024_S1x256_0_256 a k (by omega)]
      pointwise [k0_pay3]
    · intro x
      obtain ⟨a, k, rfl⟩ : ∃ (a : Fin 1) (k : Fin 256), x = ix2 a k := ⟨x 0, x 1, eq_ix2 x⟩
      refine (quarterG_0 m c t _ a k).trans ?_
      erw [emb_quarter 0 inb_S1x1024_S1x256_0_0 a k (by omega)]
      pointwise [k0_pay3]
  · have h1 : (i 1).val < 1024 := (i 1).isLt
    by_cases q0 : (i 1).val < 256
    · exact ⟨_, List.mem_cons_of_mem _ (List.mem_cons_of_mem _ (List.mem_cons_of_mem _ (List.mem_singleton_self _))), mem_row 0 inb_S1x1024_S1x256_0_0 i (by omega) (by omega)⟩
    by_cases q1 : (i 1).val < 512
    · exact ⟨_, List.mem_cons_of_mem _ (List.mem_cons_of_mem _ List.mem_cons_self), mem_row 256 inb_S1x1024_S1x256_0_256 i (by omega) (by omega)⟩
    by_cases q2 : (i 1).val < 768
    · exact ⟨_, List.mem_cons_of_mem _ List.mem_cons_self, mem_row 512 inb_S1x1024_S1x256_0_512 i (by omega) (by omega)⟩
    · exact ⟨_, List.mem_cons_self, mem_row 768 inb_S1x1024_S1x256_0_768 i (by omega) (by omega)⟩

theorem dw_A (c : Dev nD) (t : Fin cfg0.N) (h0 : t.val % 16 = 0) (i : S1024x1024.Idx) :
    (outsAt0 m c t.val t.isLt).2.2.2.2.2 i = 0 + addW (dxB m c t) (mgB m c t) (yaB m c t) (ybB m c t) (ycB m c t) (ydB m c t) (i 0) (i 1) := by
  rw [outsAt0_A m c t h0]
  dsimp only
  unfold out0_A_12
  rw [View.read_writes_eq_canon _ _ _ (by intro y; apply cover0_A_12)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_11 t).read_unread, (hs0_12 t).read_unread, View.ld_unit_zero (S := S1024x256) hz, View.ld_unit_zero (S := S1024x1024) hz, View.ld_unit_zero (S := S1x1024) hz]
  rw [View.canon_cons_unit_zero (S := S1024x1024) hz, View.readCov_unit_zero (S := S1024x1024) _ hz]
  refine (congrArg (fun v => k0_pay2 (k0_pay5 (dxB m c t)) (k0_pay4 (F := Ideal)) v i) (scratch_read m c t _)).trans ?_
  unfold addW
  obtain ⟨e, f, rfl⟩ : ∃ (e : Fin 1024) (f : Fin 1024), i = ix2 e f := ⟨i 0, i 1, eq_ix2 i⟩
  generalize nrmRow (yaB m c t) (ybB m c t) (ycB m c t) (ydB m c t) = N
  generalize dxB m c t = x
  generalize mgB m c t = g
  pointwise [k0_pay2, k0_pay5, k0_pay4]

end Cert.Proof.OutProj
-- ==== Proof.OutProj.Final.lean ====
module

public import proofs.«01_k».proof.Proof.OutProj.Acc
public import Idealize.ShloMosaic.Lib.Pipeline.ValueKit

@[expose] public section

set_option maxRecDepth 16384

noncomputable section

namespace Cert.Proof.OutProj

open Cert.Kernel2Ideal Cert.Kernel2Ideal.Gen Cert.Kernel2Ideal.Value Idealize.ShloMosaic Idealize.ShloMosaic.TcCoe Idealize.SL.Sem
open Idealize.ShloMosaic.Pipeline (Dat)

variable (m : (ℓ : Loc nD τ sig) → Buf (Elt Ideal) ℓ)

/-- The seven arguments. -/
def aX (c : Dev nD) : Vec Ideal S16384x1024 .f32 := m ((c : Thread nD τ).loc main_arg0)
def aYa (c : Dev nD) : Vec Ideal S16384x256 .f32 := m ((c : Thread nD τ).loc main_arg1)
def aYb (c : Dev nD) : Vec Ideal S16384x256 .f32 := m ((c : Thread nD τ).loc main_arg2)
def aYc (c : Dev nD) : Vec Ideal S16384x256 .f32 := m ((c : Thread nD τ).loc main_arg3)
def aYd (c : Dev nD) : Vec Ideal S16384x256 .f32 := m ((c : Thread nD τ).loc main_arg4)
def aG (c : Dev nD) : Vec Ideal S1x1024 .f32 := m ((c : Thread nD τ).loc main_arg5)
def aW (c : Dev nD) : Vec Ideal S1024x1024 .bf16 := m ((c : Thread nD τ).loc main_arg6)

/-- Row `s` of the block of rows that grid point `t` reads. -/
def rowAt (t : ℕ) (s : Fin 1024) (h : t < 16) : Fin 16384 := ⟨t * 1024 + s.val, by omega⟩

theorem lt16 (t : Fin cfg0.N) : t.val < 16 := Nat.lt_of_lt_of_eq t.isLt N_0

theorem index_0 : ∀ t : Fin cfg0.N, win0_0.index t = ![t.val, 0] :=
  (by decide +kernel : ∀ t : Fin grid0.N, win0_0.index t = ![t.val, 0])

theorem dxB_at (c : Dev nD) (t : Fin cfg0.N) (s : Fin 1024) (k : Fin 1024) :
    dxB m c t (ix2 s k) = aX m c (ix2 (rowAt t.val s (lt16 t)) k) := by
  unfold dxB aX rowAt
  blk_simp [iblk, index_0]
  refine congrArg (m _) ?_
  funext a
  apply Fin.ext
  match a with
  | ⟨0, _⟩ => blk_simp [index_0]
  | ⟨1, _⟩ => blk_simp [index_0]

theorem index_1 : ∀ t : Fin cfg0.N, win0_1.index t = ![t.val, 0] :=
  (by decide +kernel : ∀ t : Fin grid0.N, win0_1.index t = ![t.val, 0])

theorem yaB_at (c : Dev nD) (t : Fin cfg0.N) (s : Fin 1024) (k : Fin 256) :
    yaB m c t (ix2 s k) = aYa m c (ix2 (rowAt t.val s (lt16 t)) k) := by
  unfold yaB aYa rowAt
  blk_simp [iblk, index_1]
  refine congrArg (m _) ?_
  funext a
  apply Fin.ext
  match a with
  | ⟨0, _⟩ => blk_simp [index_1]
  | ⟨1, _⟩ => blk_simp [index_1]

theorem index_2 : ∀ t : Fin cfg0.N, win0_2.index t = ![t.val, 0] :=
  (by decide +kernel : ∀ t : Fin grid0.N, win0_2.index t = ![t.val, 0])

theorem ybB_at (c : Dev nD) (t : Fin cfg0.N) (s : Fin 1024) (k : Fin 256) :
    ybB m c t (ix2 s k) = aYb m c (ix2 (rowAt t.val s (lt16 t)) k) := by
  unfold ybB aYb rowAt
  blk_simp [iblk, index_2]
  refine congrArg (m _) ?_
  funext a
  apply Fin.ext
  match a with
  | ⟨0, _⟩ => blk_simp [index_2]
  | ⟨1, _⟩ => blk_simp [index_2]

theorem index_3 : ∀ t : Fin cfg0.N, win0_3.index t = ![t.val, 0] :=
  (by decide +kernel : ∀ t : Fin grid0.N, win0_3.index t = ![t.val, 0])

theorem ycB_at (c : Dev nD) (t : Fin cfg0.N) (s : Fin 1024) (k : Fin 256) :
    ycB m c t (ix2 s k) = aYc m c (ix2 (rowAt t.val s (lt16 t)) k) := by
  unfold ycB aYc rowAt
  blk_simp [iblk, index_3]
  refine congrArg (m _) ?_
  funext a
  apply Fin.ext
  match a with
  | ⟨0, _⟩ => blk_simp [index_3]
  | ⟨1, _⟩ => blk_simp [index_3]

theorem index_4 : ∀ t : Fin cfg0.N, win0_4.index t = ![t.val, 0] :=
  (by decide +kernel : ∀ t : Fin grid0.N, win0_4.index t = ![t.val, 0])

theorem ydB_at (c : Dev nD) (t : Fin cfg0.N) (s : Fin 1024) (k : Fin 256) :
    ydB m c t (ix2 s k) = aYd m c (ix2 (rowAt t.val s (lt16 t)) k) := by
  unfold ydB aYd rowAt
  blk_simp [iblk, index_4]
  refine congrArg (m _) ?_
  funext a
  apply Fin.ext
  match a with
  | ⟨0, _⟩ => blk_simp [index_4]
  | ⟨1, _⟩ => blk_simp [index_4]

theorem index_5 : ∀ t : Fin cfg0.N, win0_5.index t = ![0, 0] :=
  (by decide +kernel : ∀ t : Fin grid0.N, win0_5.index t = ![0, 0])

theorem mgB_eq (c : Dev nD) (t : Fin cfg0.N) : mgB m c t = aG m c := by
  funext j
  unfold mgB aG
  blk_simp [iblk, index_5]
  refine congrArg (m _) ?_
  funext a
  apply Fin.ext
  match a with
  | ⟨0, _⟩ => blk_simp [index_5]
  | ⟨1, _⟩ => blk_simp [index_5]

theorem index_6 : ∀ t : Fin cfg0.N, win0_6.index t = ![0, 0] :=
  (by decide +kernel : ∀ t : Fin grid0.N, win0_6.index t = ![0, 0])

theorem woB_eq (c : Dev nD) (t : Fin cfg0.N) : woB m c t = aW m c := by
  funext j
  unfold woB aW
  blk_simp [iblk, index_6]
  refine congrArg (m _) ?_
  funext a
  apply Fin.ext
  match a with
  | ⟨0, _⟩ => blk_simp [index_6]
  | ⟨1, _⟩ => blk_simp [index_6]

theorem index_7 : ∀ t : Fin cfg0.N, win0_7.index t = ![t.val, 0] :=
  (by decide +kernel : ∀ t : Fin grid0.N, win0_7.index t = ![t.val, 0])

theorem dya_block (c : Dev nD) (t : Fin cfg0.N) (s : Fin 1024) (k : Fin 256) :
    (outsAt0 m c t.val t.isLt).1 (ix2 s k)
      = gradK (rowOf (aYa m c) (rowAt t.val s (lt16 t))) (upG (aX m c) (aW m c) (aG m c) 0 (by omega) (rowAt t.val s (lt16 t))) k := by
  have h1 : rowOf (yaB m c t) s = rowOf (aYa m c) (rowAt t.val s (lt16 t)) := by
    funext j; exact yaB_at m c t s j
  have h2 : upG (dxB m c t) (woB m c t) (mgB m c t) 0 (by omega) s
      = upG (aX m c) (aW m c) (aG m c) 0 (by omega) (rowAt t.val s (lt16 t)) := by
    funext j
    unfold upG dnr
    rw [mgB_eq, woB_eq]
    simp only [dxB_at]
  rw [← h1, ← h2]
  by_cases h0 : t.val % 16 = 0
  · exact dya_A m c t h0 s k
  · exact dya_B m c t h0 s k

/-- The array of `dy_a` after the run, entry by entry. -/
theorem dya_array (c : Dev nD) : (dats m 0 c).arrAt 7 cfg0.N
    = (fun i => gradK (rowOf (aYa m c) (i 0)) (upG (aX m c) (aW m c) (aG m c) 0 (by omega) (i 0)) (i 1) : Vec Ideal S16384x256 .f32) := by
  refine (dats m 0 c).arrAt_eq_of_covers 7 _ (by decide +kernel) fun t hf y => ?_
  blk_simp
  rw [after0_7]
  refine Eq.trans (congrArg _ (eq_ix2 (n0 := 1024) (n1 := 256) y)) ?_
  refine (dya_block m c t (y 0) (y 1)).trans ?_
  have e0 : rowAt t.val (y 0) (lt16 t) = (((cfg0.win 7).blk t).view.emb y) 0 := by
    apply Fin.ext; blk_simp [index_7]; rfl
  have e1 : (y 1 : Fin 256) = (((cfg0.win 7).blk t).view.emb y) 1 := by
    apply Fin.ext; blk_simp [index_7]
  exact congrArg₂ (fun (r : Fin 16384) (k : Fin 256) => gradK (rowOf (aYa m c) r) (upG (aX m c) (aW m c) (aG m c) 0 (by omega) r) k) e0 e1

theorem index_8 : ∀ t : Fin cfg0.N, win0_8.index t = ![t.val, 0] :=
  (by decide +kernel : ∀ t : Fin grid0.N, win0_8.index t = ![t.val, 0])

theorem dyb_block (c : Dev nD) (t : Fin cfg0.N) (s : Fin 1024) (k : Fin 256) :
    (outsAt0 m c t.val t.isLt).2.1 (ix2 s k)
      = gradK (rowOf (aYb m c) (rowAt t.val s (lt16 t))) (upG (aX m c) (aW m c) (aG m c) 256 (by omega) (rowAt t.val s (lt16 t))) k := by
  have h1 : rowOf (ybB m c t) s = rowOf (aYb m c) (rowAt t.val s (lt16 t)) := by
    funext j; exact ybB_at m c t s j
  have h2 : upG (dxB m c t) (woB m c t) (mgB m c t) 256 (by omega) s
      = upG (aX m c) (aW m c) (aG m c) 256 (by omega) (rowAt t.val s (lt16 t)) := by
    funext j
    unfold upG dnr
    rw [mgB_eq, woB_eq]
    simp only [dxB_at]
  rw [← h1, ← h2]
  by_cases h0 : t.val % 16 = 0
  · exact dyb_A m c t h0 s k
  · exact dyb_B m c t h0 s k

/-- The array of `dy_b` after the run, entry by entry. -/
theorem dyb_array (c : Dev nD) : (dats m 0 c).arrAt 8 cfg0.N
    = (fun i => gradK (rowOf (aYb m c) (i 0)) (upG (aX m c) (aW m c) (aG m c) 256 (by omega) (i 0)) (i 1) : Vec Ideal S16384x256 .f32) := by
  refine (dats m 0 c).arrAt_eq_of_covers 8 _ (by decide +kernel) fun t hf y => ?_
  blk_simp
  rw [after0_8]
  refine Eq.trans (congrArg _ (eq_ix2 (n0 := 1024) (n1 := 256) y)) ?_
  refine (dyb_block m c t (y 0) (y 1)).trans ?_
  have e0 : rowAt t.val (y 0) (lt16 t) = (((cfg0.win 8).blk t).view.emb y) 0 := by
    apply Fin.ext; blk_simp [index_8]; rfl
  have e1 : (y 1 : Fin 256) = (((cfg0.win 8).blk t).view.emb y) 1 := by
    apply Fin.ext; blk_simp [index_8]
  exact congrArg₂ (fun (r : Fin 16384) (k : Fin 256) => gradK (rowOf (aYb m c) r) (upG (aX m c) (aW m c) (aG m c) 256 (by omega) r) k) e0 e1

theorem index_9 : ∀ t : Fin cfg0.N, win0_9.index t = ![t.val, 0] :=
  (by decide +kernel : ∀ t : Fin grid0.N, win0_9.index t = ![t.val, 0])

theorem dyc_block (c : Dev nD) (t : Fin cfg0.N) (s : Fin 1024) (k : Fin 256) :
    (outsAt0 m c t.val t.isLt).2.2.1 (ix2 s k)
      = gradK (rowOf (aYc m c) (rowAt t.val s (lt16 t))) (upG (aX m c) (aW m c) (aG m c) 512 (by omega) (rowAt t.val s (lt16 t))) k := by
  have h1 : rowOf (ycB m c t) s = rowOf (aYc m c) (rowAt t.val s (lt16 t)) := by
    funext j; exact ycB_at m c t s j
  have h2 : upG (dxB m c t) (woB m c t) (mgB m c t) 512 (by omega) s
      = upG (aX m c) (aW m c) (aG m c) 512 (by omega) (rowAt t.val s (lt16 t)) := by
    funext j
    unfold upG dnr
    rw [mgB_eq, woB_eq]
    simp only [dxB_at]
  rw [← h1, ← h2]
  by_cases h0 : t.val % 16 = 0
  · exact dyc_A m c t h0 s k
  · exact dyc_B m c t h0 s k

/-- The array of `dy_c` after the run, entry by entry. -/
theorem dyc_array (c : Dev nD) : (dats m 0 c).arrAt 9 cfg0.N
    = (fun i => gradK (rowOf (aYc m c) (i 0)) (upG (aX m c) (aW m c) (aG m c) 512 (by omega) (i 0)) (i 1) : Vec Ideal S16384x256 .f32) := by
  refine (dats m 0 c).arrAt_eq_of_covers 9 _ (by decide +kernel) fun t hf y => ?_
  blk_simp
  rw [after0_9]
  refine Eq.trans (congrArg _ (eq_ix2 (n0 := 1024) (n1 := 256) y)) ?_
  refine (dyc_block m c t (y 0) (y 1)).trans ?_
  have e0 : rowAt t.val (y 0) (lt16 t) = (((cfg0.win 9).blk t).view.emb y) 0 := by
    apply Fin.ext; blk_simp [index_9]; rfl
  have e1 : (y 1 : Fin 256) = (((cfg0.win 9).blk t).view.emb y) 1 := by
    apply Fin.ext; blk_simp [index_9]
  exact congrArg₂ (fun (r : Fin 16384) (k : Fin 256) => gradK (rowOf (aYc m c) r) (upG (aX m c) (aW m c) (aG m c) 512 (by omega) r) k) e0 e1

theorem index_10 : ∀ t : Fin cfg0.N, win0_10.index t = ![t.val, 0] :=
  (by decide +kernel : ∀ t : Fin grid0.N, win0_10.index t = ![t.val, 0])

theorem dyd_block (c : Dev nD) (t : Fin cfg0.N) (s : Fin 1024) (k : Fin 256) :
    (outsAt0 m c t.val t.isLt).2.2.2.1 (ix2 s k)
      = gradK (rowOf (aYd m c) (rowAt t.val s (lt16 t))) (upG (aX m c) (aW m c) (aG m c) 768 (by omega) (rowAt t.val s (lt16 t))) k := by
  have h1 : rowOf (ydB m c t) s = rowOf (aYd m c) (rowAt t.val s (lt16 t)) := by
    funext j; exact ydB_at m c t s j
  have h2 : upG (dxB m c t) (woB m c t) (mgB m c t) 768 (by omega) s
      = upG (aX m c) (aW m c) (aG m c) 768 (by omega) (rowAt t.val s (lt16 t)) := by
    funext j
    unfold upG dnr
    rw [mgB_eq, woB_eq]
    simp only [dxB_at]
  rw [← h1, ← h2]
  by_cases h0 : t.val % 16 = 0
  · exact dyd_A m c t h0 s k
  · exact dyd_B m c t h0 s k

/-- The array of `dy_d` after the run, entry by entry. -/
theorem dyd_array (c : Dev nD) : (dats m 0 c).arrAt 10 cfg0.N
    = (fun i => gradK (rowOf (aYd m c) (i 0)) (upG (aX m c) (aW m c) (aG m c) 768 (by omega) (i 0)) (i 1) : Vec Ideal S16384x256 .f32) := by
  refine (dats m 0 c).arrAt_eq_of_covers 10 _ (by decide +kernel) fun t hf y => ?_
  blk_simp
  rw [after0_10]
  refine Eq.trans (congrArg _ (eq_ix2 (n0 := 1024) (n1 := 256) y)) ?_
  refine (dyd_block m c t (y 0) (y 1)).trans ?_
  have e0 : rowAt t.val (y 0) (lt16 t) = (((cfg0.win 10).blk t).view.emb y) 0 := by
    apply Fin.ext; blk_simp [index_10]; rfl
  have e1 : (y 1 : Fin 256) = (((cfg0.win 10).blk t).view.emb y) 1 := by
    apply Fin.ext; blk_simp [index_10]
  exact congrArg₂ (fun (r : Fin 16384) (k : Fin 256) => gradK (rowOf (aYd m c) r) (upG (aX m c) (aW m c) (aG m c) 768 (by omega) r) k) e0 e1

/-- The reference's summand of the gain's gradient at one row. -/
def rowG (c : Dev nD) (e : Fin 1024) (r : Fin 16384) : EReal :=
  dnr (aX m c) (aW m c) r e * nrmRow (aYa m c) (aYb m c) (aYc m c) (aYd m c) r e

/-- The reference's summand of the projection's gradient at one row. -/
def rowW (c : Dev nD) (e f : Fin 1024) (r : Fin 16384) : EReal :=
  nrmRow (aYa m c) (aYb m c) (aYc m c) (aYd m c) r e * aG m c (ix2 0 e) * aX m c (ix2 r f)

theorem nrmRow_at (c : Dev nD) (t : Fin cfg0.N) (s : Fin 1024) :
    nrmRow (yaB m c t) (ybB m c t) (ycB m c t) (ydB m c t) s = nrmRow (aYa m c) (aYb m c) (aYc m c) (aYd m c) (rowAt t.val s (lt16 t)) := by
  have ha : rowOf (yaB m c t) s = rowOf (aYa m c) (rowAt t.val s (lt16 t)) := funext fun j => yaB_at m c t s j
  have hb : rowOf (ybB m c t) s = rowOf (aYb m c) (rowAt t.val s (lt16 t)) := funext fun j => ybB_at m c t s j
  have hc : rowOf (ycB m c t) s = rowOf (aYc m c) (rowAt t.val s (lt16 t)) := funext fun j => ycB_at m c t s j
  have hd : rowOf (ydB m c t) s = rowOf (aYd m c) (rowAt t.val s (lt16 t)) := funext fun j => ydB_at m c t s j
  unfold nrmRow
  rw [ha, hb, hc, hd]

theorem addG_at (c : Dev nD) (t : Fin cfg0.N) (e : Fin 1024) :
    addG (dxB m c t) (woB m c t) (yaB m c t) (ybB m c t) (ycB m c t) (ydB m c t) e = ∑ s : Fin 1024, rowG m c e (rowAt t.val s (lt16 t)) := by
  unfold addG rowG dnr
  rw [woB_eq]
  simp only [dxB_at, nrmRow_at]

theorem addW_at (c : Dev nD) (t : Fin cfg0.N) (e f : Fin 1024) :
    addW (dxB m c t) (mgB m c t) (yaB m c t) (ybB m c t) (ycB m c t) (ydB m c t) e f = ∑ s : Fin 1024, rowW m c e f (rowAt t.val s (lt16 t)) := by
  unfold addW rowW
  rw [mgB_eq]
  simp only [dxB_at, nrmRow_at]

/-- The sum of a function of the rows over the rows of the first `n` blocks. -/
def upTo (f : Fin 16384 → EReal) (n : ℕ) : EReal :=
  ∑ t ∈ Finset.range n, if h : t < 16 then ∑ s : Fin 1024, f (rowAt t s h) else 0

theorem upTo_succ (f : Fin 16384 → EReal) (n : ℕ) (h : n < 16) : upTo f (n + 1) = upTo f n + ∑ s : Fin 1024, f (rowAt n s h) := by
  unfold upTo
  rw [Finset.sum_range_succ, dif_pos h]

/-- All sixteen blocks: the sum over every row. -/
theorem upTo_all (f : Fin 16384 → EReal) : upTo f 16 = ∑ r : Fin 16384, f r := by
  unfold upTo
  rw [Finset.sum_range]
  have : ∀ t : Fin 16, (if h : t.val < 16 then ∑ s : Fin 1024, f (rowAt t.val s h) else 0) = ∑ s : Fin 1024, f (rowAt t.val s t.isLt) :=
    fun t => dif_pos t.isLt
  rw [Finset.sum_congr rfl fun t _ => this t, ← Finset.sum_product']
  refine Fintype.sum_equiv (finProdFinEquiv (m := 16) (n := 1024)) _ _ fun p => ?_
  refine congrArg f (Fin.ext ?_)
  show p.1.val * 1024 + p.2.val = p.2.val + 1024 * p.1.val
  omega

theorem dmg_upTo (c : Dev nD) : ∀ (n : ℕ) (hn : n < cfg0.N) (i : S1x1024.Idx),
    (outsAt0 m c n hn).2.2.2.2.1 i = upTo (rowG m c (i 1)) (n + 1)
  | 0, hn, i => by
    have h := dmg_A m c ⟨0, hn⟩ rfl i
    refine h.trans ((congrArg (0 + ·) (addG_at m c ⟨0, hn⟩ (i 1))).trans ?_)
    refine Eq.trans ?_ (upTo_succ _ 0 (by omega)).symm
    exact congrArg (· + _) (Finset.sum_range_zero _).symm
  | n + 1, hn, i => by
    have h16 : n + 1 < 16 := Nat.lt_of_lt_of_eq hn N_0
    have h := dmg_B m c ⟨n + 1, hn⟩ (by show ¬(n + 1) % 16 = 0; omega) i
    refine h.trans ((congrArg (_ + ·) (addG_at m c ⟨n + 1, hn⟩ (i 1))).trans ?_)
    refine Eq.trans ?_ (upTo_succ _ (n + 1) h16).symm
    exact congrArg (· + _) (dmg_upTo c n (Nat.lt_of_succ_lt hn) i)

theorem dw_upTo (c : Dev nD) : ∀ (n : ℕ) (hn : n < cfg0.N) (i : S1024x1024.Idx),
    (outsAt0 m c n hn).2.2.2.2.2 i = upTo (rowW m c (i 0) (i 1)) (n + 1)
  | 0, hn, i => by
    have h := dw_A m c ⟨0, hn⟩ rfl i
    refine h.trans ((congrArg (0 + ·) (addW_at m c ⟨0, hn⟩ (i 0) (i 1))).trans ?_)
    refine Eq.trans ?_ (upTo_succ _ 0 (by omega)).symm
    exact congrArg (· + _) (Finset.sum_range_zero _).symm
  | n + 1, hn, i => by
    have h16 : n + 1 < 16 := Nat.lt_of_lt_of_eq hn N_0
    have h := dw_B m c ⟨n + 1, hn⟩ (by show ¬(n + 1) % 16 = 0; omega) i
    refine h.trans ((congrArg (_ + ·) (addW_at m c ⟨n + 1, hn⟩ (i 0) (i 1))).trans ?_)
    refine Eq.trans ?_ (upTo_succ _ (n + 1) h16).symm
    exact congrArg (· + _) (dw_upTo c n (Nat.lt_of_succ_lt hn) i)

/-- The gain's gradient after the run. -/
theorem dmg_array (c : Dev nD) : (dats m 0 c).arrAt 11 cfg0.N
    = (fun i => addG (aX m c) (aW m c) (aYa m c) (aYb m c) (aYc m c) (aYd m c) (i 1) : Vec Ideal S1x1024 .f32) := by
  refine (dats m 0 c).arrAt_eq_of_after_last 11 t0_15 (by decide +kernel) _ fun j => ?_
  blk_simp
  rw [after0_11]
  refine (dmg_upTo m c 15 t0_15.isLt j).trans ?_
  exact upTo_all _

/-- The projection's gradient after the run. -/
theorem dw_array (c : Dev nD) : (dats m 0 c).arrAt 12 cfg0.N
    = (fun i => addW (aX m c) (aG m c) (aYa m c) (aYb m c) (aYc m c) (aYd m c) (i 0) (i 1) : Vec Ideal S1024x1024 .f32) := by
  refine (dats m 0 c).arrAt_eq_of_after_last 12 t0_15 (by decide +kernel) _ fun j => ?_
  blk_simp
  rw [after0_12]
  refine (dw_upTo m c 15 t0_15.isLt j).trans ?_
  exact upTo_all _

end Cert.Proof.OutProj
-- ==== Proof.OutProj.Ref.lean ====
module

public import proofs.«01_k».proof.Proof.Gen.Reference2Ideal.Read
public import proofs.«01_k».proof.Proof.OutProj.Acc

@[expose] public section

set_option maxRecDepth 16384

noncomputable section

namespace Cert.Proof.OutProj

open Cert.Reference2Ideal Cert.Reference2Ideal.Gen Cert.Reference2Ideal.Read Idealize.ShloMosaic Idealize.ShloMosaic.TcCoe Idealize.SL.Sem

variable (x : Vec Ideal S16384x1024 .f32) (w : Vec Ideal S1024x1024 .bf16) (g : Vec Ideal S1x1024 .f32)

/-- The reference's gradient of `y_a`, entry by entry. -/
theorem ref_dya (y : Vec Ideal S16384x256 .f32) (s : Fin 16384) (k : Fin 256) :
    val_main_v124 x y g w (ix2 s k) = gradK (rowOf y s) (upG x w g 0 (by omega) s) k := by
  obtain ⟨e, he, heq⟩ := ofBits_eps
  have key := grad_eq (rowOf y s) (upG x w g 0 (by omega) s) k e he
  simp only [← heq, ← ofBits_256, ← ofBits_neg_half] at key
  unfold gradK rinv
  refine Eq.trans ?_ key.symm
  clear key
  unfold rowOf upG dnr
  pointwise [val_main_v124, val_main_v123, val_main_v122, val_main_v121, val_main_v120, val_main_v119, val_main_v118, val_main_v117, val_main_v116, val_main_v115, val_main_v114, val_main_v113, val_main_v112, val_main_v111, val_main_v65, val_main_v64, val_main_v63, val_main_v59, val_main_v0, val_main_v1, val_main_v2, val_main_v3, val_main_v4, val_main_v5, val_main_v6, val_main_v7, val_main_v8, val_main_v9, val_main_v10, val_main_v11, val_main_v12, val_main_v13, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27]
  simp only [Fin.sum_univ_one]

/-- The reference's gradient of `y_b`, entry by entry. -/
theorem ref_dyb (y : Vec Ideal S16384x256 .f32) (s : Fin 16384) (k : Fin 256) :
    val_main_v110 x y g w (ix2 s k) = gradK (rowOf y s) (upG x w g 256 (by omega) s) k := by
  obtain ⟨e, he, heq⟩ := ofBits_eps
  have key := grad_eq (rowOf y s) (upG x w g 256 (by omega) s) k e he
  simp only [← heq, ← ofBits_256, ← ofBits_neg_half] at key
  unfold gradK rinv
  refine Eq.trans ?_ key.symm
  clear key
  unfold rowOf upG dnr
  pointwise [val_main_v110, val_main_v109, val_main_v108, val_main_v107, val_main_v106, val_main_v105, val_main_v104, val_main_v103, val_main_v102, val_main_v101, val_main_v100, val_main_v99, val_main_v98, val_main_v97, val_main_v66, val_main_v64, val_main_v63, val_main_v59, val_main_v0, val_main_v14, val_main_v15, val_main_v16, val_main_v17, val_main_v18, val_main_v19, val_main_v20, val_main_v21, val_main_v22, val_main_v23, val_main_v24, val_main_v25, val_main_v26, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27]
  simp only [Fin.sum_univ_one]

/-- The reference's gradient of `y_c`, entry by entry. -/
theorem ref_dyc (y : Vec Ideal S16384x256 .f32) (s : Fin 16384) (k : Fin 256) :
    val_main_v96 x y g w (ix2 s k) = gradK (rowOf y s) (upG x w g 512 (by omega) s) k := by
  obtain ⟨e, he, heq⟩ := ofBits_eps
  have key := grad_eq (rowOf y s) (upG x w g 512 (by omega) s) k e he
  simp only [← heq, ← ofBits_256, ← ofBits_neg_half] at key
  unfold gradK rinv
  refine Eq.trans ?_ key.symm
  clear key
  unfold rowOf upG dnr
  pointwise [val_main_v96, val_main_v95, val_main_v94, val_main_v93, val_main_v92, val_main_v91, val_main_v90, val_main_v89, val_main_v88, val_main_v87, val_main_v86, val_main_v85, val_main_v84, val_main_v83, val_main_v67, val_main_v64, val_main_v63, val_main_v59, val_main_v0, val_main_v27, val_main_v28, val_main_v29, val_main_v30, val_main_v31, val_main_v32, val_main_v33, val_main_v34, val_main_v35, val_main_v36, val_main_v37, val_main_v38, val_main_v39, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27]
  simp only [Fin.sum_univ_one]

/-- The reference's gradient of `y_d`, entry by entry. -/
theorem ref_dyd (y : Vec Ideal S16384x256 .f32) (s : Fin 16384) (k : Fin 256) :
    val_main_v82 x y g w (ix2 s k) = gradK (rowOf y s) (upG x w g 768 (by omega) s) k := by
  obtain ⟨e, he, heq⟩ := ofBits_eps
  have key := grad_eq (rowOf y s) (upG x w g 768 (by omega) s) k e he
  simp only [← heq, ← ofBits_256, ← ofBits_neg_half] at key
  unfold gradK rinv
  refine Eq.trans ?_ key.symm
  clear key
  unfold rowOf upG dnr
  pointwise [val_main_v82, val_main_v81, val_main_v80, val_main_v79, val_main_v78, val_main_v77, val_main_v76, val_main_v75, val_main_v74, val_main_v73, val_main_v72, val_main_v71, val_main_v70, val_main_v69, val_main_v68, val_main_v64, val_main_v63, val_main_v59, val_main_v0, val_main_v40, val_main_v41, val_main_v42, val_main_v43, val_main_v44, val_main_v45, val_main_v46, val_main_v47, val_main_v48, val_main_v49, val_main_v50, val_main_v51, val_main_v52, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27]
  simp only [Fin.sum_univ_one]

/-- The reference's gradient of the gain, entry by entry. -/
theorem ref_dmg (ya yb yc yd : Vec Ideal S16384x256 .f32) (a : Fin 1) (e : Fin 1024) :
    val_main_v62 x ya yb yc yd w (ix2 a e) = addG x w ya yb yc yd e := by
  unfold addG nrmRow cat4 nrm rinv rowOf dnr
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, Cert.Reference2Ideal.Value.fn_main_v53, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27]
  exact Finset.sum_congr rfl fun s _ => mul_comm _ _

/-- The reference's gradient of the projection, entry by entry. -/
theorem ref_dw (ya yb yc yd : Vec Ideal S16384x256 .f32) (e f : Fin 1024) :
    val_main_v58 x ya yb yc yd g (ix2 e f) = addW x g ya yb yc yd e f := by
  unfold addW nrmRow cat4 nrm rinv rowOf
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, Cert.Reference2Ideal.Value.fn_main_v53, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27]
  exact Finset.sum_congr rfl fun s _ => mul_comm _ _

end Cert.Proof.OutProj
-- ==== Proof.OutProj.Claims.lean ====
module

public import proofs.«01_k».proof.Defs
public import proofs.«01_k».proof.Proof.OutProj.Final
public import proofs.«01_k».proof.Proof.OutProj.Ref
public import proofs.«01_k».proof.Proof.Gen.Kernel2.Frame
public import proofs.«01_k».proof.Proof.Gen.Reference2Ideal.Run
public import Idealize.ShloMosaic.Adequacy
public import Idealize.ShloMosaic.Init

@[expose] public section

set_option maxRecDepth 16384

noncomputable section

namespace Cert.Proof.OutProj

open Idealize.ShloMosaic Idealize.ShloMosaic.TcCoe Idealize.SL.Sem

/-- The frame of the output projection's gradient over the machine's floats. -/
theorem frame_bits : Cert.quiescent_Kernel2 := fun m ρ _ => Cert.Kernel2.Gen.frame m ρ

/-- Its frame over the reals. -/
theorem frame_ideal : Cert.quiescent_Kernel2Ideal := fun m ρ _ => Cert.Kernel2Ideal.Gen.frame m ρ

/-- The frame of its reference: the arguments are kept, and there is no counter. -/
theorem frame_ref : Cert.quiescent_Reference2Ideal := fun m ρ _ =>
  (θ_run Cert.Reference2Ideal.defs _ _).mono (fun r h => ⟨fun c => (h c).2.2.2.2.2.2,
      Idealize.ShloMosaic.sem_eq_zero_of_no_sems (by decide) r.2⟩)
    (Cert.Reference2Ideal.Value.run (F := Ideal) m ρ)

/-- The kernel and the gradient of the plain forward lines end with the same six arrays. -/
theorem algebraic : Cert.algebraic_Kernel2Ideal_Reference2Ideal := by
  intro m g m' g' _ hagree
  refine ⟨fun c => (Cert.Kernel2Ideal.Gen.dats m 0 c).arrAt 7 Cert.Kernel2Ideal.cfg0.N,
    fun c => (Cert.Kernel2Ideal.Gen.dats m 0 c).arrAt 8 Cert.Kernel2Ideal.cfg0.N,
    fun c => (Cert.Kernel2Ideal.Gen.dats m 0 c).arrAt 9 Cert.Kernel2Ideal.cfg0.N,
    fun c => (Cert.Kernel2Ideal.Gen.dats m 0 c).arrAt 10 Cert.Kernel2Ideal.cfg0.N,
    fun c => (Cert.Kernel2Ideal.Gen.dats m 0 c).arrAt 11 Cert.Kernel2Ideal.cfg0.N,
    fun c => (Cert.Kernel2Ideal.Gen.dats m 0 c).arrAt 12 Cert.Kernel2Ideal.cfg0.N,
    Cert.Kernel2Ideal.Value.run_blocks m g, ?_⟩
  refine (θ_run Cert.Reference2Ideal.defs _ _).mono (fun r h c => ?_) (Cert.Reference2Ideal.Value.run (F := Ideal) m' g')
  obtain ⟨h0, h1, h2, h3, h4, h5, hargs⟩ := h c
  obtain ⟨e0, e1, e2, e3, e4, e5, e6⟩ := hagree c
  refine ⟨?_, ?_, ?_, ?_, ?_, ?_, hargs⟩
  · rw [h0, Cert.Reference2Ideal.Read.val_main_v124_eq, e0, e1, e5, e6]
    refine Eq.trans ?_ (dya_array m c).symm
    funext i
    refine Eq.trans (congrArg _ (eq_ix2 (n0 := 16384) (n1 := 256) i)) ?_
    exact ref_dya _ _ _ _ _ _
  · rw [h1, Cert.Reference2Ideal.Read.val_main_v110_eq, e0, e2, e5, e6]
    refine Eq.trans ?_ (dyb_array m c).symm
    funext i
    refine Eq.trans (congrArg _ (eq_ix2 (n0 := 16384) (n1 := 256) i)) ?_
    exact ref_dyb _ _ _ _ _ _
  · rw [h2, Cert.Reference2Ideal.Read.val_main_v96_eq, e0, e3, e5, e6]
    refine Eq.trans ?_ (dyc_array m c).symm
    funext i
    refine Eq.trans (congrArg _ (eq_ix2 (n0 := 16384) (n1 := 256) i)) ?_
    exact ref_dyc _ _ _ _ _ _
  · rw [h3, Cert.Reference2Ideal.Read.val_main_v82_eq, e0, e4, e5, e6]
    refine Eq.trans ?_ (dyd_array m c).symm
    funext i
    refine Eq.trans (congrArg _ (eq_ix2 (n0 := 16384) (n1 := 256) i)) ?_
    exact ref_dyd _ _ _ _ _ _
  · refine h4.trans ?_
    refine (Cert.Reference2Ideal.Read.val_main_v62_eq (F := Ideal) _ _ _ _ _ _).trans ?_
    rw [e0, e1, e2, e3, e4, e6]
    refine Eq.trans ?_ (dmg_array m c).symm
    funext i
    refine Eq.trans (congrArg _ (eq_ix2 (n0 := 1) (n1 := 1024) i)) ?_
    exact ref_dmg _ _ _ _ _ _ _ _
  · refine h5.trans ?_
    refine (Cert.Reference2Ideal.Read.val_main_v58_eq (F := Ideal) _ _ _ _ _ _).trans ?_
    rw [e0, e1, e2, e3, e4, e5]
    refine Eq.trans ?_ (dw_array m c).symm
    funext i
    refine Eq.trans (congrArg _ (eq_ix2 (n0 := 1024) (n1 := 1024) i)) ?_
    exact ref_dw _ _ _ _ _ _ _ _

end Cert.Proof.OutProj
-- ==== Proof.FfnBwd.Blocks.lean ====
module

public import proofs.«01_k».proof.Proof.Gen.Kernel3Ideal.Value
public import Idealize.ShloMosaic.Lib.Pointwise
public import Idealize.ShloMosaic.Lib.IdealHost
public import Idealize.ShloMosaic.Lib.Pipeline.ReadBack
public import Idealize.ShloMosaic.Lib.Pipeline.ValueKit

@[expose] public section

set_option maxRecDepth 16384

noncomputable section

/-! What one grid point of the feed-forward block's gradient computes from the blocks it reads. -/

namespace Cert.Proof.FfnBwd

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The rows of `x1` that grid point `t` reads. -/
def xB (c : Dev nD) (t : Fin cfg0.N) : Vec Ideal S512x1024 .f32 := iblk m c 0 t
/-- The rows of the hidden activation that grid point `t` reads. -/
def aB (c : Dev nD) (t : Fin cfg0.N) : Vec Ideal S512x4096 .bf16 := iblk m c 1 t
/-- The rows of `dx2` that grid point `t` reads. -/
def dB (c : Dev nD) (t : Fin cfg0.N) : Vec Ideal S512x1024 .f32 := iblk m c 2 t
/-- The gain row, as grid point `t` reads it. -/
def gB (c : Dev nD) (t : Fin cfg0.N) : Vec Ideal S1x1024 .f32 := iblk m c 3 t
/-- The slabs of the first matrix, as grid point `t` reads them. -/
def wuB (c : Dev nD) (t : Fin cfg0.N) : Vec Ideal S8x1024x512 .bf16 := iblk m c 4 t
/-- The slabs of the second matrix, as grid point `t` reads them. -/
def wdB (c : Dev nD) (t : Fin cfg0.N) : Vec Ideal S8x512x1024 .bf16 := iblk m c 5 t

/-- The gain of a row's norm: the reciprocal root of its mean square and the small addend. -/
def rinv (y : Fin 1024 → EReal) : EReal :=
  Ideal.rsqrt (Ideal.div (∑ k, y k * y k) (Ideal.ofBits FTy.f32 0x44800000#32) + Ideal.ofBits FTy.f32 0x358637BD#32)

/-- The norm's gradient as the kernel writes it. -/
def gradK (y u : Fin 1024 → EReal) (k : Fin 1024) : EReal :=
  rinv y * (u k - y k * rinv y * Ideal.div (∑ j, u j * (y j * rinv y)) (Ideal.ofBits FTy.f32 0x44800000#32))

/-- A row of a matrix. -/
def rowOf {n : ℕ} (y : Vec Ideal (⟨2, ![n, 1024]⟩ : Shape) .f32) (s : Fin n) : Fin 1024 → EReal := fun k => y (ix2 s k)

/-- The gradient before the activation, at row `s` and entry `f` of slab `e`, as the kernel writes it. -/
def dpS {n : ℕ} (a : Vec Ideal (⟨2, ![n, 4096]⟩ : Shape) .bf16) (d : Vec Ideal (⟨2, ![n, 1024]⟩ : Shape) .f32) (wd : Vec Ideal S8x512x1024 .bf16)
    (s : Fin n) (e : Fin 8) (f : Fin 512) : EReal :=
  (∑ j : Fin 1024, d (ix2 s j) * wd (ix3 e f j)) * (Ideal.ofBits FTy.f32 0x40000000#32 * a (ix2 s ⟨512 * e.val + f.val, by omega⟩))

/-- The gradient of the normed and gained row: the slabs of the gradient before the activation, times the slabs of the first matrix. -/
def dhK {n : ℕ} (a : Vec Ideal (⟨2, ![n, 4096]⟩ : Shape) .bf16) (d : Vec Ideal (⟨2, ![n, 1024]⟩ : Shape) .f32) (wu : Vec Ideal S8x1024x512 .bf16)
    (wd : Vec Ideal S8x512x1024 .bf16) (s : Fin n) (k : Fin 1024) : EReal :=
  ∑ e : Fin 8, ∑ f : Fin 512, dpS a d wd s e f * wu (ix3 e k f)

/-- Columns from `o` on of the activation's rows, as the body loads them. -/
abbrev la (a : Vec Ideal S512x4096 .bf16) (o : ℕ) (inb : ∀ b, (![0, o] : Fin 2 → ℕ) b + (![512, 512] : Fin 2 → ℕ) b ≤ S512x4096.size b := by decide) :=
  View.ld a (Rect.unit (s := S512x4096) ![0, o] ![512, 512] inb)
/-- Slab `e` of the first matrix, as the body loads it. -/
abbrev lu (wu : Vec Ideal S8x1024x512 .bf16) (e : ℕ) (inb : ∀ b, (![e, 0, 0] : Fin 3 → ℕ) b + (![1, 1024, 512] : Fin 3 → ℕ) b ≤ S8x1024x512.size b := by decide) :=
  View.ld wu (Rect.unit (s := S8x1024x512) ![e, 0, 0] ![1, 1024, 512] inb)
/-- Slab `e` of the second matrix, as the body loads it. -/
abbrev lw (wd : Vec Ideal S8x512x1024 .bf16) (e : ℕ) (inb : ∀ b, (![e, 0, 0] : Fin 3 → ℕ) b + (![1, 512, 1024] : Fin 3 → ℕ) b ≤ S8x512x1024.size b := by decide) :=
  View.ld wd (Rect.unit (s := S8x512x1024) ![e, 0, 0] ![1, 512, 1024] inb)

/-- The gradient of the normed and gained rows after the first two slabs. -/
def acc1 (a : Vec Ideal S512x4096 .bf16) (d : Vec Ideal S512x1024 .f32) (wu : Vec Ideal S8x1024x512 .bf16) (wd : Vec Ideal S8x512x1024 .bf16) : FVec Ideal S512x1024 .f32 :=
  k0_pay10 (k0_pay6 d) k0_pay7 (k0_pay8 d (la a 0) (lw wd 0))
    (lu wu 0)
    (la a 512)
    (lw wd 1)
    (lu wu 1)
/-- After the first four slabs. -/
def acc3 (a : Vec Ideal S512x4096 .bf16) (d : Vec Ideal S512x1024 .f32) (wu : Vec Ideal S8x1024x512 .bf16) (wd : Vec Ideal S8x512x1024 .bf16) : FVec Ideal S512x1024 .f32 :=
  k0_pay13 (k0_pay6 d) (acc1 a d wu wd) (k0_pay11 (k0_pay6 d) (la a 1024) (lw wd 2))
    (lu wu 2)
    (la a 1536)
    (lw wd 3)
    (lu wu 3)
/-- After the first six slabs. -/
def acc5 (a : Vec Ideal S512x4096 .bf16) (d : Vec Ideal S512x1024 .f32) (wu : Vec Ideal S8x1024x512 .bf16) (wd : Vec Ideal S8x512x1024 .bf16) : FVec Ideal S512x1024 .f32 :=
  k0_pay16 (k0_pay6 d) (acc3 a d wu wd) (k0_pay14 (k0_pay6 d) (la a 2048) (lw wd 4))
    (lu wu 4)
    (la a 2560)
    (lw wd 5)
    (lu wu 5)
/-- The gradient of the normed and gained rows. -/
def acc7 (a : Vec Ideal S512x4096 .bf16) (d : Vec Ideal S512x1024 .f32) (wu : Vec Ideal S8x1024x512 .bf16) (wd : Vec Ideal S8x512x1024 .bf16) : FVec Ideal S512x1024 .f32 :=
  k0_pay20 (k0_pay6 d) (acc5 a d wu wd) (k0_pay17 (k0_pay6 d) (la a 3072) (lw wd 6))
    (k0_pay18 (lu wu 6))
    (constant S512x1024 FTy.f32 0#32)
    (la a 3584)
    (lw wd 7)
    (lu wu 7)

variable (x : Vec Ideal S512x1024 .f32) (a : Vec Ideal S512x4096 .bf16) (d : Vec Ideal S512x1024 .f32) (g : Vec Ideal S1x1024 .f32)
  (wu : Vec Ideal S8x1024x512 .bf16) (wd : Vec Ideal S8x512x1024 .bf16)

theorem dp_at0 (s f : Fin 512) : (k0_pay8 d (la a 0) (lw wd 0)) (ix2 s f) = dpS a d wd s 0 f := by
  pointwise [la, lw, k0_pay8, k0_pay6, dpS]

theorem dp_at1 (s f : Fin 512) : (k0_pay9 (k0_pay6 d) (la a 512) (lw wd 1)) (ix2 s f) = dpS a d wd s 1 f := by
  pointwise [la, lw, k0_pay9, k0_pay6, dpS]

theorem dp_at2 (s f : Fin 512) : (k0_pay11 (k0_pay6 d) (la a 1024) (lw wd 2)) (ix2 s f) = dpS a d wd s 2 f := by
  pointwise [la, lw, k0_pay11, k0_pay6, dpS]

theorem dp_at3 (s f : Fin 512) : (k0_pay12 (k0_pay6 d) (la a 1536) (lw wd 3)) (ix2 s f) = dpS a d wd s 3 f := by
  pointwise [la, lw, k0_pay12, k0_pay6, dpS]

theorem dp_at4 (s f : Fin 512) : (k0_pay14 (k0_pay6 d) (la a 2048) (lw wd 4)) (ix2 s f) = dpS a d wd s 4 f := by
  pointwise [la, lw, k0_pay14, k0_pay6, dpS]

theorem dp_at5 (s f : Fin 512) : (k0_pay15 (k0_pay6 d) (la a 2560) (lw wd 5)) (ix2 s f) = dpS a d wd s 5 f := by
  pointwise [la, lw, k0_pay15, k0_pay6, dpS]

theorem dp_at6 (s f : Fin 512) : (k0_pay17 (k0_pay6 d) (la a 3072) (lw wd 6)) (ix2 s f) = dpS a d wd s 6 f := by
  pointwise [la, lw, k0_pay17, k0_pay6, dpS]

theorem dp_at7 (s f : Fin 512) : (k0_pay19 (k0_pay6 d) (la a 3584) (lw wd 7)) (ix2 s f) = dpS a d wd s 7 f := by
  pointwise [la, lw, k0_pay19, k0_pay6, dpS]

theorem acc1_at (s : Fin 512) (k : Fin 1024) : acc1 a d wu wd (ix2 s k)
    = (∑ f : Fin 512, dpS a d wd s 0 f * wu (ix3 0 k f)) + ∑ f : Fin 512, dpS a d wd s 1 f * wu (ix3 1 k f) := by
  unfold acc1
  pointwise [lu, k0_pay10, k0_pay7]
  simp only [dp_at0, dp_at1]

theorem acc3_at (s : Fin 512) (k : Fin 1024) : acc3 a d wu wd (ix2 s k)
    = acc1 a d wu wd (ix2 s k) + (∑ f : Fin 512, dpS a d wd s 2 f * wu (ix3 2 k f)) + ∑ f : Fin 512, dpS a d wd s 3 f * wu (ix3 3 k f) := by
  unfold acc3
  pointwise [lu, k0_pay13]
  simp only [dp_at2, dp_at3]

theorem acc5_at (s : Fin 512) (k : Fin 1024) : acc5 a d wu wd (ix2 s k)
    = acc3 a d wu wd (ix2 s k) + (∑ f : Fin 512, dpS a d wd s 4 f * wu (ix3 4 k f)) + ∑ f : Fin 512, dpS a d wd s 5 f * wu (ix3 5 k f) := by
  unfold acc5
  pointwise [lu, k0_pay16]
  simp only [dp_at4, dp_at5]

theorem acc7_at (s : Fin 512) (k : Fin 1024) : acc7 a d wu wd (ix2 s k) = dhK a d wu wd s k := by
  unfold dhK
  rw [Fin.sum_univ_eight]
  unfold acc7
  pointwise [lu, k0_pay20, k0_pay18]
  simp only [dp_at6, dp_at7, acc5_at, acc3_at, acc1_at]

/-- The stored rows of `dx1`. -/
theorem dx_pay (s : Fin 512) (k : Fin 1024) :
    k0_pay1 d (k0_pay22 (k0_pay4 x) (k0_pay6 d) (acc5 a d wu wd) (k0_pay17 (k0_pay6 d) (la a 3072) (lw wd 6))
      (k0_pay18 (lu wu 6))
      (constant S512x1024 FTy.f32 0#32)
      (la a 3584)
      (lw wd 7)
      (lu wu 7) g) (k0_pay23 (k0_pay3 x)) (ix2 s k)
      = d (ix2 s k) + gradK (rowOf x s) (fun j => dhK a d wu wd s j * g (ix2 0 j)) k := by
  have h := acc7_at a d wu wd
  unfold acc7 at h
  pointwise [k0_pay1, k0_pay22, k0_pay23, k0_pay4, k0_pay3, gradK, rinv, rowOf]
  simp only [h]

/-- The stored sum of the gain's gradient. -/
theorem dg_pay (p : Vec Ideal S1x1024 .f32) (s : Fin 1) (k : Fin 1024) :
    k0_pay21 (k0_pay4 x) (k0_pay6 d) (acc5 a d wu wd) (k0_pay17 (k0_pay6 d) (la a 3072) (lw wd 6))
      (k0_pay18 (lu wu 6))
      (constant S512x1024 FTy.f32 0#32)
      (la a 3584)
      (lw wd 7)
      (lu wu 7) p (ix2 s k)
      = p (ix2 s k) + ∑ r : Fin 512, dhK a d wu wd r k * (rowOf x r k * rinv (rowOf x r)) := by
  have h := acc7_at a d wu wd
  unfold acc7 at h
  pointwise [k0_pay21, k0_pay4, k0_pay3, rinv, rowOf]
  simp only [h]

/-- The stored normed and gained rows. -/
theorem hb_pay (s : Fin 512) (k : Fin 1024) : k0_pay5 x g (ix2 s k) = rowOf x s k * rinv (rowOf x s) * g (ix2 0 k) := by
  pointwise [k0_pay5, k0_pay4, k0_pay3, rinv, rowOf]

theorem dpS_split (s : Fin 512) (f : Fin 4096) (e : Fin 8) (p q : Fin 512) (h0 : s.val = p.val) (h1 : f.val = 512 * e.val + q.val) :
    dpS a d wd p e q = dpS a d wd s ⟨f.val / 512, by omega⟩ ⟨f.val % 512, by omega⟩ := by
  obtain rfl : s = p := Fin.ext h0
  have he : e = ⟨f.val / 512, by omega⟩ := Fin.ext (by show e.val = f.val / 512; omega)
  have hq : q = ⟨f.val % 512, by omega⟩ := Fin.ext (by show q.val = f.val % 512; omega)
  rw [← he, ← hq]

/-- The eight stored slabs of the gradient before the activation, read at one entry. -/
theorem dp_pay (s : Fin 512) (f : Fin 4096) :
    View.canon (Val := Elt Ideal) (e := .bf16) [⟨Rect.unit (s := S512x4096) ![0, 3584] ![512, 512] inb_S512x4096_S512x512_0_3584, (k0_pay19 (k0_pay6 d) (la a 3584) (lw wd 7))⟩,
        ⟨Rect.unit (s := S512x4096) ![0, 3072] ![512, 512] inb_S512x4096_S512x512_0_3072, (k0_pay17 (k0_pay6 d) (la a 3072) (lw wd 6))⟩,
        ⟨Rect.unit (s := S512x4096) ![0, 2560] ![512, 512] inb_S512x4096_S512x512_0_2560, (k0_pay15 (k0_pay6 d) (la a 2560) (lw wd 5))⟩,
        ⟨Rect.unit (s := S512x4096) ![0, 2048] ![512, 512] inb_S512x4096_S512x512_0_2048, (k0_pay14 (k0_pay6 d) (la a 2048) (lw wd 4))⟩,
        ⟨Rect.unit (s := S512x4096) ![0, 1536] ![512, 512] inb_S512x4096_S512x512_0_1536, (k0_pay12 (k0_pay6 d) (la a 1536) (lw wd 3))⟩,
        ⟨Rect.unit (s := S512x4096) ![0, 1024] ![512, 512] inb_S512x4096_S512x512_0_1024, (k0_pay11 (k0_pay6 d) (la a 1024) (lw wd 2))⟩,
        ⟨Rect.unit (s := S512x4096) ![0, 512] ![512, 512] inb_S512x4096_S512x512_0_512, (k0_pay9 (k0_pay6 d) (la a 512) (lw wd 1))⟩,
        ⟨Rect.unit (s := S512x4096) ![0, 0] ![512, 512] inb_S512x4096_S512x512_0_0, (k0_pay8 d (la a 0) (lw wd 0))⟩] (ix2 s f)
      = dpS a d wd s ⟨f.val / 512, by omega⟩ ⟨f.val % 512, by omega⟩ := by
  canon_tiles x h
  · obtain ⟨p, q, rfl⟩ : ∃ p q : Fin 512, x = ix2 p q := ⟨x 0, x 1, eq_ix2 x⟩
    exact (dp_at7 a d wd p q).trans (dpS_split a d wd s f 7 p q h0 (by simpa using h1))
  · obtain ⟨p, q, rfl⟩ : ∃ p q : Fin 512, x = ix2 p q := ⟨x 0, x 1, eq_ix2 x⟩
    exact (dp_at6 a d wd p q).trans (dpS_split a d wd s f 6 p q h0 (by simpa using h1))
  · obtain ⟨p, q, rfl⟩ : ∃ p q : Fin 512, x = ix2 p q := ⟨x 0, x 1, eq_ix2 x⟩
    exact (dp_at5 a d wd p q).trans (dpS_split a d wd s f 5 p q h0 (by simpa using h1))
  · obtain ⟨p, q, rfl⟩ : ∃ p q : Fin 512, x = ix2 p q := ⟨x 0, x 1, eq_ix2 x⟩
    exact (dp_at4 a d wd p q).trans (dpS_split a d wd s f 4 p q h0 (by simpa using h1))
  · obtain ⟨p, q, rfl⟩ : ∃ p q : Fin 512, x = ix2 p q := ⟨x 0, x 1, eq_ix2 x⟩
    exact (dp_at3 a d wd p q).trans (dpS_split a d wd s f 3 p q h0 (by simpa using h1))
  · obtain ⟨p, q, rfl⟩ : ∃ p q : Fin 512, x = ix2 p q := ⟨x 0, x 1, eq_ix2 x⟩
    exact (dp_at2 a d wd p q).trans (dpS_split a d wd s f 2 p q h0 (by simpa using h1))
  · obtain ⟨p, q, rfl⟩ : ∃ p q : Fin 512, x = ix2 p q := ⟨x 0, x 1, eq_ix2 x⟩
    exact (dp_at1 a d wd p q).trans (dpS_split a d wd s f 1 p q h0 (by simpa using h1))
  · obtain ⟨p, q, rfl⟩ : ∃ p q : Fin 512, x = ix2 p q := ⟨x 0, x 1, eq_ix2 x⟩
    exact (dp_at0 a d wd p q).trans (dpS_split a d wd s f 0 p q h0 (by simpa using h1))

theorem dx_A (c : Dev nD) (t : Fin cfg0.N) (h0 : t.val % 32 = 0) (s : Fin 512) (k : Fin 1024) :
    (outsAt0 m c t.val t.isLt).1 (ix2 s k) = dB m c t (ix2 s k) + gradK (rowOf (xB m c t) s) (fun j => dhK (aB m c t) (dB m c t) (wuB m c t) (wdB m c t) s j * gB m c t (ix2 0 j)) k := by
  rw [outsAt0_A m c t h0]
  dsimp only
  unfold out0_A_6
  rw [View.read_writes_eq_canon _ _ _ (by intro y; apply cover0_A_6)]
  unfold kernelRun0_A
  dsimp only
  rw [View.canon_unit_zero hz]
  sl_unfold_words
  simp only [View.readAt_eq_ld, (hs0_0 t).read_unread, (hs0_1 t).read_unread, (hs0_2 t).read_unread, (hs0_3 t).read_unread, (hs0_4 t).read_unread, (hs0_5 t).read_unread, (hs0_9 t).read_unread, View.ld_unit_zero (S := S512x1024) hz, View.ld_unit_zero (S := S1x1024) hz]
  exact dx_pay (xB m c t) (aB m c t) (dB m c t) (gB m c t) (wuB m c t) (wdB m c t) s k

theorem hb_A (c : Dev nD) (t : Fin cfg0.N) (h0 : t.val % 32 = 0) (s : Fin 512) (k : Fin 1024) :
    (outsAt0 m c t.val t.isLt).2.1 (ix2 s k) = rowOf (xB m c t) s k * rinv (rowOf (xB m c t) s) * gB m c t (ix2 0 k) := by
  rw [outsAt0_A m c t h0]
  dsimp only
  unfold out0_A_7
  rw [View.read_writes_eq_canon _ _ _ (by intro y; apply cover0_A_7)]
  unfold kernelRun0_A
  dsimp only
  rw [View.canon_unit_zero hz]
  sl_unfold_words
  simp only [View.readAt_eq_ld, (hs0_0 t).read_unread, (hs0_1 t).read_unread, (hs0_2 t).read_unread, (hs0_3 t).read_unread, (hs0_4 t).read_unread, (hs0_5 t).read_unread, (hs0_9 t).read_unread, View.ld_unit_zero (S := S512x1024) hz, View.ld_unit_zero (S := S1x1024) hz]
  exact hb_pay (xB m c t) (gB m c t) s k

theorem dg_A (c : Dev nD) (t : Fin cfg0.N) (h0 : t.val % 32 = 0) (s : Fin 1) (k : Fin 1024) :
    (outsAt0 m c t.val t.isLt).2.2.2 (ix2 s k)
      = 0 + ∑ r : Fin 512, dhK (aB m c t) (dB m c t) (wuB m c t) (wdB m c t) r k * (rowOf (xB m c t) r k * rinv (rowOf (xB m c t) r)) := by
  rw [outsAt0_A m c t h0]
  dsimp only
  unfold out0_A_9
  rw [View.read_writes_eq_canon _ _ _ (by intro y; apply cover0_A_9)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_9 t).read_unread, View.ld_unit_zero (S := S512x1024) hz, View.ld_unit_zero (S := S1x1024) hz]
  simp (disch := first | rfl | decide) only [View.readCov_skip, View.readCov_fill]
  rw [View.canon_cons_unit_zero hz]
  refine (dg_pay (xB m c t) (aB m c t) (dB m c t) (wuB m c t) (wdB m c t) _ s k).trans ?_
  pointwise [k0_pay2]

theorem dp_A (c : Dev nD) (t : Fin cfg0.N) (h0 : t.val % 32 = 0) (s : Fin 512) (f : Fin 4096) :
    (outsAt0 m c t.val t.isLt).2.2.1 (ix2 s f)
      = dpS (aB m c t) (dB m c t) (wdB m c t) s ⟨f.val / 512, by omega⟩ ⟨f.val % 512, by omega⟩ := by
  rw [outsAt0_A m c t h0]
  dsimp only
  unfold out0_A_8
  rw [View.read_writes_eq_canon _ _ _ (by intro y; apply cover0_A_8)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_9 t).read_unread, View.ld_unit_zero (S := S512x1024) hz, View.ld_unit_zero (S := S1x1024) hz]
  exact dp_pay (aB m c t) (dB m c t) (wdB m c t) s f

theorem dx_B (c : Dev nD) (t : Fin cfg0.N) (h0 : ¬t.val % 32 = 0) (s : Fin 512) (k : Fin 1024) :
    (outsAt0 m c t.val t.isLt).1 (ix2 s k) = dB m c t (ix2 s k) + gradK (rowOf (xB m c t) s) (fun j => dhK (aB m c t) (dB m c t) (wuB m c t) (wdB m c t) s j * gB m c t (ix2 0 j)) k := by
  rw [outsAt0_B m c t h0]
  dsimp only
  unfold out0_B_6
  rw [View.read_writes_eq_canon _ _ _ (by intro y; apply cover0_B_6)]
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread, (hs0_5 t).read_unread, (hs0_9 t).read_unread, View.ld_unit_zero (S := S512x1024) hz, View.ld_unit_zero (S := S1x1024) hz]
  exact dx_pay (xB m c t) (aB m c t) (dB m c t) (gB m c t) (wuB m c t) (wdB m c t) s k

theorem hb_B (c : Dev nD) (t : Fin cfg0.N) (h0 : ¬t.val % 32 = 0) (s : Fin 512) (k : Fin 1024) :
    (outsAt0 m c t.val t.isLt).2.1 (ix2 s k) = rowOf (xB m c t) s k * rinv (rowOf (xB m c t) s) * gB m c t (ix2 0 k) := by
  rw [outsAt0_B m c t h0]
  dsimp only
  unfold out0_B_7
  rw [View.read_writes_eq_canon _ _ _ (by intro y; apply cover0_B_7)]
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread, (hs0_5 t).read_unread, (hs0_9 t).read_unread, View.ld_unit_zero (S := S512x1024) hz, View.ld_unit_zero (S := S1x1024) hz]
  exact hb_pay (xB m c t) (gB m c t) s k

theorem dg_B (c : Dev nD) (t : Fin cfg0.N) (h0 : ¬t.val % 32 = 0) (s : Fin 1) (k : Fin 1024) :
    (outsAt0 m c t.val t.isLt).2.2.2 (ix2 s k)
      = (outsAt0 m c (t.val - 1) (Nat.lt_of_le_of_lt (Nat.sub_le _ _) t.isLt)).2.2.2 (ix2 s k) + ∑ r : Fin 512, dhK (aB m c t) (dB m c t) (wuB m c t) (wdB m c t) r k * (rowOf (xB m c t) r k * rinv (rowOf (xB m c t) r)) := by
  rw [outsAt0_B m c t h0]
  dsimp only
  unfold out0_B_9
  rw [View.read_writes_eq_canon _ _ _ (by intro y; apply cover0_B_9)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_9 t).read_unread, View.ld_unit_zero (S := S512x1024) hz, View.ld_unit_zero (S := S1x1024) hz]
  rw [View.canon_unit_zero hz]
  exact dg_pay (xB m c t) (aB m c t) (dB m c t) (wuB m c t) (wdB m c t) _ s k

theorem dp_B (c : Dev nD) (t : Fin cfg0.N) (h0 : ¬t.val % 32 = 0) (s : Fin 512) (f : Fin 4096) :
    (outsAt0 m c t.val t.isLt).2.2.1 (ix2 s f)
      = dpS (aB m c t) (dB m c t) (wdB m c t) s ⟨f.val / 512, by omega⟩ ⟨f.val % 512, by omega⟩ := by
  rw [outsAt0_B m c t h0]
  dsimp only
  unfold out0_B_8
  rw [View.read_writes_eq_canon _ _ _ (by intro y; apply cover0_B_8)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_9 t).read_unread, View.ld_unit_zero (S := S512x1024) hz, View.ld_unit_zero (S := S1x1024) hz]
  exact dp_pay (aB m c t) (dB m c t) (wdB m c t) s f

end Cert.Proof.FfnBwd
-- ==== Proof.FfnBwd.Model.lean ====
module

public import proofs.«01_k».proof.Proof.OutProj.NormGrad
public import proofs.«01_k».proof.Proof.FfnBwd.Blocks

@[expose] public section

set_option maxRecDepth 16384

noncomputable section

/-! The feed-forward block's gradient over whole rows and whole matrices, and the identities that join
the kernel's slabs and the derivative of the plain forward lines to it. -/

namespace Cert.Proof.FfnBwd

open Idealize.ShloMosaic
open Cert.Proof.OutProj (ofBits_eps ofBits_neg_half grad_eq_of)

/-- The word of 1024. -/
theorem ofBits_1024 : Ideal.ofBits FTy.f32 0x44800000#32 = ((1024 : ℝ) : EReal) := by
  simp [Ideal.ofBits, Ideal.ieee, -EReal.coe_mul]; norm_num

/-- The word of two. -/
theorem ofBits_two : Ideal.ofBits FTy.f32 0x40000000#32 = ((2 : ℝ) : EReal) := by
  simp [Ideal.ofBits, Ideal.ieee, -EReal.coe_mul]; norm_num

/-- The derivative of the squared positive part, times a number: both products at a positive value and nothing elsewhere. -/
theorem relu_twice (p c : EReal) :
    (if 0 < p then max p 0 * c + c * max p 0 else 0) = c * (Ideal.ofBits FTy.f32 0x40000000#32 * max p 0) := by
  rw [ofBits_two]
  by_cases h : 0 < p
  · rw [if_pos h, max_eq_left h.le]
    have h2 : ((2 : ℝ) : EReal) * p = p + p := by
      have : ((2 : ℝ) : EReal) = 1 + 1 := by norm_cast
      rw [this, EReal.right_distrib_of_nonneg zero_le_one zero_le_one, one_mul]
    rw [h2, EReal.left_distrib_of_nonneg h.le h.le, mul_comm p c]
  · rw [if_neg h, max_eq_right (not_lt.mp h), mul_zero, mul_zero]

variable {n : ℕ} (x d : Vec Ideal (⟨2, ![n, 1024]⟩ : Shape) .f32) (g : Vec Ideal (⟨2, ![1, 1024]⟩ : Shape) .f32)
  (wu : Vec Ideal (⟨2, ![1024, 4096]⟩ : Shape) .f32) (wd : Vec Ideal (⟨2, ![4096, 1024]⟩ : Shape) .f32)

/-- The normed and gained row `s`. -/
def hid (s : Fin n) (k : Fin 1024) : EReal := rowOf x s k * rinv (rowOf x s) * g (ix2 0 k)

/-- The row's products with the first matrix. -/
def pre (s : Fin n) (f : Fin 4096) : EReal := ∑ k : Fin 1024, hid x g s k * wu (ix2 k f)

/-- The positive part of them. -/
def act (s : Fin n) (f : Fin 4096) : EReal := max (pre x g wu s f) 0

/-- The gradient before the activation. -/
def dpR (s : Fin n) (f : Fin 4096) : EReal :=
  (∑ j : Fin 1024, d (ix2 s j) * wd (ix2 f j)) * (Ideal.ofBits FTy.f32 0x40000000#32 * act x g wu s f)

/-- The gradient of the normed and gained row. -/
def dhR (s : Fin n) (k : Fin 1024) : EReal := ∑ f : Fin 4096, dpR x d g wu wd s f * wu (ix2 k f)

/-- The gradient of the block's argument. -/
def dxR (s : Fin n) (k : Fin 1024) : EReal :=
  d (ix2 s k) + gradK (rowOf x s) (fun j => dhR x d g wu wd s j * g (ix2 0 j)) k

/-- The gradient of the gain. -/
def dgR (k : Fin 1024) : EReal := ∑ r : Fin n, dhR x d g wu wd r k * (rowOf x r k * rinv (rowOf x r))

/-- A sum over the eight slabs of a sum over a slab's entries is the sum over all of them. -/
theorem sum_slabs (F : Fin 4096 → EReal) : ∑ e : Fin 8, ∑ f : Fin 512, F ⟨512 * e.val + f.val, by omega⟩ = ∑ f : Fin 4096, F f := by
  rw [← Finset.sum_product']
  refine Fintype.sum_equiv (finProdFinEquiv (m := 8) (n := 512)) _ _ fun p => ?_
  refine congrArg F (Fin.ext ?_)
  show 512 * p.1.val + p.2.val = p.2.val + 512 * p.1.val
  omega

end Cert.Proof.FfnBwd
-- ==== Proof.FfnBwd.Host.lean ====
module

public import proofs.«01_k».proof.Proof.FfnBwd.Model
public import Idealize.ShloMosaic.Lib.StableHlo.RunRead

@[expose] public section

set_option maxRecDepth 16384

noncomputable section

/-! What the host prepares for the feed-forward block's gradient: the hidden activation and the two matrices in slabs. -/

namespace Cert.Proof.FfnBwd

open Cert.Kernel3Ideal Cert.Kernel3Ideal.Gen Idealize.ShloMosaic Idealize.ShloMosaic.TcCoe Idealize.ShloMosaic.StableHlo Idealize.SL.Sem

variable (m : (ℓ : Loc nD τ sig) → Buf (Elt Ideal) ℓ)

/-- The five arguments. -/
def aX (c : Dev nD) : Vec Ideal S16384x1024 .f32 := m ((c : Thread nD τ).loc main_arg0)
def aD (c : Dev nD) : Vec Ideal S16384x1024 .f32 := m ((c : Thread nD τ).loc main_arg1)
def aG (c : Dev nD) : Vec Ideal S1x1024 .f32 := m ((c : Thread nD τ).loc main_arg2)
def aU (c : Dev nD) : Vec Ideal S1024x4096 .f32 := m ((c : Thread nD τ).loc main_arg3)
def aW (c : Dev nD) : Vec Ideal S4096x1024 .f32 := m ((c : Thread nD τ).loc main_arg4)

set_option maxHeartbeats 4000000 in
/-- The hidden activation. -/
theorem V_act (c : Dev nD) (s : Fin 16384) (f : Fin 4096) :
    (V m c main_v14 : Vec Ideal S16384x4096 .bf16) (ix2 s f) = act (aX m c) (aG m c) (aU m c) s f := by
  delta V hostOps0 hostOps0_1 hostOps0_2
  simp only [List.flatten_cons, List.flatten_nil, List.append_nil, List.cons_append, List.nil_append,
    TRef.binary, TRef.nullary, TRef.ternary, TRef.unary, TRef.toBuf, TRef.ofBuf, cast_eq]
  after_reads_simp
  unfold act pre hid rinv rowOf aX aG aU
  pointwise []

set_option maxHeartbeats 4000000 in
/-- The slabs of the first matrix. -/
theorem V_wu (c : Dev nD) (e : Fin 8) (k : Fin 1024) (f : Fin 512) :
    (V m c main_v17 : Vec Ideal S8x1024x512 .bf16) (ix3 e k f) = aU m c (ix2 k ⟨512 * e.val + f.val, by omega⟩) := by
  delta V hostOps0 hostOps0_1 hostOps0_2
  simp only [List.flatten_cons, List.flatten_nil, List.append_nil, List.cons_append, List.nil_append,
    TRef.binary, TRef.nullary, TRef.ternary, TRef.unary, TRef.toBuf, TRef.ofBuf, cast_eq]
  after_reads_simp
  unfold aU
  pointwise []
  exact congrArg (fun i : Fin 4096 => m ((c : Thread nD τ).loc main_arg3) (ix2 k i)) (Fin.ext (congrArg (· + f.val) (Nat.mul_comm e.val 512)))

set_option maxHeartbeats 4000000 in
/-- The slabs of the second matrix. -/
theorem V_wd (c : Dev nD) (e : Fin 8) (f : Fin 512) (j : Fin 1024) :
    (V m c main_v19 : Vec Ideal S8x512x1024 .bf16) (ix3 e f j) = aW m c (ix2 ⟨512 * e.val + f.val, by omega⟩ j) := by
  delta V hostOps0 hostOps0_1 hostOps0_2
  simp only [List.flatten_cons, List.flatten_nil, List.append_nil, List.cons_append, List.nil_append,
    TRef.binary, TRef.nullary, TRef.ternary, TRef.unary, TRef.toBuf, TRef.ofBuf, cast_eq]
  after_reads_simp
  unfold aW
  pointwise []
  exact congrArg (fun i : Fin 4096 => m ((c : Thread nD τ).loc main_arg4) (ix2 i j)) (Fin.ext (congrArg (· + f.val) (Nat.mul_comm e.val 512)))

end Cert.Proof.FfnBwd
-- ==== Proof.FfnBwd.Final.lean ====
module

public import proofs.«01_k».proof.Proof.FfnBwd.Host
public import Idealize.ShloMosaic.Lib.Pipeline.ValueKit

@[expose] public section

set_option maxRecDepth 16384

noncomputable section

/-! The four arrays that the feed-forward block's gradient ends with, entry by entry. -/

namespace Cert.Proof.FfnBwd

open Cert.Kernel3Ideal Cert.Kernel3Ideal.Gen Cert.Kernel3Ideal.Value Idealize.ShloMosaic Idealize.ShloMosaic.TcCoe Idealize.SL.Sem
open Idealize.ShloMosaic.Pipeline (Dat)

variable (m : (ℓ : Loc nD τ sig) → Buf (Elt Ideal) ℓ)

/-- Row `s` of the block of rows that grid point `t` reads. -/
def rowAt (t : ℕ) (s : Fin 512) (h : t < 32) : Fin 16384 := ⟨t * 512 + s.val, by omega⟩

theorem lt32 (t : Fin cfg0.N) : t.val < 32 := Nat.lt_of_lt_of_eq t.isLt N_0

/-- The last grid point. -/
def tL : Fin cfg0.N := ⟨31, Nat.lt_of_lt_of_eq (by decide) N_0.symm⟩

theorem index_0 : ∀ t : Fin cfg0.N, win0_0.index t = ![t.val, 0] :=
  (by decide +kernel : ∀ t : Fin grid0.N, win0_0.index t = ![t.val, 0])

theorem index_1 : ∀ t : Fin cfg0.N, win0_1.index t = ![t.val, 0] :=
  (by decide +kernel : ∀ t : Fin grid0.N, win0_1.index t = ![t.val, 0])

theorem index_2 : ∀ t : Fin cfg0.N, win0_2.index t = ![t.val, 0] :=
  (by decide +kernel : ∀ t : Fin grid0.N, win0_2.index t = ![t.val, 0])

theorem index_3 : ∀ t : Fin cfg0.N, win0_3.index t = ![0, 0] :=
  (by decide +kernel : ∀ t : Fin grid0.N, win0_3.index t = ![0, 0])

theorem index_4 : ∀ t : Fin cfg0.N, win0_4.index t = ![0, 0, 0] :=
  (by decide +kernel : ∀ t : Fin grid0.N, win0_4.index t = ![0, 0, 0])

theorem index_5 : ∀ t : Fin cfg0.N, win0_5.index t = ![0, 0, 0] :=
  (by decide +kernel : ∀ t : Fin grid0.N, win0_5.index t = ![0, 0, 0])

theorem index_6 : ∀ t : Fin cfg0.N, win0_6.index t = ![t.val, 0] :=
  (by decide +kernel : ∀ t : Fin grid0.N, win0_6.index t = ![t.val, 0])

theorem index_7 : ∀ t : Fin cfg0.N, win0_7.index t = ![t.val, 0] :=
  (by decide +kernel : ∀ t : Fin grid0.N, win0_7.index t = ![t.val, 0])

theorem index_8 : ∀ t : Fin cfg0.N, win0_8.index t = ![t.val, 0] :=
  (by decide +kernel : ∀ t : Fin grid0.N, win0_8.index t = ![t.val, 0])

theorem index_9 : ∀ t : Fin cfg0.N, win0_9.index t = ![0, 0] :=
  (by decide +kernel : ∀ t : Fin grid0.N, win0_9.index t = ![0, 0])

theorem xB_at (c : Dev nD) (t : Fin cfg0.N) (s : Fin 512) (k : Fin 1024) :
    xB m c t (ix2 s k) = aX m c (ix2 (rowAt t.val s (lt32 t)) k) := by
  unfold xB aX rowAt
  blk_simp [iblk, index_0]
  refine congrArg (m _) ?_
  funext a
  apply Fin.ext
  match a with
  | ⟨0, _⟩ => blk_simp [index_0]
  | ⟨1, _⟩ => blk_simp [index_0]

theorem dB_at (c : Dev nD) (t : Fin cfg0.N) (s : Fin 512) (k : Fin 1024) :
    dB m c t (ix2 s k) = aD m c (ix2 (rowAt t.val s (lt32 t)) k) := by
  unfold dB aD rowAt
  blk_simp [iblk, index_2]
  refine congrArg (m _) ?_
  funext a
  apply Fin.ext
  match a with
  | ⟨0, _⟩ => blk_simp [index_2]
  | ⟨1, _⟩ => blk_simp [index_2]

theorem aB_at (c : Dev nD) (t : Fin cfg0.N) (s : Fin 512) (f : Fin 4096) :
    aB m c t (ix2 s f) = act (aX m c) (aG m c) (aU m c) (rowAt t.val s (lt32 t)) f := by
  refine Eq.trans ?_ (V_act m c _ f)
  unfold aB rowAt
  blk_simp [iblk, index_1]
  refine congrArg (V m c main_v14) ?_
  funext a
  apply Fin.ext
  match a with
  | ⟨0, _⟩ => blk_simp [index_1]
  | ⟨1, _⟩ => blk_simp [index_1]

theorem gB_eq (c : Dev nD) (t : Fin cfg0.N) : gB m c t = aG m c := by
  funext j
  unfold gB aG
  blk_simp [iblk, index_3]
  refine congrArg (m _) ?_
  funext a
  apply Fin.ext
  match a with
  | ⟨0, _⟩ => blk_simp [index_3]
  | ⟨1, _⟩ => blk_simp [index_3]

theorem wuB_at (c : Dev nD) (t : Fin cfg0.N) (e : Fin 8) (k : Fin 1024) (f : Fin 512) :
    wuB m c t (ix3 e k f) = aU m c (ix2 k ⟨512 * e.val + f.val, by omega⟩) := by
  refine Eq.trans ?_ (V_wu m c e k f)
  unfold wuB
  blk_simp [iblk, index_4]
  refine congrArg (V m c main_v17) ?_
  funext a
  apply Fin.ext
  match a with
  | ⟨0, _⟩ => blk_simp [index_4]
  | ⟨1, _⟩ => blk_simp [index_4]
  | ⟨2, _⟩ => blk_simp [index_4]

theorem wdB_at (c : Dev nD) (t : Fin cfg0.N) (e : Fin 8) (f : Fin 512) (j : Fin 1024) :
    wdB m c t (ix3 e f j) = aW m c (ix2 ⟨512 * e.val + f.val, by omega⟩ j) := by
  refine Eq.trans ?_ (V_wd m c e f j)
  unfold wdB
  blk_simp [iblk, index_5]
  refine congrArg (V m c main_v19) ?_
  funext a
  apply Fin.ext
  match a with
  | ⟨0, _⟩ => blk_simp [index_5]
  | ⟨1, _⟩ => blk_simp [index_5]
  | ⟨2, _⟩ => blk_simp [index_5]

theorem row_at (c : Dev nD) (t : Fin cfg0.N) (s : Fin 512) : rowOf (xB m c t) s = rowOf (aX m c) (rowAt t.val s (lt32 t)) :=
  funext fun k => xB_at m c t s k

/-- A slab's entry of the gradient before the activation is the whole matrix's. -/
theorem dpS_at (c : Dev nD) (t : Fin cfg0.N) (s : Fin 512) (e : Fin 8) (f : Fin 512) :
    dpS (aB m c t) (dB m c t) (wdB m c t) s e f
      = dpR (aX m c) (aD m c) (aG m c) (aU m c) (aW m c) (rowAt t.val s (lt32 t)) ⟨512 * e.val + f.val, by omega⟩ := by
  unfold dpS dpR
  simp only [aB_at, dB_at, wdB_at]

/-- The sum over the slabs is the product with the whole matrix. -/
theorem dhK_at (c : Dev nD) (t : Fin cfg0.N) (s : Fin 512) (k : Fin 1024) :
    dhK (aB m c t) (dB m c t) (wuB m c t) (wdB m c t) s k
      = dhR (aX m c) (aD m c) (aG m c) (aU m c) (aW m c) (rowAt t.val s (lt32 t)) k := by
  unfold dhK dhR
  simp only [dpS_at, wuB_at]
  exact sum_slabs fun f => dpR (aX m c) (aD m c) (aG m c) (aU m c) (aW m c) (rowAt t.val s (lt32 t)) f * aU m c (ix2 k f)

theorem dx_block (c : Dev nD) (t : Fin cfg0.N) (s : Fin 512) (k : Fin 1024) :
    (outsAt0 m c t.val t.isLt).1 (ix2 s k) = dxR (aX m c) (aD m c) (aG m c) (aU m c) (aW m c) (rowAt t.val s (lt32 t)) k := by
  by_cases h0 : t.val % 32 = 0
  · refine (dx_A m c t h0 s k).trans ?_
    unfold dxR
    simp only [dhK_at, row_at, dB_at, gB_eq]
  · refine (dx_B m c t h0 s k).trans ?_
    unfold dxR
    simp only [dhK_at, row_at, dB_at, gB_eq]

theorem hb_block (c : Dev nD) (t : Fin cfg0.N) (s : Fin 512) (k : Fin 1024) :
    (outsAt0 m c t.val t.isLt).2.1 (ix2 s k) = hid (aX m c) (aG m c) (rowAt t.val s (lt32 t)) k := by
  by_cases h0 : t.val % 32 = 0
  · refine (hb_A m c t h0 s k).trans ?_
    unfold hid
    simp only [row_at, gB_eq]
  · refine (hb_B m c t h0 s k).trans ?_
    unfold hid
    simp only [row_at, gB_eq]

theorem dp_block (c : Dev nD) (t : Fin cfg0.N) (s : Fin 512) (f : Fin 4096) :
    (outsAt0 m c t.val t.isLt).2.2.1 (ix2 s f) = dpR (aX m c) (aD m c) (aG m c) (aU m c) (aW m c) (rowAt t.val s (lt32 t)) f := by
  by_cases h0 : t.val % 32 = 0
  · refine (dp_A m c t h0 s f).trans ((dpS_at m c t s _ _).trans ?_)
    exact congrArg (dpR (aX m c) (aD m c) (aG m c) (aU m c) (aW m c) (rowAt t.val s (lt32 t))) (Fin.ext (Nat.div_add_mod f.val 512))
  · refine (dp_B m c t h0 s f).trans ((dpS_at m c t s _ _).trans ?_)
    exact congrArg (dpR (aX m c) (aD m c) (aG m c) (aU m c) (aW m c) (rowAt t.val s (lt32 t))) (Fin.ext (Nat.div_add_mod f.val 512))

/-- The array of `dx1` after the run, entry by entry. -/
theorem dx_array (c : Dev nD) : (dats m 0 c).arrAt 6 cfg0.N
    = (fun i => dxR (aX m c) (aD m c) (aG m c) (aU m c) (aW m c) (i 0) (i 1) : Vec Ideal S16384x1024 .f32) := by
  refine (dats m 0 c).arrAt_eq_of_covers 6 _ (by decide +kernel) fun t hf y => ?_
  blk_simp
  rw [after0_6]
  refine Eq.trans (congrArg _ (eq_ix2 (n0 := 512) (n1 := 1024) y)) ?_
  refine (dx_block m c t (y 0) (y 1)).trans ?_
  have e0 : rowAt t.val (y 0) (lt32 t) = (((cfg0.win 6).blk t).view.emb y) 0 := by
    apply Fin.ext; blk_simp [index_6]; rfl
  have e1 : (y 1 : Fin 1024) = (((cfg0.win 6).blk t).view.emb y) 1 := by
    apply Fin.ext; blk_simp [index_6]
  exact congrArg₂ (fun (r : Fin 16384) (k : Fin 1024) => dxR (aX m c) (aD m c) (aG m c) (aU m c) (aW m c) r k) e0 e1

/-- The array of the normed and gained rows after the run, entry by entry. -/
theorem hb_array (c : Dev nD) : (dats m 0 c).arrAt 7 cfg0.N
    = (fun i => hid (aX m c) (aG m c) (i 0) (i 1) : Vec Ideal S16384x1024 .bf16) := by
  refine (dats m 0 c).arrAt_eq_of_covers 7 _ (by decide +kernel) fun t hf y => ?_
  blk_simp
  rw [after0_7]
  refine Eq.trans (congrArg _ (eq_ix2 (n0 := 512) (n1 := 1024) y)) ?_
  refine (hb_block m c t (y 0) (y 1)).trans ?_
  have e0 : rowAt t.val (y 0) (lt32 t) = (((cfg0.win 7).blk t).view.emb y) 0 := by
    apply Fin.ext; blk_simp [index_7]; rfl
  have e1 : (y 1 : Fin 1024) = (((cfg0.win 7).blk t).view.emb y) 1 := by
    apply Fin.ext; blk_simp [index_7]
  exact congrArg₂ (fun (r : Fin 16384) (k : Fin 1024) => hid (aX m c) (aG m c) r k) e0 e1

/-- The array of the gradient before the activation after the run, entry by entry. -/
theorem dp_array (c : Dev nD) : (dats m 0 c).arrAt 8 cfg0.N
    = (fun i => dpR (aX m c) (aD m c) (aG m c) (aU m c) (aW m c) (i 0) (i 1) : Vec Ideal S16384x4096 .bf16) := by
  refine (dats m 0 c).arrAt_eq_of_covers 8 _ (by decide +kernel) fun t hf y => ?_
  blk_simp
  rw [after0_8]
  refine Eq.trans (congrArg _ (eq_ix2 (n0 := 512) (n1 := 4096) y)) ?_
  refine (dp_block m c t (y 0) (y 1)).trans ?_
  have e0 : rowAt t.val (y 0) (lt32 t) = (((cfg0.win 8).blk t).view.emb y) 0 := by
    apply Fin.ext; blk_simp [index_8]; rfl
  have e1 : (y 1 : Fin 4096) = (((cfg0.win 8).blk t).view.emb y) 1 := by
    apply Fin.ext; blk_simp [index_8]
  exact congrArg₂ (fun (r : Fin 16384) (k : Fin 4096) => dpR (aX m c) (aD m c) (aG m c) (aU m c) (aW m c) r k) e0 e1

/-- The reference's summand of the gain's gradient at one row. -/
def rowG (c : Dev nD) (k : Fin 1024) (r : Fin 16384) : EReal :=
  dhR (aX m c) (aD m c) (aG m c) (aU m c) (aW m c) r k * (rowOf (aX m c) r k * rinv (rowOf (aX m c) r))

/-- The sum of a function of the rows over the rows of the first `n` blocks. -/
def upTo (f : Fin 16384 → EReal) (n : ℕ) : EReal :=
  ∑ t ∈ Finset.range n, if h : t < 32 then ∑ s : Fin 512, f (rowAt t s h) else 0

theorem upTo_succ (f : Fin 16384 → EReal) (n : ℕ) (h : n < 32) : upTo f (n + 1) = upTo f n + ∑ s : Fin 512, f (rowAt n s h) := by
  unfold upTo
  rw [Finset.sum_range_succ, dif_pos h]

/-- All thirty-two blocks: the sum over every row. -/
theorem upTo_all (f : Fin 16384 → EReal) : upTo f 32 = ∑ r : Fin 16384, f r := by
  unfold upTo
  rw [Finset.sum_range]
  have : ∀ t : Fin 32, (if h : t.val < 32 then ∑ s : Fin 512, f (rowAt t.val s h) else 0) = ∑ s : Fin 512, f (rowAt t.val s t.isLt) :=
    fun t => dif_pos t.isLt
  rw [Finset.sum_congr rfl fun t _ => this t, ← Finset.sum_product']
  refine Fintype.sum_equiv (finProdFinEquiv (m := 32) (n := 512)) _ _ fun p => ?_
  refine congrArg f (Fin.ext ?_)
  show p.1.val * 512 + p.2.val = p.2.val + 512 * p.1.val
  omega

theorem addG_at (c : Dev nD) (t : Fin cfg0.N) (k : Fin 1024) :
    (∑ r : Fin 512, dhK (aB m c t) (dB m c t) (wuB m c t) (wdB m c t) r k * (rowOf (xB m c t) r k * rinv (rowOf (xB m c t) r)))
      = ∑ s : Fin 512, rowG m c k (rowAt t.val s (lt32 t)) := by
  unfold rowG
  simp only [dhK_at, row_at]

theorem dg_upTo (c : Dev nD) : ∀ (n : ℕ) (hn : n < cfg0.N) (s : Fin 1) (k : Fin 1024),
    (outsAt0 m c n hn).2.2.2 (ix2 s k) = upTo (rowG m c k) (n + 1)
  | 0, hn, s, k => by
    have h := dg_A m c ⟨0, hn⟩ rfl s k
    refine h.trans ((congrArg (0 + ·) (addG_at m c ⟨0, hn⟩ k)).trans ?_)
    refine Eq.trans ?_ (upTo_succ _ 0 (by omega)).symm
    exact congrArg (· + _) (Finset.sum_range_zero _).symm
  | n + 1, hn, s, k => by
    have h32 : n + 1 < 32 := Nat.lt_of_lt_of_eq hn N_0
    have h := dg_B m c ⟨n + 1, hn⟩ (by show ¬(n + 1) % 32 = 0; omega) s k
    refine h.trans ((congrArg (_ + ·) (addG_at m c ⟨n + 1, hn⟩ k)).trans ?_)
    refine Eq.trans ?_ (upTo_succ _ (n + 1) h32).symm
    exact congrArg (· + _) (dg_upTo c n (Nat.lt_of_succ_lt hn) s k)

/-- The gain's gradient after the run. -/
theorem dg_array (c : Dev nD) : (dats m 0 c).arrAt 9 cfg0.N
    = (fun i => dgR (aX m c) (aD m c) (aG m c) (aU m c) (aW m c) (i 1) : Vec Ideal S1x1024 .f32) := by
  refine (dats m 0 c).arrAt_eq_of_after_last 9 tL (by decide +kernel) _ fun j => ?_
  blk_simp
  rw [after0_9]
  refine Eq.trans (congrArg _ (eq_ix2 (n0 := 1) (n1 := 1024) j)) ?_
  refine (dg_upTo m c 31 tL.isLt (j 0) (j 1)).trans ?_
  exact upTo_all _

end Cert.Proof.FfnBwd
-- ==== Proof.FfnBwd.Ref.lean ====
module

public import proofs.«01_k».proof.Proof.Gen.Reference3Ideal.Read
public import proofs.«01_k».proof.Proof.FfnBwd.Model

@[expose] public section

set_option maxRecDepth 16384

noncomputable section

/-! The four results of the reference of the feed-forward block's gradient, entry by entry. -/

namespace Cert.Proof.FfnBwd

open Cert.Reference3Ideal Cert.Reference3Ideal.Gen Cert.Reference3Ideal.Read Idealize.ShloMosaic Idealize.ShloMosaic.TcCoe Idealize.SL.Sem
open Cert.Proof.OutProj (ofBits_eps ofBits_neg_half grad_eq_of)

variable (x d : Vec Ideal S16384x1024 .f32) (g : Vec Ideal S1x1024 .f32) (wu : Vec Ideal S1024x4096 .f32) (wd : Vec Ideal S4096x1024 .f32)

/-- The normed and gained rows. -/
theorem ref_h (s : Fin 16384) (k : Fin 1024) : val_main_v88 (F := Ideal) x g (ix2 s k) = hid x g s k := by
  unfold hid rinv rowOf
  pointwise [val_main_v74, val_main_v75, val_main_v76, val_main_v77, val_main_v78, val_main_v79, val_main_v80, val_main_v81, val_main_v82, val_main_v83, val_main_v84, val_main_v85, val_main_v86, val_main_v87, val_main_v88, val_main_call0_cst, val_main_call0_v0, val_main_call1_cst, val_main_call1_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18]

/-- Their products with the first matrix. -/
theorem ref_pre (s : Fin 16384) (f : Fin 4096) : val_main_v63 (F := Ideal) x g wu (ix2 s f) = pre x g wu s f := by
  unfold pre hid rinv rowOf
  pointwise [val_main_v51, val_main_v52, val_main_v53, val_main_v54, val_main_v55, val_main_v56, val_main_v57, val_main_v58, val_main_v59, val_main_v60, val_main_v61, val_main_v62, val_main_v63, val_main_call0_cst, val_main_call0_v0, val_main_call1_cst, val_main_call1_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18]

/-- The same products in the gradient of the whole block. -/
theorem ref_pre0 (s : Fin 16384) (f : Fin 4096) : val_main_v15 (F := Ideal) x g wu (ix2 s f) = pre x g wu s f := by
  unfold pre hid rinv rowOf
  pointwise [val_main_v0, val_main_v1, val_main_v2, val_main_v3, val_main_v4, val_main_v5, val_main_v6, val_main_v7, val_main_v8, val_main_v9, val_main_v10, val_main_v11, val_main_v12, val_main_v13, val_main_v14, val_main_v15, val_main_call0_cst, val_main_call0_v0, val_main_call1_cst, val_main_call1_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18]

/-- The gradient before the activation. -/
theorem ref_dp (s : Fin 16384) (f : Fin 4096) : val_main_v89 (F := Ideal) x d g wu wd (ix2 s f) = dpR x d g wu wd s f := by
  unfold dpR act
  rw [← relu_twice]
  pointwise [val_main_v89, val_main_v64, val_main_v65, val_main_v66, val_main_v67, val_main_v68, val_main_v69, val_main_v70, val_main_v71, val_main_v72, val_main_v73, val_main_v74, val_main_v75, val_main_call0_cst, val_main_call0_v0, val_main_call1_cst, val_main_call1_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18]
  simp only [ref_pre]

/-- The same gradient in the gradient of the whole block. -/
theorem ref_dp0 (s : Fin 16384) (f : Fin 4096) : val_main_v29 (F := Ideal) x d g wu wd (ix2 s f) = dpR x d g wu wd s f := by
  unfold dpR act
  rw [← relu_twice]
  pointwise [val_main_v16, val_main_v17, val_main_v18, val_main_v19, val_main_v20, val_main_v21, val_main_v22, val_main_v23, val_main_v24, val_main_v25, val_main_v26, val_main_v27, val_main_v28, val_main_v29, val_main_call0_cst, val_main_call0_v0, val_main_call1_cst, val_main_call1_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18]
  simp only [ref_pre0]

/-- The gradient of the normed and gained rows. -/
theorem ref_dh (s : Fin 16384) (k : Fin 1024) : val_main_v30 (F := Ideal) x d g wu wd (ix2 s k) = dhR x d g wu wd s k := by
  unfold dhR
  pointwise [val_main_v30]
  simp only [ref_dp0]

/-- The gradient of the gain. -/
theorem ref_dg (a : Fin 1) (k : Fin 1024) : val_main_v33 (F := Ideal) x d g wu wd (ix2 a k) = dgR x d g wu wd k := by
  unfold dgR rinv rowOf
  pointwise [val_main_v33, val_main_v32, val_main_v31, val_main_v0, val_main_v1, val_main_v2, val_main_v3, val_main_v4, val_main_v5, val_main_v6, val_main_v7, val_main_v8, val_main_v9, val_main_v10, val_main_v11, val_main_v12, val_main_call0_cst, val_main_call0_v0, val_main_call1_cst, val_main_call1_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18]
  simp only [ref_dh]
  exact Finset.sum_congr rfl fun s _ => mul_comm _ _

/-- The gradient of the block's argument. -/
theorem ref_dx (s : Fin 16384) (k : Fin 1024) : val_main_v50 (F := Ideal) x d g wu wd (ix2 s k) = dxR x d g wu wd s k := by
  obtain ⟨e, he, heq⟩ := ofBits_eps
  have key := grad_eq_of 1024 (by norm_num) (rowOf x s) (fun j => dhR x d g wu wd s j * g (ix2 0 j)) k e he
  simp only [← heq, ← ofBits_1024, ← ofBits_neg_half] at key
  unfold dxR gradK rinv
  refine Eq.trans ?_ (congrArg (d (ix2 s k) + ·) key.symm)
  clear key
  unfold rowOf
  pointwise [val_main_v0, val_main_v1, val_main_v2, val_main_v3, val_main_v4, val_main_v5, val_main_v6, val_main_v7, val_main_v8, val_main_v9, val_main_v10, val_main_v11, val_main_v12, val_main_v34, val_main_v35, val_main_v36, val_main_v37, val_main_v38, val_main_v39, val_main_v40, val_main_v41, val_main_v42, val_main_v43, val_main_v44, val_main_v45, val_main_v46, val_main_v47, val_main_v48, val_main_v49, val_main_v50, val_main_call0_cst, val_main_call0_v0, val_main_call1_cst, val_main_call1_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18]
  simp only [ref_dh, Fin.sum_univ_one]
  simp only [add_assoc]

end Cert.Proof.FfnBwd
-- ==== Proof.FfnBwd.Claims.lean ====
module

public import proofs.«01_k».proof.Defs
public import proofs.«01_k».proof.Proof.FfnBwd.Final
public import proofs.«01_k».proof.Proof.FfnBwd.Ref
public import proofs.«01_k».proof.Proof.Gen.Kernel3.Frame
public import proofs.«01_k».proof.Proof.Gen.Reference3Ideal.Run
public import Idealize.ShloMosaic.Adequacy
public import Idealize.ShloMosaic.Init

@[expose] public section

set_option maxRecDepth 16384

noncomputable section

/-! The claims about the feed-forward block's gradient. -/

namespace Cert.Proof.FfnBwd

open Idealize.ShloMosaic Idealize.ShloMosaic.TcCoe Idealize.SL.Sem

/-- The frame of the feed-forward block's gradient over the machine's floats. -/
theorem frame_bits : Cert.quiescent_Kernel3 := fun m ρ _ => Cert.Kernel3.Gen.frame m ρ

/-- Its frame over the reals. -/
theorem frame_ideal : Cert.quiescent_Kernel3Ideal := fun m ρ _ => Cert.Kernel3Ideal.Gen.frame m ρ

/-- The frame of its reference: the arguments are kept, and there is no counter. -/
theorem frame_ref : Cert.quiescent_Reference3Ideal := fun m ρ _ =>
  (θ_run Cert.Reference3Ideal.defs _ _).mono (fun r h => ⟨fun c => (h c).2.2.2.2,
      Idealize.ShloMosaic.sem_eq_zero_of_no_sems (by decide) r.2⟩)
    (Cert.Reference3Ideal.Value.run (F := Ideal) m ρ)

/-- The kernel and the gradient of the plain forward lines end with the same four arrays. -/
theorem algebraic : Cert.algebraic_Kernel3Ideal_Reference3Ideal := by
  intro m g m' g' _ hagree
  refine ⟨fun c => (Cert.Kernel3Ideal.Gen.dats m 0 c).arrAt 6 Cert.Kernel3Ideal.cfg0.N,
    fun c => (Cert.Kernel3Ideal.Gen.dats m 0 c).arrAt 7 Cert.Kernel3Ideal.cfg0.N,
    fun c => (Cert.Kernel3Ideal.Gen.dats m 0 c).arrAt 8 Cert.Kernel3Ideal.cfg0.N,
    fun c => (Cert.Kernel3Ideal.Gen.dats m 0 c).arrAt 9 Cert.Kernel3Ideal.cfg0.N,
    Cert.Kernel3Ideal.Value.run_blocks m g, ?_⟩
  refine (θ_run Cert.Reference3Ideal.defs _ _).mono (fun r h c => ?_) (Cert.Reference3Ideal.Value.run (F := Ideal) m' g')
  obtain ⟨h0, h1, h2, h3, hargs⟩ := h c
  obtain ⟨e0, e1, e2, e3, e4⟩ := hagree c
  refine ⟨?_, ?_, ?_, ?_, hargs⟩
  · refine h0.trans ?_
    refine (Cert.Reference3Ideal.Read.val_main_v50_eq (F := Ideal) _ _).trans ?_
    rw [e0, e1, e2, e3, e4]
    refine Eq.trans ?_ (dx_array m c).symm
    funext i
    refine Eq.trans (congrArg _ (eq_ix2 (n0 := 16384) (n1 := 1024) i)) ?_
    exact ref_dx _ _ _ _ _ _ _
  · refine h1.trans ?_
    refine (Cert.Reference3Ideal.Read.val_main_v88_eq (F := Ideal) _ _ ).trans ?_
    rw [e0, e2]
    refine Eq.trans ?_ (hb_array m c).symm
    funext i
    refine Eq.trans (congrArg _ (eq_ix2 (n0 := 16384) (n1 := 1024) i)) ?_
    exact ref_h _ _ _ _
  · refine h2.trans ?_
    refine (Cert.Reference3Ideal.Read.val_main_v89_eq (F := Ideal) _ _ _ _ _ ).trans ?_
    rw [e0, e1, e2, e3, e4]
    refine Eq.trans ?_ (dp_array m c).symm
    funext i
    refine Eq.trans (congrArg _ (eq_ix2 (n0 := 16384) (n1 := 4096) i)) ?_
    exact ref_dp _ _ _ _ _ _ _
  · refine h3.trans ?_
    refine (Cert.Reference3Ideal.Read.val_main_v33_eq (F := Ideal) _ _ _ _ _ ).trans ?_
    rw [e0, e1, e2, e3, e4]
    refine Eq.trans ?_ (dg_array m c).symm
    funext i
    refine Eq.trans (congrArg _ (eq_ix2 (n0 := 1) (n1 := 1024) i)) ?_
    exact ref_dg _ _ _ _ _ _ _

end Cert.Proof.FfnBwd
-- ==== Proof.Rows.lean ====
module

public import proofs.«01_k».proof.Proof.FfnBwd.Model

@[expose] public section

set_option maxRecDepth 16384

noncomputable section

/-! Blocks of 1024 rows of a matrix of 16384 rows, and sums over them. -/

namespace Cert.Proof.Rows

open Idealize.ShloMosaic

/-- Row `s` of the block of rows `t`. -/
def rowAt (t : ℕ) (s : Fin 1024) (h : t < 16) : Fin 16384 := ⟨t * 1024 + s.val, by omega⟩

/-- The sum of a function of the rows over the rows of the first `n` blocks. -/
def upTo (f : Fin 16384 → EReal) (n : ℕ) : EReal :=
  ∑ t ∈ Finset.range n, if h : t < 16 then ∑ s : Fin 1024, f (rowAt t s h) else 0

theorem upTo_succ (f : Fin 16384 → EReal) (n : ℕ) (h : n < 16) : upTo f (n + 1) = upTo f n + ∑ s : Fin 1024, f (rowAt n s h) := by
  unfold upTo
  rw [Finset.sum_range_succ, dif_pos h]

theorem upTo_one (f : Fin 16384 → EReal) : upTo f 1 = 0 + ∑ s : Fin 1024, f (rowAt 0 s (by decide)) :=
  (upTo_succ f 0 (by decide)).trans (congrArg (· + _) (Finset.sum_range_zero _))

/-- All sixteen blocks: the sum over every row. -/
theorem upTo_all (f : Fin 16384 → EReal) : upTo f 16 = ∑ r : Fin 16384, f r := by
  unfold upTo
  rw [Finset.sum_range]
  have : ∀ t : Fin 16, (if h : t.val < 16 then ∑ s : Fin 1024, f (rowAt t.val s h) else 0) = ∑ s : Fin 1024, f (rowAt t.val s t.isLt) :=
    fun t => dif_pos t.isLt
  rw [Finset.sum_congr rfl fun t _ => this t, ← Finset.sum_product']
  refine Fintype.sum_equiv (finProdFinEquiv (m := 16) (n := 1024)) _ _ fun p => ?_
  refine congrArg f (Fin.ext ?_)
  show p.1.val * 1024 + p.2.val = p.2.val + 1024 * p.1.val
  omega

end Cert.Proof.Rows
-- ==== Proof.InBwd.Blocks.lean ====
module

public import proofs.«01_k».proof.Proof.Gen.Kernel4Ideal.Value
public import proofs.«01_k».proof.Proof.Rows
public import Idealize.ShloMosaic.Lib.Pointwise
public import Idealize.ShloMosaic.Lib.IdealHost
public import Idealize.ShloMosaic.Lib.Pipeline.ReadBack
public import Idealize.ShloMosaic.Lib.Pipeline.ValueKit

@[expose] public section

set_option maxRecDepth 16384

noncomputable section

/-! What one grid point of the input projection's gradient computes from the blocks it reads. -/

namespace Cert.Proof.InBwd

open Cert.Kernel4Ideal Cert.Kernel4Ideal.Gen Idealize.ShloMosaic Idealize.ShloMosaic.TcCoe Idealize.SL.Sem
open Idealize.ShloMosaic.Pipeline (Dat)
open Cert.Proof.FfnBwd (rinv gradK rowOf)

variable (m : (ℓ : Loc nD τ sig) → Buf (Elt Ideal) ℓ)

theorem hz : (![0, 0] : Fin 2 → Nat) = fun _ => 0 := funext fun a => by fin_cases a <;> rfl

/-- The rows of `x` that grid point `t` reads. -/
def xB (c : Dev nD) (t : Fin cfg0.N) : Vec Ideal S1024x1024 .f32 := iblk m c 0 t
/-- The rows of `dz` that grid point `t` reads. -/
def zB (c : Dev nD) (t : Fin cfg0.N) : Vec Ideal S1024x2560 .bf16 := iblk m c 1 t
/-- The rows of the residual's gradient that grid point `t` reads. -/
def rB (c : Dev nD) (t : Fin cfg0.N) : Vec Ideal S1024x1024 .f32 := iblk m c 2 t
/-- The gain row, as grid point `t` reads it. -/
def gB (c : Dev nD) (t : Fin cfg0.N) : Vec Ideal S1x1024 .f32 := iblk m c 3 t
/-- The transposed matrix, as grid point `t` reads it. -/
def wB (c : Dev nD) (t : Fin cfg0.N) : Vec Ideal S2560x1024 .bf16 := iblk m c 4 t

/-- The gradient of the normed and gained row `s`, from the transposed matrix. -/
def dhK {n : ℕ} (z : Vec Ideal (⟨2, ![n, 2560]⟩ : Shape) .bf16) (w : Vec Ideal S2560x1024 .bf16) (s : Fin n) (k : Fin 1024) : EReal :=
  ∑ e : Fin 2560, z (ix2 s e) * w (ix2 e k)

variable (x r : Vec Ideal S1024x1024 .f32) (z : Vec Ideal S1024x2560 .bf16) (g : Vec Ideal S1x1024 .f32) (w : Vec Ideal S2560x1024 .bf16)

/-- The stored rows of `dx`. -/
theorem dx_pay (s k : Fin 1024) : k0_pay1 (k0_pay3 x) (k0_pay4 x) r (k0_pay7 z w g) (k0_pay8 x z w g) (ix2 s k)
    = r (ix2 s k) + gradK (rowOf x s) (fun j => dhK z w s j * g (ix2 0 j)) k := by
  pointwise [k0_pay1, k0_pay3, k0_pay4, k0_pay5, k0_pay7, k0_pay8, gradK, rinv, rowOf, dhK]

/-- The stored sum of the gain's gradient. -/
theorem dg_pay (p : Vec Ideal S1x1024 .f32) (s : Fin 1) (k : Fin 1024) : k0_pay6 x z w p (ix2 s k)
    = p (ix2 s k) + ∑ a : Fin 1024, dhK z w a k * (rowOf x a k * rinv (rowOf x a)) := by
  pointwise [k0_pay6, k0_pay5, k0_pay4, k0_pay3, rinv, rowOf, dhK]

theorem dx_A (c : Dev nD) (t : Fin cfg0.N) (h0 : t.val % 16 = 0) (s k : Fin 1024) :
    (outsAt0 m c t.val t.isLt).1 (ix2 s k) = rB m c t (ix2 s k) + gradK (rowOf (xB m c t) s) (fun j => dhK (zB m c t) (wB m c t) s j * gB m c t (ix2 0 j)) k := by
  rw [outsAt0_A m c t h0]
  dsimp only
  unfold out0_A_5
  rw [View.read_writes_eq_canon _ _ _ (by intro y; apply cover0_A_5)]
  unfold kernelRun0_A
  dsimp only
  rw [View.canon_unit_zero hz]
  sl_unfold_words
  simp only [View.readAt_eq_ld, (hs0_0 t).read_unread, (hs0_1 t).read_unread, (hs0_2 t).read_unread, (hs0_3 t).read_unread, (hs0_4 t).read_unread, (hs0_6 t).read_unread, View.ld_unit_zero (S := S1024x1024) hz, View.ld_unit_zero (S := S1x1024) hz, View.ld_unit_zero (S := S1024x2560) hz, View.ld_unit_zero (S := S2560x1024) hz]
  exact dx_pay (xB m c t) (rB m c t) (zB m c t) (gB m c t) (wB m c t) s k

theorem dx_B (c : Dev nD) (t : Fin cfg0.N) (h0 : ¬t.val % 16 = 0) (s k : Fin 1024) :
    (outsAt0 m c t.val t.isLt).1 (ix2 s k) = rB m c t (ix2 s k) + gradK (rowOf (xB m c t) s) (fun j => dhK (zB m c t) (wB m c t) s j * gB m c t (ix2 0 j)) k := by
  rw [outsAt0_B m c t h0]
  dsimp only
  unfold out0_B_5
  rw [View.read_writes_eq_canon _ _ _ (by intro y; apply cover0_B_5)]
  unfold kernelRun0_B
  dsimp only
  rw [View.canon_unit_zero hz]
  sl_unfold_words
  simp only [View.readAt_eq_ld, (hs0_0 t).read_unread, (hs0_1 t).read_unread, (hs0_2 t).read_unread, (hs0_3 t).read_unread, (hs0_4 t).read_unread, (hs0_6 t).read_unread, View.ld_unit_zero (S := S1024x1024) hz, View.ld_unit_zero (S := S1x1024) hz, View.ld_unit_zero (S := S1024x2560) hz, View.ld_unit_zero (S := S2560x1024) hz]
  exact dx_pay (xB m c t) (rB m c t) (zB m c t) (gB m c t) (wB m c t) s k

theorem dg_A (c : Dev nD) (t : Fin cfg0.N) (h0 : t.val % 16 = 0) (s : Fin 1) (k : Fin 1024) :
    (outsAt0 m c t.val t.isLt).2 (ix2 s k)
      = 0 + ∑ a : Fin 1024, dhK (zB m c t) (wB m c t) a k * (rowOf (xB m c t) a k * rinv (rowOf (xB m c t) a)) := by
  rw [outsAt0_A m c t h0]
  dsimp only
  unfold out0_A_6
  rw [View.read_writes_eq_canon _ _ _ (by intro y; apply cover0_A_6)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_6 t).read_unread, View.ld_unit_zero (S := S1024x1024) hz, View.ld_unit_zero (S := S1x1024) hz, View.ld_unit_zero (S := S1024x2560) hz, View.ld_unit_zero (S := S2560x1024) hz]
  simp (disch := first | rfl | decide) only [View.readCov_skip, View.readCov_fill]
  rw [View.canon_cons_unit_zero hz]
  refine (dg_pay (xB m c t) (zB m c t) (wB m c t) _ s k).trans ?_
  pointwise [k0_pay2]

theorem dg_B (c : Dev nD) (t : Fin cfg0.N) (h0 : ¬t.val % 16 = 0) (s : Fin 1) (k : Fin 1024) :
    (outsAt0 m c t.val t.isLt).2 (ix2 s k)
      = (outsAt0 m c (t.val - 1) (Nat.lt_of_le_of_lt (Nat.sub_le _ _) t.isLt)).2 (ix2 s k) + ∑ a : Fin 1024, dhK (zB m c t) (wB m c t) a k * (rowOf (xB m c t) a k * rinv (rowOf (xB m c t) a)) := by
  rw [outsAt0_B m c t h0]
  dsimp only
  unfold out0_B_6
  rw [View.read_writes_eq_canon _ _ _ (by intro y; apply cover0_B_6)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_6 t).read_unread, View.ld_unit_zero (S := S1024x1024) hz, View.ld_unit_zero (S := S1x1024) hz, View.ld_unit_zero (S := S1024x2560) hz, View.ld_unit_zero (S := S2560x1024) hz]
  rw [View.canon_unit_zero hz]
  exact dg_pay (xB m c t) (zB m c t) (wB m c t) _ s k

end Cert.Proof.InBwd
-- ==== Proof.InBwd.Host.lean ====
module

public import proofs.«01_k».proof.Proof.InBwd.Blocks
public import Idealize.ShloMosaic.Lib.StableHlo.RunRead

@[expose] public section

set_option maxRecDepth 16384

noncomputable section

/-! The arguments of the input projection's gradient, the two results over whole rows, and the transposed matrix that the host prepares. -/

namespace Cert.Proof.InBwd

open Cert.Kernel4Ideal Cert.Kernel4Ideal.Gen Idealize.ShloMosaic Idealize.ShloMosaic.TcCoe Idealize.ShloMosaic.StableHlo Idealize.SL.Sem
open Cert.Proof.FfnBwd (rinv gradK rowOf)

section
variable {n : ℕ} (x : Vec Ideal (⟨2, ![n, 1024]⟩ : Shape) .f32) (z : Vec Ideal (⟨2, ![n, 2560]⟩ : Shape) .bf16) (r : Vec Ideal (⟨2, ![n, 1024]⟩ : Shape) .f32)
  (g : Vec Ideal (⟨2, ![1, 1024]⟩ : Shape) .f32) (w : Vec Ideal (⟨2, ![1024, 2560]⟩ : Shape) .f32)

/-- The gradient of the normed and gained row `s`. -/
def dhR (s : Fin n) (k : Fin 1024) : EReal := ∑ e : Fin 2560, z (ix2 s e) * w (ix2 k e)

/-- The gradient of the argument: the residual's and the norm's. -/
def dxR (s : Fin n) (k : Fin 1024) : EReal := r (ix2 s k) + gradK (rowOf x s) (fun j => dhR z w s j * g (ix2 0 j)) k

/-- The gradient of the gain. -/
def dgR (k : Fin 1024) : EReal := ∑ a : Fin n, dhR z w a k * (rowOf x a k * rinv (rowOf x a))
end

variable (m : (ℓ : Loc nD τ sig) → Buf (Elt Ideal) ℓ)

/-- The five arguments. -/
def aX (c : Dev nD) : Vec Ideal S16384x1024 .f32 := m ((c : Thread nD τ).loc main_arg0)
def aZ (c : Dev nD) : Vec Ideal S16384x2560 .bf16 := m ((c : Thread nD τ).loc main_arg1)
def aR (c : Dev nD) : Vec Ideal S16384x1024 .f32 := m ((c : Thread nD τ).loc main_arg2)
def aG (c : Dev nD) : Vec Ideal S1x1024 .f32 := m ((c : Thread nD τ).loc main_arg3)
def aW (c : Dev nD) : Vec Ideal S1024x2560 .f32 := m ((c : Thread nD τ).loc main_arg4)

set_option maxHeartbeats 4000000 in
/-- The transposed matrix. -/
theorem V_w (c : Dev nD) (e : Fin 2560) (k : Fin 1024) :
    (V m c main_v1 : Vec Ideal S2560x1024 .bf16) (ix2 e k) = aW m c (ix2 k e) := by
  delta V hostOps0
  simp only [List.flatten_cons, List.flatten_nil, List.append_nil, List.cons_append, List.nil_append,
    TRef.binary, TRef.nullary, TRef.ternary, TRef.unary, TRef.toBuf, TRef.ofBuf, cast_eq]
  after_reads_simp
  unfold aW
  pointwise []

end Cert.Proof.InBwd
-- ==== Proof.InBwd.Final.lean ====
module

public import proofs.«01_k».proof.Proof.InBwd.Host

@[expose] public section

set_option maxRecDepth 16384

noncomputable section

/-! The two arrays that the input projection's gradient ends with, entry by entry. -/

namespace Cert.Proof.InBwd

open Cert.Kernel4Ideal Cert.Kernel4Ideal.Gen Cert.Kernel4Ideal.Value Idealize.ShloMosaic Idealize.ShloMosaic.TcCoe Idealize.SL.Sem
open Idealize.ShloMosaic.Pipeline (Dat)
open Cert.Proof.FfnBwd (rinv gradK rowOf)
open Cert.Proof.Rows

variable (m : (ℓ : Loc nD τ sig) → Buf (Elt Ideal) ℓ)

theorem lt16 (t : Fin cfg0.N) : t.val < 16 := Nat.lt_of_lt_of_eq t.isLt N_0

/-- The last grid point. -/
def tL : Fin cfg0.N := ⟨15, Nat.lt_of_lt_of_eq (by decide) N_0.symm⟩

theorem index_0 : ∀ t : Fin cfg0.N, win0_0.index t = ![t.val, 0] :=
  (by decide +kernel : ∀ t : Fin grid0.N, win0_0.index t = ![t.val, 0])

theorem index_1 : ∀ t : Fin cfg0.N, win0_1.index t = ![t.val, 0] :=
  (by decide +kernel : ∀ t : Fin grid0.N, win0_1.index t = ![t.val, 0])

theorem index_2 : ∀ t : Fin cfg0.N, win0_2.index t = ![t.val, 0] :=
  (by decide +kernel : ∀ t : Fin grid0.N, win0_2.index t = ![t.val, 0])

theorem index_3 : ∀ t : Fin cfg0.N, win0_3.index t = ![0, 0] :=
  (by decide +kernel : ∀ t : Fin grid0.N, win0_3.index t = ![0, 0])

theorem index_4 : ∀ t : Fin cfg0.N, win0_4.index t = ![0, 0] :=
  (by decide +kernel : ∀ t : Fin grid0.N, win0_4.index t = ![0, 0])

theorem index_5 : ∀ t : Fin cfg0.N, win0_5.index t = ![t.val, 0] :=
  (by decide +kernel : ∀ t : Fin grid0.N, win0_5.index t = ![t.val, 0])

theorem index_6 : ∀ t : Fin cfg0.N, win0_6.index t = ![0, 0] :=
  (by decide +kernel : ∀ t : Fin grid0.N, win0_6.index t = ![0, 0])

theorem xB_at (c : Dev nD) (t : Fin cfg0.N) (s : Fin 1024) (k : Fin 1024) :
    xB m c t (ix2 s k) = aX m c (ix2 (rowAt t.val s (lt16 t)) k) := by
  unfold xB aX rowAt
  blk_simp [iblk, index_0]
  refine congrArg (m _) ?_
  funext a
  apply Fin.ext
  match a with
  | ⟨0, _⟩ => blk_simp [index_0]
  | ⟨1, _⟩ => blk_simp [index_0]

theorem zB_at (c : Dev nD) (t : Fin cfg0.N) (s : Fin 1024) (k : Fin 2560) :
    zB m c t (ix2 s k) = aZ m c (ix2 (rowAt t.val s (lt16 t)) k) := by
  unfold zB aZ rowAt
  blk_simp [iblk, index_1]
  refine congrArg (m _) ?_
  funext a
  apply Fin.ext
  match a with
  | ⟨0, _⟩ => blk_simp [index_1]
  | ⟨1, _⟩ => blk_simp [index_1]

theorem rB_at (c : Dev nD) (t : Fin cfg0.N) (s : Fin 1024) (k : Fin 1024) :
    rB m c t (ix2 s k) = aR m c (ix2 (rowAt t.val s (lt16 t)) k) := by
  unfold rB aR rowAt
  blk_simp [iblk, index_2]
  refine congrArg (m _) ?_
  funext a
  apply Fin.ext
  match a with
  | ⟨0, _⟩ => blk_simp [index_2]
  | ⟨1, _⟩ => blk_simp [index_2]

theorem gB_eq (c : Dev nD) (t : Fin cfg0.N) : gB m c t = aG m c := by
  funext j
  unfold gB aG
  blk_simp [iblk, index_3]
  refine congrArg (m _) ?_
  funext a
  apply Fin.ext
  match a with
  | ⟨0, _⟩ => blk_simp [index_3]
  | ⟨1, _⟩ => blk_simp [index_3]

theorem wB_at (c : Dev nD) (t : Fin cfg0.N) (e : Fin 2560) (k : Fin 1024) :
    wB m c t (ix2 e k) = aW m c (ix2 k e) := by
  refine Eq.trans ?_ (V_w m c e k)
  unfold wB
  blk_simp [iblk, index_4]
  refine congrArg (V m c main_v1) ?_
  funext a
  apply Fin.ext
  match a with
  | ⟨0, _⟩ => blk_simp [index_4]
  | ⟨1, _⟩ => blk_simp [index_4]

theorem row_at (c : Dev nD) (t : Fin cfg0.N) (s : Fin 1024) : rowOf (xB m c t) s = rowOf (aX m c) (rowAt t.val s (lt16 t)) :=
  funext fun k => xB_at m c t s k

theorem dhK_at (c : Dev nD) (t : Fin cfg0.N) (s k : Fin 1024) :
    dhK (zB m c t) (wB m c t) s k = dhR (aZ m c) (aW m c) (rowAt t.val s (lt16 t)) k := by
  unfold dhK dhR
  simp only [zB_at, wB_at]

theorem dx_block (c : Dev nD) (t : Fin cfg0.N) (s k : Fin 1024) :
    (outsAt0 m c t.val t.isLt).1 (ix2 s k) = dxR (aX m c) (aZ m c) (aR m c) (aG m c) (aW m c) (rowAt t.val s (lt16 t)) k := by
  by_cases h0 : t.val % 16 = 0
  · refine (dx_A m c t h0 s k).trans ?_
    unfold dxR
    simp only [dhK_at, row_at, rB_at, gB_eq]
  · refine (dx_B m c t h0 s k).trans ?_
    unfold dxR
    simp only [dhK_at, row_at, rB_at, gB_eq]

/-- The array of `dx` after the run, entry by entry. -/
theorem dx_array (c : Dev nD) : (dats m 0 c).arrAt 5 cfg0.N
    = (fun i => dxR (aX m c) (aZ m c) (aR m c) (aG m c) (aW m c) (i 0) (i 1) : Vec Ideal S16384x1024 .f32) := by
  refine (dats m 0 c).arrAt_eq_of_covers 5 _ (by decide +kernel) fun t hf y => ?_
  blk_simp
  rw [after0_5]
  refine Eq.trans (congrArg _ (eq_ix2 (n0 := 1024) (n1 := 1024) y)) ?_
  refine (dx_block m c t (y 0) (y 1)).trans ?_
  have e0 : rowAt t.val (y 0) (lt16 t) = (((cfg0.win 5).blk t).view.emb y) 0 := by
    apply Fin.ext; blk_simp [index_5]; rfl
  have e1 : (y 1 : Fin 1024) = (((cfg0.win 5).blk t).view.emb y) 1 := by
    apply Fin.ext; blk_simp [index_5]
  exact congrArg₂ (fun (r : Fin 16384) (k : Fin 1024) => dxR (aX m c) (aZ m c) (aR m c) (aG m c) (aW m c) r k) e0 e1

/-- The summand of the gain's gradient at one row. -/
def rowG (c : Dev nD) (k : Fin 1024) (a : Fin 16384) : EReal :=
  dhR (aZ m c) (aW m c) a k * (rowOf (aX m c) a k * rinv (rowOf (aX m c) a))

theorem addG_at (c : Dev nD) (t : Fin cfg0.N) (k : Fin 1024) :
    (∑ a : Fin 1024, dhK (zB m c t) (wB m c t) a k * (rowOf (xB m c t) a k * rinv (rowOf (xB m c t) a)))
      = ∑ s : Fin 1024, rowG m c k (rowAt t.val s (lt16 t)) := by
  unfold rowG
  simp only [dhK_at, row_at]

theorem dg_upTo (c : Dev nD) : ∀ (n : ℕ) (hn : n < cfg0.N) (s : Fin 1) (k : Fin 1024),
    (outsAt0 m c n hn).2 (ix2 s k) = upTo (rowG m c k) (n + 1)
  | 0, hn, s, k => by
    have h := dg_A m c ⟨0, hn⟩ rfl s k
    exact h.trans ((congrArg (0 + ·) (addG_at m c ⟨0, hn⟩ k)).trans (upTo_one _).symm)
  | n + 1, hn, s, k => by
    have h16 : n + 1 < 16 := Nat.lt_of_lt_of_eq hn N_0
    have h := dg_B m c ⟨n + 1, hn⟩ (by show ¬(n + 1) % 16 = 0; omega) s k
    refine h.trans ((congrArg (_ + ·) (addG_at m c ⟨n + 1, hn⟩ k)).trans ?_)
    refine Eq.trans ?_ (upTo_succ _ (n + 1) h16).symm
    exact congrArg (· + _) (dg_upTo c n (Nat.lt_of_succ_lt hn) s k)

/-- The gain's gradient after the run. -/
theorem dg_array (c : Dev nD) : (dats m 0 c).arrAt 6 cfg0.N
    = (fun i => dgR (aX m c) (aZ m c) (aW m c) (i 1) : Vec Ideal S1x1024 .f32) := by
  refine (dats m 0 c).arrAt_eq_of_after_last 6 tL (by decide +kernel) _ fun j => ?_
  blk_simp
  rw [after0_6]
  refine Eq.trans (congrArg _ (eq_ix2 (n0 := 1) (n1 := 1024) j)) ?_
  refine (dg_upTo m c 15 tL.isLt (j 0) (j 1)).trans ?_
  exact upTo_all _

end Cert.Proof.InBwd
-- ==== Proof.InBwd.Ref.lean ====
module

public import proofs.«01_k».proof.Proof.Gen.Reference4Ideal.Read
public import proofs.«01_k».proof.Proof.InBwd.Host

@[expose] public section

set_option maxRecDepth 16384

noncomputable section

/-! The two results of the reference of the input projection's gradient, entry by entry. -/

namespace Cert.Proof.InBwd

open Cert.Reference4Ideal Cert.Reference4Ideal.Gen Cert.Reference4Ideal.Read Idealize.ShloMosaic Idealize.ShloMosaic.TcCoe Idealize.SL.Sem
open Cert.Proof.OutProj (ofBits_eps ofBits_neg_half grad_eq_of)
open Cert.Proof.FfnBwd (rinv gradK rowOf ofBits_1024)

variable (x r : Vec Ideal S16384x1024 .f32) (z : Vec Ideal S16384x2560 .bf16) (g : Vec Ideal S1x1024 .f32) (w : Vec Ideal S1024x2560 .f32)

/-- The gradient of the normed and gained rows. -/
theorem ref_dh (s : Fin 16384) (k : Fin 1024) : val_main_v17 (F := Ideal) z w (ix2 s k) = dhR z w s k := by
  unfold dhR
  pointwise [val_main_v16, val_main_v17]

/-- The gradient of the gain. -/
theorem ref_dg (a : Fin 1) (k : Fin 1024) : val_main_v20 (F := Ideal) x z w (ix2 a k) = dgR x z w k := by
  unfold dgR rinv rowOf
  pointwise [val_main_v20, val_main_v19, val_main_v18, val_main_v0, val_main_v1, val_main_v2, val_main_v3, val_main_v4, val_main_v5, val_main_v6, val_main_v7, val_main_v8, val_main_v9, val_main_v10, val_main_v11, val_main_v12, val_main_cst, val_main_cst_0, val_main_cst_1, val_main_cst_2, val_main_cst_3, val_main_cst_4, val_main_cst_5, val_main_cst_6]
  simp only [ref_dh]
  exact Finset.sum_congr rfl fun s _ => mul_comm _ _

/-- The gradient of the argument. -/
theorem ref_dx (s : Fin 16384) (k : Fin 1024) : val_main_v37 (F := Ideal) x z r g w (ix2 s k) = dxR x z r g w s k := by
  obtain ⟨e, he, heq⟩ := ofBits_eps
  have key := grad_eq_of 1024 (by norm_num) (rowOf x s) (fun j => dhR z w s j * g (ix2 0 j)) k e he
  simp only [← heq, ← ofBits_1024, ← ofBits_neg_half] at key
  unfold dxR gradK rinv
  refine Eq.trans ?_ (congrArg (r (ix2 s k) + ·) key.symm)
  clear key
  unfold rowOf
  pointwise [val_main_v0, val_main_v1, val_main_v2, val_main_v3, val_main_v4, val_main_v5, val_main_v6, val_main_v7, val_main_v8, val_main_v9, val_main_v10, val_main_v11, val_main_v12, val_main_v21, val_main_v22, val_main_v23, val_main_v24, val_main_v25, val_main_v26, val_main_v27, val_main_v28, val_main_v29, val_main_v30, val_main_v31, val_main_v32, val_main_v33, val_main_v34, val_main_v35, val_main_v36, val_main_v37, val_main_cst, val_main_cst_0, val_main_cst_1, val_main_cst_2, val_main_cst_3, val_main_cst_4, val_main_cst_5, val_main_cst_6]
  simp only [ref_dh, Fin.sum_univ_one]
  simp only [add_assoc]

end Cert.Proof.InBwd
-- ==== Proof.InBwd.Claims.lean ====
module

public import proofs.«01_k».proof.Defs
public import proofs.«01_k».proof.Proof.InBwd.Final
public import proofs.«01_k».proof.Proof.InBwd.Ref
public import proofs.«01_k».proof.Proof.Gen.Kernel4.Frame
public import proofs.«01_k».proof.Proof.Gen.Reference4Ideal.Run
public import Idealize.ShloMosaic.Adequacy
public import Idealize.ShloMosaic.Init

@[expose] public section

set_option maxRecDepth 16384

noncomputable section

/-! The claims about the input projection's gradient. -/

namespace Cert.Proof.InBwd

open Idealize.ShloMosaic Idealize.ShloMosaic.TcCoe Idealize.SL.Sem

/-- The frame of the input projection's gradient over the machine's floats. -/
theorem frame_bits : Cert.quiescent_Kernel4 := fun m ρ _ => Cert.Kernel4.Gen.frame m ρ

/-- Its frame over the reals. -/
theorem frame_ideal : Cert.quiescent_Kernel4Ideal := fun m ρ _ => Cert.Kernel4Ideal.Gen.frame m ρ

/-- The frame of its reference: the arguments are kept, and there is no counter. -/
theorem frame_ref : Cert.quiescent_Reference4Ideal := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

/-- The kernel and the gradient of the plain forward lines end with the same two arrays. -/
theorem algebraic : Cert.algebraic_Kernel4Ideal_Reference4Ideal := by
  intro m g m' g' _ hagree
  refine ⟨fun c => (Cert.Kernel4Ideal.Gen.dats m 0 c).arrAt 5 Cert.Kernel4Ideal.cfg0.N,
    fun c => (Cert.Kernel4Ideal.Gen.dats m 0 c).arrAt 6 Cert.Kernel4Ideal.cfg0.N,
    Cert.Kernel4Ideal.Value.run_blocks m g, ?_⟩
  refine (θ_run Cert.Reference4Ideal.defs _ _).mono (fun r h c => ?_) (Cert.Reference4Ideal.Value.run (F := Ideal) m' g')
  obtain ⟨h0, h1, hargs⟩ := h c
  obtain ⟨e0, e1, e2, e3, e4⟩ := hagree c
  refine ⟨?_, ?_, hargs⟩
  · refine h0.trans ?_
    refine (Cert.Reference4Ideal.Read.val_main_v37_eq (F := Ideal) _ _).trans ?_
    rw [e0, e1, e2, e3, e4]
    refine Eq.trans ?_ (dx_array m c).symm
    funext i
    refine Eq.trans (congrArg _ (eq_ix2 (n0 := 16384) (n1 := 1024) i)) ?_
    exact ref_dx _ _ _ _ _ _ _
  · refine h1.trans ?_
    refine (Cert.Reference4Ideal.Read.val_main_v20_eq (F := Ideal) _ _ _).trans ?_
    rw [e0, e1, e4]
    refine Eq.trans ?_ (dg_array m c).symm
    funext i
    refine Eq.trans (congrArg _ (eq_ix2 (n0 := 1) (n1 := 1024) i)) ?_
    exact ref_dg _ _ _ _ _

end Cert.Proof.InBwd
-- ==== Proof.FfnFwd.Blocks.lean ====
module

public import proofs.«01_k».proof.Proof.Gen.Kernel5Ideal.Value
public import proofs.«01_k».proof.Proof.FfnBwd.Final
public import Idealize.ShloMosaic.Lib.Pointwise
public import Idealize.ShloMosaic.Lib.IdealHost
public import Idealize.ShloMosaic.Lib.Pipeline.ReadBack
public import Idealize.ShloMosaic.Lib.Pipeline.ValueKit

@[expose] public section

set_option maxRecDepth 16384

noncomputable section

/-! What one grid point of the feed-forward block computes from the blocks it reads. -/

namespace Cert.Proof.FfnFwd

open Cert.Kernel5Ideal Cert.Kernel5Ideal.Gen Idealize.ShloMosaic Idealize.ShloMosaic.TcCoe Idealize.SL.Sem
open Idealize.ShloMosaic.Pipeline (Dat)
open Cert.Proof.FfnBwd (rinv rowOf hid pre act sum_slabs)

variable (m : (ℓ : Loc nD τ sig) → Buf (Elt Ideal) ℓ)

theorem hz : (![0, 0] : Fin 2 → Nat) = fun _ => 0 := funext fun a => by fin_cases a <;> rfl

/-- The rows of `x` that grid point `t` reads. -/
def xB (c : Dev nD) (t : Fin cfg0.N) : Vec Ideal S512x1024 .f32 := iblk m c 0 t
/-- The gain row, as grid point `t` reads it. -/
def gB (c : Dev nD) (t : Fin cfg0.N) : Vec Ideal S1x1024 .f32 := iblk m c 1 t
/-- The slabs of the first matrix, as grid point `t` reads them. -/
def wuB (c : Dev nD) (t : Fin cfg0.N) : Vec Ideal S8x1024x512 .bf16 := iblk m c 2 t
/-- The slabs of the second matrix, as grid point `t` reads them. -/
def wdB (c : Dev nD) (t : Fin cfg0.N) : Vec Ideal S8x512x1024 .bf16 := iblk m c 3 t

/-- The hidden activation at row `s` and entry `f` of slab `e`. -/
def aS {n : ℕ} (x : Vec Ideal (⟨2, ![n, 1024]⟩ : Shape) .f32) (g : Vec Ideal S1x1024 .f32) (wu : Vec Ideal S8x1024x512 .bf16)
    (s : Fin n) (e : Fin 8) (f : Fin 512) : EReal :=
  max (∑ k : Fin 1024, hid x g s k * wu (ix3 e k f)) 0

/-- The block's result, slab by slab. -/
def yK {n : ℕ} (x : Vec Ideal (⟨2, ![n, 1024]⟩ : Shape) .f32) (g : Vec Ideal S1x1024 .f32) (wu : Vec Ideal S8x1024x512 .bf16)
    (wd : Vec Ideal S8x512x1024 .bf16) (s : Fin n) (k : Fin 1024) : EReal :=
  x (ix2 s k) + ∑ e : Fin 8, ∑ f : Fin 512, aS x g wu s e f * aS x g wu s e f * wd (ix3 e f k)

/-- Slab `e` of the first matrix, as the body loads it. -/
abbrev lu (wu : Vec Ideal S8x1024x512 .bf16) (e : ℕ) (inb : ∀ b, (![e, 0, 0] : Fin 3 → ℕ) b + (![1, 1024, 512] : Fin 3 → ℕ) b ≤ S8x1024x512.size b := by decide) :=
  View.ld wu (Rect.unit (s := S8x1024x512) ![e, 0, 0] ![1, 1024, 512] inb)
/-- Slab `e` of the second matrix, as the body loads it. -/
abbrev lw (wd : Vec Ideal S8x512x1024 .bf16) (e : ℕ) (inb : ∀ b, (![e, 0, 0] : Fin 3 → ℕ) b + (![1, 512, 1024] : Fin 3 → ℕ) b ≤ S8x512x1024.size b := by decide) :=
  View.ld wd (Rect.unit (s := S8x512x1024) ![e, 0, 0] ![1, 512, 1024] inb)

/-- The result after the first slab. -/
def acc0 (x : Vec Ideal S512x1024 .f32) (g : Vec Ideal S1x1024 .f32) (wu : Vec Ideal S8x1024x512 .bf16) (wd : Vec Ideal S8x512x1024 .bf16) : FVec Ideal S512x1024 .f32 := k0_pay9 x g (lu wu 0) (lw wd 0)
/-- After the first three slabs. -/
def acc2 (x : Vec Ideal S512x1024 .f32) (g : Vec Ideal S1x1024 .f32) (wu : Vec Ideal S8x1024x512 .bf16) (wd : Vec Ideal S8x512x1024 .bf16) : FVec Ideal S512x1024 .f32 :=
  k0_pay14 (k0_pay6 x g) (acc0 x g wu wd) (k0_pay10 x g (lu wu 1)) (lw wd 1) (lu wu 2) (lw wd 2)
/-- After the first six slabs. -/
def acc5 (x : Vec Ideal S512x1024 .f32) (g : Vec Ideal S1x1024 .f32) (wu : Vec Ideal S8x1024x512 .bf16) (wd : Vec Ideal S8x512x1024 .bf16) : FVec Ideal S512x1024 .f32 :=
  k0_pay23 (k0_pay6 x g) (acc2 x g wu wd) (k0_pay17 (k0_pay6 x g) (lu wu 3)) (k0_pay18 (lw wd 3)) (lu wu 4) (lw wd 4) (lu wu 5) (lw wd 5)

variable (x : Vec Ideal S512x1024 .f32) (g : Vec Ideal S1x1024 .f32) (wu : Vec Ideal S8x1024x512 .bf16) (wd : Vec Ideal S8x512x1024 .bf16)

theorem h_at (s : Fin 512) (k : Fin 1024) : k0_pay6 x g (ix2 s k) = hid x g s k := by
  unfold hid
  pointwise [lu, lw, k0_pay6, rinv, rowOf]

theorem a_at0 (s f : Fin 512) : k0_pay7 x g (lu wu 0) (ix2 s f) = aS x g wu s 0 f := by
  unfold aS
  pointwise [lu, lw, k0_pay7]
  simp only [h_at]

theorem a_at1 (s f : Fin 512) : k0_pay10 x g (lu wu 1) (ix2 s f) = aS x g wu s 1 f := by
  unfold aS
  pointwise [lu, lw, k0_pay10]
  simp only [h_at]

theorem a_at2 (s f : Fin 512) : k0_pay12 (k0_pay6 x g) (lu wu 2) (ix2 s f) = aS x g wu s 2 f := by
  unfold aS
  pointwise [lu, lw, k0_pay12]
  simp only [h_at]

theorem a_at3 (s f : Fin 512) : k0_pay15 (k0_pay6 x g) (lu wu 3) (ix2 s f) = aS x g wu s 3 f := by
  unfold aS
  pointwise [lu, lw, k0_pay15]
  simp only [h_at]

theorem a_at4 (s f : Fin 512) : k0_pay19 (k0_pay6 x g) (lu wu 4) (ix2 s f) = aS x g wu s 4 f := by
  unfold aS
  pointwise [lu, lw, k0_pay19]
  simp only [h_at]

theorem a_at5 (s f : Fin 512) : k0_pay21 (k0_pay6 x g) (lu wu 5) (ix2 s f) = aS x g wu s 5 f := by
  unfold aS
  pointwise [lu, lw, k0_pay21]
  simp only [h_at]

theorem a_at6 (s f : Fin 512) : k0_pay1 (k0_pay24 (k0_pay6 x g) (lu wu 6)) (ix2 s f) = aS x g wu s 6 f := by
  unfold aS
  pointwise [lu, lw, k0_pay24, k0_pay1]
  simp only [h_at]

theorem a_at7 (s f : Fin 512) : k0_pay3 (k0_pay6 x g) (lu wu 7) (ix2 s f) = aS x g wu s 7 f := by
  unfold aS
  pointwise [lu, lw, k0_pay3]
  simp only [h_at]

theorem acc0_at (s : Fin 512) (k : Fin 1024) : acc0 x g wu wd (ix2 s k)
    = x (ix2 s k) + (∑ f : Fin 512, aS x g wu s 0 f * aS x g wu s 0 f * wd (ix3 0 f k)) := by
  unfold acc0
  pointwise [lu, lw, k0_pay9]
  simp only [a_at0]

theorem acc2_at (s : Fin 512) (k : Fin 1024) : acc2 x g wu wd (ix2 s k)
    = acc0 x g wu wd (ix2 s k) + (∑ f : Fin 512, aS x g wu s 1 f * aS x g wu s 1 f * wd (ix3 1 f k)) + (∑ f : Fin 512, aS x g wu s 2 f * aS x g wu s 2 f * wd (ix3 2 f k)) := by
  unfold acc2
  pointwise [lu, lw, k0_pay14]
  simp only [a_at1, a_at2]

theorem acc5_at (s : Fin 512) (k : Fin 1024) : acc5 x g wu wd (ix2 s k)
    = acc2 x g wu wd (ix2 s k) + (∑ f : Fin 512, aS x g wu s 3 f * aS x g wu s 3 f * wd (ix3 3 f k)) + (∑ f : Fin 512, aS x g wu s 4 f * aS x g wu s 4 f * wd (ix3 4 f k)) + (∑ f : Fin 512, aS x g wu s 5 f * aS x g wu s 5 f * wd (ix3 5 f k)) := by
  unfold acc5
  pointwise [lu, lw, k0_pay23, k0_pay17, k0_pay18]
  simp only [a_at3, a_at4, a_at5]

/-- The stored rows of the result. -/
theorem y_pay (s : Fin 512) (k : Fin 1024) :
    k0_pay5 (k0_pay6 x g) (acc5 x g wu wd) (k0_pay24 (k0_pay6 x g) (lu wu 6)) (lw wd 6) (lu wu 7) (lw wd 7) (ix2 s k) = yK x g wu wd s k := by
  unfold yK
  rw [Fin.sum_univ_eight]
  pointwise [lu, lw, k0_pay5]
  simp only [a_at6, a_at7, acc5_at, acc2_at, acc0_at, add_assoc]

theorem aS_split (s : Fin 512) (f : Fin 4096) (e : Fin 8) (p q : Fin 512) (h0 : s.val = p.val) (h1 : f.val = 512 * e.val + q.val) :
    aS x g wu p e q = aS x g wu s ⟨f.val / 512, by omega⟩ ⟨f.val % 512, by omega⟩ := by
  obtain rfl : s = p := Fin.ext h0
  have he : e = ⟨f.val / 512, by omega⟩ := Fin.ext (by show e.val = f.val / 512; omega)
  have hq : q = ⟨f.val % 512, by omega⟩ := Fin.ext (by show q.val = f.val % 512; omega)
  rw [← he, ← hq]

theorem b_at0 (s f : Fin 512) : k0_pay8 x g (lu wu 0) (ix2 s f) = aS x g wu s 0 f := by
  pointwise [lu, lw, k0_pay8]
  simp only [a_at0]

theorem b_at1 (s f : Fin 512) : k0_pay11 x g (lu wu 1) (ix2 s f) = aS x g wu s 1 f := by
  pointwise [lu, lw, k0_pay11]
  simp only [a_at1]

theorem b_at2 (s f : Fin 512) : k0_pay13 (k0_pay6 x g) (lu wu 2) (ix2 s f) = aS x g wu s 2 f := by
  pointwise [lu, lw, k0_pay13]
  simp only [a_at2]

theorem b_at3 (s f : Fin 512) : k0_pay16 (k0_pay6 x g) (lu wu 3) (ix2 s f) = aS x g wu s 3 f := by
  pointwise [lu, lw, k0_pay16]
  simp only [a_at3]

theorem b_at4 (s f : Fin 512) : k0_pay20 (k0_pay6 x g) (lu wu 4) (ix2 s f) = aS x g wu s 4 f := by
  pointwise [lu, lw, k0_pay20]
  simp only [a_at4]

theorem b_at5 (s f : Fin 512) : k0_pay22 (k0_pay6 x g) (lu wu 5) (ix2 s f) = aS x g wu s 5 f := by
  pointwise [lu, lw, k0_pay22]
  simp only [a_at5]

theorem b_at6 (s f : Fin 512) : k0_pay2 (k0_pay24 (k0_pay6 x g) (lu wu 6)) (ix2 s f) = aS x g wu s 6 f := by
  pointwise [lu, lw, k0_pay2]
  simp only [a_at6]

theorem b_at7 (s f : Fin 512) : k0_pay4 (k0_pay6 x g) (lu wu 7) (ix2 s f) = aS x g wu s 7 f := by
  pointwise [lu, lw, k0_pay4]
  simp only [a_at7]

/-- The eight stored slabs of the hidden activation, read at one entry. -/
theorem a_pay (s : Fin 512) (f : Fin 4096) :
    View.canon (Val := Elt Ideal) (e := .bf16) [⟨Rect.unit (s := S512x4096) ![0, 3584] ![512, 512] inb_S512x4096_S512x512_0_3584, k0_pay4 (k0_pay6 x g) (lu wu 7)⟩,
        ⟨Rect.unit (s := S512x4096) ![0, 3072] ![512, 512] inb_S512x4096_S512x512_0_3072, k0_pay2 (k0_pay24 (k0_pay6 x g) (lu wu 6))⟩,
        ⟨Rect.unit (s := S512x4096) ![0, 2560] ![512, 512] inb_S512x4096_S512x512_0_2560, k0_pay22 (k0_pay6 x g) (lu wu 5)⟩,
        ⟨Rect.unit (s := S512x4096) ![0, 2048] ![512, 512] inb_S512x4096_S512x512_0_2048, k0_pay20 (k0_pay6 x g) (lu wu 4)⟩,
        ⟨Rect.unit (s := S512x4096) ![0, 1536] ![512, 512] inb_S512x4096_S512x512_0_1536, k0_pay16 (k0_pay6 x g) (lu wu 3)⟩,
        ⟨Rect.unit (s := S512x4096) ![0, 1024] ![512, 512] inb_S512x4096_S512x512_0_1024, k0_pay13 (k0_pay6 x g) (lu wu 2)⟩,
        ⟨Rect.unit (s := S512x4096) ![0, 512] ![512, 512] inb_S512x4096_S512x512_0_512, k0_pay11 x g (lu wu 1)⟩,
        ⟨Rect.unit (s := S512x4096) ![0, 0] ![512, 512] inb_S512x4096_S512x512_0_0, k0_pay8 x g (lu wu 0)⟩] (ix2 s f)
      = aS x g wu s ⟨f.val / 512, by omega⟩ ⟨f.val % 512, by omega⟩ := by
  canon_tiles y h
  · obtain ⟨p, q, rfl⟩ : ∃ p q : Fin 512, y = ix2 p q := ⟨y 0, y 1, eq_ix2 y⟩
    exact (b_at7 _ g wu p q).trans (aS_split _ g wu s f 7 p q h0 (by simpa using h1))
  · obtain ⟨p, q, rfl⟩ : ∃ p q : Fin 512, y = ix2 p q := ⟨y 0, y 1, eq_ix2 y⟩
    exact (b_at6 _ g wu p q).trans (aS_split _ g wu s f 6 p q h0 (by simpa using h1))
  · obtain ⟨p, q, rfl⟩ : ∃ p q : Fin 512, y = ix2 p q := ⟨y 0, y 1, eq_ix2 y⟩
    exact (b_at5 _ g wu p q).trans (aS_split _ g wu s f 5 p q h0 (by simpa using h1))
  · obtain ⟨p, q, rfl⟩ : ∃ p q : Fin 512, y = ix2 p q := ⟨y 0, y 1, eq_ix2 y⟩
    exact (b_at4 _ g wu p q).trans (aS_split _ g wu s f 4 p q h0 (by simpa using h1))
  · obtain ⟨p, q, rfl⟩ : ∃ p q : Fin 512, y = ix2 p q := ⟨y 0, y 1, eq_ix2 y⟩
    exact (b_at3 _ g wu p q).trans (aS_split _ g wu s f 3 p q h0 (by simpa using h1))
  · obtain ⟨p, q, rfl⟩ : ∃ p q : Fin 512, y = ix2 p q := ⟨y 0, y 1, eq_ix2 y⟩
    exact (b_at2 _ g wu p q).trans (aS_split _ g wu s f 2 p q h0 (by simpa using h1))
  · obtain ⟨p, q, rfl⟩ : ∃ p q : Fin 512, y = ix2 p q := ⟨y 0, y 1, eq_ix2 y⟩
    exact (b_at1 _ g wu p q).trans (aS_split _ g wu s f 1 p q h0 (by simpa using h1))
  · obtain ⟨p, q, rfl⟩ : ∃ p q : Fin 512, y = ix2 p q := ⟨y 0, y 1, eq_ix2 y⟩
    exact (b_at0 _ g wu p q).trans (aS_split _ g wu s f 0 p q h0 (by simpa using h1))

/-- The rows of the result that one grid point leaves. -/
theorem y_out (s : Fin 512) (k : Fin 1024) : out0_4 x g wu wd (ix2 s k) = yK x g wu wd s k := by
  unfold out0_4 k0_pay26 k0_pay25
  rw [View.canon_unit_zero hz]
  simp only [View.ld_unit_zero (S := S512x1024) hz, View.ld_unit_zero (S := S1x1024) hz]
  exact y_pay x g wu wd s k

/-- The rows of the hidden activation that one grid point leaves. -/
theorem a_out (s : Fin 512) (f : Fin 4096) : out0_5 x g wu wd (ix2 s f) = aS x g wu s ⟨f.val / 512, by omega⟩ ⟨f.val % 512, by omega⟩ := by
  unfold out0_5 k0_pay26 k0_pay25
  simp only [View.ld_unit_zero (S := S512x1024) hz, View.ld_unit_zero (S := S1x1024) hz]
  exact a_pay x g wu s f

end Cert.Proof.FfnFwd
-- ==== Proof.FfnFwd.Host.lean ====
module

public import proofs.«01_k».proof.Proof.FfnFwd.Blocks
public import Idealize.ShloMosaic.Lib.StableHlo.RunRead

@[expose] public section

set_option maxRecDepth 16384

noncomputable section

/-! The arguments of the feed-forward block, its result over whole rows, and the slabs that the host prepares. -/

namespace Cert.Proof.FfnFwd

open Cert.Kernel5Ideal Cert.Kernel5Ideal.Gen Idealize.ShloMosaic Idealize.ShloMosaic.TcCoe Idealize.ShloMosaic.StableHlo Idealize.SL.Sem
open Cert.Proof.FfnBwd (rinv rowOf hid pre act)

/-- The block's result: the argument and the squared activation's product with the second matrix. -/
def yR {n : ℕ} (x : Vec Ideal (⟨2, ![n, 1024]⟩ : Shape) .f32) (g : Vec Ideal (⟨2, ![1, 1024]⟩ : Shape) .f32)
    (wu : Vec Ideal (⟨2, ![1024, 4096]⟩ : Shape) .f32) (wd : Vec Ideal (⟨2, ![4096, 1024]⟩ : Shape) .f32) (s : Fin n) (k : Fin 1024) : EReal :=
  x (ix2 s k) + ∑ f : Fin 4096, act x g wu s f * act x g wu s f * wd (ix2 f k)

variable (m : (ℓ : Loc nD τ sig) → Buf (Elt Ideal) ℓ)

/-- The four arguments. -/
def aX (c : Dev nD) : Vec Ideal S16384x1024 .f32 := m ((c : Thread nD τ).loc main_arg0)
def aG (c : Dev nD) : Vec Ideal S1x1024 .f32 := m ((c : Thread nD τ).loc main_arg1)
def aU (c : Dev nD) : Vec Ideal S1024x4096 .f32 := m ((c : Thread nD τ).loc main_arg2)
def aW (c : Dev nD) : Vec Ideal S4096x1024 .f32 := m ((c : Thread nD τ).loc main_arg3)

set_option maxHeartbeats 4000000 in
/-- The slabs of the first matrix. -/
theorem V_wu (c : Dev nD) (e : Fin 8) (k : Fin 1024) (f : Fin 512) :
    (V m c main_v2 : Vec Ideal S8x1024x512 .bf16) (ix3 e k f) = aU m c (ix2 k ⟨512 * e.val + f.val, by omega⟩) := by
  delta V hostOps0
  simp only [List.flatten_cons, List.flatten_nil, List.append_nil, List.cons_append, List.nil_append,
    TRef.binary, TRef.nullary, TRef.ternary, TRef.unary, TRef.toBuf, TRef.ofBuf, cast_eq]
  after_reads_simp
  unfold aU
  pointwise []
  exact congrArg (fun i : Fin 4096 => m ((c : Thread nD τ).loc main_arg2) (ix2 k i)) (Fin.ext (congrArg (· + f.val) (Nat.mul_comm e.val 512)))
set_option maxHeartbeats 4000000 in
/-- The slabs of the second matrix. -/
theorem V_wd (c : Dev nD) (e : Fin 8) (f : Fin 512) (j : Fin 1024) :
    (V m c main_v4 : Vec Ideal S8x512x1024 .bf16) (ix3 e f j) = aW m c (ix2 ⟨512 * e.val + f.val, by omega⟩ j) := by
  delta V hostOps0
  simp only [List.flatten_cons, List.flatten_nil, List.append_nil, List.cons_append, List.nil_append,
    TRef.binary, TRef.nullary, TRef.ternary, TRef.unary, TRef.toBuf, TRef.ofBuf, cast_eq]
  after_reads_simp
  unfold aW
  pointwise []
  exact congrArg (fun i : Fin 4096 => m ((c : Thread nD τ).loc main_arg3) (ix2 i j)) (Fin.ext (congrArg (· + f.val) (Nat.mul_comm e.val 512)))
end Cert.Proof.FfnFwd
-- ==== Proof.FfnFwd.Final.lean ====
module

public import proofs.«01_k».proof.Proof.FfnFwd.Host

@[expose] public section

set_option maxRecDepth 16384

noncomputable section

/-! The two arrays that the feed-forward block ends with, entry by entry. -/

namespace Cert.Proof.FfnFwd

open Cert.Kernel5Ideal Cert.Kernel5Ideal.Gen Cert.Kernel5Ideal.Value Idealize.ShloMosaic Idealize.ShloMosaic.TcCoe Idealize.SL.Sem
open Idealize.ShloMosaic.Pipeline (Dat)
open Cert.Proof.FfnBwd (rinv rowOf hid pre act sum_slabs rowAt)

variable (m : (ℓ : Loc nD τ sig) → Buf (Elt Ideal) ℓ)

theorem lt32 (t : Fin cfg0.N) : t.val < 32 := Nat.lt_of_lt_of_eq t.isLt N_0

theorem index_0 : ∀ t : Fin cfg0.N, win0_0.index t = ![t.val, 0] :=
  (by decide +kernel : ∀ t : Fin grid0.N, win0_0.index t = ![t.val, 0])

theorem index_1 : ∀ t : Fin cfg0.N, win0_1.index t = ![0, 0] :=
  (by decide +kernel : ∀ t : Fin grid0.N, win0_1.index t = ![0, 0])

theorem index_2 : ∀ t : Fin cfg0.N, win0_2.index t = ![0, 0, 0] :=
  (by decide +kernel : ∀ t : Fin grid0.N, win0_2.index t = ![0, 0, 0])

theorem index_3 : ∀ t : Fin cfg0.N, win0_3.index t = ![0, 0, 0] :=
  (by decide +kernel : ∀ t : Fin grid0.N, win0_3.index t = ![0, 0, 0])

theorem index_4 : ∀ t : Fin cfg0.N, win0_4.index t = ![t.val, 0] :=
  (by decide +kernel : ∀ t : Fin grid0.N, win0_4.index t = ![t.val, 0])

theorem index_5 : ∀ t : Fin cfg0.N, win0_5.index t = ![t.val, 0] :=
  (by decide +kernel : ∀ t : Fin grid0.N, win0_5.index t = ![t.val, 0])

theorem xB_at (c : Dev nD) (t : Fin cfg0.N) (s : Fin 512) (k : Fin 1024) :
    xB m c t (ix2 s k) = aX m c (ix2 (rowAt t.val s (lt32 t)) k) := by
  unfold xB aX rowAt
  blk_simp [iblk, index_0]
  refine congrArg (m _) ?_
  funext a
  apply Fin.ext
  match a with
  | ⟨0, _⟩ => blk_simp [index_0]
  | ⟨1, _⟩ => blk_simp [index_0]

theorem gB_eq (c : Dev nD) (t : Fin cfg0.N) : gB m c t = aG m c := by
  funext j
  unfold gB aG
  blk_simp [iblk, index_1]
  refine congrArg (m _) ?_
  funext a
  apply Fin.ext
  match a with
  | ⟨0, _⟩ => blk_simp [index_1]
  | ⟨1, _⟩ => blk_simp [index_1]

theorem wuB_at (c : Dev nD) (t : Fin cfg0.N) (e : Fin 8) (k : Fin 1024) (f : Fin 512) :
    wuB m c t (ix3 e k f) = aU m c (ix2 k ⟨512 * e.val + f.val, by omega⟩) := by
  refine Eq.trans ?_ (V_wu m c e k f)
  unfold wuB
  blk_simp [iblk, index_2]
  refine congrArg (V m c main_v2) ?_
  funext a
  apply Fin.ext
  match a with
  | ⟨0, _⟩ => blk_simp [index_2]
  | ⟨1, _⟩ => blk_simp [index_2]
  | ⟨2, _⟩ => blk_simp [index_2]

theorem wdB_at (c : Dev nD) (t : Fin cfg0.N) (e : Fin 8) (f : Fin 512) (j : Fin 1024) :
    wdB m c t (ix3 e f j) = aW m c (ix2 ⟨512 * e.val + f.val, by omega⟩ j) := by
  refine Eq.trans ?_ (V_wd m c e f j)
  unfold wdB
  blk_simp [iblk, index_3]
  refine congrArg (V m c main_v4) ?_
  funext a
  apply Fin.ext
  match a with
  | ⟨0, _⟩ => blk_simp [index_3]
  | ⟨1, _⟩ => blk_simp [index_3]
  | ⟨2, _⟩ => blk_simp [index_3]

theorem row_at (c : Dev nD) (t : Fin cfg0.N) (s : Fin 512) : rowOf (xB m c t) s = rowOf (aX m c) (rowAt t.val s (lt32 t)) :=
  funext fun k => xB_at m c t s k

/-- A slab's entry of the hidden activation is the whole matrix's. -/
theorem aS_at (c : Dev nD) (t : Fin cfg0.N) (s : Fin 512) (e : Fin 8) (f : Fin 512) :
    aS (xB m c t) (gB m c t) (wuB m c t) s e f = act (aX m c) (aG m c) (aU m c) (rowAt t.val s (lt32 t)) ⟨512 * e.val + f.val, by omega⟩ := by
  unfold aS act pre hid
  simp only [row_at, gB_eq, wuB_at]

theorem y_block (c : Dev nD) (t : Fin cfg0.N) (s : Fin 512) (k : Fin 1024) :
    out0_4 (xB m c t) (gB m c t) (wuB m c t) (wdB m c t) (ix2 s k) = yR (aX m c) (aG m c) (aU m c) (aW m c) (rowAt t.val s (lt32 t)) k := by
  refine (y_out (xB m c t) (gB m c t) (wuB m c t) (wdB m c t) s k).trans ?_
  unfold yK yR
  simp only [aS_at, xB_at, wdB_at]
  exact congrArg (_ + ·) (sum_slabs fun f => act (aX m c) (aG m c) (aU m c) (rowAt t.val s (lt32 t)) f * act (aX m c) (aG m c) (aU m c) (rowAt t.val s (lt32 t)) f * aW m c (ix2 f k))

theorem a_block (c : Dev nD) (t : Fin cfg0.N) (s : Fin 512) (f : Fin 4096) :
    out0_5 (xB m c t) (gB m c t) (wuB m c t) (wdB m c t) (ix2 s f) = act (aX m c) (aG m c) (aU m c) (rowAt t.val s (lt32 t)) f := by
  refine (a_out (xB m c t) (gB m c t) (wuB m c t) (wdB m c t) s f).trans ((aS_at m c t s _ _).trans ?_)
  exact congrArg (act (aX m c) (aG m c) (aU m c) (rowAt t.val s (lt32 t))) (Fin.ext (Nat.div_add_mod f.val 512))

/-- The array of the result after the run, entry by entry. -/
theorem y_array (c : Dev nD) : (dats m 0 c).arrAt 4 cfg0.N
    = (fun i => yR (aX m c) (aG m c) (aU m c) (aW m c) (i 0) (i 1) : Vec Ideal S16384x1024 .f32) := by
  refine (dats m 0 c).arrAt_eq_of_covers 4 _ (by decide +kernel) fun t hf y => ?_
  blk_simp
  rw [after0_4]
  refine Eq.trans (congrArg _ (eq_ix2 (n0 := 512) (n1 := 1024) y)) ?_
  refine (y_block m c t (y 0) (y 1)).trans ?_
  have e0 : rowAt t.val (y 0) (lt32 t) = (((cfg0.win 4).blk t).view.emb y) 0 := by
    apply Fin.ext; blk_simp [index_4]; rfl
  have e1 : (y 1 : Fin 1024) = (((cfg0.win 4).blk t).view.emb y) 1 := by
    apply Fin.ext; blk_simp [index_4]
  exact congrArg₂ (fun (r : Fin 16384) (k : Fin 1024) => yR (aX m c) (aG m c) (aU m c) (aW m c) r k) e0 e1

/-- The array of the hidden activation after the run, entry by entry. -/
theorem a_array (c : Dev nD) : (dats m 0 c).arrAt 5 cfg0.N
    = (fun i => act (aX m c) (aG m c) (aU m c) (i 0) (i 1) : Vec Ideal S16384x4096 .bf16) := by
  refine (dats m 0 c).arrAt_eq_of_covers 5 _ (by decide +kernel) fun t hf y => ?_
  blk_simp
  rw [after0_5]
  refine Eq.trans (congrArg _ (eq_ix2 (n0 := 512) (n1 := 4096) y)) ?_
  refine (a_block m c t (y 0) (y 1)).trans ?_
  have e0 : rowAt t.val (y 0) (lt32 t) = (((cfg0.win 5).blk t).view.emb y) 0 := by
    apply Fin.ext; blk_simp [index_5]; rfl
  have e1 : (y 1 : Fin 4096) = (((cfg0.win 5).blk t).view.emb y) 1 := by
    apply Fin.ext; blk_simp [index_5]
  exact congrArg₂ (fun (r : Fin 16384) (k : Fin 4096) => act (aX m c) (aG m c) (aU m c) r k) e0 e1

end Cert.Proof.FfnFwd
-- ==== Proof.FfnFwd.Ref.lean ====
module

public import proofs.«01_k».proof.Proof.Gen.Reference5Ideal.Read
public import proofs.«01_k».proof.Proof.FfnFwd.Host

@[expose] public section

set_option maxRecDepth 16384

noncomputable section

/-! The two results of the reference of the feed-forward block, entry by entry. -/

namespace Cert.Proof.FfnFwd

open Cert.Reference5Ideal Cert.Reference5Ideal.Gen Cert.Reference5Ideal.Read Idealize.ShloMosaic Idealize.ShloMosaic.TcCoe Idealize.SL.Sem
open Cert.Proof.FfnBwd (rinv rowOf hid pre act)

variable (x : Vec Ideal S16384x1024 .f32) (g : Vec Ideal S1x1024 .f32) (wu : Vec Ideal S1024x4096 .f32) (wd : Vec Ideal S4096x1024 .f32)

/-- The result. -/
theorem ref_y (s : Fin 16384) (k : Fin 1024) : val_main_v16 (F := Ideal) x g wu wd (ix2 s k) = yR x g wu wd s k := by
  unfold yR act pre hid rinv rowOf
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_call0_cst, val_main_call0_v0, val_main_v13, val_main_v14, val_main_v15, val_main_v16, val_main_v17, val_main_cst_2, val_main_v18, val_main_v19, val_main_cst_3, val_main_v20, val_main_v21, val_main_cst_4, val_main_v22, val_main_v23, val_main_v24, val_main_v25, val_main_v26, val_main_v27, val_main_v28, val_main_v29, val_main_call1_cst, val_main_call1_v0, val_main_v30, val_main_v31]

/-- The hidden activation. -/
theorem ref_a (s : Fin 16384) (f : Fin 4096) : val_main_v31 (F := Ideal) x g wu (ix2 s f) = act x g wu s f := by
  unfold act pre hid rinv rowOf
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_call0_cst, val_main_call0_v0, val_main_v13, val_main_v14, val_main_v15, val_main_v16, val_main_v17, val_main_cst_2, val_main_v18, val_main_v19, val_main_cst_3, val_main_v20, val_main_v21, val_main_cst_4, val_main_v22, val_main_v23, val_main_v24, val_main_v25, val_main_v26, val_main_v27, val_main_v28, val_main_v29, val_main_call1_cst, val_main_call1_v0, val_main_v30, val_main_v31]

end Cert.Proof.FfnFwd
-- ==== Proof.FfnFwd.Claims.lean ====
module

public import proofs.«01_k».proof.Defs
public import proofs.«01_k».proof.Proof.FfnFwd.Final
public import proofs.«01_k».proof.Proof.FfnFwd.Ref
public import proofs.«01_k».proof.Proof.Gen.Kernel5.Frame
public import proofs.«01_k».proof.Proof.Gen.Reference5Ideal.Run
public import Idealize.ShloMosaic.Adequacy
public import Idealize.ShloMosaic.Init

@[expose] public section

set_option maxRecDepth 16384

noncomputable section

/-! The claims about the feed-forward block. -/

namespace Cert.Proof.FfnFwd

open Idealize.ShloMosaic Idealize.ShloMosaic.TcCoe Idealize.SL.Sem

/-- The frame of the feed-forward block over the machine's floats. -/
theorem frame_bits : Cert.quiescent_Kernel5 := fun m ρ _ => Cert.Kernel5.Gen.frame m ρ

/-- Its frame over the reals. -/
theorem frame_ideal : Cert.quiescent_Kernel5Ideal := fun m ρ _ => Cert.Kernel5Ideal.Gen.frame m ρ

/-- The frame of its reference: the arguments are kept, and there is no counter. -/
theorem frame_ref : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)

/-- The kernel and the plain forward lines end with the same two arrays. -/
theorem algebraic : Cert.algebraic_Kernel5Ideal_Reference5Ideal := by
  intro m g m' g' _ hagree
  refine ⟨fun c => (Cert.Kernel5Ideal.Gen.dats m 0 c).arrAt 4 Cert.Kernel5Ideal.cfg0.N,
    fun c => (Cert.Kernel5Ideal.Gen.dats m 0 c).arrAt 5 Cert.Kernel5Ideal.cfg0.N,
    Cert.Kernel5Ideal.Value.run_blocks m g, ?_⟩
  refine (θ_run Cert.Reference5Ideal.defs _ _).mono (fun r h c => ?_) (Cert.Reference5Ideal.Value.run (F := Ideal) m' g')
  obtain ⟨h0, h1, hargs⟩ := h c
  obtain ⟨e0, e1, e2, e3⟩ := hagree c
  refine ⟨?_, ?_, hargs⟩
  · refine h0.trans ?_
    refine (Cert.Reference5Ideal.Read.val_main_v16_eq (F := Ideal) _ _ _ _).trans ?_
    rw [e0, e1, e2, e3]
    refine Eq.trans ?_ (y_array m c).symm
    funext i
    refine Eq.trans (congrArg _ (eq_ix2 (n0 := 16384) (n1 := 1024) i)) ?_
    exact ref_y _ _ _ _ _ _
  · refine h1.trans ?_
    refine (Cert.Reference5Ideal.Read.val_main_v31_eq (F := Ideal) _ _ _).trans ?_
    rw [e0, e1, e2]
    refine Eq.trans ?_ (a_array m c).symm
    funext i
    refine Eq.trans (congrArg _ (eq_ix2 (n0 := 16384) (n1 := 4096) i)) ?_
    exact ref_a _ _ _ _ _

end Cert.Proof.FfnFwd
-- ==== Proof.InFwd.Blocks.lean ====
module

public import proofs.«01_k».proof.Proof.Gen.Kernel6Ideal.Value
public import proofs.«01_k».proof.Proof.FfnBwd.Final
public import proofs.«01_k».proof.Proof.Rows
public import Idealize.ShloMosaic.Lib.Pointwise
public import Idealize.ShloMosaic.Lib.IdealHost
public import Idealize.ShloMosaic.Lib.Pipeline.ReadBack
public import Idealize.ShloMosaic.Lib.Pipeline.ValueKit

@[expose] public section

set_option maxRecDepth 16384

noncomputable section

/-! What one grid point of the input projection computes from the blocks it reads. -/

namespace Cert.Proof.InFwd

open Cert.Kernel6Ideal Cert.Kernel6Ideal.Gen Idealize.ShloMosaic Idealize.ShloMosaic.TcCoe Idealize.SL.Sem
open Idealize.ShloMosaic.Pipeline (Dat)
open Cert.Proof.FfnBwd (rinv rowOf hid)

variable (m : (ℓ : Loc nD τ sig) → Buf (Elt Ideal) ℓ)

theorem hz : (![0, 0] : Fin 2 → Nat) = fun _ => 0 := funext fun a => by fin_cases a <;> rfl

/-- The rows of `x` that grid point `t` reads. -/
def xB (c : Dev nD) (t : Fin cfg0.N) : Vec Ideal S1024x1024 .f32 := iblk m c 0 t
/-- The gain row, as grid point `t` reads it. -/
def gB (c : Dev nD) (t : Fin cfg0.N) : Vec Ideal S1x1024 .f32 := iblk m c 1 t
/-- The transposed matrix, as grid point `t` reads it. -/
def wB (c : Dev nD) (t : Fin cfg0.N) : Vec Ideal S2560x1024 .bf16 := iblk m c 2 t

/-- The projected row `s`, from the transposed matrix. -/
def zK {n : ℕ} (x : Vec Ideal (⟨2, ![n, 1024]⟩ : Shape) .f32) (g : Vec Ideal S1x1024 .f32) (w : Vec Ideal S2560x1024 .bf16) (s : Fin n) (e : Fin 2560) : EReal :=
  ∑ k : Fin 1024, hid x g s k * w (ix2 e k)

/-- The attention's part of a projected row: its queries scaled, its keys and values as they are. -/
def qkvOf (z : Fin 2560 → EReal) (e : Fin 768) : EReal :=
  if e.val < 256 then z ⟨1280 + e.val, by omega⟩ * Ideal.ofBits FTy.f32 0x3E000000#32 else z ⟨1280 + e.val, by omega⟩

variable (x : Vec Ideal S1024x1024 .f32) (g : Vec Ideal S1x1024 .f32) (w : Vec Ideal S2560x1024 .bf16)

/-- The stored rows of the norm. -/
theorem h_pay (s k : Fin 1024) : k0_pay1 x g (ix2 s k) = hid x g s k := by
  unfold hid
  pointwise [k0_pay1, rinv, rowOf]

/-- The stored rows of the projection. -/
theorem z_pay (s : Fin 1024) (e : Fin 2560) : k0_pay2 x g w (ix2 s e) = zK x g w s e := by
  unfold zK
  pointwise [k0_pay2]
  simp only [h_pay]

theorem q_pay (s : Fin 1024) (e : Fin 256) : k0_pay3 x g w (ix2 s e) = zK x g w s ⟨1280 + e.val, by omega⟩ * Ideal.ofBits FTy.f32 0x3E000000#32 := by
  pointwise [k0_pay3]
  simp only [z_pay]

theorem kv_pay (s : Fin 1024) (e : Fin 512) : k0_pay4 x g w (ix2 s e) = zK x g w s ⟨1536 + e.val, by omega⟩ := by
  pointwise [k0_pay4]
  simp only [z_pay]

/-- The two stored pieces of the attention's part, read at one entry. -/
theorem qkv_pay (s : Fin 1024) (e : Fin 768) :
    View.canon (Val := Elt Ideal) (e := .bf16) [⟨Rect.unit (s := S1024x768) ![0, 256] ![1024, 512] inb_S1024x768_S1024x512_0_256, k0_pay4 x g w⟩,
        ⟨Rect.unit (s := S1024x768) ![0, 0] ![1024, 256] inb_S1024x768_S1024x256_0_0, k0_pay3 x g w⟩] (ix2 s e)
      = qkvOf (zK x g w s) e := by
  canon_tiles y h using (View.cover_of_tiledBy _ ![1024, 256] (by sl_kernel_rfl) _)
  · obtain ⟨p, q, rfl⟩ : ∃ (p : Fin 1024) (q : Fin 512), y = ix2 p q := ⟨y 0, y 1, eq_ix2 y⟩
    have h1' : e.val = 256 + q.val := by simpa using h1
    obtain rfl : s = p := Fin.ext h0
    refine (kv_pay x g w s q).trans ?_
    unfold qkvOf
    rw [if_neg (by omega)]
    exact congrArg (zK x g w s) (Fin.ext (by show 1536 + q.val = 1280 + e.val; omega))
  · obtain ⟨p, q, rfl⟩ : ∃ (p : Fin 1024) (q : Fin 256), y = ix2 p q := ⟨y 0, y 1, eq_ix2 y⟩
    have h1' : e.val = q.val := by simpa using h1
    obtain rfl : s = p := Fin.ext h0
    refine (q_pay x g w s q).trans ?_
    unfold qkvOf
    rw [if_pos (by omega)]
    exact congrArg (fun i => zK x g w s i * _) (Fin.ext (by show 1280 + q.val = 1280 + e.val; omega))

theorem z_block (c : Dev nD) (t : Fin cfg0.N) (s : Fin 1024) (e : Fin 2560) :
    (outsAt0 m c t).1 (ix2 s e) = zK (xB m c t) (gB m c t) (wB m c t) s e := by
  unfold outsAt0
  dsimp only
  unfold out0_A_3
  rw [View.read_writes_eq_canon _ _ _ (by intro y; apply cover0_A_3)]
  unfold kernelRun0_A
  dsimp only
  rw [View.canon_unit_zero hz]
  sl_unfold_words
  simp only [View.readAt_eq_ld, (hs0_0 t).read_unread, (hs0_1 t).read_unread, (hs0_2 t).read_unread, View.ld_unit_zero (S := S1024x1024) hz, View.ld_unit_zero (S := S1x1024) hz, View.ld_unit_zero (S := S2560x1024) hz]
  exact z_pay (xB m c t) (gB m c t) (wB m c t) s e

theorem qkv_block (c : Dev nD) (t : Fin cfg0.N) (s : Fin 1024) (e : Fin 768) :
    (outsAt0 m c t).2.1 (ix2 s e) = qkvOf (zK (xB m c t) (gB m c t) (wB m c t) s) e := by
  unfold outsAt0
  dsimp only
  unfold out0_A_4
  rw [View.read_writes_eq_canon _ _ _ (by intro y; apply cover0_A_4)]
  unfold kernelRun0_A
  dsimp only
  sl_unfold_words
  simp only [View.readAt_eq_ld, (hs0_0 t).read_unread, (hs0_1 t).read_unread, (hs0_2 t).read_unread, View.ld_unit_zero (S := S1024x1024) hz, View.ld_unit_zero (S := S1x1024) hz, View.ld_unit_zero (S := S2560x1024) hz]
  exact qkv_pay (xB m c t) (gB m c t) (wB m c t) s e

theorem h_block (c : Dev nD) (t : Fin cfg0.N) (s k : Fin 1024) :
    (outsAt0 m c t).2.2 (ix2 s k) = hid (xB m c t) (gB m c t) s k := by
  unfold outsAt0
  dsimp only
  unfold out0_A_5
  rw [View.read_writes_eq_canon _ _ _ (by intro y; apply cover0_A_5)]
  unfold kernelRun0_A
  dsimp only
  rw [View.canon_unit_zero hz]
  sl_unfold_words
  simp only [View.readAt_eq_ld, (hs0_0 t).read_unread, (hs0_1 t).read_unread, (hs0_2 t).read_unread, View.ld_unit_zero (S := S1024x1024) hz, View.ld_unit_zero (S := S1x1024) hz, View.ld_unit_zero (S := S2560x1024) hz]
  exact h_pay (xB m c t) (gB m c t) s k

end Cert.Proof.InFwd
-- ==== Proof.InFwd.Host.lean ====
module

public import proofs.«01_k».proof.Proof.InFwd.Blocks
public import Idealize.ShloMosaic.Lib.StableHlo.RunRead

@[expose] public section

set_option maxRecDepth 16384

noncomputable section

/-! The arguments of the input projection, its result over whole rows, and the transposed matrix that the host prepares. -/

namespace Cert.Proof.InFwd

open Cert.Kernel6Ideal Cert.Kernel6Ideal.Gen Idealize.ShloMosaic Idealize.ShloMosaic.TcCoe Idealize.ShloMosaic.StableHlo Idealize.SL.Sem
open Cert.Proof.FfnBwd (rinv rowOf hid)

/-- The projected row `s`. -/
def zR {n : ℕ} (x : Vec Ideal (⟨2, ![n, 1024]⟩ : Shape) .f32) (g : Vec Ideal (⟨2, ![1, 1024]⟩ : Shape) .f32) (w : Vec Ideal (⟨2, ![1024, 2560]⟩ : Shape) .f32)
    (s : Fin n) (e : Fin 2560) : EReal := ∑ k : Fin 1024, hid x g s k * w (ix2 k e)

/-- The attention's part of the projected row. -/
def qkvR {n : ℕ} (x : Vec Ideal (⟨2, ![n, 1024]⟩ : Shape) .f32) (g : Vec Ideal (⟨2, ![1, 1024]⟩ : Shape) .f32) (w : Vec Ideal (⟨2, ![1024, 2560]⟩ : Shape) .f32)
    (s : Fin n) (e : Fin 768) : EReal := qkvOf (zR x g w s) e

variable (m : (ℓ : Loc nD τ sig) → Buf (Elt Ideal) ℓ)

/-- The three arguments. -/
def aX (c : Dev nD) : Vec Ideal S16384x1024 .f32 := m ((c : Thread nD τ).loc main_arg0)
def aG (c : Dev nD) : Vec Ideal S1x1024 .f32 := m ((c : Thread nD τ).loc main_arg1)
def aW (c : Dev nD) : Vec Ideal S1024x2560 .f32 := m ((c : Thread nD τ).loc main_arg2)

set_option maxHeartbeats 4000000 in
/-- The transposed matrix. -/
theorem V_w (c : Dev nD) (e : Fin 2560) (k : Fin 1024) :
    (V m c main_v1 : Vec Ideal S2560x1024 .bf16) (ix2 e k) = aW m c (ix2 k e) := by
  delta V hostOps0
  simp only [List.flatten_cons, List.flatten_nil, List.append_nil, List.cons_append, List.nil_append,
    TRef.binary, TRef.nullary, TRef.ternary, TRef.unary, TRef.toBuf, TRef.ofBuf, cast_eq]
  after_reads_simp
  unfold aW
  pointwise []

end Cert.Proof.InFwd
-- ==== Proof.InFwd.Final.lean ====
module

public import proofs.«01_k».proof.Proof.InFwd.Host

@[expose] public section

set_option maxRecDepth 16384

noncomputable section

/-! The three arrays that the input projection ends with, entry by entry. -/

namespace Cert.Proof.InFwd

open Cert.Kernel6Ideal Cert.Kernel6Ideal.Gen Cert.Kernel6Ideal.Value Idealize.ShloMosaic Idealize.ShloMosaic.TcCoe Idealize.SL.Sem
open Idealize.ShloMosaic.Pipeline (Dat)
open Cert.Proof.FfnBwd (rinv rowOf hid)
open Cert.Proof.Rows

variable (m : (ℓ : Loc nD τ sig) → Buf (Elt Ideal) ℓ)

theorem lt16 (t : Fin cfg0.N) : t.val < 16 := Nat.lt_of_lt_of_eq t.isLt N_0

theorem index_0 : ∀ t : Fin cfg0.N, win0_0.index t = ![t.val, 0] :=
  (by decide +kernel : ∀ t : Fin grid0.N, win0_0.index t = ![t.val, 0])

theorem index_1 : ∀ t : Fin cfg0.N, win0_1.index t = ![0, 0] :=
  (by decide +kernel : ∀ t : Fin grid0.N, win0_1.index t = ![0, 0])

theorem index_2 : ∀ t : Fin cfg0.N, win0_2.index t = ![0, 0] :=
  (by decide +kernel : ∀ t : Fin grid0.N, win0_2.index t = ![0, 0])

theorem index_3 : ∀ t : Fin cfg0.N, win0_3.index t = ![t.val, 0] :=
  (by decide +kernel : ∀ t : Fin grid0.N, win0_3.index t = ![t.val, 0])

theorem index_4 : ∀ t : Fin cfg0.N, win0_4.index t = ![t.val, 0] :=
  (by decide +kernel : ∀ t : Fin grid0.N, win0_4.index t = ![t.val, 0])

theorem index_5 : ∀ t : Fin cfg0.N, win0_5.index t = ![t.val, 0] :=
  (by decide +kernel : ∀ t : Fin grid0.N, win0_5.index t = ![t.val, 0])

theorem xB_at (c : Dev nD) (t : Fin cfg0.N) (s : Fin 1024) (k : Fin 1024) :
    xB m c t (ix2 s k) = aX m c (ix2 (rowAt t.val s (lt16 t)) k) := by
  unfold xB aX rowAt
  blk_simp [iblk, index_0]
  refine congrArg (m _) ?_
  funext a
  apply Fin.ext
  match a with
  | ⟨0, _⟩ => blk_simp [index_0]
  | ⟨1, _⟩ => blk_simp [index_0]

theorem gB_eq (c : Dev nD) (t : Fin cfg0.N) : gB m c t = aG m c := by
  funext j
  unfold gB aG
  blk_simp [iblk, index_1]
  refine congrArg (m _) ?_
  funext a
  apply Fin.ext
  match a with
  | ⟨0, _⟩ => blk_simp [index_1]
  | ⟨1, _⟩ => blk_simp [index_1]

theorem wB_at (c : Dev nD) (t : Fin cfg0.N) (e : Fin 2560) (k : Fin 1024) :
    wB m c t (ix2 e k) = aW m c (ix2 k e) := by
  refine Eq.trans ?_ (V_w m c e k)
  unfold wB
  blk_simp [iblk, index_2]
  refine congrArg (V m c main_v1) ?_
  funext a
  apply Fin.ext
  match a with
  | ⟨0, _⟩ => blk_simp [index_2]
  | ⟨1, _⟩ => blk_simp [index_2]

theorem row_at (c : Dev nD) (t : Fin cfg0.N) (s : Fin 1024) : rowOf (xB m c t) s = rowOf (aX m c) (rowAt t.val s (lt16 t)) :=
  funext fun k => xB_at m c t s k

theorem h_at (c : Dev nD) (t : Fin cfg0.N) (s k : Fin 1024) : (outsAt0 m c t).2.2 (ix2 s k) = hid (aX m c) (aG m c) (rowAt t.val s (lt16 t)) k := by
  refine (h_block m c t s k).trans ?_
  unfold hid
  simp only [row_at, gB_eq]

theorem zK_at (c : Dev nD) (t : Fin cfg0.N) (s : Fin 1024) :
    zK (xB m c t) (gB m c t) (wB m c t) s = zR (aX m c) (aG m c) (aW m c) (rowAt t.val s (lt16 t)) := by
  funext e
  unfold zK zR hid
  simp only [row_at, gB_eq, wB_at]

theorem z_at (c : Dev nD) (t : Fin cfg0.N) (s : Fin 1024) (e : Fin 2560) :
    (outsAt0 m c t).1 (ix2 s e) = zR (aX m c) (aG m c) (aW m c) (rowAt t.val s (lt16 t)) e :=
  (z_block m c t s e).trans (congrFun (zK_at m c t s) e)

theorem qkv_at (c : Dev nD) (t : Fin cfg0.N) (s : Fin 1024) (e : Fin 768) :
    (outsAt0 m c t).2.1 (ix2 s e) = qkvR (aX m c) (aG m c) (aW m c) (rowAt t.val s (lt16 t)) e :=
  (qkv_block m c t s e).trans (congrArg (qkvOf · e) (zK_at m c t s))

/-- The array of the projection after the run, entry by entry. -/
theorem z_array (c : Dev nD) : (dats m 0 c).arrAt 3 cfg0.N
    = (fun i => zR (aX m c) (aG m c) (aW m c) (i 0) (i 1) : Vec Ideal S16384x2560 .f32) := by
  refine (dats m 0 c).arrAt_eq_of_covers 3 _ (by decide +kernel) fun t hf y => ?_
  blk_simp
  rw [after0_3]
  refine Eq.trans (congrArg _ (eq_ix2 (n0 := 1024) (n1 := 2560) y)) ?_
  refine (z_at m c t (y 0) (y 1)).trans ?_
  have e0 : rowAt t.val (y 0) (lt16 t) = (((cfg0.win 3).blk t).view.emb y) 0 := by
    apply Fin.ext; blk_simp [index_3]; rfl
  have e1 : (y 1 : Fin 2560) = (((cfg0.win 3).blk t).view.emb y) 1 := by
    apply Fin.ext; blk_simp [index_3]
  exact congrArg₂ (fun (r : Fin 16384) (k : Fin 2560) => zR (aX m c) (aG m c) (aW m c) r k) e0 e1

/-- The array of the attention's part after the run, entry by entry. -/
theorem qkv_array (c : Dev nD) : (dats m 0 c).arrAt 4 cfg0.N
    = (fun i => qkvR (aX m c) (aG m c) (aW m c) (i 0) (i 1) : Vec Ideal S16384x768 .bf16) := by
  refine (dats m 0 c).arrAt_eq_of_covers 4 _ (by decide +kernel) fun t hf y => ?_
  blk_simp
  rw [after0_4]
  refine Eq.trans (congrArg _ (eq_ix2 (n0 := 1024) (n1 := 768) y)) ?_
  refine (qkv_at m c t (y 0) (y 1)).trans ?_
  have e0 : rowAt t.val (y 0) (lt16 t) = (((cfg0.win 4).blk t).view.emb y) 0 := by
    apply Fin.ext; blk_simp [index_4]; rfl
  have e1 : (y 1 : Fin 768) = (((cfg0.win 4).blk t).view.emb y) 1 := by
    apply Fin.ext; blk_simp [index_4]
  exact congrArg₂ (fun (r : Fin 16384) (k : Fin 768) => qkvR (aX m c) (aG m c) (aW m c) r k) e0 e1

/-- The array of the norm after the run, entry by entry. -/
theorem h_array (c : Dev nD) : (dats m 0 c).arrAt 5 cfg0.N
    = (fun i => hid (aX m c) (aG m c) (i 0) (i 1) : Vec Ideal S16384x1024 .bf16) := by
  refine (dats m 0 c).arrAt_eq_of_covers 5 _ (by decide +kernel) fun t hf y => ?_
  blk_simp
  rw [after0_5]
  refine Eq.trans (congrArg _ (eq_ix2 (n0 := 1024) (n1 := 1024) y)) ?_
  refine (h_at m c t (y 0) (y 1)).trans ?_
  have e0 : rowAt t.val (y 0) (lt16 t) = (((cfg0.win 5).blk t).view.emb y) 0 := by
    apply Fin.ext; blk_simp [index_5]; rfl
  have e1 : (y 1 : Fin 1024) = (((cfg0.win 5).blk t).view.emb y) 1 := by
    apply Fin.ext; blk_simp [index_5]
  exact congrArg₂ (fun (r : Fin 16384) (k : Fin 1024) => hid (aX m c) (aG m c) r k) e0 e1

end Cert.Proof.InFwd
-- ==== Proof.InFwd.Ref.lean ====
module

public import proofs.«01_k».proof.Proof.Gen.Reference6Ideal.Read
public import proofs.«01_k».proof.Proof.InFwd.Host

@[expose] public section

set_option maxRecDepth 16384

noncomputable section

/-! The three results of the reference of the input projection, entry by entry. -/

namespace Cert.Proof.InFwd

open Cert.Reference6Ideal Cert.Reference6Ideal.Gen Cert.Reference6Ideal.Read Idealize.ShloMosaic Idealize.ShloMosaic.TcCoe Idealize.SL.Sem
open Cert.Proof.FfnBwd (rinv rowOf hid)

variable (x : Vec Ideal S16384x1024 .f32) (g : Vec Ideal S1x1024 .f32) (w : Vec Ideal S1024x2560 .f32)

/-- The norm. -/
theorem ref_h (s : Fin 16384) (k : Fin 1024) : val_main_v33 (F := Ideal) x g (ix2 s k) = hid x g s k := by
  unfold hid rinv rowOf
  pointwise [val_main_v0, val_main_cst, val_main_v1, val_main_v2, val_main_cst_0, val_main_v3, val_main_v4, val_main_cst_1, val_main_v5, val_main_v6, val_main_v7, val_main_v8, val_main_v9, val_main_v10, val_main_v11, val_main_v13, val_main_v14, val_main_v15, val_main_v16, val_main_cst_2, val_main_v17, val_main_v18, val_main_v19, val_main_v20, val_main_v21, val_main_cst_3, val_main_v22, val_main_v23, val_main_cst_4, val_main_v24, val_main_v25, val_main_cst_5, val_main_v26, val_main_v27, val_main_v28, val_main_v29, val_main_v30, val_main_v31, val_main_v32, val_main_v33]

/-- The projection. -/
theorem ref_z (s : Fin 16384) (e : Fin 2560) : val_main_v12 (F := Ideal) x g w (ix2 s e) = zR x g w s e := by
  unfold zR hid rinv rowOf
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16, val_main_cst_2, val_main_v17, val_main_v18, val_main_v19, val_main_v20, val_main_v21, val_main_cst_3, val_main_v22, val_main_v23, val_main_cst_4, val_main_v24, val_main_v25, val_main_cst_5, val_main_v26, val_main_v27, val_main_v28, val_main_v29, val_main_v30, val_main_v31, val_main_v32, val_main_v33]

/-- The attention's part. -/
theorem ref_qkv (s : Fin 16384) (e : Fin 768) : val_main_v20 (F := Ideal) x g w (ix2 s e) = qkvR x g w s e := by
  unfold qkvR qkvOf
  pointwise [val_main_v13, val_main_v14, val_main_v15, val_main_v16, val_main_v17, val_main_v18, val_main_v19, val_main_v20, val_main_cst_2]
  simp only [ref_z]
  by_cases h1 : e.val < 256
  · simp [h1]
  · by_cases h2 : e.val - 256 < 256
    · simp only [h1, h2, dif_pos, dif_neg, if_pos, if_neg, not_false_eq_true]
      exact congrArg (zR x g w s) (Fin.ext (by dsimp only; omega))
    · simp only [h1, h2, dif_pos, dif_neg, if_pos, if_neg, not_false_eq_true]
      exact congrArg (zR x g w s) (Fin.ext (by dsimp only; omega))

end Cert.Proof.InFwd
-- ==== Proof.InFwd.Claims.lean ====
module

public import proofs.«01_k».proof.Defs
public import proofs.«01_k».proof.Proof.InFwd.Final
public import proofs.«01_k».proof.Proof.InFwd.Ref
public import proofs.«01_k».proof.Proof.Gen.Kernel6.Frame
public import proofs.«01_k».proof.Proof.Gen.Reference6Ideal.Run
public import Idealize.ShloMosaic.Adequacy
public import Idealize.ShloMosaic.Init

@[expose] public section

set_option maxRecDepth 16384

noncomputable section

/-! The claims about the input projection. -/

namespace Cert.Proof.InFwd

open Idealize.ShloMosaic Idealize.ShloMosaic.TcCoe Idealize.SL.Sem

/-- The frame of the input projection over the machine's floats. -/
theorem frame_bits : Cert.quiescent_Kernel6 := fun m ρ _ => Cert.Kernel6.Gen.frame m ρ

/-- Its frame over the reals. -/
theorem frame_ideal : Cert.quiescent_Kernel6Ideal := fun m ρ _ => Cert.Kernel6Ideal.Gen.frame m ρ

/-- The frame of its reference: the arguments are kept, and there is no counter. -/
theorem frame_ref : Cert.quiescent_Reference6Ideal := fun m ρ _ =>
  (θ_run Cert.Reference6Ideal.defs _ _).mono (fun r h => ⟨fun c => (h c).2.2.2,
      Idealize.ShloMosaic.sem_eq_zero_of_no_sems (by decide) r.2⟩)
    (Cert.Reference6Ideal.Value.run (F := Ideal) m ρ)

/-- The kernel and the plain forward lines end with the same three arrays. -/
theorem algebraic : Cert.algebraic_Kernel6Ideal_Reference6Ideal := by
  intro m g m' g' _ hagree
  refine ⟨fun c => (Cert.Kernel6Ideal.Gen.dats m 0 c).arrAt 3 Cert.Kernel6Ideal.cfg0.N,
    fun c => (Cert.Kernel6Ideal.Gen.dats m 0 c).arrAt 4 Cert.Kernel6Ideal.cfg0.N,
    fun c => (Cert.Kernel6Ideal.Gen.dats m 0 c).arrAt 5 Cert.Kernel6Ideal.cfg0.N,
    Cert.Kernel6Ideal.Value.run_blocks m g, ?_⟩
  refine (θ_run Cert.Reference6Ideal.defs _ _).mono (fun r h c => ?_) (Cert.Reference6Ideal.Value.run (F := Ideal) m' g')
  obtain ⟨h0, h1, h2, hargs⟩ := h c
  obtain ⟨e0, e1, e2⟩ := hagree c
  refine ⟨?_, ?_, ?_, hargs⟩
  · refine h0.trans ?_
    refine (Cert.Reference6Ideal.Read.val_main_v12_eq (F := Ideal) _ _ _).trans ?_
    rw [e0, e1, e2]
    refine Eq.trans ?_ (z_array m c).symm
    funext i
    refine Eq.trans (congrArg _ (eq_ix2 (n0 := 16384) (n1 := 2560) i)) ?_
    exact ref_z _ _ _ _ _
  · refine h1.trans ?_
    refine (Cert.Reference6Ideal.Read.val_main_v20_eq (F := Ideal) _ _ _).trans ?_
    rw [e0, e1, e2]
    refine Eq.trans ?_ (qkv_array m c).symm
    funext i
    refine Eq.trans (congrArg _ (eq_ix2 (n0 := 16384) (n1 := 768) i)) ?_
    exact ref_qkv _ _ _ _ _
  · refine h2.trans ?_
    refine (Cert.Reference6Ideal.Read.val_main_v33_eq (F := Ideal) _ _).trans ?_
    rw [e0, e1]
    refine Eq.trans ?_ (h_array m c).symm
    funext i
    refine Eq.trans (congrArg _ (eq_ix2 (n0 := 16384) (n1 := 1024) i)) ?_
    exact ref_h _ _ _ _

end Cert.Proof.InFwd
-- ==== Proof.OutFwd.Blocks.lean ====
module

public import proofs.«01_k».proof.Proof.Gen.Kernel7Ideal.Value
public import proofs.«01_k».proof.Proof.OutProj.Acc
public import proofs.«01_k».proof.Proof.Rows
public import Idealize.ShloMosaic.Lib.Pointwise
public import Idealize.ShloMosaic.Lib.IdealHost
public import Idealize.ShloMosaic.Lib.Pipeline.ReadBack
public import Idealize.ShloMosaic.Lib.Pipeline.ValueKit

@[expose] public section

set_option maxRecDepth 16384

noncomputable section

/-! What one grid point of the output projection computes from the blocks it reads. -/

namespace Cert.Proof.OutFwd

open Cert.Kernel7Ideal Cert.Kernel7Ideal.Gen Idealize.ShloMosaic Idealize.ShloMosaic.TcCoe Idealize.SL.Sem
open Idealize.ShloMosaic.Pipeline (Dat)
open Cert.Proof.OutProj (rinv nrm cat4 rowOf cat4_0 cat4_1 cat4_2 cat4_3)

variable (m : (ℓ : Loc nD τ sig) → Buf (Elt Ideal) ℓ)

theorem hz : (![0, 0] : Fin 2 → Nat) = fun _ => 0 := funext fun a => by fin_cases a <;> rfl

/-- The rows of `y_a` that grid point `t` reads. -/
def yaB (c : Dev nD) (t : Fin cfg0.N) : Vec Ideal S1024x256 .f32 := iblk m c 0 t
/-- The rows of `y_b` that grid point `t` reads. -/
def ybB (c : Dev nD) (t : Fin cfg0.N) : Vec Ideal S1024x256 .f32 := iblk m c 1 t
/-- The rows of `y_c` that grid point `t` reads. -/
def ycB (c : Dev nD) (t : Fin cfg0.N) : Vec Ideal S1024x256 .f32 := iblk m c 2 t
/-- The rows of `y_d` that grid point `t` reads. -/
def ydB (c : Dev nD) (t : Fin cfg0.N) : Vec Ideal S1024x256 .f32 := iblk m c 3 t
/-- The rows of `x` that grid point `t` reads. -/
def xB (c : Dev nD) (t : Fin cfg0.N) : Vec Ideal S1024x1024 .f32 := iblk m c 4 t
/-- The gain row, as grid point `t` reads it. -/
def gB (c : Dev nD) (t : Fin cfg0.N) : Vec Ideal S1x1024 .f32 := iblk m c 5 t
/-- The matrix, as grid point `t` reads it. -/
def wB (c : Dev nD) (t : Fin cfg0.N) : Vec Ideal S1024x1024 .bf16 := iblk m c 6 t

/-- A sum over 1024 entries, a quarter at a time. -/
theorem sum_quarters (f : Fin 1024 → EReal) : (∑ i : Fin 1024, f i)
    = (∑ k : Fin 256, f ⟨0 + k.val, by omega⟩) + (∑ k : Fin 256, f ⟨256 + k.val, by omega⟩)
      + (∑ k : Fin 256, f ⟨512 + k.val, by omega⟩) + (∑ k : Fin 256, f ⟨768 + k.val, by omega⟩) := by
  have h : (∑ i : Fin 1024, f i) = ∑ e : Fin 4, ∑ k : Fin 256, f ⟨256 * e.val + k.val, by omega⟩ := by
    rw [← Finset.sum_product']
    symm
    refine Fintype.sum_equiv (finProdFinEquiv (m := 4) (n := 256)) _ _ fun p => ?_
    refine congrArg f (Fin.ext ?_)
    show 256 * p.1.val + p.2.val = p.2.val + 256 * p.1.val
    omega
  rw [h, Fin.sum_univ_four]
  rfl

/-- The four normed groups of row `s` side by side. -/
def catN {n : ℕ} (ya yb yc yd : Vec Ideal (⟨2, ![n, 256]⟩ : Shape) .f32) (s : Fin n) : Fin 1024 → EReal :=
  cat4 (nrm (rowOf ya s)) (nrm (rowOf yb s)) (nrm (rowOf yc s)) (nrm (rowOf yd s))

/-- The result of the block: the residual and the product of the normed and gained groups with the matrix. -/
def yR {n : ℕ} (ya yb yc yd : Vec Ideal (⟨2, ![n, 256]⟩ : Shape) .f32) (x : Vec Ideal (⟨2, ![n, 1024]⟩ : Shape) .f32) (g : Vec Ideal (⟨2, ![1, 1024]⟩ : Shape) .f32)
    (w : Vec Ideal (⟨2, ![1024, 1024]⟩ : Shape) .f32) (s : Fin n) (j : Fin 1024) : EReal :=
  x (ix2 s j) + ∑ k : Fin 1024, catN ya yb yc yd s k * g (ix2 0 k) * w (ix2 k j)

variable (ya yb yc yd : Vec Ideal S1024x256 .f32) (x : Vec Ideal S1024x1024 .f32) (g : Vec Ideal S1x1024 .f32) (w : Vec Ideal S1024x1024 .bf16)

/-- The stored rows, group by group. -/
theorem y_pay (s j : Fin 1024) :
    k0_pay4 (k0_pay1 x ya (View.ld g (Rect.unit (s := S1x1024) ![0, 0] ![1, 256] inb_S1x1024_S1x256_0_0)) (View.ld w (Rect.unit (s := S1024x1024) ![0, 0] ![256, 1024] inb_S1024x1024_S256x1024_0_0))) (k0_pay2 yb (View.ld g (Rect.unit (s := S1x1024) ![0, 256] ![1, 256] inb_S1x1024_S1x256_0_256))) (k0_pay3 (View.ld w (Rect.unit (s := S1024x1024) ![256, 0] ![256, 1024] inb_S1024x1024_S256x1024_256_0))) (constant S1024x1024 .f32 0x00000000#32)
      yc (View.ld g (Rect.unit (s := S1x1024) ![0, 512] ![1, 256] inb_S1x1024_S1x256_0_512)) (View.ld w (Rect.unit (s := S1024x1024) ![512, 0] ![256, 1024] inb_S1024x1024_S256x1024_512_0)) yd (View.ld g (Rect.unit (s := S1x1024) ![0, 768] ![1, 256] inb_S1x1024_S1x256_0_768)) (View.ld w (Rect.unit (s := S1024x1024) ![768, 0] ![256, 1024] inb_S1024x1024_S256x1024_768_0)) (ix2 s j)
    = x (ix2 s j) + ∑ k : Fin 1024, catN ya yb yc yd s k * g (ix2 0 k) * w (ix2 k j) := by
  rw [sum_quarters]
  unfold catN
  simp only [cat4_0, cat4_1, cat4_2, cat4_3]
  unfold nrm rinv rowOf
  pointwise [k0_pay1, k0_pay2, k0_pay3, k0_pay4]
  simp only [add_assoc]

/-- The rows that one grid point leaves. -/
theorem y_out (s j : Fin 1024) : out0_7 ya yb yc yd x g w (ix2 s j)
    = x (ix2 s j) + ∑ k : Fin 1024, catN ya yb yc yd s k * g (ix2 0 k) * w (ix2 k j) := by
  unfold out0_7
  rw [View.canon_unit_zero hz]
  simp only [View.ld_unit_zero (S := S1024x1024) hz, View.ld_unit_zero (S := S1024x256) hz]
  exact y_pay ya yb yc yd x g w s j

end Cert.Proof.OutFwd
-- ==== Proof.OutFwd.Host.lean ====
module

public import proofs.«01_k».proof.Proof.OutFwd.Blocks
public import Idealize.ShloMosaic.Lib.StableHlo.RunRead

@[expose] public section

set_option maxRecDepth 16384

noncomputable section

/-! The arguments of the output projection, and the matrix that the host casts. -/

namespace Cert.Proof.OutFwd

open Cert.Kernel7Ideal Cert.Kernel7Ideal.Gen Idealize.ShloMosaic Idealize.ShloMosaic.TcCoe Idealize.ShloMosaic.StableHlo Idealize.SL.Sem
open Cert.Proof.OutProj (rinv nrm cat4 rowOf cat4_0 cat4_1 cat4_2 cat4_3)

variable (m : (ℓ : Loc nD τ sig) → Buf (Elt Ideal) ℓ)

/-- The seven arguments. -/
def aYA (c : Dev nD) : Vec Ideal S16384x256 .f32 := m ((c : Thread nD τ).loc main_arg0)
def aYB (c : Dev nD) : Vec Ideal S16384x256 .f32 := m ((c : Thread nD τ).loc main_arg1)
def aYC (c : Dev nD) : Vec Ideal S16384x256 .f32 := m ((c : Thread nD τ).loc main_arg2)
def aYD (c : Dev nD) : Vec Ideal S16384x256 .f32 := m ((c : Thread nD τ).loc main_arg3)
def aX (c : Dev nD) : Vec Ideal S16384x1024 .f32 := m ((c : Thread nD τ).loc main_arg4)
def aG (c : Dev nD) : Vec Ideal S1x1024 .f32 := m ((c : Thread nD τ).loc main_arg5)
def aW (c : Dev nD) : Vec Ideal S1024x1024 .f32 := m ((c : Thread nD τ).loc main_arg6)

set_option maxHeartbeats 4000000 in
/-- The cast matrix. -/
theorem V_w (c : Dev nD) (k j : Fin 1024) :
    (V m c main_v0 : Vec Ideal S1024x1024 .bf16) (ix2 k j) = aW m c (ix2 k j) := by
  delta V hostOps0
  simp only [List.flatten_cons, List.flatten_nil, List.append_nil, List.cons_append, List.nil_append,
    TRef.binary, TRef.nullary, TRef.ternary, TRef.unary, TRef.toBuf, TRef.ofBuf, cast_eq]
  after_reads_simp
  unfold aW
  pointwise []

end Cert.Proof.OutFwd
-- ==== Proof.OutFwd.Final.lean ====
module

public import proofs.«01_k».proof.Proof.OutFwd.Host

@[expose] public section

set_option maxRecDepth 16384

noncomputable section

/-! The array that the output projection ends with, entry by entry. -/

namespace Cert.Proof.OutFwd

open Cert.Kernel7Ideal Cert.Kernel7Ideal.Gen Cert.Kernel7Ideal.Value Idealize.ShloMosaic Idealize.ShloMosaic.TcCoe Idealize.SL.Sem
open Idealize.ShloMosaic.Pipeline (Dat)
open Cert.Proof.OutProj (rinv nrm cat4 rowOf cat4_0 cat4_1 cat4_2 cat4_3)
open Cert.Proof.Rows

variable (m : (ℓ : Loc nD τ sig) → Buf (Elt Ideal) ℓ)

theorem lt16 (t : Fin cfg0.N) : t.val < 16 := Nat.lt_of_lt_of_eq t.isLt N_0

theorem index_0 : ∀ t : Fin cfg0.N, win0_0.index t = ![t.val, 0] :=
  (by decide +kernel : ∀ t : Fin grid0.N, win0_0.index t = ![t.val, 0])

theorem index_1 : ∀ t : Fin cfg0.N, win0_1.index t = ![t.val, 0] :=
  (by decide +kernel : ∀ t : Fin grid0.N, win0_1.index t = ![t.val, 0])

theorem index_2 : ∀ t : Fin cfg0.N, win0_2.index t = ![t.val, 0] :=
  (by decide +kernel : ∀ t : Fin grid0.N, win0_2.index t = ![t.val, 0])

theorem index_3 : ∀ t : Fin cfg0.N, win0_3.index t = ![t.val, 0] :=
  (by decide +kernel : ∀ t : Fin grid0.N, win0_3.index t = ![t.val, 0])

theorem index_4 : ∀ t : Fin cfg0.N, win0_4.index t = ![t.val, 0] :=
  (by decide +kernel : ∀ t : Fin grid0.N, win0_4.index t = ![t.val, 0])

theorem index_5 : ∀ t : Fin cfg0.N, win0_5.index t = ![0, 0] :=
  (by decide +kernel : ∀ t : Fin grid0.N, win0_5.index t = ![0, 0])

theorem index_6 : ∀ t : Fin cfg0.N, win0_6.index t = ![0, 0] :=
  (by decide +kernel : ∀ t : Fin grid0.N, win0_6.index t = ![0, 0])

theorem index_7 : ∀ t : Fin cfg0.N, win0_7.index t = ![t.val, 0] :=
  (by decide +kernel : ∀ t : Fin grid0.N, win0_7.index t = ![t.val, 0])

theorem yaB_at (c : Dev nD) (t : Fin cfg0.N) (s : Fin 1024) (k : Fin 256) :
    yaB m c t (ix2 s k) = aYA m c (ix2 (rowAt t.val s (lt16 t)) k) := by
  unfold yaB aYA rowAt
  blk_simp [iblk, index_0]
  refine congrArg (m _) ?_
  funext a
  apply Fin.ext
  match a with
  | ⟨0, _⟩ => blk_simp [index_0]
  | ⟨1, _⟩ => blk_simp [index_0]

theorem ybB_at (c : Dev nD) (t : Fin cfg0.N) (s : Fin 1024) (k : Fin 256) :
    ybB m c t (ix2 s k) = aYB m c (ix2 (rowAt t.val s (lt16 t)) k) := by
  unfold ybB aYB rowAt
  blk_simp [iblk, index_1]
  refine congrArg (m _) ?_
  funext a
  apply Fin.ext
  match a with
  | ⟨0, _⟩ => blk_simp [index_1]
  | ⟨1, _⟩ => blk_simp [index_1]

theorem ycB_at (c : Dev nD) (t : Fin cfg0.N) (s : Fin 1024) (k : Fin 256) :
    ycB m c t (ix2 s k) = aYC m c (ix2 (rowAt t.val s (lt16 t)) k) := by
  unfold ycB aYC rowAt
  blk_simp [iblk, index_2]
  refine congrArg (m _) ?_
  funext a
  apply Fin.ext
  match a with
  | ⟨0, _⟩ => blk_simp [index_2]
  | ⟨1, _⟩ => blk_simp [index_2]

theorem ydB_at (c : Dev nD) (t : Fin cfg0.N) (s : Fin 1024) (k : Fin 256) :
    ydB m c t (ix2 s k) = aYD m c (ix2 (rowAt t.val s (lt16 t)) k) := by
  unfold ydB aYD rowAt
  blk_simp [iblk, index_3]
  refine congrArg (m _) ?_
  funext a
  apply Fin.ext
  match a with
  | ⟨0, _⟩ => blk_simp [index_3]
  | ⟨1, _⟩ => blk_simp [index_3]

theorem xB_at (c : Dev nD) (t : Fin cfg0.N) (s : Fin 1024) (k : Fin 1024) :
    xB m c t (ix2 s k) = aX m c (ix2 (rowAt t.val s (lt16 t)) k) := by
  unfold xB aX rowAt
  blk_simp [iblk, index_4]
  refine congrArg (m _) ?_
  funext a
  apply Fin.ext
  match a with
  | ⟨0, _⟩ => blk_simp [index_4]
  | ⟨1, _⟩ => blk_simp [index_4]

theorem gB_eq (c : Dev nD) (t : Fin cfg0.N) : gB m c t = aG m c := by
  funext j
  unfold gB aG
  blk_simp [iblk, index_5]
  refine congrArg (m _) ?_
  funext a
  apply Fin.ext
  match a with
  | ⟨0, _⟩ => blk_simp [index_5]
  | ⟨1, _⟩ => blk_simp [index_5]

theorem wB_at (c : Dev nD) (t : Fin cfg0.N) (k j : Fin 1024) :
    wB m c t (ix2 k j) = aW m c (ix2 k j) := by
  refine Eq.trans ?_ (V_w m c k j)
  unfold wB
  blk_simp [iblk, index_6]
  refine congrArg (V m c main_v0) ?_
  funext a
  apply Fin.ext
  match a with
  | ⟨0, _⟩ => blk_simp [index_6]
  | ⟨1, _⟩ => blk_simp [index_6]

theorem rowa_at (c : Dev nD) (t : Fin cfg0.N) (s : Fin 1024) : rowOf (yaB m c t) s = rowOf (aYA m c) (rowAt t.val s (lt16 t)) :=
  funext fun k => yaB_at m c t s k

theorem rowb_at (c : Dev nD) (t : Fin cfg0.N) (s : Fin 1024) : rowOf (ybB m c t) s = rowOf (aYB m c) (rowAt t.val s (lt16 t)) :=
  funext fun k => ybB_at m c t s k

theorem rowc_at (c : Dev nD) (t : Fin cfg0.N) (s : Fin 1024) : rowOf (ycB m c t) s = rowOf (aYC m c) (rowAt t.val s (lt16 t)) :=
  funext fun k => ycB_at m c t s k

theorem rowd_at (c : Dev nD) (t : Fin cfg0.N) (s : Fin 1024) : rowOf (ydB m c t) s = rowOf (aYD m c) (rowAt t.val s (lt16 t)) :=
  funext fun k => ydB_at m c t s k

theorem y_block (c : Dev nD) (t : Fin cfg0.N) (s j : Fin 1024) :
    out0_7 (yaB m c t) (ybB m c t) (ycB m c t) (ydB m c t) (xB m c t) (gB m c t) (wB m c t) (ix2 s j) = yR (aYA m c) (aYB m c) (aYC m c) (aYD m c) (aX m c) (aG m c) (aW m c) (rowAt t.val s (lt16 t)) j := by
  refine (y_out (yaB m c t) (ybB m c t) (ycB m c t) (ydB m c t) (xB m c t) (gB m c t) (wB m c t) s j).trans ?_
  unfold yR catN
  simp only [rowa_at, rowb_at, rowc_at, rowd_at, xB_at, gB_eq, wB_at]

/-- The array of the result after the run, entry by entry. -/
theorem y_array (c : Dev nD) : (dats m 0 c).arrAt 7 cfg0.N
    = (fun i => yR (aYA m c) (aYB m c) (aYC m c) (aYD m c) (aX m c) (aG m c) (aW m c) (i 0) (i 1) : Vec Ideal S16384x1024 .f32) := by
  refine (dats m 0 c).arrAt_eq_of_covers 7 _ (by decide +kernel) fun t hf y => ?_
  blk_simp
  rw [after0_7]
  refine Eq.trans (congrArg _ (eq_ix2 (n0 := 1024) (n1 := 1024) y)) ?_
  refine (y_block m c t (y 0) (y 1)).trans ?_
  have e0 : rowAt t.val (y 0) (lt16 t) = (((cfg0.win 7).blk t).view.emb y) 0 := by
    apply Fin.ext; blk_simp [index_7]; rfl
  have e1 : (y 1 : Fin 1024) = (((cfg0.win 7).blk t).view.emb y) 1 := by
    apply Fin.ext; blk_simp [index_7]
  exact congrArg₂ (fun (r : Fin 16384) (k : Fin 1024) => yR (aYA m c) (aYB m c) (aYC m c) (aYD m c) (aX m c) (aG m c) (aW m c) r k) e0 e1

end Cert.Proof.OutFwd
-- ==== Proof.OutFwd.Ref.lean ====
module

public import proofs.«01_k».proof.Proof.Gen.Reference7Ideal.Read
public import proofs.«01_k».proof.Proof.OutFwd.Host

@[expose] public section

set_option maxRecDepth 16384

noncomputable section

/-! The result of the reference of the output projection, entry by entry. -/

namespace Cert.Proof.OutFwd

open Cert.Reference7Ideal Cert.Reference7Ideal.Gen Cert.Reference7Ideal.Read Idealize.ShloMosaic Idealize.ShloMosaic.TcCoe Idealize.SL.Sem
open Cert.Proof.OutProj (rinv nrm cat4 rowOf cat4_0 cat4_1 cat4_2 cat4_3)

variable (ya yb yc yd : Vec Ideal S16384x256 .f32) (x : Vec Ideal S16384x1024 .f32) (g : Vec Ideal S1x1024 .f32) (w : Vec Ideal S1024x1024 .f32)

/-- The result. -/
theorem ref_y (s : Fin 16384) (j : Fin 1024) : val_main_v44 (F := Ideal) ya yb yc yd x g w (ix2 s j) = yR ya yb yc yd x g w s j := by
  unfold yR catN cat4 nrm rinv rowOf
  pointwise [val_main_v0, val_main_cst, val_main_v1, val_main_v2, val_main_cst_0, val_main_v3, val_main_v4, val_main_cst_1, val_main_v5, val_main_v6, val_main_v7, val_main_v8, val_main_v9, val_main_v10, val_main_cst_2, val_main_v11, val_main_v12, val_main_cst_3, val_main_v13, val_main_v14, val_main_cst_4, val_main_v15, val_main_v16, val_main_v17, val_main_v18, val_main_v19, val_main_v20, val_main_cst_5, val_main_v21, val_main_v22, val_main_cst_6, val_main_v23, val_main_v24, val_main_cst_7, val_main_v25, val_main_v26, val_main_v27, val_main_v28, val_main_v29, val_main_v30, val_main_cst_8, val_main_v31, val_main_v32, val_main_cst_9, val_main_v33, val_main_v34, val_main_cst_10, val_main_v35, val_main_v36, val_main_v37, val_main_v38, val_main_v39, val_main_v40, val_main_v41, val_main_v42, val_main_v43, val_main_v44]

end Cert.Proof.OutFwd
-- ==== Proof.OutFwd.Claims.lean ====
module

public import proofs.«01_k».proof.Defs
public import proofs.«01_k».proof.Proof.OutFwd.Final
public import proofs.«01_k».proof.Proof.OutFwd.Ref
public import proofs.«01_k».proof.Proof.Gen.Kernel7.Frame
public import proofs.«01_k».proof.Proof.Gen.Reference7Ideal.Run
public import Idealize.ShloMosaic.Adequacy
public import Idealize.ShloMosaic.Init

@[expose] public section

set_option maxRecDepth 16384

noncomputable section

/-! The claims about the output projection. -/

namespace Cert.Proof.OutFwd

open Idealize.ShloMosaic Idealize.ShloMosaic.TcCoe Idealize.SL.Sem

/-- The frame of the output projection over the machine's floats. -/
theorem frame_bits : Cert.quiescent_Kernel7 := fun m ρ _ => Cert.Kernel7.Gen.frame m ρ

/-- Its frame over the reals. -/
theorem frame_ideal : Cert.quiescent_Kernel7Ideal := fun m ρ _ => Cert.Kernel7Ideal.Gen.frame m ρ

/-- The frame of its reference: the arguments are kept, and there is no counter. -/
theorem frame_ref : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- The kernel and the plain forward lines end with the same array. -/
theorem algebraic : Cert.algebraic_Kernel7Ideal_Reference7Ideal := by
  intro m g m' g' _ hagree
  refine ⟨fun c => (Cert.Kernel7Ideal.Gen.dats m 0 c).arrAt 7 Cert.Kernel7Ideal.cfg0.N,
    Cert.Kernel7Ideal.Value.run_blocks m g, ?_⟩
  refine (θ_run Cert.Reference7Ideal.defs _ _).mono (fun r h c => ?_) (Cert.Reference7Ideal.Value.run (F := Ideal) m' g')
  obtain ⟨h0, hargs⟩ := h c
  obtain ⟨e0, e1, e2, e3, e4, e5, e6⟩ := hagree c
  refine ⟨?_, hargs⟩
  · refine h0.trans ?_
    refine (Cert.Reference7Ideal.Read.val_main_v44_eq (F := Ideal) _ _ _ _ _ _ _).trans ?_
    rw [e0, e1, e2, e3, e4, e5, e6]
    refine Eq.trans ?_ (y_array m c).symm
    funext i
    refine Eq.trans (congrArg _ (eq_ix2 (n0 := 16384) (n1 := 1024) i)) ?_
    exact ref_y _ _ _ _ _ _ _ _ _

end Cert.Proof.OutFwd
-- ==== Proof.LossHead.Blocks.lean ====
module

public import proofs.«01_k».proof.Proof.Gen.Kernel8Ideal.Value
public import proofs.«01_k».proof.Proof.FfnBwd.Final
public import proofs.«01_k».proof.Proof.Rows
public import Idealize.ShloMosaic.Lib.Pointwise
public import Idealize.ShloMosaic.Lib.IdealHost
public import Idealize.ShloMosaic.Lib.Pipeline.ReadBack
public import Idealize.ShloMosaic.Lib.Pipeline.ValueKit

@[expose] public section

set_option maxRecDepth 16384

noncomputable section

/-! What one grid point of the loss head computes from the blocks it reads. -/

namespace Cert.Proof.LossHead

open Cert.Kernel8Ideal Cert.Kernel8Ideal.Gen Idealize.ShloMosaic Idealize.ShloMosaic.TcCoe Idealize.SL.Sem
open Idealize.ShloMosaic.Pipeline (Dat)
open Cert.Proof.FfnBwd (rinv gradK rowOf)

variable (m : (ℓ : Loc nD τ sig) → Buf (Elt Ideal) ℓ)

theorem hz : (![0, 0] : Fin 2 → Nat) = fun _ => 0 := funext fun a => by fin_cases a <;> rfl

/-- The rows of `x` that grid point `t` reads. -/
def xB (c : Dev nD) (t : Fin cfg0.N) : Vec Ideal S1024x1024 .f32 := iblk m c 0 t
/-- The gain row, as grid point `t` reads it. -/
def gB (c : Dev nD) (t : Fin cfg0.N) : Vec Ideal S1x1024 .f32 := iblk m c 1 t
/-- The rows of the target that grid point `t` reads. -/
def tB (c : Dev nD) (t : Fin cfg0.N) : Vec Ideal S1024x1024 .f32 := iblk m c 2 t

section
variable {n : ℕ} (x : Vec Ideal (⟨2, ![n, 1024]⟩ : Shape) .f32) (g : Vec Ideal (⟨2, ![1, 1024]⟩ : Shape) .f32) (u : Vec Ideal (⟨2, ![n, 1024]⟩ : Shape) .f32)

/-- The error of the normed and gained row `s` against the target's. -/
def err (s : Fin n) (k : Fin 1024) : EReal := rowOf x s k * rinv (rowOf x s) * g (ix2 0 k) - u (ix2 s k)

/-- The mean square error of row `s`. -/
def mse (s : Fin n) : EReal := Ideal.div (∑ k, err x g u s k * err x g u s k) (Ideal.ofBits FTy.f32 0x44800000#32)

/-- The loss's gradient with respect to the normed and gained row. -/
def dyK (s : Fin n) (k : Fin 1024) : EReal := err x g u s k * Ideal.ofBits FTy.f32 0x3A800000#32

/-- The loss's gradient with respect to the argument. -/
def dxR (s : Fin n) (k : Fin 1024) : EReal := gradK (rowOf x s) (fun j => dyK x g u s j * g (ix2 0 j)) k

/-- One row's part of the gain's gradient. -/
def dgRow (k : Fin 1024) (s : Fin n) : EReal := dyK x g u s k * (rowOf x s k * rinv (rowOf x s))
end

variable (x u : Vec Ideal S1024x1024 .f32) (g : Vec Ideal S1x1024 .f32)

theorem err_pay (s k : Fin 1024) : k0_pay7 x g u (ix2 s k) = err x g u s k := by
  unfold err
  pointwise [k0_pay7, k0_pay6, k0_pay5, rinv, rowOf]

theorem dy_pay (s k : Fin 1024) : k0_pay9 x g u (ix2 s k) = dyK x g u s k := by
  unfold dyK
  pointwise [k0_pay9]
  simp only [err_pay]

/-- The stored rows of `dx`. -/
theorem dx_pay (s k : Fin 1024) : k0_pay2 (k0_pay5 x) (k0_pay6 x) (k0_pay9 x g u) g (ix2 s k) = dxR x g u s k := by
  unfold dxR gradK
  pointwise [k0_pay2, k0_pay6, k0_pay5, rinv, rowOf]
  simp only [dy_pay]

/-- The stored sum of the gain's gradient. -/
theorem dg_pay (p : Vec Ideal S1x1024 .f32) (s : Fin 1) (k : Fin 1024) : k0_pay1 (k0_pay6 x) (k0_pay9 x g u) p (ix2 s k)
    = p (ix2 s k) + ∑ a : Fin 1024, dgRow x g u k a := by
  unfold dgRow
  pointwise [k0_pay1, k0_pay6, k0_pay5, rinv, rowOf]
  simp only [dy_pay]

/-- The stored sum of the loss. -/
theorem loss_pay (p : Vec Ideal S8x128 .f32) (s : Fin 8) (k : Fin 128) : k0_pay8 x g u p (ix2 s k)
    = p (ix2 s k) + Ideal.ofBits FTy.f32 0x3F000000#32 * ∑ a : Fin 1024, mse x g u a := by
  unfold mse
  pointwise [k0_pay8]
  simp only [err_pay, Fin.sum_univ_one]

theorem dx_A (c : Dev nD) (t : Fin cfg0.N) (h0 : t.val % 16 = 0) (s k : Fin 1024) :
    (outsAt0 m c t.val t.isLt).1 (ix2 s k) = dxR (xB m c t) (gB m c t) (tB m c t) s k := by
  rw [outsAt0_A m c t h0]
  dsimp only
  unfold out0_A_3
  rw [View.read_writes_eq_canon _ _ _ (by intro y; apply cover0_A_3)]
  unfold kernelRun0_A
  dsimp only
  rw [View.canon_unit_zero hz]
  sl_unfold_words
  simp only [View.readAt_eq_ld, (hs0_0 t).read_unread, (hs0_1 t).read_unread, (hs0_2 t).read_unread, (hs0_4 t).read_unread, (hs0_5 t).read_unread, View.ld_unit_zero (S := S1024x1024) hz, View.ld_unit_zero (S := S1x1024) hz, View.ld_unit_zero (S := S8x128) hz]
  exact dx_pay (xB m c t) (tB m c t) (gB m c t) s k

theorem dx_B (c : Dev nD) (t : Fin cfg0.N) (h0 : ¬t.val % 16 = 0) (s k : Fin 1024) :
    (outsAt0 m c t.val t.isLt).1 (ix2 s k) = dxR (xB m c t) (gB m c t) (tB m c t) s k := by
  rw [outsAt0_B m c t h0]
  dsimp only
  unfold out0_B_3
  rw [View.read_writes_eq_canon _ _ _ (by intro y; apply cover0_B_3)]
  unfold kernelRun0_B
  dsimp only
  rw [View.canon_unit_zero hz]
  sl_unfold_words
  simp only [View.readAt_eq_ld, (hs0_0 t).read_unread, (hs0_1 t).read_unread, (hs0_2 t).read_unread, (hs0_4 t).read_unread, (hs0_5 t).read_unread, View.ld_unit_zero (S := S1024x1024) hz, View.ld_unit_zero (S := S1x1024) hz, View.ld_unit_zero (S := S8x128) hz]
  exact dx_pay (xB m c t) (tB m c t) (gB m c t) s k

theorem dg_A (c : Dev nD) (t : Fin cfg0.N) (h0 : t.val % 16 = 0) (s : Fin 1) (k : Fin 1024) :
    (outsAt0 m c t.val t.isLt).2.1 (ix2 s k)
      = 0 + ∑ a : Fin 1024, dgRow (xB m c t) (gB m c t) (tB m c t) k a := by
  rw [outsAt0_A m c t h0]
  dsimp only
  unfold out0_A_4
  rw [View.read_writes_eq_canon _ _ _ (by intro y; apply cover0_A_4)]
  unfold kernelRun0_A
  dsimp only
  sl_unfold_words
  simp only [View.readAt_eq_ld, (hs0_0 t).read_unread, (hs0_1 t).read_unread, (hs0_2 t).read_unread, (hs0_4 t).read_unread, (hs0_5 t).read_unread, View.ld_unit_zero (S := S1024x1024) hz, View.ld_unit_zero (S := S1x1024) hz, View.ld_unit_zero (S := S8x128) hz]
  simp (disch := first | rfl | decide) only [View.readCov_skip, View.readCov_fill]
  rw [View.canon_cons_unit_zero hz]
  refine (dg_pay (xB m c t) (tB m c t) (gB m c t) _ s k).trans ?_
  pointwise [k0_pay3]

theorem dg_B (c : Dev nD) (t : Fin cfg0.N) (h0 : ¬t.val % 16 = 0) (s : Fin 1) (k : Fin 1024) :
    (outsAt0 m c t.val t.isLt).2.1 (ix2 s k)
      = (outsAt0 m c (t.val - 1) (Nat.lt_of_le_of_lt (Nat.sub_le _ _) t.isLt)).2.1 (ix2 s k) + ∑ a : Fin 1024, dgRow (xB m c t) (gB m c t) (tB m c t) k a := by
  rw [outsAt0_B m c t h0]
  dsimp only
  unfold out0_B_4
  rw [View.read_writes_eq_canon _ _ _ (by intro y; apply cover0_B_4)]
  unfold kernelRun0_B
  dsimp only
  sl_unfold_words
  simp only [View.readAt_eq_ld, (hs0_0 t).read_unread, (hs0_1 t).read_unread, (hs0_2 t).read_unread, (hs0_4 t).read_unread, (hs0_5 t).read_unread, View.ld_unit_zero (S := S1024x1024) hz, View.ld_unit_zero (S := S1x1024) hz, View.ld_unit_zero (S := S8x128) hz]
  rw [View.canon_unit_zero hz]
  exact dg_pay (xB m c t) (tB m c t) (gB m c t) _ s k

theorem loss_A (c : Dev nD) (t : Fin cfg0.N) (h0 : t.val % 16 = 0) (s : Fin 8) (k : Fin 128) :
    (outsAt0 m c t.val t.isLt).2.2 (ix2 s k)
      = 0 + Ideal.ofBits FTy.f32 0x3F000000#32 * ∑ a : Fin 1024, mse (xB m c t) (gB m c t) (tB m c t) a := by
  rw [outsAt0_A m c t h0]
  dsimp only
  unfold out0_A_5
  rw [View.read_writes_eq_canon _ _ _ (by intro y; apply cover0_A_5)]
  unfold kernelRun0_A
  dsimp only
  sl_unfold_words
  simp only [View.readAt_eq_ld, (hs0_0 t).read_unread, (hs0_1 t).read_unread, (hs0_2 t).read_unread, (hs0_4 t).read_unread, (hs0_5 t).read_unread, View.ld_unit_zero (S := S1024x1024) hz, View.ld_unit_zero (S := S1x1024) hz, View.ld_unit_zero (S := S8x128) hz]
  simp (disch := first | rfl | decide) only [View.readCov_skip, View.readCov_fill]
  rw [View.canon_cons_unit_zero hz]
  refine (loss_pay (xB m c t) (tB m c t) (gB m c t) _ s k).trans ?_
  pointwise [k0_pay4]

theorem loss_B (c : Dev nD) (t : Fin cfg0.N) (h0 : ¬t.val % 16 = 0) (s : Fin 8) (k : Fin 128) :
    (outsAt0 m c t.val t.isLt).2.2 (ix2 s k)
      = (outsAt0 m c (t.val - 1) (Nat.lt_of_le_of_lt (Nat.sub_le _ _) t.isLt)).2.2 (ix2 s k) + Ideal.ofBits FTy.f32 0x3F000000#32 * ∑ a : Fin 1024, mse (xB m c t) (gB m c t) (tB m c t) a := by
  rw [outsAt0_B m c t h0]
  dsimp only
  unfold out0_B_5
  rw [View.read_writes_eq_canon _ _ _ (by intro y; apply cover0_B_5)]
  unfold kernelRun0_B
  dsimp only
  sl_unfold_words
  simp only [View.readAt_eq_ld, (hs0_0 t).read_unread, (hs0_1 t).read_unread, (hs0_2 t).read_unread, (hs0_4 t).read_unread, (hs0_5 t).read_unread, View.ld_unit_zero (S := S1024x1024) hz, View.ld_unit_zero (S := S1x1024) hz, View.ld_unit_zero (S := S8x128) hz]
  rw [View.canon_unit_zero hz]
  exact loss_pay (xB m c t) (tB m c t) (gB m c t) _ s k

end Cert.Proof.LossHead
-- ==== Proof.LossHead.Ref.lean ====
module

public import proofs.«01_k».proof.Proof.Gen.Reference8Ideal.Read
public import proofs.«01_k».proof.Proof.LossHead.Blocks

@[expose] public section

set_option maxRecDepth 16384

noncomputable section

/-! The three results of the reference of the loss head, entry by entry. -/

namespace Cert.Proof.LossHead

open Cert.Reference8Ideal Cert.Reference8Ideal.Gen Cert.Reference8Ideal.Read Idealize.ShloMosaic Idealize.ShloMosaic.TcCoe Idealize.SL.Sem
open Cert.Proof.OutProj (ofBits_eps ofBits_neg_half grad_eq_of)
open Cert.Proof.FfnBwd (rinv gradK rowOf ofBits_1024 ofBits_two)

variable (x : Vec Ideal S16384x1024 .f32) (g : Vec Ideal S1x1024 .f32) (u : Vec Ideal S16384x1024 .f32)

/-- The word of one half. -/
theorem ofBits_half : Ideal.ofBits FTy.f32 0x3F000000#32 = ((1/2 : ℝ) : EReal) := by
  simp [Ideal.ofBits, Ideal.ieee, -EReal.coe_mul]; norm_num

/-- The word of one. -/
theorem ofBits_one : Ideal.ofBits FTy.f32 0x3F800000#32 = ((1 : ℝ) : EReal) := by
  simp [Ideal.ofBits, Ideal.ieee, -EReal.coe_mul]; norm_num

/-- The word of one 1024th. -/
theorem ofBits_r1024 : Ideal.ofBits FTy.f32 0x3A800000#32 = ((1/1024 : ℝ) : EReal) := by
  simp [Ideal.ofBits, Ideal.ieee, -EReal.coe_mul]; norm_num

/-- Half of one over 1024, times twice a number, is the number's 1024th part. -/
theorem scale_eq (e : EReal) : Ideal.div (Ideal.ofBits FTy.f32 0x3F000000#32 * Ideal.ofBits FTy.f32 0x3F800000#32) (Ideal.ofBits FTy.f32 0x44800000#32)
    * (Ideal.ofBits FTy.f32 0x40000000#32 * e) = e * Ideal.ofBits FTy.f32 0x3A800000#32 := by
  rw [ofBits_half, ofBits_one, ofBits_r1024, ofBits_1024, ofBits_two, ← mul_assoc, mul_comm e]
  refine congrArg (· * e) ?_
  rw [← EReal.coe_mul, Ideal.div_coe (by norm_num), ← EReal.coe_mul, ← EReal.coe_mul]
  norm_num

/-- The error. -/
theorem ref_err (s : Fin 16384) (k : Fin 1024) : val_main_v15 (F := Ideal) x g u (ix2 s k) = err x g u s k := by
  unfold err rinv rowOf
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_cst_3, val_main_cst_4, val_main_cst_5, val_main_cst_6, val_main_cst_7, val_main_cst_8, val_main_cst_9, val_main_cst_10, val_main_cst_11, val_main_cst_12, val_main_cst_13, val_main_cst_14]

/-- The gradient of the normed and gained rows. -/
theorem ref_dy (s : Fin 16384) (k : Fin 1024) : val_main_v29 (F := Ideal) x g u (ix2 s k) = dyK x g u s k := by
  refine Eq.trans ?_ (scale_eq (err x g u s k))
  pointwise [val_main_cst, val_main_cst_0, val_main_cst_1, val_main_cst_2, val_main_cst_3, val_main_v17, val_main_v18, val_main_cst_4, val_main_cst_5, val_main_cst_6, val_main_cst_7, val_main_cst_8, val_main_cst_9, val_main_v24, val_main_v25, val_main_cst_10, val_main_v26, val_main_v27, val_main_v28, val_main_v29, val_main_cst_11, val_main_cst_12, val_main_cst_13, val_main_cst_14]
  simp only [ref_err]

/-- The gradient of the gain. -/
theorem ref_dg (a : Fin 1) (k : Fin 1024) : val_main_v32 (F := Ideal) x g u (ix2 a k) = ∑ s : Fin 16384, dgRow x g u k s := by
  unfold dgRow rinv rowOf
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_cst_3, val_main_cst_4, val_main_cst_5, val_main_cst_6, val_main_cst_7, val_main_cst_8, val_main_cst_9, val_main_cst_10, val_main_cst_11, val_main_cst_12, val_main_cst_13, val_main_cst_14, val_main_v30, val_main_v31, val_main_v32]
  simp only [ref_dy]
  exact Finset.sum_congr rfl fun s _ => mul_comm _ _

/-- The gradient of the argument. -/
theorem ref_dx (s : Fin 16384) (k : Fin 1024) : val_main_v48 (F := Ideal) x g u (ix2 s k) = dxR x g u s k := by
  obtain ⟨e, he, heq⟩ := ofBits_eps
  have key := grad_eq_of 1024 (by norm_num) (rowOf x s) (fun j => dyK x g u s j * g (ix2 0 j)) k e he
  simp only [← heq, ← ofBits_1024, ← ofBits_neg_half] at key
  unfold dxR gradK rinv
  refine Eq.trans ?_ key.symm
  clear key
  unfold rowOf
  pointwise [val_main_v0, val_main_cst, val_main_v1, val_main_v2, val_main_cst_0, val_main_v3, val_main_v4, val_main_cst_1, val_main_v5, val_main_v6, val_main_v7, val_main_v8, val_main_cst_2, val_main_v9, val_main_v10, val_main_cst_3, val_main_cst_4, val_main_cst_5, val_main_cst_6, val_main_cst_7, val_main_cst_8, val_main_cst_9, val_main_cst_10, val_main_cst_11, val_main_cst_12, val_main_cst_13, val_main_cst_14, val_main_cst, val_main_cst_0, val_main_cst_1, val_main_cst_2, val_main_cst_3, val_main_cst_4, val_main_cst_5, val_main_cst_6, val_main_cst_7, val_main_cst_8, val_main_cst_9, val_main_cst_10, val_main_cst_11, val_main_v33, val_main_v34, val_main_v35, val_main_cst_12, val_main_v36, val_main_v37, val_main_v38, val_main_v39, val_main_v40, val_main_cst_13, val_main_v41, val_main_v42, val_main_cst_14, val_main_v43, val_main_v44, val_main_v45, val_main_v46, val_main_v47, val_main_v48]
  simp only [ref_dy, Fin.sum_univ_one]

/-- The loss, at every entry. -/
theorem ref_loss (a : Fin 8) (k : Fin 128) : val_main_v49 (F := Ideal) x g u (ix2 a k)
    = Ideal.ofBits FTy.f32 0x3F000000#32 * ∑ s : Fin 16384, mse x g u s := by
  unfold mse
  pointwise [val_main_cst, val_main_cst_0, val_main_cst_1, val_main_cst_2, val_main_cst_3, val_main_cst_4, val_main_v19, val_main_cst_5, val_main_v20, val_main_v21, val_main_cst_6, val_main_v22, val_main_cst_7, val_main_v23, val_main_cst_8, val_main_cst_9, val_main_cst_10, val_main_cst_11, val_main_cst_12, val_main_cst_13, val_main_cst_14, val_main_v16, val_main_v49]
  simp only [ref_err]

end Cert.Proof.LossHead
-- ==== Proof.LossHead.Final.lean ====
module

public import proofs.«01_k».proof.Proof.LossHead.Ref

@[expose] public section

set_option maxRecDepth 16384

noncomputable section

/-! The three arrays that the loss head ends with, entry by entry. -/

namespace Cert.Proof.LossHead

open Cert.Kernel8Ideal Cert.Kernel8Ideal.Gen Cert.Kernel8Ideal.Value Idealize.ShloMosaic Idealize.ShloMosaic.TcCoe Idealize.SL.Sem
open Idealize.ShloMosaic.Pipeline (Dat)
open Cert.Proof.FfnBwd (rinv gradK rowOf)
open Cert.Proof.Rows

variable (m : (ℓ : Loc nD τ sig) → Buf (Elt Ideal) ℓ)

/-- The three arguments. -/
def aX (c : Dev nD) : Vec Ideal S16384x1024 .f32 := m ((c : Thread nD τ).loc main_arg0)
def aG (c : Dev nD) : Vec Ideal S1x1024 .f32 := m ((c : Thread nD τ).loc main_arg1)
def aT (c : Dev nD) : Vec Ideal S16384x1024 .f32 := m ((c : Thread nD τ).loc main_arg2)

theorem lt16 (t : Fin cfg0.N) : t.val < 16 := Nat.lt_of_lt_of_eq t.isLt N_0

/-- The last grid point. -/
def tL : Fin cfg0.N := ⟨15, Nat.lt_of_lt_of_eq (by decide) N_0.symm⟩

theorem index_0 : ∀ t : Fin cfg0.N, win0_0.index t = ![t.val, 0] :=
  (by decide +kernel : ∀ t : Fin grid0.N, win0_0.index t = ![t.val, 0])

theorem index_1 : ∀ t : Fin cfg0.N, win0_1.index t = ![0, 0] :=
  (by decide +kernel : ∀ t : Fin grid0.N, win0_1.index t = ![0, 0])

theorem index_2 : ∀ t : Fin cfg0.N, win0_2.index t = ![t.val, 0] :=
  (by decide +kernel : ∀ t : Fin grid0.N, win0_2.index t = ![t.val, 0])

theorem index_3 : ∀ t : Fin cfg0.N, win0_3.index t = ![t.val, 0] :=
  (by decide +kernel : ∀ t : Fin grid0.N, win0_3.index t = ![t.val, 0])

theorem index_4 : ∀ t : Fin cfg0.N, win0_4.index t = ![0, 0] :=
  (by decide +kernel : ∀ t : Fin grid0.N, win0_4.index t = ![0, 0])

theorem index_5 : ∀ t : Fin cfg0.N, win0_5.index t = ![0, 0] :=
  (by decide +kernel : ∀ t : Fin grid0.N, win0_5.index t = ![0, 0])

theorem xB_at (c : Dev nD) (t : Fin cfg0.N) (s : Fin 1024) (k : Fin 1024) :
    xB m c t (ix2 s k) = aX m c (ix2 (rowAt t.val s (lt16 t)) k) := by
  unfold xB aX rowAt
  blk_simp [iblk, index_0]
  refine congrArg (m _) ?_
  funext a
  apply Fin.ext
  match a with
  | ⟨0, _⟩ => blk_simp [index_0]
  | ⟨1, _⟩ => blk_simp [index_0]

theorem tB_at (c : Dev nD) (t : Fin cfg0.N) (s : Fin 1024) (k : Fin 1024) :
    tB m c t (ix2 s k) = aT m c (ix2 (rowAt t.val s (lt16 t)) k) := by
  unfold tB aT rowAt
  blk_simp [iblk, index_2]
  refine congrArg (m _) ?_
  funext a
  apply Fin.ext
  match a with
  | ⟨0, _⟩ => blk_simp [index_2]
  | ⟨1, _⟩ => blk_simp [index_2]

theorem gB_eq (c : Dev nD) (t : Fin cfg0.N) : gB m c t = aG m c := by
  funext j
  unfold gB aG
  blk_simp [iblk, index_1]
  refine congrArg (m _) ?_
  funext a
  apply Fin.ext
  match a with
  | ⟨0, _⟩ => blk_simp [index_1]
  | ⟨1, _⟩ => blk_simp [index_1]

theorem row_at (c : Dev nD) (t : Fin cfg0.N) (s : Fin 1024) : rowOf (xB m c t) s = rowOf (aX m c) (rowAt t.val s (lt16 t)) :=
  funext fun k => xB_at m c t s k

theorem err_at (c : Dev nD) (t : Fin cfg0.N) (s k : Fin 1024) : err (xB m c t) (gB m c t) (tB m c t) s k = err (aX m c) (aG m c) (aT m c) (rowAt t.val s (lt16 t)) k := by
  unfold err
  simp only [row_at, gB_eq, tB_at]

theorem dx_block (c : Dev nD) (t : Fin cfg0.N) (s k : Fin 1024) : (outsAt0 m c t.val t.isLt).1 (ix2 s k) = dxR (aX m c) (aG m c) (aT m c) (rowAt t.val s (lt16 t)) k := by
  by_cases h0 : t.val % 16 = 0
  · refine (dx_A m c t h0 s k).trans ?_
    unfold dxR dyK
    simp only [err_at]
    simp only [row_at, gB_eq]
  · refine (dx_B m c t h0 s k).trans ?_
    unfold dxR dyK
    simp only [err_at]
    simp only [row_at, gB_eq]

/-- The array of `dx` after the run, entry by entry. -/
theorem dx_array (c : Dev nD) : (dats m 0 c).arrAt 3 cfg0.N
    = (fun i => dxR (aX m c) (aG m c) (aT m c) (i 0) (i 1) : Vec Ideal S16384x1024 .f32) := by
  refine (dats m 0 c).arrAt_eq_of_covers 3 _ (by decide +kernel) fun t hf y => ?_
  blk_simp
  rw [after0_3]
  refine Eq.trans (congrArg _ (eq_ix2 (n0 := 1024) (n1 := 1024) y)) ?_
  refine (dx_block m c t (y 0) (y 1)).trans ?_
  have e0 : rowAt t.val (y 0) (lt16 t) = (((cfg0.win 3).blk t).view.emb y) 0 := by
    apply Fin.ext; blk_simp [index_3]; rfl
  have e1 : (y 1 : Fin 1024) = (((cfg0.win 3).blk t).view.emb y) 1 := by
    apply Fin.ext; blk_simp [index_3]
  exact congrArg₂ (fun (r : Fin 16384) (k : Fin 1024) => dxR (aX m c) (aG m c) (aT m c) r k) e0 e1

theorem addG_at (c : Dev nD) (t : Fin cfg0.N) (k : Fin 1024) :
    (∑ a : Fin 1024, dgRow (xB m c t) (gB m c t) (tB m c t) k a) = ∑ s : Fin 1024, dgRow (aX m c) (aG m c) (aT m c) k (rowAt t.val s (lt16 t)) := by
  unfold dgRow dyK
  simp only [err_at]
  simp only [row_at]

theorem addL_at (c : Dev nD) (t : Fin cfg0.N) :
    (∑ a : Fin 1024, mse (xB m c t) (gB m c t) (tB m c t) a) = ∑ s : Fin 1024, mse (aX m c) (aG m c) (aT m c) (rowAt t.val s (lt16 t)) := by
  unfold mse
  simp only [err_at]

theorem dg_upTo (c : Dev nD) : ∀ (n : ℕ) (hn : n < cfg0.N) (s : Fin 1) (k : Fin 1024),
    (outsAt0 m c n hn).2.1 (ix2 s k) = upTo (dgRow (aX m c) (aG m c) (aT m c) k) (n + 1)
  | 0, hn, s, k => by
    have h := dg_A m c ⟨0, hn⟩ rfl s k
    exact h.trans ((congrArg (0 + ·) (addG_at m c ⟨0, hn⟩ k)).trans (upTo_one _).symm)
  | n + 1, hn, s, k => by
    have h16 : n + 1 < 16 := Nat.lt_of_lt_of_eq hn N_0
    have h := dg_B m c ⟨n + 1, hn⟩ (by show ¬(n + 1) % 16 = 0; omega) s k
    refine h.trans ((congrArg (_ + ·) (addG_at m c ⟨n + 1, hn⟩ k)).trans ?_)
    refine Eq.trans ?_ (upTo_succ _ (n + 1) h16).symm
    exact congrArg (· + _) (dg_upTo c n (Nat.lt_of_succ_lt hn) s k)

/-- A half of a sum is the sum of the halves, whatever the summands are. -/
theorem half_add (a b : EReal) : Ideal.ofBits FTy.f32 0x3F000000#32 * a + Ideal.ofBits FTy.f32 0x3F000000#32 * b
    = Ideal.ofBits FTy.f32 0x3F000000#32 * (a + b) := by
  rw [ofBits_half]
  exact (EReal.left_distrib_of_nonneg_of_ne_top (by exact_mod_cast (by norm_num : (0 : ℝ) ≤ 1 / 2)) (EReal.coe_ne_top _) a b).symm

theorem loss_upTo (c : Dev nD) : ∀ (n : ℕ) (hn : n < cfg0.N) (s : Fin 8) (k : Fin 128),
    (outsAt0 m c n hn).2.2 (ix2 s k) = Ideal.ofBits FTy.f32 0x3F000000#32 * upTo (mse (aX m c) (aG m c) (aT m c)) (n + 1)
  | 0, hn, s, k => by
    have h := loss_A m c ⟨0, hn⟩ rfl s k
    refine h.trans ?_
    rw [addL_at, upTo_one, zero_add, zero_add]
  | n + 1, hn, s, k => by
    have h16 : n + 1 < 16 := Nat.lt_of_lt_of_eq hn N_0
    have h := loss_B m c ⟨n + 1, hn⟩ (by show ¬(n + 1) % 16 = 0; omega) s k
    refine h.trans ?_
    rw [addL_at, upTo_succ _ (n + 1) h16, ← half_add]
    exact congrArg (· + _) (loss_upTo c n (Nat.lt_of_succ_lt hn) s k)

/-- The gain's gradient after the run. -/
theorem dg_array (c : Dev nD) : (dats m 0 c).arrAt 4 cfg0.N
    = (fun i => ∑ s : Fin 16384, dgRow (aX m c) (aG m c) (aT m c) (i 1) s : Vec Ideal S1x1024 .f32) := by
  refine (dats m 0 c).arrAt_eq_of_after_last 4 tL (by decide +kernel) _ fun j => ?_
  blk_simp
  rw [after0_4]
  refine Eq.trans (congrArg _ (eq_ix2 (n0 := 1) (n1 := 1024) j)) ?_
  refine (dg_upTo m c 15 tL.isLt (j 0) (j 1)).trans ?_
  exact upTo_all _

/-- The loss after the run. -/
theorem loss_array (c : Dev nD) : (dats m 0 c).arrAt 5 cfg0.N
    = (fun _ => Ideal.ofBits FTy.f32 0x3F000000#32 * ∑ s : Fin 16384, mse (aX m c) (aG m c) (aT m c) s : Vec Ideal S8x128 .f32) := by
  refine (dats m 0 c).arrAt_eq_of_after_last 5 tL (by decide +kernel) _ fun j => ?_
  blk_simp
  rw [after0_5]
  refine Eq.trans (congrArg _ (eq_ix2 (n0 := 8) (n1 := 128) j)) ?_
  refine (loss_upTo m c 15 tL.isLt (j 0) (j 1)).trans ?_
  exact congrArg (Ideal.ofBits FTy.f32 0x3F000000#32 * ·) (upTo_all _)

end Cert.Proof.LossHead
-- ==== Proof.LossHead.Claims.lean ====
module

public import proofs.«01_k».proof.Defs
public import proofs.«01_k».proof.Proof.LossHead.Final
public import proofs.«01_k».proof.Proof.LossHead.Ref
public import proofs.«01_k».proof.Proof.Gen.Kernel8.Frame
public import proofs.«01_k».proof.Proof.Gen.Reference8Ideal.Run
public import Idealize.ShloMosaic.Adequacy
public import Idealize.ShloMosaic.Init

@[expose] public section

set_option maxRecDepth 16384

noncomputable section

/-! The claims about the loss head. -/

namespace Cert.Proof.LossHead

open Idealize.ShloMosaic Idealize.ShloMosaic.TcCoe Idealize.SL.Sem

/-- The frame of the loss head over the machine's floats. -/
theorem frame_bits : Cert.quiescent_Kernel8 := fun m ρ _ => Cert.Kernel8.Gen.frame m ρ

/-- Its frame over the reals. -/
theorem frame_ideal : Cert.quiescent_Kernel8Ideal := fun m ρ _ => Cert.Kernel8Ideal.Gen.frame m ρ

/-- The frame of its reference: the arguments are kept, and there is no counter. -/
theorem frame_ref : Cert.quiescent_Reference8Ideal := fun m ρ _ =>
  (θ_run Cert.Reference8Ideal.defs _ _).mono (fun r h => ⟨fun c => (h c).2.2.2,
      Idealize.ShloMosaic.sem_eq_zero_of_no_sems (by decide) r.2⟩)
    (Cert.Reference8Ideal.Value.run (F := Ideal) m ρ)

/-- The kernel and the gradient of the plain loss lines end with the same three arrays. -/
theorem algebraic : Cert.algebraic_Kernel8Ideal_Reference8Ideal := by
  intro m g m' g' _ hagree
  refine ⟨fun c => (Cert.Kernel8Ideal.Gen.dats m 0 c).arrAt 3 Cert.Kernel8Ideal.cfg0.N,
    fun c => (Cert.Kernel8Ideal.Gen.dats m 0 c).arrAt 4 Cert.Kernel8Ideal.cfg0.N,
    fun c => (Cert.Kernel8Ideal.Gen.dats m 0 c).arrAt 5 Cert.Kernel8Ideal.cfg0.N,
    Cert.Kernel8Ideal.Value.run_blocks m g, ?_⟩
  refine (θ_run Cert.Reference8Ideal.defs _ _).mono (fun r h c => ?_) (Cert.Reference8Ideal.Value.run (F := Ideal) m' g')
  obtain ⟨h0, h1, h2, hargs⟩ := h c
  obtain ⟨e0, e1, e2⟩ := hagree c
  refine ⟨?_, ?_, ?_, hargs⟩
  · refine h0.trans ?_
    refine (Cert.Reference8Ideal.Read.val_main_v48_eq (F := Ideal) _ _).trans ?_
    rw [e0, e1, e2]
    refine Eq.trans ?_ (dx_array m c).symm
    funext i
    refine Eq.trans (congrArg _ (eq_ix2 (n0 := 16384) (n1 := 1024) i)) ?_
    exact ref_dx _ _ _ _ _
  · refine h1.trans ?_
    refine (Cert.Reference8Ideal.Read.val_main_v32_eq (F := Ideal) _ _ _).trans ?_
    rw [e0, e1, e2]
    refine Eq.trans ?_ (dg_array m c).symm
    funext i
    refine Eq.trans (congrArg _ (eq_ix2 (n0 := 1) (n1 := 1024) i)) ?_
    exact ref_dg _ _ _ _ _
  · refine h2.trans ?_
    refine (Cert.Reference8Ideal.Read.val_main_v49_eq (F := Ideal) _ _ _).trans ?_
    rw [e0, e1, e2]
    refine Eq.trans ?_ (loss_array m c).symm
    funext i
    refine Eq.trans (congrArg _ (eq_ix2 (n0 := 8) (n1 := 128) i)) ?_
    exact ref_loss _ _ _ _ _

end Cert.Proof.LossHead
-- ==== Proof.GradUp.Slab.lean ====
/-
  The copies of the accumulator's columns into the slabs of a result left in memory, as a value.
-/
module

public import proofs.«01_k».proof.Proof.Gen.Kernel9Ideal.Frame.Runs
public import Idealize.ShloMosaic.Lib.Pointwise
public import Idealize.ShloMosaic.Lib.WritesUnit
public import Idealize.ShloMosaic.Lib.Claim

@[expose] public section

set_option maxRecDepth 16384

noncomputable section

namespace Cert.Proof.GradUp

open Cert.Kernel9Ideal Cert.Kernel9Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The accumulator after a block of rows. -/
def accOf (j : ℕ) (x0 : Vec F S1024x1024 .bf16) (x1 : Vec F S1024x4096 .bf16) (d : Vec F S1024x4096 .f32) : Vec F S1024x4096 .f32 :=
  k0_pay2 x1 (if j = 0 then (k0_pay1 (F := F) : Vec F S1024x4096 .f32) else d) x0

/-- The eight slabs of columns of a matrix. -/
def slabs (A : Vec F S1024x4096 .f32) : Vec F S8x1024x512 .f32 := fun y =>
  A (ix2 (y 1) ⟨512 * (y 0).val + (y 2).val, by have h0 : (y 0).val < 8 := (y 0).isLt; have h2 : (y 2).val < 512 := (y 2).isLt; omega⟩)

/-- A whole store of the accumulator leaves it, whatever was stored before. -/
theorem acc_store (f : (scM0_0).view.ty.Contents (Elt F)) (v : Vec F S1024x4096 .f32) (L : List (View.Piece (Elt F) S1024x4096 .f32)) :
    View.read (Elt F) scM0_0.view (scM0_0.view.writes (Elt F) f (⟨Rect.unit (s := S1024x4096) ![0, 0] S1024x4096.size inb_S1024x4096_S1024x4096_0_0, v⟩ :: L)) = v := by
  funext y
  refine View.read_writes_cons_unit_of_mem (Val := Elt F) scM0_0.view f _ _ L y y rfl fun a => ?_
  match a with
  | ⟨0, _⟩ => exact (Nat.zero_add _).symm
  | ⟨1, _⟩ => exact (Nat.zero_add _).symm

/-- The accumulator is zeroed exactly at the first block, and copied out exactly after the last. -/
theorem first_iff (i : grid0.Coords) :
    Scalar.cmpi .ne (Scalar.extui (Scalar.cmpi .eq (BitVec.ofNat 32 (i 0).val) 0#32)) 0#32 = 1#1 ↔ (i 0).val = 0 := by
  have h : ∀ j : Fin 16, Scalar.cmpi .ne (Scalar.extui (Scalar.cmpi .eq (BitVec.ofNat 32 j.val) 0#32)) 0#32 = 1#1 ↔ j.val = 0 := by decide +kernel
  exact h (i 0)
theorem last_iff (i : grid0.Coords) :
    Scalar.cmpi .ne (Scalar.extui (Scalar.cmpi .eq (BitVec.ofNat 32 (i 0).val) 15#32)) 0#32 = 1#1 ↔ (i 0).val = 15 := by
  have h : ∀ j : Fin 16, Scalar.cmpi .ne (Scalar.extui (Scalar.cmpi .eq (BitVec.ofNat 32 j.val) 15#32)) 0#32 = 1#1 ↔ j.val = 15 := by decide +kernel
  exact h (i 0)

/-- The slabs in place after the last block of rows. -/
def putSlabs (j : ℕ) (A : Vec F S1024x4096 .f32) (g : Vec F S8x1024x512 .f32) : Vec F S8x1024x512 .f32 :=
  if j = 15 then slabs A else g

/-- Dropping the slab's unit axis keeps row and column. -/
theorem drop_unit (k : Fin 1024) (l : Fin 512) (h : S1024x512.numel = S1x1024x512.numel) :
    Shape.reshapeEquiv h (ix2 k l) = (ix3 (0 : Fin 1) k l : S1x1024x512.Idx) := by
  have e := shapeCast_dropUnit_apply ![1024, 512] (fun x : S1x1024x512.Idx => x) (h : S1x1024x512.ShapeCasts S1024x512) (ix2 k l)
  refine Eq.trans e ?_
  funext a
  match a with
  | ⟨0, _⟩ => rfl
  | ⟨1, _⟩ => rfl
  | ⟨2, _⟩ => rfl

/-- A copy into the slab at `off` of the result, as the program writes it. -/
abbrev wr (off : Fin 3 → ℕ) (inb : ∀ a, off a + S1x1024x512.size a ≤ S8x1024x512.size a) (g : Vec F S8x1024x512 .f32) (w : Vec F S1024x512 .f32) : Vec F S8x1024x512 .f32 :=
  View.write (Elt F) (((Memref.whole main_v0).slice (Rect.unit (s := S8x1024x512) off S1x1024x512.size inb) (fun _ => rfl)).squeeze S1024x512
    squeezes_S1x1024x512_S1024x512).view g w Finset.univ

/-- What a copy reads of the accumulator, as the program reads it. -/
abbrev rd (off : Fin 2 → ℕ) (inb : ∀ a, off a + S1024x512.size a ≤ S1024x4096.size a) (f : (scM0_0).view.ty.Contents (Elt F)) : Vec F S1024x512 .f32 :=
  ReadAs.same.apply (View.read (Elt F) ((Memref.whole cc0_scratch0).slice (Rect.unit (s := S1024x4096) off S1024x512.size inb) (fun _ => rfl)).view f)

/-- A copy overwrites its slab. -/
theorem wr_apply (M : Memref sig .tc .hbm S8x1024x512 .f32) (off : Fin 3 → ℕ) (inb : ∀ a, off a + S1x1024x512.size a ≤ S8x1024x512.size a) (d : ℕ) (hoff : off = ![d, 0, 0])
    (g : M.view.ty.Contents (Elt F)) (w : Vec F S1024x512 .f32) (y : S8x1024x512.Idx) :
    View.read (Elt F) M.view (View.write (Elt F) ((M.slice (Rect.unit (s := S8x1024x512) off S1x1024x512.size inb) (fun _ => rfl)).squeeze S1024x512
      squeezes_S1x1024x512_S1024x512).view g w Finset.univ) y
      = if (y 0).val = d then w (ix2 (y 1) (y 2)) else View.read (Elt F) M.view g y := by
  refine (congrFun (congrArg (View.read (Elt F) M.view) (View.write_reshape_univ (Val := Elt F)
    (v := M.view.slice (Rect.unit (s := S8x1024x512) off S1x1024x512.size inb))
    squeezes_S1x1024x512_S1024x512.numel_eq g w)) y).trans ?_
  by_cases hy : (y 0).val = d
  · rw [if_pos hy]
    refine (View.read_writes_cons_unit_of_mem (Val := Elt F) M.view g _ _ [] y (ix3 (0 : Fin 1) (y 1) (y 2)) hoff fun a => ?_).trans ?_
    · match a with
      | ⟨0, _⟩ => exact hy
      | ⟨1, _⟩ => exact (Nat.zero_add _).symm
      | ⟨2, _⟩ => exact (Nat.zero_add _).symm
    · refine congrArg w ?_
      exact (Equiv.symm_apply_eq _).mpr (drop_unit (y 1) (y 2) _).symm
  · rw [if_neg hy]
    refine View.read_writes_cons_unit_of_not_mem (Val := Elt F) M.view g _ _ [] y hoff (0 : Fin 3) ?_
    show (y 0).val < d ∨ d + 1 ≤ (y 0).val
    omega

/-- A whole buffer reads as its contents. -/
theorem read_whole_mem (b : Ref sig .tc) (f : b.ty.Contents (Elt F)) : View.read (Elt F) (Memref.whole b).view f = f :=
  View.read_whole b f

/-- One slab put in place. -/
def put (d : ℕ) (w : Vec F S1024x512 .f32) (g : Vec F S8x1024x512 .f32) : Vec F S8x1024x512 .f32 :=
  fun y => if (y 0).val = d then w (ix2 (y 1) (y 2)) else g y

theorem wr_eq (off : Fin 3 → ℕ) (inb) (d : ℕ) (hoff : off = ![d, 0, 0]) (g : Vec F S8x1024x512 .f32) (w : Vec F S1024x512 .f32) :
    wr off inb g w = put d w g := by
  refine (read_whole_mem main_v0 _).symm.trans (funext fun y => (wr_apply (F := F) (Memref.whole main_v0) off inb d hoff g w y).trans ?_)
  unfold put
  rw [read_whole_mem main_v0 g]

/-- Columns `512 d` to `512 d + 511` of a matrix. -/
def cols (A : Vec F S1024x4096 .f32) (d : Fin 8) : Vec F S1024x512 .f32 :=
  fun y => A (ix2 (y 0) ⟨512 * d.val + (y 1).val, by have : (y 1).val < 512 := (y 1).isLt; omega⟩)

theorem rd_eq (off : Fin 2 → ℕ) (inb) (d : Fin 8) (hoff : off = ![0, 512 * d.val]) (f : (scM0_0).view.ty.Contents (Elt F)) (A : Vec F S1024x4096 .f32)
    (hf : View.read (Elt F) scM0_0.view f = A) : rd off inb f = cols A d := by
  subst hoff hf
  funext y
  show View.read (Elt F) scM0_0.view f ((Rect.unit (s := S1024x4096) ![0, 512 * d.val] S1024x512.size inb).emb y) = _
  refine congrArg (View.read (Elt F) scM0_0.view f) (funext fun a => Fin.ext ?_)
  match a with
  | ⟨0, _⟩ => exact (congrArg (0 + ·) (Nat.one_mul _)).trans (Nat.zero_add _)
  | ⟨1, _⟩ => exact congrArg (512 * d.val + ·) (Nat.one_mul _)

/-- All eight slabs put in place. -/
theorem put_all (A : Vec F S1024x4096 .f32) (g : Vec F S8x1024x512 .f32) :
    put 7 (cols A 7) (put 6 (cols A 6) (put 5 (cols A 5) (put 4 (cols A 4) (put 3 (cols A 3) (put 2 (cols A 2) (put 1 (cols A 1) (put 0 (cols A 0) g))))))) = slabs A := by
  funext y
  have hy : (y 0).val < 8 := (y 0).isLt
  unfold put slabs cols
  obtain h | h | h | h | h | h | h | h : (y 0).val = 0 ∨ (y 0).val = 1 ∨ (y 0).val = 2 ∨ (y 0).val = 3 ∨ (y 0).val = 4 ∨ (y 0).val = 5 ∨ (y 0).val = 6 ∨ (y 0).val = 7 := by omega
  all_goals
    simp only [h]
    rfl

/-- The eight copies the program makes after the last block leave the accumulator's slabs. -/
theorem write_all (f : (scM0_0).view.ty.Contents (Elt F)) (A : Vec F S1024x4096 .f32) (g : Vec F S8x1024x512 .f32)
    (hf : View.read (Elt F) scM0_0.view f = A) :
    wr ![7, 0, 0] inb_S8x1024x512_S1x1024x512_7_0_0 (wr ![6, 0, 0] inb_S8x1024x512_S1x1024x512_6_0_0 (wr ![5, 0, 0] inb_S8x1024x512_S1x1024x512_5_0_0 (wr ![4, 0, 0] inb_S8x1024x512_S1x1024x512_4_0_0 (wr ![3, 0, 0] inb_S8x1024x512_S1x1024x512_3_0_0 (wr ![2, 0, 0] inb_S8x1024x512_S1x1024x512_2_0_0 (wr ![1, 0, 0] inb_S8x1024x512_S1x1024x512_1_0_0 (wr ![0, 0, 0] inb_S8x1024x512_S1x1024x512_0_0_0 g (rd ![0, 0] inb_S1024x4096_S1024x512_0_0 f)) (rd ![0, 512] inb_S1024x4096_S1024x512_0_512 f)) (rd ![0, 1024] inb_S1024x4096_S1024x512_0_1024 f)) (rd ![0, 1536] inb_S1024x4096_S1024x512_0_1536 f)) (rd ![0, 2048] inb_S1024x4096_S1024x512_0_2048 f)) (rd ![0, 2560] inb_S1024x4096_S1024x512_0_2560 f)) (rd ![0, 3072] inb_S1024x4096_S1024x512_0_3072 f)) (rd ![0, 3584] inb_S1024x4096_S1024x512_0_3584 f)
      = slabs A := by
  rw [rd_eq _ inb_S1024x4096_S1024x512_0_0 0 rfl f A hf, wr_eq _ _ 0 rfl, rd_eq _ inb_S1024x4096_S1024x512_0_512 1 rfl f A hf, wr_eq _ _ 1 rfl, rd_eq _ inb_S1024x4096_S1024x512_0_1024 2 rfl f A hf, wr_eq _ _ 2 rfl, rd_eq _ inb_S1024x4096_S1024x512_0_1536 3 rfl f A hf, wr_eq _ _ 3 rfl, rd_eq _ inb_S1024x4096_S1024x512_0_2048 4 rfl f A hf, wr_eq _ _ 4 rfl, rd_eq _ inb_S1024x4096_S1024x512_0_2560 5 rfl f A hf, wr_eq _ _ 5 rfl, rd_eq _ inb_S1024x4096_S1024x512_0_3072 6 rfl f A hf, wr_eq _ _ 6 rfl, rd_eq _ inb_S1024x4096_S1024x512_0_3584 7 rfl f A hf, wr_eq _ _ 7 rfl, put_all]

end Cert.Proof.GradUp

end
-- ==== Proof.GradUp.Body.lean ====
/-
  The body's run at any grid point: the accumulator takes the block's product on top of what it held (of nothing at the first
  block), and after the last block its eight slabs of columns are in the result.
-/
module

public import proofs.«01_k».proof.Proof.GradUp.Slab
public import Idealize.ShloMosaic.Lib.Claim
public import Idealize.ShloMosaic.Lib.VecWindow

@[expose] public section

set_option maxRecDepth 16384

noncomputable section

namespace Cert.Proof.GradUp

open Cert.Kernel9Ideal Cert.Kernel9Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem hz2 : (![0, 0] : Fin 2 → ℕ) = fun _ => 0 := by funext a; fin_cases a <;> rfl

/-- The block's product on top of the accumulator's contents `A`, read off the staging memrefs. -/
theorem acc_walk (arg1 : Memref sig .tc .vmem S1024x1024 .bf16) (harg1 : arg1.IsWhole) (arg2 : Memref sig .tc .vmem S1024x4096 .bf16) (harg2 : arg2.IsWhole)
    (x0 : Vec F S1024x1024 .bf16) (x1 : Vec F S1024x4096 .bf16) (w A : Vec F S1024x4096 .f32) (hw : w = A)
    (f : (scM0_0).view.ty.Contents (Elt F)) (L : List (View.Piece (Elt F) S1024x4096 .f32)) :
    View.read (Elt F) scM0_0.view (scM0_0.view.writes (Elt F) f (⟨Rect.unit (s := S1024x4096) ![0, 0] ![1024, 4096] inb_S1024x4096_S1024x4096_0_0,
      k0_pay2 (View.readAt (Elt F) arg2.view (Rect.unit (s := S1024x4096) ![0, 0] ![1024, 4096] inb_S1024x4096_S1024x4096_0_0).toLoadRect (harg2.unread x1))
        w (View.readAt (Elt F) arg1.view (Rect.unit (s := S1024x1024) ![0, 0] ![1024, 1024] inb_S1024x1024_S1024x1024_0_0).toLoadRect (harg1.unread x0))⟩ :: L))
      = k0_pay2 x1 A x0 := by
  subst hw
  refine (acc_store f _ L).trans ?_
  have e2 : View.readAt (Elt F) arg2.view (Rect.unit (s := S1024x4096) ![0, 0] ![1024, 4096] inb_S1024x4096_S1024x4096_0_0).toLoadRect (harg2.unread x1) = x1 := by
    rw [View.readAt_eq_ld, harg2.read_unread]; exact View.ld_unit_zero (S := S1024x4096) hz2 _ _
  have e1 : View.readAt (Elt F) arg1.view (Rect.unit (s := S1024x1024) ![0, 0] ![1024, 1024] inb_S1024x1024_S1024x1024_0_0).toLoadRect (harg1.unread x0) = x0 := by
    rw [View.readAt_eq_ld, harg1.read_unread]; exact View.ld_unit_zero (S := S1024x1024) hz2 _ _
  rw [e1, e2]

/-- A whole load of the accumulator reads its contents. -/
theorem acc_load (f : (scM0_0).view.ty.Contents (Elt F)) (d : Vec F S1024x4096 .f32) (hf : View.read (Elt F) scM0_0.view f = d) :
    View.readAt (Elt F) scM0_0.view (Rect.unit (s := S1024x4096) ![0, 0] ![1024, 4096] inb_S1024x4096_S1024x4096_0_0).toLoadRect f = d := by
  rw [View.readAt_eq_ld, hf]; exact View.ld_unit_zero (S := S1024x4096) hz2 _ _

theorem accOf_pos (j : ℕ) (hj : j = 0) (x0 : Vec F S1024x1024 .bf16) (x1 : Vec F S1024x4096 .bf16) (d : Vec F S1024x4096 .f32) :
    k0_pay2 x1 (k0_pay1 (F := F)) x0 = accOf j x0 x1 d := by
  unfold accOf; rw [if_pos hj]
theorem accOf_neg (j : ℕ) (hj : j ≠ 0) (x0 : Vec F S1024x1024 .bf16) (x1 : Vec F S1024x4096 .bf16) (d : Vec F S1024x4096 .f32) :
    k0_pay2 x1 d x0 = accOf j x0 x1 d := by
  unfold accOf; rw [if_neg hj]

theorem putSlabs_pos (j : ℕ) (hj : j = 15) (A : Vec F S1024x4096 .f32) (g : Vec F S8x1024x512 .f32) : putSlabs j A g = slabs A := if_pos hj
theorem putSlabs_neg (j : ℕ) (hj : j ≠ 15) (A : Vec F S1024x4096 .f32) (g : Vec F S8x1024x512 .f32) : putSlabs j A g = g := if_neg hj

/-- A load of the whole accumulator after a store of the whole accumulator reads what was stored. -/
theorem zero_load (w : Vec F S1024x4096 .f32) :
    scM0_0.view.readCov [⟨Rect.unit ![0, 0] ![1024, 4096] inb_S1024x4096_S1024x4096_0_0, w⟩]
      (Rect.unit ![0, 0] ![1024, 4096] inb_S1024x4096_S1024x4096_0_0).toLoadRect = w :=
  View.readCov_full (s := S1024x4096) scM0_0.view inb_S1024x4096_S1024x4096_0_0 inb_S1024x4096_S1024x4096_0_0 w []

attribute [local irreducible] k0_pay1 k0_pay2 accOf slabs putSlabs in
set_option maxHeartbeats 400000 in
/-- The body's run. -/
theorem body_run (c : Dev nD) (i : grid0.Coords) (arg1 : Memref sig .tc .vmem S1024x1024 .bf16) (harg1 : arg1.IsWhole) (arg2 : Memref sig .tc .vmem S1024x4096 .bf16) (harg2 : arg2.IsWhole) (arg5 : Memref sig .tc .vmem S1024x512 .f32) (harg5 : arg5.IsWhole)
    (x0 : Vec F S1024x1024 .bf16) (x1 : Vec F S1024x4096 .bf16) (d4 : Vec F S1024x4096 .f32) (g0 : Vec F S8x1024x512 .f32) (W : Waits sig Unit) (K : PUnit → sProp 𝕄) :
    iprop(owns (c : Thread nD τ) arg1 fullShare x0 ∗ owns (c : Thread nD τ) arg2 fullShare x1 ∗ owns (c : Thread nD τ) scM0_0 fullShare d4
    ∗ semVal ((c : Thread nD τ), SemLoc.dma 4) 0 ∗ hbPt0 c hbM0_0 g0 ∗ owes (c : Thread nD τ) 0 W
    ∗ (iprop(owns (c : Thread nD τ) arg1 fullShare x0 ∗ owns (c : Thread nD τ) arg2 fullShare x1 ∗ owns (c : Thread nD τ) scM0_0 fullShare (accOf (i 0).val x0 x1 d4)
    ∗ semVal ((c : Thread nD τ), SemLoc.dma 4) 0 ∗ hbPt0 c hbM0_0 (putSlabs (i 0).val (accOf (i 0).val x0 x1 d4) g0) ∗ (∃ W', owes (c : Thread nD τ) 0 W')) -∗ K ⟨⟩))
    ⊢ wp frame (wpE (defs₀ (F := F)) Variants.nat c none) Set.univ (cc0_grad_w_up i arg1 harg1 arg2 harg2 (Memref.whole main_v0) (Memref.isWhole_whole _) (Memref.whole cc0_scratch0) (Memref.isWhole_whole _) arg5 harg5 cc0_scratch2) K := by
  by_cases hc0 : Scalar.cmpi .ne (Scalar.extui (Scalar.cmpi .eq (BitVec.ofNat 32 (i 0).val) 0#32)) 0#32 = 1#1 <;>
  by_cases hc1 : Scalar.cmpi .ne (Scalar.extui (Scalar.cmpi .eq (BitVec.ofNat 32 (i 0).val) 15#32)) 0#32 = 1#1
  · exact absurd (((first_iff i).mp hc0).symm.trans ((last_iff i).mp hc1)) (by decide)
  all_goals
    simp only [cc0_grad_w_up_eq_skeleton]; unfold cc0_grad_w_up_skel
    simp only [k0_part1_eq_skeleton, k0_part2_eq_skeleton, k0_part3_eq_skeleton]
    unfold owns
    iintro ⟨⟨%f0, %hf0, H0⟩, ⟨%f1, %hf1, H1⟩, ⟨%fs0, %hs0, HS0⟩, Hq0, Hh0, HW, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS0]
    · iexists _; isplitr; swap; · iexact HS0
      ipureintro
      first
        | unfold body_run.sl.HS0_1_1 body_run.sl.v4
        | unfold body_run.sl.HS0_1_1
        | unfold body_run.sl.HS0_1_2
        | skip
      clear hf0 hf1 W K g0 arg5 harg5
      by_cases hz : (i 0).val = 0
      · first
          | exact absurd ((first_iff i).mpr hz) hc0
          | (refine (acc_walk arg1 harg1 arg2 harg2 x0 x1 _ (k0_pay1 (F := F)) ?_ fs0 _).trans (accOf_pos _ hz x0 x1 d4)
             unfold body_run.sl.v4
             try unfold body_run.sl.HS0_1
             exact zero_load _)
      · first
          | exact absurd ((first_iff i).mp hc0) hz
          | exact (acc_walk arg1 harg1 arg2 harg2 x0 x1 _ d4 (acc_load fs0 d4 hs0) fs0 _).trans (accOf_neg _ hz x0 x1 d4)
    isplitl [Hq0]; · iexact Hq0
    isplitl [Hh0]
    · by_cases hz : (i 0).val = 15
      · first
          | exact absurd ((last_iff i).mpr hz) hc1
          | (unfold body_run.sl.dma5 body_run.sl.dma5_1 body_run.sl.dma5_2 body_run.sl.dma5_3 body_run.sl.dma5_4 body_run.sl.dma5_5 body_run.sl.dma5_6 body_run.sl.dma5_7
             first
               | unfold body_run.sl.HS0_1_1
               | unfold body_run.sl.HS0_1
             rw [putSlabs_pos _ hz, ← write_all _ _ g0 ((acc_walk arg1 harg1 arg2 harg2 x0 x1 _ d4 (acc_load fs0 d4 hs0) fs0 []).trans (accOf_neg (i 0).val (by omega) x0 x1 d4))]
             iexact Hh0)
      · first
          | exact absurd ((last_iff i).mp hc1) hz
          | (rw [putSlabs_neg _ hz]
             iexact Hh0)
    iexists _; iexact HW

end Cert.Proof.GradUp

end
-- ==== Proof.GradUp.Frame.lean ====
/-
  The up projection's weight gradient, its run: the pipeline's proof data (the accumulator as the blocks so far leave it, the
  result untouched until the last block), the body obligation from the body's run, the launch, and the claim that every
  execution ends with the arguments unchanged and every counter at zero.
-/
module

public import proofs.«01_k».proof.Proof.GradUp.Body
public import Idealize.ShloMosaic.Lib.Claim
public import Idealize.ShloMosaic.Lib.Pipeline.FrameValue

@[expose] public section

set_option maxRecDepth 16384

noncomputable section

namespace Cert.Proof.GradUp

open Cert.Kernel9Ideal Cert.Kernel9Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The launch's invariant, the copied result at given contents, conjunct by conjunct. -/
theorem PhiDRG0_eq (G : (c : Dev nD) → (b : Ref sig .tc) → Buf (Elt F) ((c : Thread nD τ).loc b)) (c : Dev nD) :
    (Pipeline.ΦDRG osem0 spec0 H0 R0 (V m) G c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 4) 0) ∗ iprop(emp) ∗ iprop(hbPt0 c hbM0_0 (G c main_v0))) := by
  have hr : (Pipeline.routed R0 c (G c) : sProp 𝕄) = iprop(hbPt0 c hbM0_0 (G c main_v0)) := by
    unfold Pipeline.routed; rw [BI.bigSep_eq_bigSepL_of_eq [main_v0] (by decide) (by decide)]; rfl
  rw [Pipeline.ΦDRG_eq, scopedRest0_eq, ownSems00_eq, hbmPts0_eq, hr]; simp only [scM0_0, scM0_1, owns_whole]; try rfl

theorem point_v : ∀ t : Fin grid0.N, ((grid0.coords t) 0).val = t.val := by decide +kernel

/-- The accumulator after the first `n` blocks. -/
def accAt (c : Dev nD) : ℕ → Vec F S1024x4096 .f32
  | 0 => k0_pay1
  | n + 1 => if h : n < cfg0.N then accOf n (iblk m c 0 ⟨n, h⟩) (iblk m c 1 ⟨n, h⟩) (accAt c n) else accAt c n

theorem accAt_succ (c : Dev nD) (t : Fin cfg0.N) : accAt m c (t.val + 1) = accOf t.val (iblk m c 0 t) (iblk m c 1 t) (accAt m c t.val) :=
  dif_pos t.isLt

theorem accOf_first (j : ℕ) (hj : j = 0) (x0 : Vec F S1024x1024 .bf16) (x1 : Vec F S1024x4096 .bf16) (d d' : Vec F S1024x4096 .f32) :
    accOf j x0 x1 d = accOf j x0 x1 d' := by
  unfold accOf; rw [if_pos hj, if_pos hj]

/-- One more block. -/
theorem acc_step (c : Dev nD) (t : Fin cfg0.N) (d : Vec F S1024x4096 .f32) (hd : t.val ≠ 0 → d = accAt m c t.val) :
    accOf ((grid0.coords t) 0).val (iblk m c 0 t) (iblk m c 1 t) d = accAt m c (t.val + 1) := by
  rw [accAt_succ, point_v t]
  by_cases h : t.val = 0
  · exact accOf_first _ h _ _ _ _
  · rw [hd h]

/-- The result after the first `n` blocks, from the contents `g` it had at the start. -/
def copied (c : Dev nD) (g : Vec F S8x1024x512 .f32) (n : ℕ) : Vec F S8x1024x512 .f32 := if n = 16 then slabs (accAt m c 16) else g

theorem copied_step (c : Dev nD) (g : Vec F S8x1024x512 .f32) (t : Fin cfg0.N) (x : Vec F S1024x4096 .f32) (hx : x = accAt m c (t.val + 1)) :
    putSlabs ((grid0.coords t) 0).val x (copied m c g t.val) = copied m c g (t.val + 1) := by
  have ht : t.val < 16 := Nat.lt_of_lt_of_eq t.isLt N_0
  subst hx
  rw [point_v t]
  unfold putSlabs copied
  by_cases h : t.val = 15
  · rw [if_pos h, if_pos (by omega), h]
  · rw [if_neg h, if_neg (by omega), if_neg (by omega)]

/-- What holds between points, after the first `n`. -/
def inv (c : Dev nD) (n : ℕ) : sProp 𝕄 :=
  iprop(iprop((∃ d, iprop(⌜n ≠ 0 → d = accAt m c n⌝ ∗ owns (c : Thread nD τ) scM0_0 fullShare d)) ∗ (∃ d, owns (c : Thread nD τ) scM0_1 fullShare d))
    ∗ (∃ r, prngReg c r) ∗ iprop(semVal ((c : Thread nD τ), SemLoc.dma 4) 0) ∗ iprop(emp)
    ∗ iprop((∃ g, hbPt0 c hbM0_0 (copied m c g n))))

/-- What the run leaves in the result. -/
def outs (c : Dev nD) (b : Ref sig .tc) : Buf (Elt F) ((c : Thread nD τ).loc b) :=
  Function.update (V m c) main_v0 (slabs (accAt m c 16)) b

theorem outs_0 (c : Dev nD) : outs m c main_v0 = slabs (accAt m c 16) := by
  unfold outs
  rw [Function.update_self]

/-- The launch gives what holds before the first point. -/
theorem inv_in (c : Dev nD) : (Pipeline.ΦDRG osem0 spec0 H0 R0 (V m) (V m) c : sProp 𝕄) ⊢ inv m c 0 := by
  rw [PhiDRG0_eq]
  unfold inv
  iintro ⟨⟨⟨%d0, HS0⟩, HS1⟩, Hg, Hq, He, Hh0⟩
  isplitl [HS0 HS1]
  · isplitl [HS0]
    · iexists d0; isplitr; · ipureintro; exact fun h => absurd rfl h
      iexact HS0
    · iexact HS1
  isplitl [Hg]; · iexact Hg
  isplitl [Hq]; · iexact Hq
  isplitl [He]; · iexact He
  iexists (V m c main_v0)
  iexact Hh0

/-- What holds after the last point gives the result. -/
theorem inv_out (c : Dev nD) : inv m c cfg0.N ⊢ (Pipeline.ΦDRG osem0 spec0 H0 R0 (V m) (outs m) c : sProp 𝕄) := by
  rw [PhiDRG0_eq, outs_0]
  unfold inv copied
  simp only [if_pos (show cfg0.N = 16 from N_0)]
  iintro ⟨⟨⟨%d0, -, HS0⟩, HS1⟩, Hg, Hq, He, ⟨%g0, Hh0⟩⟩
  isplitl [HS0 HS1]
  · isplitl [HS0]
    · iexists d0; iexact HS0
    · iexact HS1
  isplitl [Hg]; · iexact Hg
  isplitl [Hq]; · iexact Hq
  isplitl [He]; · iexact He
  iexact Hh0

/-- The pipeline's proof data on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := inv m c t.val
  q _ := fullShare
  owed _ := 0

theorem Phi_at (c : Dev nD) (t : Fin (cfg0.N + 1)) : (dats m 0 c).Φ t = inv m c t.val := by
  dsimp only [dats]
theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- And what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

attribute [local irreducible] accOf slabs putSlabs accAt in
set_option maxHeartbeats 1000000 in
/-- The body at any point, by its run. -/
theorem sound_body (c : Dev nD) (t : Fin cfg0.N) :
    bodyPre m c t ⊢ wp frame (wpE (defs₀ (F := F)) Variants.nat c none) Set.univ (bodyAt0 t) (fun _ => bodyPost m c t) := by
  unfold bodyPre bodyPost bodyAt0
  simp only [before0_0, before0_1]
  rw [Phi_at m c t.succ, Phi_at m c t.castSucc, Fin.val_succ, Fin.val_castSucc, after0_0, after0_1]
  unfold inv Dat.owesAt Pipeline.owesWithin
  rw [show (dats m 0 c).owed t.castSucc = 0 from rfl, show (dats m 0 c).owed t.succ = 0 from rfl]
  iintro ⟨⟨⟨⟨%e0, %he0, HS0⟩, HS1⟩, Hg, Hq0, -, ⟨%g0, Hh0⟩⟩, ⟨%W, -, HW⟩, ⟨%d0, H0⟩, ⟨%d1, H1⟩⟩
  iapply (body_run c (grid0.coords t) _ _ _ _ _ _ (iblk m c 0 t) (iblk m c 1 t) e0 (copied m c g0 t.val) W _)
  isplitl [H0]; · iexact H0
  isplitl [H1]; · iexact H1
  isplitl [HS0]; · iexact HS0
  isplitl [Hq0]; · iexact Hq0
  isplitl [Hh0]; · iexact Hh0
  isplitl [HW]; · iexact HW
  iintro ⟨H0, H1, HS0, Hq0, Hh0, ⟨%W', HW'⟩⟩
  isplitl [HS0 HS1 Hg Hq0 Hh0]
  · isplitl [HS0 HS1]
    · isplitl [HS0]
      · iexists _; isplitr; swap; · iexact HS0
        ipureintro; exact fun _ => acc_step m c t e0 he0
      · iexact HS1
    isplitl [Hg]
    · iexact Hg
    isplitl [Hq0]; · iexact Hq0
    isplitr; · iempintro
    iexists g0
    rw [← copied_step m c g0 t _ (acc_step m c t e0 he0)]
    iexact Hh0
  isplitl [HW']
  · iexists W'; isplitr; · ipureintro; exact fun _ _ => Or.inl trivial
    iexact HW'
  isplitl [H0]; · iexact H0
  iexact H1

/-- The body table's row at point `t`'s slots is the body at `t`. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

set_option backward.isDefEq.respectTransparency.types false in
/-- The launch: every execution ends with the windows' arrays as the proof data say and every counter at zero. -/
theorem run_main : θ_run defs (onTc (τ := τ) (main (F := F))) (s₀ m ρ) (fun r => (Pipeline.FramePostRG cfgs (dats m) (0 : Fin 1) R0 (V m) (outs m)) r ∧ r.2.sem = fun _ => 0) :=
  Pipeline.θ_run_frame_dmaRG (Q' := _) cfgs (dats m) (0 : Fin 1) launch0 osem0 defs₀ Variants.nat ownSemFacts0 H0 R0 H0_sub R0_sub m ρ main
    (hbody := fun c => (body_obligation m c).loose) (hshare := fun c => (dats m 0 c).share_full fun _ => rfl)
    (howed := fun _ _ => rfl) (V := V m) (hmain := hmain m Variants.nat) (hA := A_eq m) (G := outs m)
    (hin := fun c => by rw [Phi_at]; exact inv_in m c) (hout := fun c => by rw [Phi_at]; exact inv_out m c)

/-- Every execution ends with the accumulator's slabs after all blocks in the result, the two arguments unchanged and every
    counter at zero. -/
theorem run_value : θ_run defs (onTc (τ := τ) (main (F := F))) ⟨m, fun _ => 0, ρ⟩ (fun r => (∀ c : Dev nD,
      r.2.mem ((c.tc : Thread nD τ).loc main_v0) = slabs (accAt m c 16)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1.written c (by decide)).trans (outs_0 m c),
      ((h.1.toR c).1 0).trans (((dats m 0 c).arrAt_in 0 rfl _).trans (A_eq m c 0)),
      ((h.1.toR c).1 1).trans (((dats m 0 c).arrAt_in 1 rfl _).trans (A_eq m c 1))⟩, h.2⟩) (run_main m ρ)

/-- The frame, at any reading of the floats: every execution ends, the two arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run_value m ρ)

end Cert.Proof.GradUp

end
-- ==== Proof.GradUp.Final.lean ====
/-
  The accumulator over the reals: after the blocks so far, each entry is the sum over their rows of the products of the two
  arguments' entries; after all of them, over every row.  And the reference's result, entry by entry.
-/
module

public import proofs.«01_k».proof.Proof.GradUp.Frame
public import proofs.«01_k».proof.Proof.Rows
public import proofs.«01_k».proof.Proof.Gen.Reference9Ideal.Read
public import Idealize.ShloMosaic.Lib.Pipeline.ValueKit
public import Idealize.ShloMosaic.Lib.Pointwise
public import Idealize.ShloMosaic.Lib.IdealHost

@[expose] public section

set_option maxRecDepth 16384

noncomputable section

namespace Cert.Proof.GradUp

open Cert.Kernel9Ideal Cert.Kernel9Ideal.Gen Idealize.ShloMosaic Idealize.ShloMosaic.TcCoe Idealize.SL.Sem
open Cert.Proof.Rows

variable (m : (ℓ : Loc nD τ sig) → Buf (Elt Ideal) ℓ)

/-- The two arguments. -/
def aH (c : Dev nD) : Vec Ideal S16384x1024 .bf16 := m ((c : Thread nD τ).loc main_arg0)
def aD (c : Dev nD) : Vec Ideal S16384x4096 .bf16 := m ((c : Thread nD τ).loc main_arg1)

theorem lt16 (t : Fin cfg0.N) : t.val < 16 := Nat.lt_of_lt_of_eq t.isLt N_0

theorem index_0 : ∀ t : Fin cfg0.N, win0_0.index t = ![t.val, 0] :=
  (by decide +kernel : ∀ t : Fin grid0.N, win0_0.index t = ![t.val, 0])
theorem index_1 : ∀ t : Fin cfg0.N, win0_1.index t = ![t.val, 0] :=
  (by decide +kernel : ∀ t : Fin grid0.N, win0_1.index t = ![t.val, 0])

theorem blk_0 (c : Dev nD) (t : Fin cfg0.N) (s : Fin 1024) (k : Fin 1024) :
    (iblk m c 0 t : Vec Ideal S1024x1024 .bf16) (ix2 s k) = aH m c (ix2 (rowAt t.val s (lt16 t)) k) := by
  unfold aH rowAt
  blk_simp [iblk, index_0]
  refine congrArg (m _) ?_
  funext a
  apply Fin.ext
  match a with
  | ⟨0, _⟩ => blk_simp [index_0]
  | ⟨1, _⟩ => blk_simp [index_0]

theorem blk_1 (c : Dev nD) (t : Fin cfg0.N) (s : Fin 1024) (k : Fin 4096) :
    (iblk m c 1 t : Vec Ideal S1024x4096 .bf16) (ix2 s k) = aD m c (ix2 (rowAt t.val s (lt16 t)) k) := by
  unfold aD rowAt
  blk_simp [iblk, index_1]
  refine congrArg (m _) ?_
  funext a
  apply Fin.ext
  match a with
  | ⟨0, _⟩ => blk_simp [index_1]
  | ⟨1, _⟩ => blk_simp [index_1]

/-- One block's product on top of the accumulator, entry by entry. -/
theorem pay_at (x0 : Vec Ideal S1024x1024 .bf16) (x1 : Vec Ideal S1024x4096 .bf16) (A : Vec Ideal S1024x4096 .f32) (k : Fin 1024) (f : Fin 4096) :
    k0_pay2 x1 A x0 (ix2 k f) = A (ix2 k f) + ∑ s : Fin 1024, x0 (ix2 s k) * x1 (ix2 s f) := by
  pointwise [k0_pay2]

theorem zero_at (k : Fin 1024) (f : Fin 4096) : (k0_pay1 (F := Ideal) : Vec Ideal S1024x4096 .f32) (ix2 k f) = 0 := by
  pointwise [k0_pay1]

/-- The products one entry sums, row by row. -/
def term (c : Dev nD) (k : Fin 1024) (f : Fin 4096) (r : Fin 16384) : EReal := aH m c (ix2 r k) * aD m c (ix2 r f)

theorem accAt_at (c : Dev nD) (k : Fin 1024) (f : Fin 4096) : ∀ n, n ≤ 16 → accAt m c n (ix2 k f) = upTo (term m c k f) n
  | 0, _ => (zero_at k f).trans (Finset.sum_range_zero _).symm
  | n + 1, h => by
    have hn : n < cfg0.N := by rw [show cfg0.N = 16 from N_0]; omega
    have ih := accAt_at c k f n (by omega)
    refine (congrFun (accAt_succ m c ⟨n, hn⟩) (ix2 k f)).trans ?_
    have e : accOf n (iblk m c 0 ⟨n, hn⟩) (iblk m c 1 ⟨n, hn⟩) (accAt m c n) = k0_pay2 (iblk m c 1 ⟨n, hn⟩) (accAt m c n) (iblk m c 0 ⟨n, hn⟩) := by
      unfold accOf
      by_cases h0 : n = 0
      · subst h0; rw [if_pos rfl]; rfl
      · rw [if_neg h0]
    refine (congrFun e (ix2 k f)).trans ((pay_at _ _ _ k f).trans ?_)
    rw [ih, upTo_succ _ n (by omega)]
    refine congrArg (upTo (term m c k f) n + ·) (Finset.sum_congr rfl fun s _ => ?_)
    rw [blk_0 m c ⟨n, hn⟩ s k, blk_1 m c ⟨n, hn⟩ s f]
    rfl

theorem accAt_all (c : Dev nD) (k : Fin 1024) (f : Fin 4096) : accAt m c 16 (ix2 k f) = ∑ r : Fin 16384, aH m c (ix2 r k) * aD m c (ix2 r f) :=
  (accAt_at m c k f 16 le_rfl).trans (upTo_all _)

open Cert.Reference9Ideal.Read in
/-- The reference's gradient, entry by entry. -/
theorem ref_at (x0 : Vec Ideal S16384x1024 .bf16) (x1 : Vec Ideal S16384x4096 .bf16) (k : Fin 1024) (f : Fin 4096) :
    val_main_v5 (F := Ideal) x0 x1 (ix2 k f) = ∑ r : Fin 16384, x0 (ix2 r k) * x1 (ix2 r f) := by
  pointwise [val_main_v5, val_main_v4, val_main_v3, val_main_v1]
  exact Finset.sum_congr rfl fun s _ => mul_comm _ _

open Cert.Reference9Ideal.Read in
/-- The reference's slabs are the columns of that gradient. -/
theorem ref_slab (x0 : Vec Ideal S16384x1024 .bf16) (x1 : Vec Ideal S16384x4096 .bf16) (d : Fin 8) (k : Fin 1024) (l : Fin 512) :
    val_main_v7 (F := Ideal) x0 x1 (ix3 d k l) = val_main_v5 (F := Ideal) x0 x1 (ix2 k ⟨512 * d.val + l.val, by omega⟩) := by
  pointwise [val_main_v7, val_main_v6]
  refine congrArg (fun q => val_main_v5 (F := Ideal) x0 x1 (ix2 k q)) (Fin.ext ?_)
  show d.val * 512 + l.val = 512 * d.val + l.val
  omega

end Cert.Proof.GradUp

end
-- ==== Proof.GradUp.Claims.lean ====
module

public import proofs.«01_k».proof.Defs
public import proofs.«01_k».proof.Proof.GradUp.Final
public import proofs.«01_k».proof.Proof.Gen.Kernel9.Frame
public import proofs.«01_k».proof.Proof.Gen.Reference9Ideal.Run
public import Idealize.ShloMosaic.Adequacy
public import Idealize.ShloMosaic.Init

@[expose] public section

set_option maxRecDepth 16384

noncomputable section

namespace Cert.Proof.GradUp

open Idealize.ShloMosaic Idealize.ShloMosaic.TcCoe Idealize.SL.Sem

/-- The frame of the up projection's weight gradient over the machine's floats. -/
theorem frame_bits : Cert.quiescent_Kernel9 := fun m ρ _ => Cert.Kernel9.Gen.frame m ρ

/-- Its frame over the reals. -/
theorem frame_ideal : Cert.quiescent_Kernel9Ideal := fun m ρ _ => frame m ρ

/-- The frame of its reference: the arguments are kept, and there is no counter. -/
theorem frame_ref : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

/-- The kernel and the gradient of the plain forward line end with the same eight slabs. -/
theorem algebraic : Cert.algebraic_Kernel9Ideal_Reference9Ideal := by
  intro m g m' g' _ hagree
  refine ⟨fun c => slabs (accAt m c 16), (θ_run Cert.Kernel9Ideal.defs _ _).mono (fun r h => h.1) (run_value m g), ?_⟩
  refine (θ_run Cert.Reference9Ideal.defs _ _).mono (fun r h c => ?_) (Cert.Reference9Ideal.Value.run (F := Ideal) m' g')
  obtain ⟨h0, hargs⟩ := h c
  obtain ⟨e0, e1⟩ := hagree c
  refine ⟨?_, hargs⟩
  rw [h0, Cert.Reference9Ideal.Read.val_main_v7_eq, e0, e1]
  funext i
  refine (congrArg _ (eq_ix3 (n0 := 8) (n1 := 1024) (n2 := 512) i)).trans ?_
  refine (ref_slab _ _ (i 0) (i 1) (i 2)).trans ((ref_at _ _ _ _).trans ?_)
  exact (accAt_all m c _ _).symm

end Cert.Proof.GradUp
-- ==== Proof.GradDown.Slab.lean ====
/-
  The copies of the slabs of the accumulator's transpose into a result left in memory, as a value.
-/
module

public import proofs.«01_k».proof.Proof.Gen.Kernel10Ideal.Frame.Runs
public import Idealize.ShloMosaic.Lib.Pointwise
public import Idealize.ShloMosaic.Lib.WritesUnit
public import Idealize.ShloMosaic.Lib.Claim
public import Idealize.ShloMosaic.Lib.Pipeline.Value
public import Idealize.ShloMosaic.Lib.Pipeline.FrameBody

@[expose] public section

set_option maxRecDepth 16384

noncomputable section

namespace Cert.Proof.GradDown

open Cert.Kernel10Ideal Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The accumulator after a block of rows. -/
def accOf (j : ℕ) (x0 : Vec F S512x1024 .f32) (x1 : Vec F S512x4096 .bf16) (d : Vec F S1024x4096 .f32) : Vec F S1024x4096 .f32 :=
  k0_pay2 x1 (if j = 0 then (k0_pay1 (F := F) : Vec F S1024x4096 .f32) else d) x0

/-- The eight slabs of rows of a matrix's transpose. -/
def slabs (A : Vec F S1024x4096 .f32) : Vec F S8x512x1024 .f32 := fun y =>
  A (ix2 (y 2) ⟨512 * (y 0).val + (y 1).val, by have h0 : (y 0).val < 8 := (y 0).isLt; have h1 : (y 1).val < 512 := (y 1).isLt; omega⟩)

/-- A whole store of the accumulator leaves it, whatever was stored before. -/
theorem acc_store (f : (scM0_0).view.ty.Contents (Elt F)) (v : Vec F S1024x4096 .f32) (L : List (View.Piece (Elt F) S1024x4096 .f32)) :
    View.read (Elt F) scM0_0.view (scM0_0.view.writes (Elt F) f (⟨Rect.unit (s := S1024x4096) ![0, 0] S1024x4096.size inb_S1024x4096_S1024x4096_0_0, v⟩ :: L)) = v := by
  funext y
  refine View.read_writes_cons_unit_of_mem (Val := Elt F) scM0_0.view f _ _ L y y rfl fun a => ?_
  match a with
  | ⟨0, _⟩ => exact (Nat.zero_add _).symm
  | ⟨1, _⟩ => exact (Nat.zero_add _).symm

/-- The accumulator is zeroed exactly at the first block, and copied out exactly after the last. -/
theorem first_iff (i : grid0.Coords) :
    Scalar.cmpi .ne (Scalar.extui (Scalar.cmpi .eq (BitVec.ofNat 32 (i 0).val) 0#32)) 0#32 = 1#1 ↔ (i 0).val = 0 := by
  have h : ∀ j : Fin 32, Scalar.cmpi .ne (Scalar.extui (Scalar.cmpi .eq (BitVec.ofNat 32 j.val) 0#32)) 0#32 = 1#1 ↔ j.val = 0 := by decide +kernel
  exact h (i 0)
theorem last_iff (i : grid0.Coords) :
    Scalar.cmpi .ne (Scalar.extui (Scalar.cmpi .eq (BitVec.ofNat 32 (i 0).val) 31#32)) 0#32 = 1#1 ↔ (i 0).val = 31 := by
  have h : ∀ j : Fin 32, Scalar.cmpi .ne (Scalar.extui (Scalar.cmpi .eq (BitVec.ofNat 32 j.val) 31#32)) 0#32 = 1#1 ↔ j.val = 31 := by decide +kernel
  exact h (i 0)

/-- The slabs in place after the last block of rows. -/
def putSlabs (j : ℕ) (A : Vec F S1024x4096 .f32) (g : Vec F S8x512x1024 .f32) : Vec F S8x512x1024 .f32 :=
  if j = 31 then slabs A else g

/-- Dropping the slab's unit axis keeps row and column. -/
theorem drop_unit (k : Fin 512) (l : Fin 1024) (h : S512x1024.numel = S1x512x1024.numel) :
    Shape.reshapeEquiv h (ix2 k l) = (ix3 (0 : Fin 1) k l : S1x512x1024.Idx) := by
  have e := shapeCast_dropUnit_apply ![512, 1024] (fun x : S1x512x1024.Idx => x) (h : S1x512x1024.ShapeCasts S512x1024) (ix2 k l)
  refine Eq.trans e ?_
  funext a
  match a with
  | ⟨0, _⟩ => rfl
  | ⟨1, _⟩ => rfl
  | ⟨2, _⟩ => rfl

/-- A copy into the slab at `off` of the result, as the program writes it. -/
abbrev wr (off : Fin 3 → ℕ) (inb : ∀ a, off a + S1x512x1024.size a ≤ S8x512x1024.size a) (g : Vec F S8x512x1024 .f32) (w : Vec F S512x1024 .f32) : Vec F S8x512x1024 .f32 :=
  View.write (Elt F) (((Memref.whole main_v0).slice (Rect.unit (s := S8x512x1024) off S1x512x1024.size inb) (fun _ => rfl)).squeeze S512x1024
    squeezes_S1x512x1024_S512x1024).view g w Finset.univ

/-- A copy overwrites its slab. -/
theorem wr_apply (M : Memref sig .tc .hbm S8x512x1024 .f32) (off : Fin 3 → ℕ) (inb : ∀ a, off a + S1x512x1024.size a ≤ S8x512x1024.size a) (d : ℕ) (hoff : off = ![d, 0, 0])
    (g : M.view.ty.Contents (Elt F)) (w : Vec F S512x1024 .f32) (y : S8x512x1024.Idx) :
    View.read (Elt F) M.view (View.write (Elt F) ((M.slice (Rect.unit (s := S8x512x1024) off S1x512x1024.size inb) (fun _ => rfl)).squeeze S512x1024
      squeezes_S1x512x1024_S512x1024).view g w Finset.univ) y
      = if (y 0).val = d then w (ix2 (y 1) (y 2)) else View.read (Elt F) M.view g y := by
  refine (congrFun (congrArg (View.read (Elt F) M.view) (View.write_reshape_univ (Val := Elt F)
    (v := M.view.slice (Rect.unit (s := S8x512x1024) off S1x512x1024.size inb))
    squeezes_S1x512x1024_S512x1024.numel_eq g w)) y).trans ?_
  by_cases hy : (y 0).val = d
  · rw [if_pos hy]
    refine (View.read_writes_cons_unit_of_mem (Val := Elt F) M.view g _ _ [] y (ix3 (0 : Fin 1) (y 1) (y 2)) hoff fun a => ?_).trans ?_
    · match a with
      | ⟨0, _⟩ => exact hy
      | ⟨1, _⟩ => exact (Nat.zero_add _).symm
      | ⟨2, _⟩ => exact (Nat.zero_add _).symm
    · refine congrArg w ?_
      exact (Equiv.symm_apply_eq _).mpr (drop_unit (y 1) (y 2) _).symm
  · rw [if_neg hy]
    refine View.read_writes_cons_unit_of_not_mem (Val := Elt F) M.view g _ _ [] y hoff (0 : Fin 3) ?_
    show (y 0).val < d ∨ d + 1 ≤ (y 0).val
    omega

/-- A whole buffer reads as its contents. -/
theorem read_whole_mem (b : Ref sig .tc) (f : b.ty.Contents (Elt F)) : View.read (Elt F) (Memref.whole b).view f = f :=
  View.read_whole b f

/-- One slab put in place. -/
def put (d : ℕ) (w : Vec F S512x1024 .f32) (g : Vec F S8x512x1024 .f32) : Vec F S8x512x1024 .f32 :=
  fun y => if (y 0).val = d then w (ix2 (y 1) (y 2)) else g y

theorem wr_eq (off : Fin 3 → ℕ) (inb) (d : ℕ) (hoff : off = ![d, 0, 0]) (g : Vec F S8x512x1024 .f32) (w : Vec F S512x1024 .f32) :
    wr off inb g w = put d w g := by
  refine (read_whole_mem main_v0 _).symm.trans (funext fun y => (wr_apply (F := F) (Memref.whole main_v0) off inb d hoff g w y).trans ?_)
  unfold put
  rw [read_whole_mem main_v0 g]

/-- Rows `512 d` to `512 d + 511` of a matrix's transpose. -/
def cols (A : Vec F S1024x4096 .f32) (d : Fin 8) : Vec F S512x1024 .f32 :=
  fun y => A (ix2 (y 1) ⟨512 * d.val + (y 0).val, by have : (y 0).val < 512 := (y 0).isLt; omega⟩)

/-- All eight slabs put in place. -/
theorem put_all (A : Vec F S1024x4096 .f32) (g : Vec F S8x512x1024 .f32) :
    put 7 (cols A 7) (put 6 (cols A 6) (put 5 (cols A 5) (put 4 (cols A 4) (put 3 (cols A 3) (put 2 (cols A 2) (put 1 (cols A 1) (put 0 (cols A 0) g))))))) = slabs A := by
  funext y
  have hy : (y 0).val < 8 := (y 0).isLt
  unfold put slabs cols
  obtain h | h | h | h | h | h | h | h : (y 0).val = 0 ∨ (y 0).val = 1 ∨ (y 0).val = 2 ∨ (y 0).val = 3 ∨ (y 0).val = 4 ∨ (y 0).val = 5 ∨ (y 0).val = 6 ∨ (y 0).val = 7 := by omega
  all_goals
    simp only [h]
    rfl

/-- A load of the accumulator's columns from `off` on, after the stores `M`. -/
abbrev ld (off : Fin 2 → ℕ) (inb : ∀ a, off a + S1024x512.size a ≤ S1024x4096.size a) (M : List (View.Piece (Elt F) S1024x4096 .f32)) : Vec F S1024x512 .f32 :=
  scM0_0.view.readCov M (Rect.unit (s := S1024x4096) off S1024x512.size inb).toLoadRect

/-- The transpose of columns `512 d` to `512 d + 511` is the rows of the transpose. -/
theorem tr_eq (off : Fin 2 → ℕ) (inb) (d : Fin 8) (hoff : off = ![0, 512 * d.val]) (M : List (View.Piece (Elt F) S1024x4096 .f32)) (A : Vec F S1024x4096 .f32)
    (hf : View.read (Elt F) scM0_0.view (scM0_0.view.writes (Elt F) scM0_0.view.junk M) = A) :
    transpose S512x1024 [1, 0] (ld off inb M) transposes_S1024x512_p1_0_S512x1024 = cols A d := by
  subst hoff hf
  funext y
  refine (transpose_apply _ _ _ y (ix2 (y 1) (y 0) : S1024x512.Idx) fun b => ?_).trans ?_
  · match b with
    | ⟨0, _⟩ => rfl
    | ⟨1, _⟩ => rfl
  · unfold cols
    refine congrArg (View.read (Elt F) scM0_0.view (scM0_0.view.writes (Elt F) scM0_0.view.junk M)) (funext fun a => Fin.ext ?_)
    match a with
    | ⟨0, _⟩ => exact (congrArg (0 + ·) (Nat.one_mul _)).trans (Nat.zero_add _)
    | ⟨1, _⟩ => exact congrArg (512 * d.val + ·) (Nat.one_mul _)

section
variable {M : List (View.Piece (Elt F) S1024x4096 .f32)} {A : Vec F S1024x4096 .f32}
  (hf : View.read (Elt F) scM0_0.view (scM0_0.view.writes (Elt F) scM0_0.view.junk M) = A)
include hf
/-! What the body stores before each copy: rows of the accumulator's transpose. -/
theorem piece_0 : k0_pay4 (ld ![0, 0] inb_S1024x4096_S1024x512_0_0 M) = cols A 0 :=
  (shapeCast_self _ _).trans (tr_eq _ _ 0 rfl M A hf)
theorem piece_1 : k0_pay5 (ld ![0, 512] inb_S1024x4096_S1024x512_0_512 M) = cols A 1 :=
  (shapeCast_self _ _).trans (tr_eq _ _ 1 rfl M A hf)
theorem piece_2 : k0_pay7 (k0_pay6 (ld ![0, 1024] inb_S1024x4096_S1024x512_0_1024 M)) = cols A 2 :=
  (shapeCast_self _ _).trans (tr_eq _ _ 2 rfl M A hf)
theorem piece_3 : k0_pay8 (ld ![0, 1536] inb_S1024x4096_S1024x512_0_1536 M) = cols A 3 :=
  (shapeCast_self _ _).trans (tr_eq _ _ 3 rfl M A hf)
theorem piece_4 : k0_pay10 (k0_pay9 (ld ![0, 2048] inb_S1024x4096_S1024x512_0_2048 M)) = cols A 4 :=
  (shapeCast_self _ _).trans (tr_eq _ _ 4 rfl M A hf)
theorem piece_5 : k0_pay11 (ld ![0, 2560] inb_S1024x4096_S1024x512_0_2560 M) = cols A 5 :=
  (shapeCast_self _ _).trans (tr_eq _ _ 5 rfl M A hf)
theorem piece_6 : k0_pay12 (ld ![0, 3072] inb_S1024x4096_S1024x512_0_3072 M) = cols A 6 :=
  (shapeCast_self _ _).trans (tr_eq _ _ 6 rfl M A hf)
theorem piece_7 : k0_pay3 (ld ![0, 3584] inb_S1024x4096_S1024x512_0_3584 M) = cols A 7 :=
  (shapeCast_self _ _).trans (tr_eq _ _ 7 rfl M A hf)
end

/-- What a copy reads of the staged slab after the store of `w`. -/
abbrev st (arg5 : Memref sig .tc .vmem S512x1024 .f32) (f : arg5.view.ty.Contents (Elt F)) (w : Vec F S512x1024 .f32) (L : List (View.Piece (Elt F) S512x1024 .f32)) : Vec F S512x1024 .f32 :=
  ReadAs.same.apply (View.read (Elt F) arg5.view (arg5.view.writes (Elt F) f (⟨Rect.unit (s := S512x1024) ![0, 0] S512x1024.size inb_S512x1024_S512x1024_0_0, w⟩ :: L)))

/-- It reads what was stored. -/
theorem st_eq (arg5 : Memref sig .tc .vmem S512x1024 .f32) (f : arg5.view.ty.Contents (Elt F)) (w w' : Vec F S512x1024 .f32) (h : w = w') (L : List (View.Piece (Elt F) S512x1024 .f32)) :
    st arg5 f w L = w' := by
  subst h
  show View.read (Elt F) arg5.view _ = w
  funext y
  refine View.read_writes_cons_unit_of_mem (Val := Elt F) arg5.view f _ _ L y y rfl fun a => ?_
  match a with
  | ⟨0, _⟩ => exact (Nat.zero_add _).symm
  | ⟨1, _⟩ => exact (Nat.zero_add _).symm

/-- The eight copies the program makes after the last block leave the slabs of the accumulator's transpose. -/
theorem write_all (arg5 : Memref sig .tc .vmem S512x1024 .f32) (f : arg5.view.ty.Contents (Elt F)) (L0 L1 L2 L3 L4 L5 L6 L7 : List (View.Piece (Elt F) S512x1024 .f32))
    (M : List (View.Piece (Elt F) S1024x4096 .f32)) (A : Vec F S1024x4096 .f32) (g : Vec F S8x512x1024 .f32)
    (hf : View.read (Elt F) scM0_0.view (scM0_0.view.writes (Elt F) scM0_0.view.junk M) = A) :
    wr ![7, 0, 0] inb_S8x512x1024_S1x512x1024_7_0_0 (wr ![6, 0, 0] inb_S8x512x1024_S1x512x1024_6_0_0 (wr ![5, 0, 0] inb_S8x512x1024_S1x512x1024_5_0_0 (wr ![4, 0, 0] inb_S8x512x1024_S1x512x1024_4_0_0 (wr ![3, 0, 0] inb_S8x512x1024_S1x512x1024_3_0_0 (wr ![2, 0, 0] inb_S8x512x1024_S1x512x1024_2_0_0 (wr ![1, 0, 0] inb_S8x512x1024_S1x512x1024_1_0_0 (wr ![0, 0, 0] inb_S8x512x1024_S1x512x1024_0_0_0 g (st arg5 f (k0_pay4 (ld ![0, 0] inb_S1024x4096_S1024x512_0_0 M)) L0)) (st arg5 f (k0_pay5 (ld ![0, 512] inb_S1024x4096_S1024x512_0_512 M)) L1)) (st arg5 f (k0_pay7 (k0_pay6 (ld ![0, 1024] inb_S1024x4096_S1024x512_0_1024 M))) L2)) (st arg5 f (k0_pay8 (ld ![0, 1536] inb_S1024x4096_S1024x512_0_1536 M)) L3)) (st arg5 f (k0_pay10 (k0_pay9 (ld ![0, 2048] inb_S1024x4096_S1024x512_0_2048 M))) L4)) (st arg5 f (k0_pay11 (ld ![0, 2560] inb_S1024x4096_S1024x512_0_2560 M)) L5)) (st arg5 f (k0_pay12 (ld ![0, 3072] inb_S1024x4096_S1024x512_0_3072 M)) L6)) (st arg5 f (k0_pay3 (ld ![0, 3584] inb_S1024x4096_S1024x512_0_3584 M)) L7)
      = slabs A := by
  rw [st_eq arg5 f _ _ (piece_0 hf), wr_eq _ _ 0 rfl, st_eq arg5 f _ _ (piece_1 hf), wr_eq _ _ 1 rfl, st_eq arg5 f _ _ (piece_2 hf), wr_eq _ _ 2 rfl, st_eq arg5 f _ _ (piece_3 hf), wr_eq _ _ 3 rfl, st_eq arg5 f _ _ (piece_4 hf), wr_eq _ _ 4 rfl, st_eq arg5 f _ _ (piece_5 hf), wr_eq _ _ 5 rfl, st_eq arg5 f _ _ (piece_6 hf), wr_eq _ _ 6 rfl, st_eq arg5 f _ _ (piece_7 hf), wr_eq _ _ 7 rfl, put_all]

end Cert.Proof.GradDown

end
-- ==== Proof.GradDown.Body.lean ====
/-
  The body's run at any grid point: the accumulator takes the block's product on top of what it held (of nothing at the first
  block), and after the last block the slabs of its transpose are in the result.
-/
module

public import proofs.«01_k».proof.Proof.GradDown.Slab
public import Idealize.ShloMosaic.Lib.Claim
public import Idealize.ShloMosaic.Lib.VecWindow

@[expose] public section

set_option maxRecDepth 16384

noncomputable section

namespace Cert.Proof.GradDown

open Cert.Kernel10Ideal Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem hz2 : (![0, 0] : Fin 2 → ℕ) = fun _ => 0 := by funext a; fin_cases a <;> rfl

/-- The block's product on top of the accumulator's contents `A`, read off the staging memrefs. -/
theorem acc_walk (arg1 : Memref sig .tc .vmem S512x1024 .f32) (harg1 : arg1.IsWhole) (arg2 : Memref sig .tc .vmem S512x4096 .bf16) (harg2 : arg2.IsWhole)
    (x0 : Vec F S512x1024 .f32) (x1 : Vec F S512x4096 .bf16) (w A : Vec F S1024x4096 .f32) (hw : w = A)
    (f : (scM0_0).view.ty.Contents (Elt F)) (L : List (View.Piece (Elt F) S1024x4096 .f32)) :
    View.read (Elt F) scM0_0.view (scM0_0.view.writes (Elt F) f (⟨Rect.unit (s := S1024x4096) ![0, 0] ![1024, 4096] inb_S1024x4096_S1024x4096_0_0,
      k0_pay2 (View.readAt (Elt F) arg2.view (Rect.unit (s := S512x4096) ![0, 0] ![512, 4096] inb_S512x4096_S512x4096_0_0).toLoadRect (harg2.unread x1))
        w (View.readAt (Elt F) arg1.view (Rect.unit (s := S512x1024) ![0, 0] ![512, 1024] inb_S512x1024_S512x1024_0_0).toLoadRect (harg1.unread x0))⟩ :: L))
      = k0_pay2 x1 A x0 := by
  subst hw
  refine (acc_store f _ L).trans ?_
  have e2 : View.readAt (Elt F) arg2.view (Rect.unit (s := S512x4096) ![0, 0] ![512, 4096] inb_S512x4096_S512x4096_0_0).toLoadRect (harg2.unread x1) = x1 := by
    rw [View.readAt_eq_ld, harg2.read_unread]; exact View.ld_unit_zero (S := S512x4096) hz2 _ _
  have e1 : View.readAt (Elt F) arg1.view (Rect.unit (s := S512x1024) ![0, 0] ![512, 1024] inb_S512x1024_S512x1024_0_0).toLoadRect (harg1.unread x0) = x0 := by
    rw [View.readAt_eq_ld, harg1.read_unread]; exact View.ld_unit_zero (S := S512x1024) hz2 _ _
  rw [e1, e2]

/-- A whole load of the accumulator reads its contents. -/
theorem acc_load (f : (scM0_0).view.ty.Contents (Elt F)) (d : Vec F S1024x4096 .f32) (hf : View.read (Elt F) scM0_0.view f = d) :
    View.readAt (Elt F) scM0_0.view (Rect.unit (s := S1024x4096) ![0, 0] ![1024, 4096] inb_S1024x4096_S1024x4096_0_0).toLoadRect f = d := by
  rw [View.readAt_eq_ld, hf]; exact View.ld_unit_zero (S := S1024x4096) hz2 _ _

theorem accOf_pos (j : ℕ) (hj : j = 0) (x0 : Vec F S512x1024 .f32) (x1 : Vec F S512x4096 .bf16) (d : Vec F S1024x4096 .f32) :
    k0_pay2 x1 (k0_pay1 (F := F)) x0 = accOf j x0 x1 d := by
  unfold accOf; rw [if_pos hj]
theorem accOf_neg (j : ℕ) (hj : j ≠ 0) (x0 : Vec F S512x1024 .f32) (x1 : Vec F S512x4096 .bf16) (d : Vec F S1024x4096 .f32) :
    k0_pay2 x1 d x0 = accOf j x0 x1 d := by
  unfold accOf; rw [if_neg hj]

theorem putSlabs_pos (j : ℕ) (hj : j = 31) (A : Vec F S1024x4096 .f32) (g : Vec F S8x512x1024 .f32) : putSlabs j A g = slabs A := if_pos hj
theorem putSlabs_neg (j : ℕ) (hj : j ≠ 31) (A : Vec F S1024x4096 .f32) (g : Vec F S8x512x1024 .f32) : putSlabs j A g = g := if_neg hj

/-- A load of the whole accumulator after a store of the whole accumulator reads what was stored. -/
theorem zero_load (w : Vec F S1024x4096 .f32) :
    scM0_0.view.readCov [⟨Rect.unit ![0, 0] ![1024, 4096] inb_S1024x4096_S1024x4096_0_0, w⟩]
      (Rect.unit ![0, 0] ![1024, 4096] inb_S1024x4096_S1024x4096_0_0).toLoadRect = w :=
  View.readCov_full (s := S1024x4096) scM0_0.view inb_S1024x4096_S1024x4096_0_0 inb_S1024x4096_S1024x4096_0_0 w []

attribute [local irreducible] k0_pay1 k0_pay2 k0_pay3 k0_pay4 k0_pay5 k0_pay6 k0_pay7 k0_pay8 k0_pay9 k0_pay10 k0_pay11 k0_pay12 accOf slabs putSlabs in
set_option maxHeartbeats 400000 in
/-- The body's run. -/
theorem body_run (c : Dev nD) (i : grid0.Coords) (arg1 : Memref sig .tc .vmem S512x1024 .f32) (harg1 : arg1.IsWhole) (arg2 : Memref sig .tc .vmem S512x4096 .bf16) (harg2 : arg2.IsWhole) (arg5 : Memref sig .tc .vmem S512x1024 .f32) (harg5 : arg5.IsWhole)
    (x0 : Vec F S512x1024 .f32) (x1 : Vec F S512x4096 .bf16) (d4 : Vec F S1024x4096 .f32) (d5 : Vec F S512x1024 .f32) (g0 : Vec F S8x512x1024 .f32) (W : Waits sig Unit) (K : PUnit → sProp 𝕄) :
    iprop(owns (c : Thread nD τ) arg1 fullShare x0 ∗ owns (c : Thread nD τ) arg2 fullShare x1 ∗ owns (c : Thread nD τ) scM0_0 fullShare d4 ∗ owns (c : Thread nD τ) arg5 fullShare d5
    ∗ semVal ((c : Thread nD τ), SemLoc.dma 4) 0 ∗ hbPt0 c hbM0_0 g0 ∗ owes (c : Thread nD τ) 0 W
    ∗ (iprop(owns (c : Thread nD τ) arg1 fullShare x0 ∗ owns (c : Thread nD τ) arg2 fullShare x1 ∗ owns (c : Thread nD τ) scM0_0 fullShare (accOf (i 0).val x0 x1 d4) ∗ (∃ d, owns (c : Thread nD τ) arg5 fullShare d)
    ∗ semVal ((c : Thread nD τ), SemLoc.dma 4) 0 ∗ hbPt0 c hbM0_0 (putSlabs (i 0).val (accOf (i 0).val x0 x1 d4) g0) ∗ (∃ W', owes (c : Thread nD τ) 0 W')) -∗ K ⟨⟩))
    ⊢ wp frame (wpE (defs₀ (F := F)) Variants.nat c none) Set.univ (cc0_grad_w_down i arg1 harg1 arg2 harg2 (Memref.whole main_v0) (Memref.isWhole_whole _) (Memref.whole cc0_scratch0) (Memref.isWhole_whole _) arg5 harg5 cc0_scratch2) K := by
  by_cases hc0 : Scalar.cmpi .ne (Scalar.extui (Scalar.cmpi .eq (BitVec.ofNat 32 (i 0).val) 0#32)) 0#32 = 1#1 <;>
  by_cases hc1 : Scalar.cmpi .ne (Scalar.extui (Scalar.cmpi .eq (BitVec.ofNat 32 (i 0).val) 31#32)) 0#32 = 1#1
  · exact absurd (((first_iff i).mp hc0).symm.trans ((last_iff i).mp hc1)) (by decide)
  all_goals
    simp only [cc0_grad_w_down_eq_skeleton]; unfold cc0_grad_w_down_skel
    simp only [k0_part1_eq_skeleton, k0_part2_eq_skeleton, k0_part3_eq_skeleton]
    unfold owns
    iintro ⟨⟨%f0, %hf0, H0⟩, ⟨%f1, %hf1, H1⟩, ⟨%fs0, %hs0, HS0⟩, ⟨%fs1, %hs1, HS1⟩, Hq0, Hh0, HW, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS0]
    · iexists _; isplitr; swap; · iexact HS0
      ipureintro
      first
        | unfold body_run.sl.HS0_1_1 body_run.sl.v6
        | unfold body_run.sl.HS0_1_1
        | unfold body_run.sl.HS0_1_2
        | skip
      clear hf0 hf1 W K g0
      by_cases hz : (i 0).val = 0
      · first
          | exact absurd ((first_iff i).mpr hz) hc0
          | (refine (acc_walk arg1 harg1 arg2 harg2 x0 x1 _ (k0_pay1 (F := F)) ?_ fs0 _).trans (accOf_pos _ hz x0 x1 d4)
             unfold body_run.sl.v6
             try unfold body_run.sl.HS0_1
             exact zero_load _)
      · first
          | exact absurd ((first_iff i).mp hc0) hz
          | exact (acc_walk arg1 harg1 arg2 harg2 x0 x1 _ d4 (acc_load fs0 d4 hs0) fs0 _).trans (accOf_neg _ hz x0 x1 d4)
    isplitl [HS1]
    · iexists _, _; isplitr; swap; · iexact HS1
      ipureintro; rfl
    isplitl [Hq0]; · iexact Hq0
    isplitl [Hh0]
    · by_cases hz : (i 0).val = 31
      · first
          | exact absurd ((last_iff i).mpr hz) hc1
          | (have hM : View.read (Elt F) scM0_0.view (scM0_0.view.writes (Elt F) scM0_0.view.junk (body_run.sl.HS0_1_1 c arg1 harg1 arg2 harg2 x0 x1 fs0)) = accOf (i 0).val x0 x1 d4 := by
               unfold body_run.sl.HS0_1_1
               exact (acc_walk arg1 harg1 arg2 harg2 x0 x1 _ d4 (acc_load fs0 d4 hs0) _ _).trans (accOf_neg (i 0).val (by omega) x0 x1 d4)
             rw [putSlabs_pos _ hz, ← write_all arg5 fs1 [] (body_run.sl.HS1_1 c arg1 harg1 arg2 harg2 x0 x1 fs0) (body_run.sl.HS1_2 c arg1 harg1 arg2 harg2 x0 x1 fs0) (body_run.sl.HS1_3 c arg1 harg1 arg2 harg2 x0 x1 fs0) (body_run.sl.HS1_4 c arg1 harg1 arg2 harg2 x0 x1 fs0) (body_run.sl.HS1_5 c arg1 harg1 arg2 harg2 x0 x1 fs0) (body_run.sl.HS1_6 c arg1 harg1 arg2 harg2 x0 x1 fs0) (body_run.sl.HS1_7 c arg1 harg1 arg2 harg2 x0 x1 fs0) _ _ g0 hM]
             unfold body_run.sl.dma8 body_run.sl.dma11 body_run.sl.dma14 body_run.sl.dma17 body_run.sl.dma20 body_run.sl.dma23 body_run.sl.dma26 body_run.sl.dma29
             iexact Hh0)
      · first
          | exact absurd ((last_iff i).mp hc1) hz
          | (rw [putSlabs_neg _ hz]
             iexact Hh0)
    iexists _; iexact HW

end Cert.Proof.GradDown

end
-- ==== Proof.GradDown.Frame.lean ====
/-
  The down projection's weight gradient, its run: the pipeline's proof data (the accumulator as the blocks so far leave it, the
  result untouched until the last block), the body obligation from the body's run, the launch, and the claim that every
  execution ends with the arguments unchanged and every counter at zero.
-/
module

public import proofs.«01_k».proof.Proof.GradDown.Body
public import Idealize.ShloMosaic.Lib.Claim
public import Idealize.ShloMosaic.Lib.Pipeline.FrameValue

@[expose] public section

set_option maxRecDepth 16384

noncomputable section

namespace Cert.Proof.GradDown

open Cert.Kernel10Ideal Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The launch's invariant, the copied result at given contents, conjunct by conjunct. -/
theorem PhiDRG0_eq (G : (c : Dev nD) → (b : Ref sig .tc) → Buf (Elt F) ((c : Thread nD τ).loc b)) (c : Dev nD) :
    (Pipeline.ΦDRG osem0 spec0 H0 R0 (V m) G c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 4) 0) ∗ iprop(emp) ∗ iprop(hbPt0 c hbM0_0 (G c main_v0))) := by
  have hr : (Pipeline.routed R0 c (G c) : sProp 𝕄) = iprop(hbPt0 c hbM0_0 (G c main_v0)) := by
    unfold Pipeline.routed; rw [BI.bigSep_eq_bigSepL_of_eq [main_v0] (by decide) (by decide)]; rfl
  rw [Pipeline.ΦDRG_eq, scopedRest0_eq, ownSems00_eq, hbmPts0_eq, hr]; simp only [scM0_0, scM0_1, owns_whole]; try rfl

theorem point_v : ∀ t : Fin grid0.N, ((grid0.coords t) 0).val = t.val := by decide +kernel

/-- The accumulator after the first `n` blocks. -/
def accAt (c : Dev nD) : ℕ → Vec F S1024x4096 .f32
  | 0 => k0_pay1
  | n + 1 => if h : n < cfg0.N then accOf n (iblk m c 0 ⟨n, h⟩) (iblk m c 1 ⟨n, h⟩) (accAt c n) else accAt c n

theorem accAt_succ (c : Dev nD) (t : Fin cfg0.N) : accAt m c (t.val + 1) = accOf t.val (iblk m c 0 t) (iblk m c 1 t) (accAt m c t.val) :=
  dif_pos t.isLt

theorem accOf_first (j : ℕ) (hj : j = 0) (x0 : Vec F S512x1024 .f32) (x1 : Vec F S512x4096 .bf16) (d d' : Vec F S1024x4096 .f32) :
    accOf j x0 x1 d = accOf j x0 x1 d' := by
  unfold accOf; rw [if_pos hj, if_pos hj]

/-- One more block. -/
theorem acc_step (c : Dev nD) (t : Fin cfg0.N) (d : Vec F S1024x4096 .f32) (hd : t.val ≠ 0 → d = accAt m c t.val) :
    accOf ((grid0.coords t) 0).val (iblk m c 0 t) (iblk m c 1 t) d = accAt m c (t.val + 1) := by
  rw [accAt_succ, point_v t]
  by_cases h : t.val = 0
  · exact accOf_first _ h _ _ _ _
  · rw [hd h]

/-- The result after the first `n` blocks, from the contents `g` it had at the start. -/
def copied (c : Dev nD) (g : Vec F S8x512x1024 .f32) (n : ℕ) : Vec F S8x512x1024 .f32 := if n = 32 then slabs (accAt m c 32) else g

theorem copied_step (c : Dev nD) (g : Vec F S8x512x1024 .f32) (t : Fin cfg0.N) (x : Vec F S1024x4096 .f32) (hx : x = accAt m c (t.val + 1)) :
    putSlabs ((grid0.coords t) 0).val x (copied m c g t.val) = copied m c g (t.val + 1) := by
  have ht : t.val < 32 := Nat.lt_of_lt_of_eq t.isLt N_0
  subst hx
  rw [point_v t]
  unfold putSlabs copied
  by_cases h : t.val = 31
  · rw [if_pos h, if_pos (by omega), h]
  · rw [if_neg h, if_neg (by omega), if_neg (by omega)]

/-- What holds between points, after the first `n`. -/
def inv (c : Dev nD) (n : ℕ) : sProp 𝕄 :=
  iprop(iprop((∃ d, iprop(⌜n ≠ 0 → d = accAt m c n⌝ ∗ owns (c : Thread nD τ) scM0_0 fullShare d)) ∗ (∃ d, owns (c : Thread nD τ) scM0_1 fullShare d))
    ∗ (∃ r, prngReg c r) ∗ iprop(semVal ((c : Thread nD τ), SemLoc.dma 4) 0) ∗ iprop(emp)
    ∗ iprop((∃ g, hbPt0 c hbM0_0 (copied m c g n))))

/-- What the run leaves in the result. -/
def outs (c : Dev nD) (b : Ref sig .tc) : Buf (Elt F) ((c : Thread nD τ).loc b) :=
  Function.update (V m c) main_v0 (slabs (accAt m c 32)) b

theorem outs_0 (c : Dev nD) : outs m c main_v0 = slabs (accAt m c 32) := by
  unfold outs
  rw [Function.update_self]

/-- The launch gives what holds before the first point. -/
theorem inv_in (c : Dev nD) : (Pipeline.ΦDRG osem0 spec0 H0 R0 (V m) (V m) c : sProp 𝕄) ⊢ inv m c 0 := by
  rw [PhiDRG0_eq]
  unfold inv
  iintro ⟨⟨⟨%d0, HS0⟩, HS1⟩, Hg, Hq, He, Hh0⟩
  isplitl [HS0 HS1]
  · isplitl [HS0]
    · iexists d0; isplitr; · ipureintro; exact fun h => absurd rfl h
      iexact HS0
    · iexact HS1
  isplitl [Hg]; · iexact Hg
  isplitl [Hq]; · iexact Hq
  isplitl [He]; · iexact He
  iexists (V m c main_v0)
  iexact Hh0

/-- What holds after the last point gives the result. -/
theorem inv_out (c : Dev nD) : inv m c cfg0.N ⊢ (Pipeline.ΦDRG osem0 spec0 H0 R0 (V m) (outs m) c : sProp 𝕄) := by
  rw [PhiDRG0_eq, outs_0]
  unfold inv copied
  simp only [if_pos (show cfg0.N = 32 from N_0)]
  iintro ⟨⟨⟨%d0, -, HS0⟩, HS1⟩, Hg, Hq, He, ⟨%g0, Hh0⟩⟩
  isplitl [HS0 HS1]
  · isplitl [HS0]
    · iexists d0; iexact HS0
    · iexact HS1
  isplitl [Hg]; · iexact Hg
  isplitl [Hq]; · iexact Hq
  isplitl [He]; · iexact He
  iexact Hh0

/-- The pipeline's proof data on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := inv m c t.val
  q _ := fullShare
  owed _ := 0

theorem Phi_at (c : Dev nD) (t : Fin (cfg0.N + 1)) : (dats m 0 c).Φ t = inv m c t.val := by
  dsimp only [dats]
theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- And what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

attribute [local irreducible] accOf slabs putSlabs accAt in
set_option maxHeartbeats 1000000 in
/-- The body at any point, by its run. -/
theorem sound_body (c : Dev nD) (t : Fin cfg0.N) :
    bodyPre m c t ⊢ wp frame (wpE (defs₀ (F := F)) Variants.nat c none) Set.univ (bodyAt0 t) (fun _ => bodyPost m c t) := by
  unfold bodyPre bodyPost bodyAt0
  simp only [before0_0, before0_1]
  rw [Phi_at m c t.succ, Phi_at m c t.castSucc, Fin.val_succ, Fin.val_castSucc, after0_0, after0_1]
  unfold inv Dat.owesAt Pipeline.owesWithin
  rw [show (dats m 0 c).owed t.castSucc = 0 from rfl, show (dats m 0 c).owed t.succ = 0 from rfl]
  iintro ⟨⟨⟨⟨%e0, %he0, HS0⟩, ⟨%e1, HS1⟩⟩, Hg, Hq0, -, ⟨%g0, Hh0⟩⟩, ⟨%W, -, HW⟩, ⟨%d0, H0⟩, ⟨%d1, H1⟩⟩
  iapply (body_run c (grid0.coords t) _ _ _ _ _ _ (iblk m c 0 t) (iblk m c 1 t) e0 e1 (copied m c g0 t.val) W _)
  isplitl [H0]; · iexact H0
  isplitl [H1]; · iexact H1
  isplitl [HS0]; · iexact HS0
  isplitl [HS1]; · iexact HS1
  isplitl [Hq0]; · iexact Hq0
  isplitl [Hh0]; · iexact Hh0
  isplitl [HW]; · iexact HW
  iintro ⟨H0, H1, HS0, HS1, Hq0, Hh0, ⟨%W', HW'⟩⟩
  isplitl [HS0 HS1 Hg Hq0 Hh0]
  · isplitl [HS0 HS1]
    · isplitl [HS0]
      · iexists _; isplitr; swap; · iexact HS0
        ipureintro; exact fun _ => acc_step m c t e0 he0
      · iexact HS1
    isplitl [Hg]
    · iexact Hg
    isplitl [Hq0]; · iexact Hq0
    isplitr; · iempintro
    iexists g0
    rw [← copied_step m c g0 t _ (acc_step m c t e0 he0)]
    iexact Hh0
  isplitl [HW']
  · iexists W'; isplitr; · ipureintro; exact fun _ _ => Or.inl trivial
    iexact HW'
  isplitl [H0]; · iexact H0
  iexact H1

/-- The body table's row at point `t`'s slots is the body at `t`. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

set_option backward.isDefEq.respectTransparency.types false in
/-- The launch: every execution ends with the windows' arrays as the proof data say and every counter at zero. -/
theorem run_main : θ_run defs (onTc (τ := τ) (main (F := F))) (s₀ m ρ) (fun r => (Pipeline.FramePostRG cfgs (dats m) (0 : Fin 1) R0 (V m) (outs m)) r ∧ r.2.sem = fun _ => 0) :=
  Pipeline.θ_run_frame_dmaRG (Q' := _) cfgs (dats m) (0 : Fin 1) launch0 osem0 defs₀ Variants.nat ownSemFacts0 H0 R0 H0_sub R0_sub m ρ main
    (hbody := fun c => (body_obligation m c).loose) (hshare := fun c => (dats m 0 c).share_full fun _ => rfl)
    (howed := fun _ _ => rfl) (V := V m) (hmain := hmain m Variants.nat) (hA := A_eq m) (G := outs m)
    (hin := fun c => by rw [Phi_at]; exact inv_in m c) (hout := fun c => by rw [Phi_at]; exact inv_out m c)

/-- Every execution ends with the accumulator's slabs after all blocks in the result, the two arguments unchanged and every
    counter at zero. -/
theorem run_value : θ_run defs (onTc (τ := τ) (main (F := F))) ⟨m, fun _ => 0, ρ⟩ (fun r => (∀ c : Dev nD,
      r.2.mem ((c.tc : Thread nD τ).loc main_v0) = slabs (accAt m c 32)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1.written c (by decide)).trans (outs_0 m c),
      ((h.1.toR c).1 0).trans (((dats m 0 c).arrAt_in 0 rfl _).trans (A_eq m c 0)),
      ((h.1.toR c).1 1).trans (((dats m 0 c).arrAt_in 1 rfl _).trans (A_eq m c 1))⟩, h.2⟩) (run_main m ρ)

/-- The frame, at any reading of the floats: every execution ends, the two arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run_value m ρ)

end Cert.Proof.GradDown

end
-- ==== Proof.GradDown.Final.lean ====
/-
  The accumulator over the reals: after the blocks so far, each entry is the sum over their rows of the products of the first
  argument's entries and the second's squares; after all of them, over every row.  And the reference's result, entry by entry.
-/
module

public import proofs.«01_k».proof.Proof.GradDown.Frame
public import Mathlib.Algebra.BigOperators.Fin
public import proofs.«01_k».proof.Proof.Gen.Reference10Ideal.Read
public import Idealize.ShloMosaic.Lib.Pipeline.ValueKit
public import Idealize.ShloMosaic.Lib.Pointwise
public import Idealize.ShloMosaic.Lib.IdealHost

@[expose] public section

set_option maxRecDepth 16384

noncomputable section

namespace Cert.Proof.GradDown

open Cert.Kernel10Ideal Cert.Kernel10Ideal.Gen Idealize.ShloMosaic Idealize.ShloMosaic.TcCoe Idealize.SL.Sem

/-- Row `s` of the block of rows `t`. -/
def rowAt (t : ℕ) (s : Fin 512) (h : t < 32) : Fin 16384 := ⟨t * 512 + s.val, by omega⟩

/-- The sum of a function of the rows over the rows of the first `n` blocks. -/
def upTo (f : Fin 16384 → EReal) (n : ℕ) : EReal :=
  ∑ t ∈ Finset.range n, if h : t < 32 then ∑ s : Fin 512, f (rowAt t s h) else 0

theorem upTo_succ (f : Fin 16384 → EReal) (n : ℕ) (h : n < 32) : upTo f (n + 1) = upTo f n + ∑ s : Fin 512, f (rowAt n s h) := by
  unfold upTo
  rw [Finset.sum_range_succ, dif_pos h]

/-- All blocks: the sum over every row. -/
theorem upTo_all (f : Fin 16384 → EReal) : upTo f 32 = ∑ r : Fin 16384, f r := by
  unfold upTo
  rw [Finset.sum_range]
  have : ∀ t : Fin 32, (if h : t.val < 32 then ∑ s : Fin 512, f (rowAt t.val s h) else 0) = ∑ s : Fin 512, f (rowAt t.val s t.isLt) :=
    fun t => dif_pos t.isLt
  rw [Finset.sum_congr rfl fun t _ => this t, ← Finset.sum_product']
  refine Fintype.sum_equiv (finProdFinEquiv (m := 32) (n := 512)) _ _ fun p => ?_
  refine congrArg f (Fin.ext ?_)
  show p.1.val * 512 + p.2.val = p.2.val + 512 * p.1.val
  omega

variable (m : (ℓ : Loc nD τ sig) → Buf (Elt Ideal) ℓ)

/-- The two arguments. -/
def aH (c : Dev nD) : Vec Ideal S16384x1024 .f32 := m ((c : Thread nD τ).loc main_arg0)
def aD (c : Dev nD) : Vec Ideal S16384x4096 .bf16 := m ((c : Thread nD τ).loc main_arg1)

theorem lt32 (t : Fin cfg0.N) : t.val < 32 := Nat.lt_of_lt_of_eq t.isLt N_0

theorem index_0 : ∀ t : Fin cfg0.N, win0_0.index t = ![t.val, 0] :=
  (by decide +kernel : ∀ t : Fin grid0.N, win0_0.index t = ![t.val, 0])
theorem index_1 : ∀ t : Fin cfg0.N, win0_1.index t = ![t.val, 0] :=
  (by decide +kernel : ∀ t : Fin grid0.N, win0_1.index t = ![t.val, 0])

theorem blk_0 (c : Dev nD) (t : Fin cfg0.N) (s : Fin 512) (k : Fin 1024) :
    (iblk m c 0 t : Vec Ideal S512x1024 .f32) (ix2 s k) = aH m c (ix2 (rowAt t.val s (lt32 t)) k) := by
  unfold aH rowAt
  blk_simp [iblk, index_0]
  refine congrArg (m _) ?_
  funext a
  apply Fin.ext
  match a with
  | ⟨0, _⟩ => blk_simp [index_0]
  | ⟨1, _⟩ => blk_simp [index_0]

theorem blk_1 (c : Dev nD) (t : Fin cfg0.N) (s : Fin 512) (k : Fin 4096) :
    (iblk m c 1 t : Vec Ideal S512x4096 .bf16) (ix2 s k) = aD m c (ix2 (rowAt t.val s (lt32 t)) k) := by
  unfold aD rowAt
  blk_simp [iblk, index_1]
  refine congrArg (m _) ?_
  funext a
  apply Fin.ext
  match a with
  | ⟨0, _⟩ => blk_simp [index_1]
  | ⟨1, _⟩ => blk_simp [index_1]

/-- One block's product on top of the accumulator, entry by entry. -/
theorem pay_at (x0 : Vec Ideal S512x1024 .f32) (x1 : Vec Ideal S512x4096 .bf16) (A : Vec Ideal S1024x4096 .f32) (k : Fin 1024) (f : Fin 4096) :
    k0_pay2 x1 A x0 (ix2 k f) = A (ix2 k f) + ∑ s : Fin 512, x0 (ix2 s k) * (x1 (ix2 s f) * x1 (ix2 s f)) := by
  pointwise [k0_pay2]

theorem zero_at (k : Fin 1024) (f : Fin 4096) : (k0_pay1 (F := Ideal) : Vec Ideal S1024x4096 .f32) (ix2 k f) = 0 := by
  pointwise [k0_pay1]

/-- The products one entry sums, row by row. -/
def term (c : Dev nD) (k : Fin 1024) (f : Fin 4096) (r : Fin 16384) : EReal := aH m c (ix2 r k) * (aD m c (ix2 r f) * aD m c (ix2 r f))

theorem accAt_at (c : Dev nD) (k : Fin 1024) (f : Fin 4096) : ∀ n, n ≤ 32 → accAt m c n (ix2 k f) = upTo (term m c k f) n
  | 0, _ => (zero_at k f).trans (Finset.sum_range_zero _).symm
  | n + 1, h => by
    have hn : n < cfg0.N := by rw [show cfg0.N = 32 from N_0]; omega
    have ih := accAt_at c k f n (by omega)
    refine (congrFun (accAt_succ m c ⟨n, hn⟩) (ix2 k f)).trans ?_
    have e : accOf n (iblk m c 0 ⟨n, hn⟩) (iblk m c 1 ⟨n, hn⟩) (accAt m c n) = k0_pay2 (iblk m c 1 ⟨n, hn⟩) (accAt m c n) (iblk m c 0 ⟨n, hn⟩) := by
      unfold accOf
      by_cases h0 : n = 0
      · subst h0; rw [if_pos rfl]; rfl
      · rw [if_neg h0]
    refine (congrFun e (ix2 k f)).trans ((pay_at _ _ _ k f).trans ?_)
    rw [ih, upTo_succ _ n (by omega)]
    refine congrArg (upTo (term m c k f) n + ·) (Finset.sum_congr rfl fun s _ => ?_)
    rw [blk_0 m c ⟨n, hn⟩ s k, blk_1 m c ⟨n, hn⟩ s f]
    rfl

theorem accAt_all (c : Dev nD) (k : Fin 1024) (f : Fin 4096) : accAt m c 32 (ix2 k f) = ∑ r : Fin 16384, aH m c (ix2 r k) * (aD m c (ix2 r f) * aD m c (ix2 r f)) :=
  (accAt_at m c k f 32 le_rfl).trans (upTo_all _)

open Cert.Reference10Ideal.Read in
/-- The reference's gradient, transposed, entry by entry. -/
theorem ref_at (x0 : Vec Ideal S16384x1024 .f32) (x1 : Vec Ideal S16384x4096 .bf16) (k : Fin 1024) (f : Fin 4096) :
    val_main_v4 (F := Ideal) x0 x1 (ix2 k f) = ∑ r : Fin 16384, x0 (ix2 r k) * (x1 (ix2 r f) * x1 (ix2 r f)) := by
  pointwise [val_main_v4, val_main_v2, val_main_v1]

open Cert.Reference10Ideal.Read in
/-- The reference's slabs are the rows of that gradient. -/
theorem ref_slab (x0 : Vec Ideal S16384x1024 .f32) (x1 : Vec Ideal S16384x4096 .bf16) (d : Fin 8) (l : Fin 512) (k : Fin 1024) :
    val_main_v6 (F := Ideal) x0 x1 (ix3 d l k) = val_main_v4 (F := Ideal) x0 x1 (ix2 k ⟨512 * d.val + l.val, by omega⟩) := by
  pointwise [val_main_v6, val_main_v5]
  refine congrArg (fun q => val_main_v4 (F := Ideal) x0 x1 (ix2 k q)) (Fin.ext ?_)
  show d.val * 512 + l.val = 512 * d.val + l.val
  omega

end Cert.Proof.GradDown

end
-- ==== Proof.GradDown.Claims.lean ====
module

public import proofs.«01_k».proof.Defs
public import proofs.«01_k».proof.Proof.GradDown.Final
public import proofs.«01_k».proof.Proof.Gen.Kernel10.Frame
public import proofs.«01_k».proof.Proof.Gen.Reference10Ideal.Run
public import Idealize.ShloMosaic.Adequacy
public import Idealize.ShloMosaic.Init

@[expose] public section

set_option maxRecDepth 16384

noncomputable section

namespace Cert.Proof.GradDown

open Idealize.ShloMosaic Idealize.ShloMosaic.TcCoe Idealize.SL.Sem

/-- The frame of the down projection's weight gradient over the machine's floats. -/
theorem frame_bits : Cert.quiescent_Kernel10 := fun m ρ _ => Cert.Kernel10.Gen.frame m ρ

/-- Its frame over the reals. -/
theorem frame_ideal : Cert.quiescent_Kernel10Ideal := fun m ρ _ => frame m ρ

/-- The frame of its reference: the arguments are kept, and there is no counter. -/
theorem frame_ref : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

/-- The kernel and the gradient of the plain forward line end with the same eight slabs. -/
theorem algebraic : Cert.algebraic_Kernel10Ideal_Reference10Ideal := by
  intro m g m' g' _ hagree
  refine ⟨fun c => slabs (accAt m c 32), (θ_run Cert.Kernel10Ideal.defs _ _).mono (fun r h => h.1) (run_value m g), ?_⟩
  refine (θ_run Cert.Reference10Ideal.defs _ _).mono (fun r h c => ?_) (Cert.Reference10Ideal.Value.run (F := Ideal) m' g')
  obtain ⟨h0, hargs⟩ := h c
  obtain ⟨e0, e1⟩ := hagree c
  refine ⟨?_, hargs⟩
  rw [h0, Cert.Reference10Ideal.Read.val_main_v6_eq, e0, e1]
  funext i
  refine (congrArg _ (eq_ix3 (n0 := 8) (n1 := 512) (n2 := 1024) i)).trans ?_
  refine (ref_slab _ _ (i 0) (i 1) (i 2)).trans ((ref_at _ _ _ _).trans ?_)
  exact (accAt_all m c _ _).symm

end Cert.Proof.GradDown
-- ==== Proof.lean ====
/-
  The claims of this directory, put together from the modules under Proof/.
-/
module

public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Defs
public import proofs.«01_k».proof.Proof.Gen.Kernel
public import proofs.«01_k».proof.Proof.Attn.Frame
public import proofs.«01_k».proof.Proof.Attn.Claims
public import proofs.«01_k».proof.Proof.AttnBits.Frame
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9.Launch
public import proofs.«01_k».proof.Proof.Gen.Kernel9.Skeleton
public import proofs.«01_k».proof.Proof.Gen.Kernel9.Points
public import proofs.«01_k».proof.Proof.Gen.Kernel9Ideal.Frame
public import proofs.«01_k».proof.Proof.Gen.Kernel9Ideal.Launch
public import proofs.«01_k».proof.Proof.Gen.Kernel9Ideal.Skeleton
public import proofs.«01_k».proof.Proof.Gen.Kernel9Ideal.Points
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10.Launch
public import proofs.«01_k».proof.Proof.Gen.Kernel10.Skeleton
public import proofs.«01_k».proof.Proof.Gen.Kernel10.Points
public import proofs.«01_k».proof.Proof.Gen.Kernel10Ideal.Frame
public import proofs.«01_k».proof.Proof.Gen.Kernel10Ideal.Launch
public import proofs.«01_k».proof.Proof.Gen.Kernel10Ideal.Skeleton
public import proofs.«01_k».proof.Proof.Gen.Kernel10Ideal.Points
public import proofs.«01_k».proof.Proof.Gen.Reference10Ideal.Run
public import proofs.«01_k».proof.Proof.Gen.Reference10Ideal.Read
public import proofs.«01_k».proof.Proof.OutProj.Claims
public import proofs.«01_k».proof.Proof.FfnBwd.Claims
public import proofs.«01_k».proof.Proof.InBwd.Claims
public import proofs.«01_k».proof.Proof.FfnFwd.Claims
public import proofs.«01_k».proof.Proof.InFwd.Claims
public import proofs.«01_k».proof.Proof.OutFwd.Claims
public import proofs.«01_k».proof.Proof.LossHead.Claims
public import proofs.«01_k».proof.Proof.GradUp.Claims
public import proofs.«01_k».proof.Proof.GradDown.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite.Gen.facts,
  Attn.frame_bits, Attn.frame_ideal, Attn.frame_ideal_finite, Attn.frame_ref, Attn.frame_ref_finite,
  OutProj.frame_bits, OutProj.frame_ideal, OutProj.frame_ref,
  FfnBwd.frame_bits, FfnBwd.frame_ideal, FfnBwd.frame_ref,
  InBwd.frame_bits, InBwd.frame_ideal, InBwd.frame_ref,
  FfnFwd.frame_bits, FfnFwd.frame_ideal, FfnFwd.frame_ref,
  InFwd.frame_bits, InFwd.frame_ideal, InFwd.frame_ref,
  OutFwd.frame_bits, OutFwd.frame_ideal, OutFwd.frame_ref,
  LossHead.frame_bits, LossHead.frame_ideal, LossHead.frame_ref,
  GradUp.frame_bits, GradUp.frame_ideal, GradUp.frame_ref,
  GradDown.frame_bits, GradDown.frame_ideal, GradDown.frame_ref,
  Attn.preserves, Attn.algebraic,
  trivial, OutProj.algebraic,
  trivial, FfnBwd.algebraic,
  trivial, InBwd.algebraic,
  trivial, FfnFwd.algebraic,
  trivial, InFwd.algebraic,
  trivial, OutFwd.algebraic,
  trivial, LossHead.algebraic,
  trivial, GradUp.algebraic,
  trivial, GradDown.algebraic⟩

end Cert.Proof

end
